-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 1 := constantI S_ 1 1#1
  let main_v2 : IVec S_ 1 := (fun x v => Host.reduce IntOp.andi x v reducesTo_S1024x200_S_d0_1 h_S_) main_v1 main_c_0
  let main_c_1 : IVec S_ 32 := constantI S_ 32 100000#32
  let main_v3 : IVec S1024x200 32 := broadcastInDim S1024x200 ![] bcast_S_S1024x200 main_c_1
  let main_v4 : IVec S1024x200 1 := cmpi .slt main_arg0 main_v3
  let main_c_2 : IVec S_ 1 := constantI S_ 1 1#1
  let main_v5 : IVec S_ 1 := (fun x v => Host.reduce IntOp.andi x v reducesTo_S1024x200_S_d0_1 h_S_) main_v4 main_c_2
  let main_v6 : IVec S_ 1 := andi main_v2 main_v5
  let main_c_3 : IVec S_ 32 := constantI S_ 32 0#32
  let main_v7 : IVec S1024x200 32 := broadcastInDim S1024x200 ![] bcast_S_S1024x200 main_c_3
  let main_v8 : IVec S1024x200 1 := cmpi .sge main_arg1 main_v7
  let main_c_4 : IVec S_ 1 := constantI S_ 1 1#1
  let main_v9 : IVec S_ 1 := (fun x v => Host.reduce IntOp.andi x v reducesTo_S1024x200_S_d0_1 h_S_) main_v8 main_c_4
  let main_v10 : IVec S_ 1 := andi main_v6 main_v9
  let main_c_5 : IVec S_ 32 := constantI S_ 32 2#32
  let main_v11 : IVec S1024x200 32 := broadcastInDim S1024x200 ![] bcast_S_S1024x200 main_c_5
  let main_v12 : IVec S1024x200 1 := cmpi .slt main_arg1 main_v11
  let main_c_6 : IVec S_ 1 := constantI S_ 1 1#1
  let main_v13 : IVec S_ 1 := (fun x v => Host.reduce IntOp.andi x v reducesTo_S1024x200_S_d0_1 h_S_) main_v12 main_c_6
  let main_v14 : IVec S_ 1 := andi main_v10 main_v13
  main_v14
-- ==== Pre_in_range_finite.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x128 : S_.BroadcastsInDim S512x128 (![] : Fin 0 → Fin S512x128.rank)
  reducesTo_S512x128_S_d0_1 : S512x128.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg3 : FVec F S512x128 .f32) (main_arg4 : FVec F S2x128 .f32) (main_v14 : IVec S_ 1) (main_v15 : FVec F S100000x128 .f32) : IVec S_ 1 :=
  let main_cst : FVec F S_ .f32 := constant S_ .f32 0x7F800000#32
  let main_v16 : FVec F S100000x128 .f32 := broadcastInDim S100000x128 ![] bcast_S_S100000x128 main_cst
  let main_v17 : IVec S100000x128 1 := cmpf .olt main_v15 main_v16
  let main_c_7 : IVec S_ 1 := constantI S_ 1 1#1
  let main_v18 : IVec S_ 1 := (fun x v => Host.reduce IntOp.andi x v reducesTo_S100000x128_S_d0_1 h_S_) main_v17 main_c_7
  let main_v19 : IVec S_ 1 := andi main_v14 main_v18
  let main_v20 : FVec F S512x128 .f32 := Host.absf main_arg3
  let main_cst_8 : FVec F S_ .f32 := constant S_ .f32 0x7F800000#32
  let main_v21 : FVec F S512x128 .f32 := broadcastInDim S512x128 ![] bcast_S_S512x128 main_cst_8
  let main_v22 : IVec S512x128 1 := cmpf .olt main_v20 main_v21
  let main_c_9 : IVec S_ 1 := constantI S_ 1 1#1
  let main_v23 : IVec S_ 1 := (fun x v => Host.reduce IntOp.andi x v reducesTo_S512x128_S_d0_1 h_S_) main_v22 main_c_9
  let main_v24 : IVec S_ 1 := andi main_v19 main_v23
  let main_v25 : FVec F S2x128 .f32 := Host.absf main_arg4
  let main_cst_10 : FVec F S_ .f32 := constant S_ .f32 0x7F800000#32
  let main_v26 : FVec F S2x128 .f32 := broadcastInDim S2x128 ![] bcast_S_S2x128 main_cst_10
  let main_v27 : IVec S2x128 1 := cmpf .olt main_v25 main_v26
  let main_c_11 : IVec S_ 1 := constantI S_ 1 1#1
  let main_v28 : IVec S_ 1 := (fun x v => Host.reduce IntOp.andi x v reducesTo_S2x128_S_d0_1 h_S_) main_v27 main_c_11
  let main_v29 : IVec S_ 1 := andi main_v24 main_v28
  main_v29

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 1 := constantI S_ 1 1#1
  let main_v2 : IVec S_ 1 := (fun x v => Host.reduce IntOp.andi x v reducesTo_S1024x200_S_d0_1 h_S_) main_v1 main_c_0
  let main_c_1 : IVec S_ 32 := constantI S_ 32 100000#32
  let main_v3 : IVec S1024x200 32 := broadcastInDim S1024x200 ![] bcast_S_S1024x200 main_c_1
  let main_v4 : IVec S1024x200 1 := cmpi .slt main_arg0 main_v3
  let main_c_2 : IVec S_ 1 := constantI S_ 1 1#1
  let main_v5 : IVec S_ 1 := (fun x v => Host.reduce IntOp.andi x v reducesTo_S1024x200_S_d0_1 h_S_) main_v4 main_c_2
  let main_v6 : IVec S_ 1 := andi main_v2 main_v5
  let main_c_3 : IVec S_ 32 := constantI S_ 32 0#32
  let main_v7 : IVec S1024x200 32 := broadcastInDim S1024x200 ![] bcast_S_S1024x200 main_c_3
  let main_v8 : IVec S1024x200 1 := cmpi .sge main_arg1 main_v7
  let main_c_4 : IVec S_ 1 := constantI S_ 1 1#1
  let main_v9 : IVec S_ 1 := (fun x v => Host.reduce IntOp.andi x v reducesTo_S1024x200_S_d0_1 h_S_) main_v8 main_c_4
  let main_v10 : IVec S_ 1 := andi main_v6 main_v9
  let main_c_5 : IVec S_ 32 := constantI S_ 32 2#32
  let main_v11 : IVec S1024x200 32 := broadcastInDim S1024x200 ![] bcast_S_S1024x200 main_c_5
  let main_v12 : IVec S1024x200 1 := cmpi .slt main_arg1 main_v11
  let main_c_6 : IVec S_ 1 := constantI S_ 1 1#1
  let main_v13 : IVec S_ 1 := (fun x v => Host.reduce IntOp.andi x v reducesTo_S1024x200_S_d0_1 h_S_) main_v12 main_c_6
  let main_v14 : IVec S_ 1 := andi main_v10 main_v13
  let main_v15 : FVec F S100000x128 .f32 := Host.absf main_arg2
  fn_part1 (F := F) main_arg3 main_arg4 main_v14 main_v15
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S204800 : Shape := ⟨1, ![204800]⟩
abbrev S200x128 : Shape := ⟨2, ![200, 128]⟩
abbrev S204800x128 : Shape := ⟨2, ![204800, 128]⟩
abbrev S6400 : Shape := ⟨1, ![6400]⟩
abbrev S128x128 : Shape := ⟨2, ![128, 128]⟩
abbrev S400x128 : Shape := ⟨2, ![400, 128]⟩
abbrev S_ : Shape := ⟨0, ![]⟩
abbrev S1x16 : Shape := ⟨2, ![1, 16]⟩
abbrev S16 : Shape := ⟨1, ![16]⟩
abbrev S1 : Shape := ⟨1, ![1]⟩
abbrev S8 : Shape := ⟨1, ![8]⟩
abbrev S12 : Shape := ⟨1, ![12]⟩
abbrev S4 : Shape := ⟨1, ![4]⟩
abbrev S14 : Shape := ⟨1, ![14]⟩
abbrev S2 : Shape := ⟨1, ![2]⟩
abbrev S15 : Shape := ⟨1, ![15]⟩
abbrev S1024x200x128 : Shape := ⟨3, ![1024, 200, 128]⟩

abbrev nBuf : Table → Nat
  | .hbm => 12
  | .local .scVector .vmem => 8
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S204800, .i32⟩
  | .hbm, ⟨8, _⟩ => ⟨S204800, .i32⟩
  | .hbm, ⟨9, _⟩ => ⟨S200x128, .f32⟩
  | .hbm, ⟨10, _⟩ => ⟨S204800x128, .f32⟩
  | .hbm, ⟨11, _⟩ => ⟨S1024x200x128, .f32⟩
  | .local .scVector .vmem, ⟨0, _⟩ => ⟨S6400, .i32⟩
  | .local .scVector .vmem, ⟨1, _⟩ => ⟨S6400, .i32⟩
  | .local .scVector .vmem, ⟨2, _⟩ => ⟨S128x128, .f32⟩
  | .local .scVector .vmem, ⟨3, _⟩ => ⟨S128x128, .f32⟩
  | .local .scVector .vmem, ⟨4, _⟩ => ⟨S400x128, .f32⟩
  | .local .scVector .vmem, ⟨5, _⟩ => ⟨S2x128, .f32⟩
  | .local .scVector .vmem, ⟨6, _⟩ => ⟨S128, .f32⟩
  | .local .scVector .vmem, ⟨7, _⟩ => ⟨S128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v0_scv : Ref sig .scVector := ⟨.hbm, 7, rfl⟩
abbrev main_v1_scv : Ref sig .scVector := ⟨.hbm, 8, rfl⟩
abbrev main_arg2_scv : Ref sig .scVector := ⟨.hbm, 2, rfl⟩
abbrev main_v2_scv : Ref sig .scVector := ⟨.hbm, 9, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_v3_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_42 : BitVec 32 := 0#32
  let c200_i32 : BitVec 32 := 200#32
  let v85 : BitVec 32 := Scalar.addi c0_i32_42 c200_i32
  let c1_i32_43 : BitVec 32 := 1#32
  ⟨c0_i32_42, v85, c1_i32_43⟩
def k0_off2 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v93 : Index := Scalar.indexCast arg22
  let c0_57 : Index := 0#32
  ![v93.toNat, 0]
def k0_off3 (k0_t1 : Fin k0_t1_loop.trips) : Fin 2 → Nat :=
  let c200_i32_59 : BitVec 32 := 200#32
  let c0_i32_42 : BitVec 32 := 0#32
  let c1_i32_43 : BitVec 32 := 1#32
  let arg22 : BitVec 32 := Scf.iv c0_i32_42 c1_i32_43 k0_t1
  let v101 : BitVec 32 := Scalar.addi c200_i32_59 arg22
  let v102 : Index := Scalar.indexCast v101
  let c0_60 : Index := 0#32
  ![v102.toNat, 0]
def k0_off4 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v111 : Index := Scalar.indexCast arg22
  let c16_63 : Index := 16#32
  ![v111.toNat, 16]
def k0_off5 (k0_t1 : Fin k0_t1_loop.trips) : Fin 2 → Nat :=
  let c200_i32_65 : BitVec 32 := 200#32
  let c0_i32_42 : BitVec 32 := 0#32
  let c1_i32_43 : BitVec 32 := 1#32
  let arg22 : BitVec 32 := Scf.iv c0_i32_42 c1_i32_43 k0_t1
  let v119 : BitVec 32 := Scalar.addi c200_i32_65 arg22
  let v120 : Index := Scalar.indexCast v119
  let c16_66 : Index := 16#32
  ![v120.toNat, 16]
def k0_off6 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v129 : Index := Scalar.indexCast arg22
  let c32_69 : Index := 32#32
  ![v129.toNat, 32]
def k0_off7 (k0_t1 : Fin k0_t1_loop.trips) : Fin 2 → Nat :=
  let c200_i32_71 : BitVec 32 := 200#32
  let c0_i32_42 : BitVec 32 := 0#32
  let c1_i32_43 : BitVec 32 := 1#32
  let arg22 : BitVec 32 := Scf.iv c0_i32_42 c1_i32_43 k0_t1
  let v137 : BitVec 32 := Scalar.addi c200_i32_71 arg22
  let v138 : Index := Scalar.indexCast v137
  let c32_72 : Index := 32#32
  ![v138.toNat, 32]
def k0_off8 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v147 : Index := Scalar.indexCast arg22
  let c48_75 : Index := 48#32
  ![v147.toNat, 48]
def k0_off9 (k0_t1 : Fin k0_t1_loop.trips) : Fin 2 → Nat :=
  let c200_i32_77 : BitVec 32 := 200#32
  let c0_i32_42 : BitVec 32 := 0#32
  let c1_i32_43 : BitVec 32 := 1#32
  let arg22 : BitVec 32 := Scf.iv c0_i32_42 c1_i32_43 k0_t1
  let v155 : BitVec 32 := Scalar.addi c200_i32_77 arg22
  let v156 : Index := Scalar.indexCast v155
  let c48_78 : Index := 48#32
  ![v156.toNat, 48]
def k0_off10 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v165 : Index := Scalar.indexCast arg22
  let c64_81 : Index := 64#32
  ![v165.toNat, 64]
def k0_off11 (k0_t1 : Fin k0_t1_loop.trips) : Fin 2 → Nat :=
  let c200_i32_83 : BitVec 32 := 200#32
  let c0_i32_42 : BitVec 32 := 0#32
  let c1_i32_43 : BitVec 32 := 1#32
  let arg22 : BitVec 32 := Scf.iv c0_i32_42 c1_i32_43 k0_t1
  let v173 : BitVec 32 := Scalar.addi c200_i32_83 arg22
  let v174 : Index := Scalar.indexCast v173
  let c64_84 : Index := 64#32
  ![v174.toNat, 64]
def k0_off12 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v183 : Index := Scalar.indexCast arg22
  let c80_87 : Index := 80#32
  ![v183.toNat, 80]
def k0_off13 (k0_t1 : Fin k0_t1_loop.trips) : Fin 2 → Nat :=
  let c200_i32_89 : BitVec 32 := 200#32
  let c0_i32_42 : BitVec 32 := 0#32
  let c1_i32_43 : BitVec 32 := 1#32
  let arg22 : BitVec 32 := Scf.iv c0_i32_42 c1_i32_43 k0_t1
  let v191 : BitVec 32 := Scalar.addi c200_i32_89 arg22
  let v192 : Index := Scalar.indexCast v191
  let c80_90 : Index := 80#32
  ![v192.toNat, 80]
def k0_off14 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v201 : Index := Scalar.indexCast arg22
  let c96_93 : Index := 96#32
  ![v201.toNat, 96]
def k0_off15 (k0_t1 : Fin k0_t1_loop.trips) : Fin 2 → Nat :=
  let c200_i32_95 : BitVec 32 := 200#32
  let c0_i32_42 : BitVec 32 := 0#32
  let c1_i32_43 : BitVec 32 := 1#32
  let arg22 : BitVec 32 := Scf.iv c0_i32_42 c1_i32_43 k0_t1
  let v209 : BitVec 32 := Scalar.addi c200_i32_95 arg22
  let v210 : Index := Scalar.indexCast v209
  let c96_96 : Index := 96#32
  ![v210.toNat, 96]
def k0_off16 (k0_t1 : Fin k0_t1_loop.trips) : Fin 2 → Nat :=
  let c0_i32_42 : BitVec 32 := 0#32
  let c1_i32_43 : BitVec 32 := 1#32
  let arg22 : BitVec 32 := Scf.iv c0_i32_42 c1_i32_43 k0_t1
  let v219 : Index := Scalar.indexCast arg22
  let c112_99 : Index := 112#32
  ![v219.toNat, 112]
def k0_off17 (k0_t1 : Fin k0_t1_loop.trips) : Fin 2 → Nat :=
  let c200_i32_101 : BitVec 32 := 200#32
  let c0_i32_42 : BitVec 32 := 0#32
  let c1_i32_43 : BitVec 32 := 1#32
  let arg22 : BitVec 32 := Scf.iv c0_i32_42 c1_i32_43 k0_t1
  let v227 : BitVec 32 := Scalar.addi c200_i32_101 arg22
  let v228 : Index := Scalar.indexCast v227
  let c112_102 : Index := 112#32
  ![v228.toNat, 112]
@[reducible] def k0_t2_loop : Scf.Loop 32 :=
  let c0_i32_46 : BitVec 32 := 0#32
  let c25_i32 : BitVec 32 := 25#32
  let v87 : BitVec 32 := Scalar.addi c0_i32_46 c25_i32
  let c1_i32_47 : BitVec 32 := 1#32
  ⟨c0_i32_46, v87, c1_i32_47⟩
def k0_cond1 (k0_t2 : Fin k0_t2_loop.trips) : BitVec 1 :=
  let c2_i32_57 : BitVec 32 := 2#32
  let c0_i32_46 : BitVec 32 := 0#32
  let c1_i32_47 : BitVec 32 := 1#32
  let arg22 : BitVec 32 := Scf.iv c0_i32_46 c1_i32_47 k0_t2
  let v93 : BitVec 32 := Scalar.muli c2_i32_57 arg22
  let c0_i32_58 : BitVec 32 := 0#32
  let v94 : BitVec 32 := Scalar.addi v93 c0_i32_58
  let c1_i32_59 : BitVec 32 := 1#32
  let v95 : BitVec 32 := Scalar.addi v94 c1_i32_59
  let c50_i32 : BitVec 32 := 50#32
  let v96 : BitVec 1 := Scalar.cmpi .slt v95 c50_i32
  let v97 : BitVec 32 := Scalar.extui v96
  let c0_i32_60 : BitVec 32 := 0#32
  let v98 : BitVec 1 := Scalar.cmpi .ne v97 c0_i32_60
  v98

def k0_off18 (k0_t2 : Fin k0_t2_loop.trips) : Fin 1 → Nat :=
  let c2_i32_57 : BitVec 32 := 2#32
  let c0_i32_46 : BitVec 32 := 0#32
  let c1_i32_47 : BitVec 32 := 1#32
  let arg22 : BitVec 32 := Scf.iv c0_i32_46 c1_i32_47 k0_t2
  let v93 : BitVec 32 := Scalar.muli c2_i32_57 arg22
  let c0_i32_58 : BitVec 32 := 0#32
  let v94 : BitVec 32 := Scalar.addi v93 c0_i32_58
  let c1_i32_93 : BitVec 32 := 1#32
  let v144 : BitVec 32 := Scalar.addi v94 c1_i32_93
  let c128_i32_94 : BitVec 32 := 128#32
  let v145 : BitVec 32 := Scalar.muli v144 c128_i32_94
  ![v145.toNat]
def k0_off19 (k0_t2 : Fin k0_t2_loop.trips) (c0_i32_58 : BitVec 32) : Fin 1 → Nat :=
  let c2_i32_57 : BitVec 32 := 2#32
  let c0_i32_46 : BitVec 32 := 0#32
  let c1_i32_47 : BitVec 32 := 1#32
  let arg22 : BitVec 32 := Scf.iv c0_i32_46 c1_i32_47 k0_t2
  let v93 : BitVec 32 := Scalar.muli c2_i32_57 arg22
  let v94 : BitVec 32 := Scalar.addi v93 c0_i32_58
  let c128_i32_61 : BitVec 32 := 128#32
  let v101 : BitVec 32 := Scalar.muli v94 c128_i32_61
  ![v101.toNat]
@[reducible] def k0_t3_loop : Scf.Loop 32 :=
  let c0_i32_67 : BitVec 32 := 0#32
  let c8_i32 : BitVec 32 := 8#32
  let v113 : BitVec 32 := Scalar.addi c0_i32_67 c8_i32
  let c1_i32_68 : BitVec 32 := 1#32
  ⟨c0_i32_67, v113, c1_i32_68⟩
def k0_off20 (k0_t2 : Fin k0_t2_loop.trips) (k0_t3 : Fin k0_t3_loop.trips) : Fin 1 → Nat :=
  let c2_i32_57 : BitVec 32 := 2#32
  let c0_i32_46 : BitVec 32 := 0#32
  let c1_i32_47 : BitVec 32 := 1#32
  let arg22 : BitVec 32 := Scf.iv c0_i32_46 c1_i32_47 k0_t2
  let v93 : BitVec 32 := Scalar.muli c2_i32_57 arg22
  let c0_i32_58 : BitVec 32 := 0#32
  let v94 : BitVec 32 := Scalar.addi v93 c0_i32_58
  let c128_i32_91 : BitVec 32 := 128#32
  let v142 : BitVec 32 := Scalar.muli v94 c128_i32_91
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v143 : BitVec 32 := Scalar.addi v142 v141
  let v144 : Index := Scalar.indexCast v143
  ![v144.toNat]
def k0_off21 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v155 : Index := Scalar.indexCast v150
  let c0_95 : Index := 0#32
  ![v155.toNat, 0]
def k0_off22 (v152 : BitVec 32) : Fin 2 → Nat :=
  let v158 : Index := Scalar.indexCast v152
  let c0_96 : Index := 0#32
  ![v158.toNat, 0]

def k0_off23 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v165 : Index := Scalar.indexCast v150
  let c16_97 : Index := 16#32
  ![v165.toNat, 16]
def k0_off24 (v152 : BitVec 32) : Fin 2 → Nat :=
  let v168 : Index := Scalar.indexCast v152
  let c16_98 : Index := 16#32
  ![v168.toNat, 16]
def k0_off25 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v175 : Index := Scalar.indexCast v150
  let c32_99 : Index := 32#32
  ![v175.toNat, 32]
def k0_off26 (v152 : BitVec 32) : Fin 2 → Nat :=
  let v178 : Index := Scalar.indexCast v152
  let c32_100 : Index := 32#32
  ![v178.toNat, 32]
def k0_off27 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v185 : Index := Scalar.indexCast v150
  let c48_101 : Index := 48#32
  ![v185.toNat, 48]
def k0_off28 (v152 : BitVec 32) : Fin 2 → Nat :=
  let v188 : Index := Scalar.indexCast v152
  let c48_102 : Index := 48#32
  ![v188.toNat, 48]
def k0_off29 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v195 : Index := Scalar.indexCast v150
  let c64_103 : Index := 64#32
  ![v195.toNat, 64]
def k0_off30 (v152 : BitVec 32) : Fin 2 → Nat :=
  let v198 : Index := Scalar.indexCast v152
  let c64_104 : Index := 64#32
  ![v198.toNat, 64]
def k0_off31 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v205 : Index := Scalar.indexCast v150
  let c80_105 : Index := 80#32
  ![v205.toNat, 80]
def k0_off32 (v152 : BitVec 32) : Fin 2 → Nat :=
  let v208 : Index := Scalar.indexCast v152
  let c80_106 : Index := 80#32
  ![v208.toNat, 80]
def k0_off33 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v215 : Index := Scalar.indexCast v150
  let c96_107 : Index := 96#32
  ![v215.toNat, 96]
def k0_off34 (v152 : BitVec 32) : Fin 2 → Nat :=
  let v218 : Index := Scalar.indexCast v152
  let c96_108 : Index := 96#32
  ![v218.toNat, 96]
def k0_off35 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c0_i32_93 : BitVec 32 := 0#32
  let v150 : BitVec 32 := Scalar.addi v141 c0_i32_93
  let v225 : Index := Scalar.indexCast v150
  let c112_109 : Index := 112#32
  ![v225.toNat, 112]
def k0_off36 (v152 : BitVec 32) : Fin 2 → Nat :=
  let v228 : Index := Scalar.indexCast v152
  let c112_110 : Index := 112#32
  ![v228.toNat, 112]

def k0_chk1 (v152 : BitVec 32) : Prop :=
  (∀ a, (k0_off22 v152) a + S1x16.size a ≤ S400x128.size a) ∧
  (∀ a, (k0_off24 v152) a + S1x16.size a ≤ S400x128.size a) ∧
  (∀ a, (k0_off26 v152) a + S1x16.size a ≤ S400x128.size a) ∧
  (∀ a, (k0_off28 v152) a + S1x16.size a ≤ S400x128.size a) ∧
  (∀ a, (k0_off30 v152) a + S1x16.size a ≤ S400x128.size a) ∧
  (∀ a, (k0_off32 v152) a + S1x16.size a ≤ S400x128.size a) ∧
  (∀ a, (k0_off34 v152) a + S1x16.size a ≤ S400x128.size a) ∧
  (∀ a, (k0_off36 v152) a + S1x16.size a ≤ S400x128.size a)
theorem k0_off22_inb : ∀ (v152 : BitVec 32) (k0_hw1 : k0_chk1 v152), ∀ a, (k0_off22 v152) a + S1x16.size a ≤ S400x128.size a := fun v152 k0_hw1 => k0_hw1.1
theorem k0_off24_inb : ∀ (v152 : BitVec 32) (k0_hw1 : k0_chk1 v152), ∀ a, (k0_off24 v152) a + S1x16.size a ≤ S400x128.size a := fun v152 k0_hw1 => k0_hw1.2.1
theorem k0_off26_inb : ∀ (v152 : BitVec 32) (k0_hw1 : k0_chk1 v152), ∀ a, (k0_off26 v152) a + S1x16.size a ≤ S400x128.size a := fun v152 k0_hw1 => k0_hw1.2.2.1
theorem k0_off28_inb : ∀ (v152 : BitVec 32) (k0_hw1 : k0_chk1 v152), ∀ a, (k0_off28 v152) a + S1x16.size a ≤ S400x128.size a := fun v152 k0_hw1 => k0_hw1.2.2.2.1
theorem k0_off30_inb : ∀ (v152 : BitVec 32) (k0_hw1 : k0_chk1 v152), ∀ a, (k0_off30 v152) a + S1x16.size a ≤ S400x128.size a := fun v152 k0_hw1 => k0_hw1.2.2.2.2.1
theorem k0_off32_inb : ∀ (v152 : BitVec 32) (k0_hw1 : k0_chk1 v152), ∀ a, (k0_off32 v152) a + S1x16.size a ≤ S400x128.size a := fun v152 k0_hw1 => k0_hw1.2.2.2.2.2.1
theorem k0_off34_inb : ∀ (v152 : BitVec 32) (k0_hw1 : k0_chk1 v152), ∀ a, (k0_off34 v152) a + S1x16.size a ≤ S400x128.size a := fun v152 k0_hw1 => k0_hw1.2.2.2.2.2.2.1
theorem k0_off36_inb : ∀ (v152 : BitVec 32) (k0_hw1 : k0_chk1 v152), ∀ a, (k0_off36 v152) a + S1x16.size a ≤ S400x128.size a := fun v152 k0_hw1 => k0_hw1.2.2.2.2.2.2.2

def k0_off37 (k0_t3 : Fin k0_t3_loop.trips) (c0_i32_93 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v150 : BitVec 32 := Scalar.addi v141 c0_i32_93
  let v302 : Index := Scalar.indexCast v150
  let c0_120 : Index := 0#32
  ![v302.toNat, 0]
def k0_off38 (v364 : BitVec 32) : Fin 2 → Nat :=
  let v370 : Index := Scalar.indexCast v364
  let c0_132 : Index := 0#32
  ![v370.toNat, 0]

def k0_off39 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c1_i32_128 : BitVec 32 := 1#32
  let v362 : BitVec 32 := Scalar.addi v141 c1_i32_128
  let v377 : Index := Scalar.indexCast v362
  let c16_133 : Index := 16#32
  ![v377.toNat, 16]
def k0_off40 (v364 : BitVec 32) : Fin 2 → Nat :=
  let v380 : Index := Scalar.indexCast v364
  let c16_134 : Index := 16#32
  ![v380.toNat, 16]
def k0_off41 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c1_i32_128 : BitVec 32 := 1#32
  let v362 : BitVec 32 := Scalar.addi v141 c1_i32_128
  let v387 : Index := Scalar.indexCast v362
  let c32_135 : Index := 32#32
  ![v387.toNat, 32]
def k0_off42 (v364 : BitVec 32) : Fin 2 → Nat :=
  let v390 : Index := Scalar.indexCast v364
  let c32_136 : Index := 32#32
  ![v390.toNat, 32]
def k0_off43 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c1_i32_128 : BitVec 32 := 1#32
  let v362 : BitVec 32 := Scalar.addi v141 c1_i32_128
  let v397 : Index := Scalar.indexCast v362
  let c48_137 : Index := 48#32
  ![v397.toNat, 48]
def k0_off44 (v364 : BitVec 32) : Fin 2 → Nat :=
  let v400 : Index := Scalar.indexCast v364
  let c48_138 : Index := 48#32
  ![v400.toNat, 48]
def k0_off45 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c1_i32_128 : BitVec 32 := 1#32
  let v362 : BitVec 32 := Scalar.addi v141 c1_i32_128
  let v407 : Index := Scalar.indexCast v362
  let c64_139 : Index := 64#32
  ![v407.toNat, 64]
def k0_off46 (v364 : BitVec 32) : Fin 2 → Nat :=
  let v410 : Index := Scalar.indexCast v364
  let c64_140 : Index := 64#32
  ![v410.toNat, 64]
def k0_off47 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c1_i32_128 : BitVec 32 := 1#32
  let v362 : BitVec 32 := Scalar.addi v141 c1_i32_128
  let v417 : Index := Scalar.indexCast v362
  let c80_141 : Index := 80#32
  ![v417.toNat, 80]
def k0_off48 (v364 : BitVec 32) : Fin 2 → Nat :=
  let v420 : Index := Scalar.indexCast v364
  let c80_142 : Index := 80#32
  ![v420.toNat, 80]
def k0_off49 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c1_i32_128 : BitVec 32 := 1#32
  let v362 : BitVec 32 := Scalar.addi v141 c1_i32_128
  let v427 : Index := Scalar.indexCast v362
  let c96_143 : Index := 96#32
  ![v427.toNat, 96]
def k0_off50 (v364 : BitVec 32) : Fin 2 → Nat :=
  let v430 : Index := Scalar.indexCast v364
  let c96_144 : Index := 96#32
  ![v430.toNat, 96]
def k0_off51 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c1_i32_128 : BitVec 32 := 1#32
  let v362 : BitVec 32 := Scalar.addi v141 c1_i32_128
  let v437 : Index := Scalar.indexCast v362
  let c112_145 : Index := 112#32
  ![v437.toNat, 112]
def k0_off52 (v364 : BitVec 32) : Fin 2 → Nat :=
  let v440 : Index := Scalar.indexCast v364
  let c112_146 : Index := 112#32
  ![v440.toNat, 112]

def k0_chk2 (v364 : BitVec 32) : Prop :=
  (∀ a, (k0_off38 v364) a + S1x16.size a ≤ S400x128.size a) ∧
  (∀ a, (k0_off40 v364) a + S1x16.size a ≤ S400x128.size a) ∧
  (∀ a, (k0_off42 v364) a + S1x16.size a ≤ S400x128.size a) ∧
  (∀ a, (k0_off44 v364) a + S1x16.size a ≤ S400x128.size a) ∧
  (∀ a, (k0_off46 v364) a + S1x16.size a ≤ S400x128.size a) ∧
  (∀ a, (k0_off48 v364) a + S1x16.size a ≤ S400x128.size a) ∧
  (∀ a, (k0_off50 v364) a + S1x16.size a ≤ S400x128.size a) ∧
  (∀ a, (k0_off52 v364) a + S1x16.size a ≤ S400x128.size a)
theorem k0_off38_inb : ∀ (v364 : BitVec 32) (k0_hw2 : k0_chk2 v364), ∀ a, (k0_off38 v364) a + S1x16.size a ≤ S400x128.size a := fun v364 k0_hw2 => k0_hw2.1
theorem k0_off40_inb : ∀ (v364 : BitVec 32) (k0_hw2 : k0_chk2 v364), ∀ a, (k0_off40 v364) a + S1x16.size a ≤ S400x128.size a := fun v364 k0_hw2 => k0_hw2.2.1
theorem k0_off42_inb : ∀ (v364 : BitVec 32) (k0_hw2 : k0_chk2 v364), ∀ a, (k0_off42 v364) a + S1x16.size a ≤ S400x128.size a := fun v364 k0_hw2 => k0_hw2.2.2.1
theorem k0_off44_inb : ∀ (v364 : BitVec 32) (k0_hw2 : k0_chk2 v364), ∀ a, (k0_off44 v364) a + S1x16.size a ≤ S400x128.size a := fun v364 k0_hw2 => k0_hw2.2.2.2.1
theorem k0_off46_inb : ∀ (v364 : BitVec 32) (k0_hw2 : k0_chk2 v364), ∀ a, (k0_off46 v364) a + S1x16.size a ≤ S400x128.size a := fun v364 k0_hw2 => k0_hw2.2.2.2.2.1
theorem k0_off48_inb : ∀ (v364 : BitVec 32) (k0_hw2 : k0_chk2 v364), ∀ a, (k0_off48 v364) a + S1x16.size a ≤ S400x128.size a := fun v364 k0_hw2 => k0_hw2.2.2.2.2.2.1
theorem k0_off50_inb : ∀ (v364 : BitVec 32) (k0_hw2 : k0_chk2 v364), ∀ a, (k0_off50 v364) a + S1x16.size a ≤ S400x128.size a := fun v364 k0_hw2 => k0_hw2.2.2.2.2.2.2.1
theorem k0_off52_inb : ∀ (v364 : BitVec 32) (k0_hw2 : k0_chk2 v364), ∀ a, (k0_off52 v364) a + S1x16.size a ≤ S400x128.size a := fun v364 k0_hw2 => k0_hw2.2.2.2.2.2.2.2

def k0_off53 (k0_t3 : Fin k0_t3_loop.trips) (c1_i32_128 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v362 : BitVec 32 := Scalar.addi v141 c1_i32_128
  let v514 : Index := Scalar.indexCast v362
  let c0_156 : Index := 0#32
  ![v514.toNat, 0]
def k0_off54 (v576 : BitVec 32) : Fin 2 → Nat :=
  let v582 : Index := Scalar.indexCast v576
  let c0_168 : Index := 0#32
  ![v582.toNat, 0]

def k0_off55 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c2_i32_164 : BitVec 32 := 2#32
  let v574 : BitVec 32 := Scalar.addi v141 c2_i32_164
  let v589 : Index := Scalar.indexCast v574
  let c16_169 : Index := 16#32
  ![v589.toNat, 16]
def k0_off56 (v576 : BitVec 32) : Fin 2 → Nat :=
  let v592 : Index := Scalar.indexCast v576
  let c16_170 : Index := 16#32
  ![v592.toNat, 16]
def k0_off57 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c2_i32_164 : BitVec 32 := 2#32
  let v574 : BitVec 32 := Scalar.addi v141 c2_i32_164
  let v599 : Index := Scalar.indexCast v574
  let c32_171 : Index := 32#32
  ![v599.toNat, 32]
def k0_off58 (v576 : BitVec 32) : Fin 2 → Nat :=
  let v602 : Index := Scalar.indexCast v576
  let c32_172 : Index := 32#32
  ![v602.toNat, 32]
def k0_off59 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c2_i32_164 : BitVec 32 := 2#32
  let v574 : BitVec 32 := Scalar.addi v141 c2_i32_164
  let v609 : Index := Scalar.indexCast v574
  let c48_173 : Index := 48#32
  ![v609.toNat, 48]
def k0_off60 (v576 : BitVec 32) : Fin 2 → Nat :=
  let v612 : Index := Scalar.indexCast v576
  let c48_174 : Index := 48#32
  ![v612.toNat, 48]
def k0_off61 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c2_i32_164 : BitVec 32 := 2#32
  let v574 : BitVec 32 := Scalar.addi v141 c2_i32_164
  let v619 : Index := Scalar.indexCast v574
  let c64_175 : Index := 64#32
  ![v619.toNat, 64]
def k0_off62 (v576 : BitVec 32) : Fin 2 → Nat :=
  let v622 : Index := Scalar.indexCast v576
  let c64_176 : Index := 64#32
  ![v622.toNat, 64]
def k0_off63 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c2_i32_164 : BitVec 32 := 2#32
  let v574 : BitVec 32 := Scalar.addi v141 c2_i32_164
  let v629 : Index := Scalar.indexCast v574
  let c80_177 : Index := 80#32
  ![v629.toNat, 80]
def k0_off64 (v576 : BitVec 32) : Fin 2 → Nat :=
  let v632 : Index := Scalar.indexCast v576
  let c80_178 : Index := 80#32
  ![v632.toNat, 80]
def k0_off65 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c2_i32_164 : BitVec 32 := 2#32
  let v574 : BitVec 32 := Scalar.addi v141 c2_i32_164
  let v639 : Index := Scalar.indexCast v574
  let c96_179 : Index := 96#32
  ![v639.toNat, 96]
def k0_off66 (v576 : BitVec 32) : Fin 2 → Nat :=
  let v642 : Index := Scalar.indexCast v576
  let c96_180 : Index := 96#32
  ![v642.toNat, 96]
def k0_off67 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c2_i32_164 : BitVec 32 := 2#32
  let v574 : BitVec 32 := Scalar.addi v141 c2_i32_164
  let v649 : Index := Scalar.indexCast v574
  let c112_181 : Index := 112#32
  ![v649.toNat, 112]
def k0_off68 (v576 : BitVec 32) : Fin 2 → Nat :=
  let v652 : Index := Scalar.indexCast v576
  let c112_182 : Index := 112#32
  ![v652.toNat, 112]

def k0_chk3 (v576 : BitVec 32) : Prop :=
  (∀ a, (k0_off54 v576) a + S1x16.size a ≤ S400x128.size a) ∧
  (∀ a, (k0_off56 v576) a + S1x16.size a ≤ S400x128.size a) ∧
  (∀ a, (k0_off58 v576) a + S1x16.size a ≤ S400x128.size a) ∧
  (∀ a, (k0_off60 v576) a + S1x16.size a ≤ S400x128.size a) ∧
  (∀ a, (k0_off62 v576) a + S1x16.size a ≤ S400x128.size a) ∧
  (∀ a, (k0_off64 v576) a + S1x16.size a ≤ S400x128.size a) ∧
  (∀ a, (k0_off66 v576) a + S1x16.size a ≤ S400x128.size a) ∧
  (∀ a, (k0_off68 v576) a + S1x16.size a ≤ S400x128.size a)
theorem k0_off54_inb : ∀ (v576 : BitVec 32) (k0_hw3 : k0_chk3 v576), ∀ a, (k0_off54 v576) a + S1x16.size a ≤ S400x128.size a := fun v576 k0_hw3 => k0_hw3.1
theorem k0_off56_inb : ∀ (v576 : BitVec 32) (k0_hw3 : k0_chk3 v576), ∀ a, (k0_off56 v576) a + S1x16.size a ≤ S400x128.size a := fun v576 k0_hw3 => k0_hw3.2.1
theorem k0_off58_inb : ∀ (v576 : BitVec 32) (k0_hw3 : k0_chk3 v576), ∀ a, (k0_off58 v576) a + S1x16.size a ≤ S400x128.size a := fun v576 k0_hw3 => k0_hw3.2.2.1
theorem k0_off60_inb : ∀ (v576 : BitVec 32) (k0_hw3 : k0_chk3 v576), ∀ a, (k0_off60 v576) a + S1x16.size a ≤ S400x128.size a := fun v576 k0_hw3 => k0_hw3.2.2.2.1
theorem k0_off62_inb : ∀ (v576 : BitVec 32) (k0_hw3 : k0_chk3 v576), ∀ a, (k0_off62 v576) a + S1x16.size a ≤ S400x128.size a := fun v576 k0_hw3 => k0_hw3.2.2.2.2.1
theorem k0_off64_inb : ∀ (v576 : BitVec 32) (k0_hw3 : k0_chk3 v576), ∀ a, (k0_off64 v576) a + S1x16.size a ≤ S400x128.size a := fun v576 k0_hw3 => k0_hw3.2.2.2.2.2.1
theorem k0_off66_inb : ∀ (v576 : BitVec 32) (k0_hw3 : k0_chk3 v576), ∀ a, (k0_off66 v576) a + S1x16.size a ≤ S400x128.size a := fun v576 k0_hw3 => k0_hw3.2.2.2.2.2.2.1
theorem k0_off68_inb : ∀ (v576 : BitVec 32) (k0_hw3 : k0_chk3 v576), ∀ a, (k0_off68 v576) a + S1x16.size a ≤ S400x128.size a := fun v576 k0_hw3 => k0_hw3.2.2.2.2.2.2.2

def k0_off69 (k0_t3 : Fin k0_t3_loop.trips) (c2_i32_164 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v574 : BitVec 32 := Scalar.addi v141 c2_i32_164
  let v726 : Index := Scalar.indexCast v574
  let c0_192 : Index := 0#32
  ![v726.toNat, 0]
def k0_off70 (v788 : BitVec 32) : Fin 2 → Nat :=
  let v794 : Index := Scalar.indexCast v788
  let c0_203 : Index := 0#32
  ![v794.toNat, 0]

def k0_off71 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c3_i32 : BitVec 32 := 3#32
  let v786 : BitVec 32 := Scalar.addi v141 c3_i32
  let v801 : Index := Scalar.indexCast v786
  let c16_204 : Index := 16#32
  ![v801.toNat, 16]
def k0_off72 (v788 : BitVec 32) : Fin 2 → Nat :=
  let v804 : Index := Scalar.indexCast v788
  let c16_205 : Index := 16#32
  ![v804.toNat, 16]
def k0_off73 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c3_i32 : BitVec 32 := 3#32
  let v786 : BitVec 32 := Scalar.addi v141 c3_i32
  let v811 : Index := Scalar.indexCast v786
  let c32_206 : Index := 32#32
  ![v811.toNat, 32]
def k0_off74 (v788 : BitVec 32) : Fin 2 → Nat :=
  let v814 : Index := Scalar.indexCast v788
  let c32_207 : Index := 32#32
  ![v814.toNat, 32]
def k0_off75 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c3_i32 : BitVec 32 := 3#32
  let v786 : BitVec 32 := Scalar.addi v141 c3_i32
  let v821 : Index := Scalar.indexCast v786
  let c48_208 : Index := 48#32
  ![v821.toNat, 48]
def k0_off76 (v788 : BitVec 32) : Fin 2 → Nat :=
  let v824 : Index := Scalar.indexCast v788
  let c48_209 : Index := 48#32
  ![v824.toNat, 48]
def k0_off77 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c3_i32 : BitVec 32 := 3#32
  let v786 : BitVec 32 := Scalar.addi v141 c3_i32
  let v831 : Index := Scalar.indexCast v786
  let c64_210 : Index := 64#32
  ![v831.toNat, 64]
def k0_off78 (v788 : BitVec 32) : Fin 2 → Nat :=
  let v834 : Index := Scalar.indexCast v788
  let c64_211 : Index := 64#32
  ![v834.toNat, 64]
def k0_off79 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c3_i32 : BitVec 32 := 3#32
  let v786 : BitVec 32 := Scalar.addi v141 c3_i32
  let v841 : Index := Scalar.indexCast v786
  let c80_212 : Index := 80#32
  ![v841.toNat, 80]
def k0_off80 (v788 : BitVec 32) : Fin 2 → Nat :=
  let v844 : Index := Scalar.indexCast v788
  let c80_213 : Index := 80#32
  ![v844.toNat, 80]
def k0_off81 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c3_i32 : BitVec 32 := 3#32
  let v786 : BitVec 32 := Scalar.addi v141 c3_i32
  let v851 : Index := Scalar.indexCast v786
  let c96_214 : Index := 96#32
  ![v851.toNat, 96]
def k0_off82 (v788 : BitVec 32) : Fin 2 → Nat :=
  let v854 : Index := Scalar.indexCast v788
  let c96_215 : Index := 96#32
  ![v854.toNat, 96]
def k0_off83 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c3_i32 : BitVec 32 := 3#32
  let v786 : BitVec 32 := Scalar.addi v141 c3_i32
  let v861 : Index := Scalar.indexCast v786
  let c112_216 : Index := 112#32
  ![v861.toNat, 112]
def k0_off84 (v788 : BitVec 32) : Fin 2 → Nat :=
  let v864 : Index := Scalar.indexCast v788
  let c112_217 : Index := 112#32
  ![v864.toNat, 112]

def k0_chk4 (v788 : BitVec 32) : Prop :=
  (∀ a, (k0_off70 v788) a + S1x16.size a ≤ S400x128.size a) ∧
  (∀ a, (k0_off72 v788) a + S1x16.size a ≤ S400x128.size a) ∧
  (∀ a, (k0_off74 v788) a + S1x16.size a ≤ S400x128.size a) ∧
  (∀ a, (k0_off76 v788) a + S1x16.size a ≤ S400x128.size a) ∧
  (∀ a, (k0_off78 v788) a + S1x16.size a ≤ S400x128.size a) ∧
  (∀ a, (k0_off80 v788) a + S1x16.size a ≤ S400x128.size a) ∧
  (∀ a, (k0_off82 v788) a + S1x16.size a ≤ S400x128.size a) ∧
  (∀ a, (k0_off84 v788) a + S1x16.size a ≤ S400x128.size a)
theorem k0_off70_inb : ∀ (v788 : BitVec 32) (k0_hw4 : k0_chk4 v788), ∀ a, (k0_off70 v788) a + S1x16.size a ≤ S400x128.size a := fun v788 k0_hw4 => k0_hw4.1
theorem k0_off72_inb : ∀ (v788 : BitVec 32) (k0_hw4 : k0_chk4 v788), ∀ a, (k0_off72 v788) a + S1x16.size a ≤ S400x128.size a := fun v788 k0_hw4 => k0_hw4.2.1
theorem k0_off74_inb : ∀ (v788 : BitVec 32) (k0_hw4 : k0_chk4 v788), ∀ a, (k0_off74 v788) a + S1x16.size a ≤ S400x128.size a := fun v788 k0_hw4 => k0_hw4.2.2.1
theorem k0_off76_inb : ∀ (v788 : BitVec 32) (k0_hw4 : k0_chk4 v788), ∀ a, (k0_off76 v788) a + S1x16.size a ≤ S400x128.size a := fun v788 k0_hw4 => k0_hw4.2.2.2.1
theorem k0_off78_inb : ∀ (v788 : BitVec 32) (k0_hw4 : k0_chk4 v788), ∀ a, (k0_off78 v788) a + S1x16.size a ≤ S400x128.size a := fun v788 k0_hw4 => k0_hw4.2.2.2.2.1
theorem k0_off80_inb : ∀ (v788 : BitVec 32) (k0_hw4 : k0_chk4 v788), ∀ a, (k0_off80 v788) a + S1x16.size a ≤ S400x128.size a := fun v788 k0_hw4 => k0_hw4.2.2.2.2.2.1
theorem k0_off82_inb : ∀ (v788 : BitVec 32) (k0_hw4 : k0_chk4 v788), ∀ a, (k0_off82 v788) a + S1x16.size a ≤ S400x128.size a := fun v788 k0_hw4 => k0_hw4.2.2.2.2.2.2.1
theorem k0_off84_inb : ∀ (v788 : BitVec 32) (k0_hw4 : k0_chk4 v788), ∀ a, (k0_off84 v788) a + S1x16.size a ≤ S400x128.size a := fun v788 k0_hw4 => k0_hw4.2.2.2.2.2.2.2

def k0_off85 (k0_t3 : Fin k0_t3_loop.trips) (c3_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v786 : BitVec 32 := Scalar.addi v141 c3_i32
  let v938 : Index := Scalar.indexCast v786
  let c0_227 : Index := 0#32
  ![v938.toNat, 0]
def k0_off86 (v1000 : BitVec 32) : Fin 2 → Nat :=
  let v1006 : Index := Scalar.indexCast v1000
  let c0_238 : Index := 0#32
  ![v1006.toNat, 0]

def k0_off87 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c4_i32 : BitVec 32 := 4#32
  let v998 : BitVec 32 := Scalar.addi v141 c4_i32
  let v1013 : Index := Scalar.indexCast v998
  let c16_239 : Index := 16#32
  ![v1013.toNat, 16]
def k0_off88 (v1000 : BitVec 32) : Fin 2 → Nat :=
  let v1016 : Index := Scalar.indexCast v1000
  let c16_240 : Index := 16#32
  ![v1016.toNat, 16]
def k0_off89 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c4_i32 : BitVec 32 := 4#32
  let v998 : BitVec 32 := Scalar.addi v141 c4_i32
  let v1023 : Index := Scalar.indexCast v998
  let c32_241 : Index := 32#32
  ![v1023.toNat, 32]
def k0_off90 (v1000 : BitVec 32) : Fin 2 → Nat :=
  let v1026 : Index := Scalar.indexCast v1000
  let c32_242 : Index := 32#32
  ![v1026.toNat, 32]
def k0_off91 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c4_i32 : BitVec 32 := 4#32
  let v998 : BitVec 32 := Scalar.addi v141 c4_i32
  let v1033 : Index := Scalar.indexCast v998
  let c48_243 : Index := 48#32
  ![v1033.toNat, 48]
def k0_off92 (v1000 : BitVec 32) : Fin 2 → Nat :=
  let v1036 : Index := Scalar.indexCast v1000
  let c48_244 : Index := 48#32
  ![v1036.toNat, 48]
def k0_off93 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c4_i32 : BitVec 32 := 4#32
  let v998 : BitVec 32 := Scalar.addi v141 c4_i32
  let v1043 : Index := Scalar.indexCast v998
  let c64_245 : Index := 64#32
  ![v1043.toNat, 64]
def k0_off94 (v1000 : BitVec 32) : Fin 2 → Nat :=
  let v1046 : Index := Scalar.indexCast v1000
  let c64_246 : Index := 64#32
  ![v1046.toNat, 64]
def k0_off95 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c4_i32 : BitVec 32 := 4#32
  let v998 : BitVec 32 := Scalar.addi v141 c4_i32
  let v1053 : Index := Scalar.indexCast v998
  let c80_247 : Index := 80#32
  ![v1053.toNat, 80]
def k0_off96 (v1000 : BitVec 32) : Fin 2 → Nat :=
  let v1056 : Index := Scalar.indexCast v1000
  let c80_248 : Index := 80#32
  ![v1056.toNat, 80]
def k0_off97 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c4_i32 : BitVec 32 := 4#32
  let v998 : BitVec 32 := Scalar.addi v141 c4_i32
  let v1063 : Index := Scalar.indexCast v998
  let c96_249 : Index := 96#32
  ![v1063.toNat, 96]
def k0_off98 (v1000 : BitVec 32) : Fin 2 → Nat :=
  let v1066 : Index := Scalar.indexCast v1000
  let c96_250 : Index := 96#32
  ![v1066.toNat, 96]
def k0_off99 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c4_i32 : BitVec 32 := 4#32
  let v998 : BitVec 32 := Scalar.addi v141 c4_i32
  let v1073 : Index := Scalar.indexCast v998
  let c112_251 : Index := 112#32
  ![v1073.toNat, 112]
def k0_off100 (v1000 : BitVec 32) : Fin 2 → Nat :=
  let v1076 : Index := Scalar.indexCast v1000
  let c112_252 : Index := 112#32
  ![v1076.toNat, 112]

def k0_chk5 (v1000 : BitVec 32) : Prop :=
  (∀ a, (k0_off86 v1000) a + S1x16.size a ≤ S400x128.size a) ∧
  (∀ a, (k0_off88 v1000) a + S1x16.size a ≤ S400x128.size a) ∧
  (∀ a, (k0_off90 v1000) a + S1x16.size a ≤ S400x128.size a) ∧
  (∀ a, (k0_off92 v1000) a + S1x16.size a ≤ S400x128.size a) ∧
  (∀ a, (k0_off94 v1000) a + S1x16.size a ≤ S400x128.size a) ∧
  (∀ a, (k0_off96 v1000) a + S1x16.size a ≤ S400x128.size a) ∧
  (∀ a, (k0_off98 v1000) a + S1x16.size a ≤ S400x128.size a) ∧
  (∀ a, (k0_off100 v1000) a + S1x16.size a ≤ S400x128.size a)
theorem k0_off86_inb : ∀ (v1000 : BitVec 32) (k0_hw5 : k0_chk5 v1000), ∀ a, (k0_off86 v1000) a + S1x16.size a ≤ S400x128.size a := fun v1000 k0_hw5 => k0_hw5.1
theorem k0_off88_inb : ∀ (v1000 : BitVec 32) (k0_hw5 : k0_chk5 v1000), ∀ a, (k0_off88 v1000) a + S1x16.size a ≤ S400x128.size a := fun v1000 k0_hw5 => k0_hw5.2.1
theorem k0_off90_inb : ∀ (v1000 : BitVec 32) (k0_hw5 : k0_chk5 v1000), ∀ a, (k0_off90 v1000) a + S1x16.size a ≤ S400x128.size a := fun v1000 k0_hw5 => k0_hw5.2.2.1
theorem k0_off92_inb : ∀ (v1000 : BitVec 32) (k0_hw5 : k0_chk5 v1000), ∀ a, (k0_off92 v1000) a + S1x16.size a ≤ S400x128.size a := fun v1000 k0_hw5 => k0_hw5.2.2.2.1
theorem k0_off94_inb : ∀ (v1000 : BitVec 32) (k0_hw5 : k0_chk5 v1000), ∀ a, (k0_off94 v1000) a + S1x16.size a ≤ S400x128.size a := fun v1000 k0_hw5 => k0_hw5.2.2.2.2.1
theorem k0_off96_inb : ∀ (v1000 : BitVec 32) (k0_hw5 : k0_chk5 v1000), ∀ a, (k0_off96 v1000) a + S1x16.size a ≤ S400x128.size a := fun v1000 k0_hw5 => k0_hw5.2.2.2.2.2.1
theorem k0_off98_inb : ∀ (v1000 : BitVec 32) (k0_hw5 : k0_chk5 v1000), ∀ a, (k0_off98 v1000) a + S1x16.size a ≤ S400x128.size a := fun v1000 k0_hw5 => k0_hw5.2.2.2.2.2.2.1
theorem k0_off100_inb : ∀ (v1000 : BitVec 32) (k0_hw5 : k0_chk5 v1000), ∀ a, (k0_off100 v1000) a + S1x16.size a ≤ S400x128.size a := fun v1000 k0_hw5 => k0_hw5.2.2.2.2.2.2.2

def k0_off101 (k0_t3 : Fin k0_t3_loop.trips) (c4_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v998 : BitVec 32 := Scalar.addi v141 c4_i32
  let v1150 : Index := Scalar.indexCast v998
  let c0_262 : Index := 0#32
  ![v1150.toNat, 0]
def k0_off102 (v1212 : BitVec 32) : Fin 2 → Nat :=
  let v1218 : Index := Scalar.indexCast v1212
  let c0_273 : Index := 0#32
  ![v1218.toNat, 0]

def k0_off103 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c5_i32 : BitVec 32 := 5#32
  let v1210 : BitVec 32 := Scalar.addi v141 c5_i32
  let v1225 : Index := Scalar.indexCast v1210
  let c16_274 : Index := 16#32
  ![v1225.toNat, 16]
def k0_off104 (v1212 : BitVec 32) : Fin 2 → Nat :=
  let v1228 : Index := Scalar.indexCast v1212
  let c16_275 : Index := 16#32
  ![v1228.toNat, 16]
def k0_off105 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c5_i32 : BitVec 32 := 5#32
  let v1210 : BitVec 32 := Scalar.addi v141 c5_i32
  let v1235 : Index := Scalar.indexCast v1210
  let c32_276 : Index := 32#32
  ![v1235.toNat, 32]
def k0_off106 (v1212 : BitVec 32) : Fin 2 → Nat :=
  let v1238 : Index := Scalar.indexCast v1212
  let c32_277 : Index := 32#32
  ![v1238.toNat, 32]
def k0_off107 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c5_i32 : BitVec 32 := 5#32
  let v1210 : BitVec 32 := Scalar.addi v141 c5_i32
  let v1245 : Index := Scalar.indexCast v1210
  let c48_278 : Index := 48#32
  ![v1245.toNat, 48]
def k0_off108 (v1212 : BitVec 32) : Fin 2 → Nat :=
  let v1248 : Index := Scalar.indexCast v1212
  let c48_279 : Index := 48#32
  ![v1248.toNat, 48]
def k0_off109 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c5_i32 : BitVec 32 := 5#32
  let v1210 : BitVec 32 := Scalar.addi v141 c5_i32
  let v1255 : Index := Scalar.indexCast v1210
  let c64_280 : Index := 64#32
  ![v1255.toNat, 64]
def k0_off110 (v1212 : BitVec 32) : Fin 2 → Nat :=
  let v1258 : Index := Scalar.indexCast v1212
  let c64_281 : Index := 64#32
  ![v1258.toNat, 64]
def k0_off111 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c5_i32 : BitVec 32 := 5#32
  let v1210 : BitVec 32 := Scalar.addi v141 c5_i32
  let v1265 : Index := Scalar.indexCast v1210
  let c80_282 : Index := 80#32
  ![v1265.toNat, 80]
def k0_off112 (v1212 : BitVec 32) : Fin 2 → Nat :=
  let v1268 : Index := Scalar.indexCast v1212
  let c80_283 : Index := 80#32
  ![v1268.toNat, 80]
def k0_off113 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c5_i32 : BitVec 32 := 5#32
  let v1210 : BitVec 32 := Scalar.addi v141 c5_i32
  let v1275 : Index := Scalar.indexCast v1210
  let c96_284 : Index := 96#32
  ![v1275.toNat, 96]
def k0_off114 (v1212 : BitVec 32) : Fin 2 → Nat :=
  let v1278 : Index := Scalar.indexCast v1212
  let c96_285 : Index := 96#32
  ![v1278.toNat, 96]
def k0_off115 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c5_i32 : BitVec 32 := 5#32
  let v1210 : BitVec 32 := Scalar.addi v141 c5_i32
  let v1285 : Index := Scalar.indexCast v1210
  let c112_286 : Index := 112#32
  ![v1285.toNat, 112]
def k0_off116 (v1212 : BitVec 32) : Fin 2 → Nat :=
  let v1288 : Index := Scalar.indexCast v1212
  let c112_287 : Index := 112#32
  ![v1288.toNat, 112]

def k0_chk6 (v1212 : BitVec 32) : Prop :=
  (∀ a, (k0_off102 v1212) a + S1x16.size a ≤ S400x128.size a) ∧
  (∀ a, (k0_off104 v1212) a + S1x16.size a ≤ S400x128.size a) ∧
  (∀ a, (k0_off106 v1212) a + S1x16.size a ≤ S400x128.size a) ∧
  (∀ a, (k0_off108 v1212) a + S1x16.size a ≤ S400x128.size a) ∧
  (∀ a, (k0_off110 v1212) a + S1x16.size a ≤ S400x128.size a) ∧
  (∀ a, (k0_off112 v1212) a + S1x16.size a ≤ S400x128.size a) ∧
  (∀ a, (k0_off114 v1212) a + S1x16.size a ≤ S400x128.size a) ∧
  (∀ a, (k0_off116 v1212) a + S1x16.size a ≤ S400x128.size a)
theorem k0_off102_inb : ∀ (v1212 : BitVec 32) (k0_hw6 : k0_chk6 v1212), ∀ a, (k0_off102 v1212) a + S1x16.size a ≤ S400x128.size a := fun v1212 k0_hw6 => k0_hw6.1
theorem k0_off104_inb : ∀ (v1212 : BitVec 32) (k0_hw6 : k0_chk6 v1212), ∀ a, (k0_off104 v1212) a + S1x16.size a ≤ S400x128.size a := fun v1212 k0_hw6 => k0_hw6.2.1
theorem k0_off106_inb : ∀ (v1212 : BitVec 32) (k0_hw6 : k0_chk6 v1212), ∀ a, (k0_off106 v1212) a + S1x16.size a ≤ S400x128.size a := fun v1212 k0_hw6 => k0_hw6.2.2.1
theorem k0_off108_inb : ∀ (v1212 : BitVec 32) (k0_hw6 : k0_chk6 v1212), ∀ a, (k0_off108 v1212) a + S1x16.size a ≤ S400x128.size a := fun v1212 k0_hw6 => k0_hw6.2.2.2.1
theorem k0_off110_inb : ∀ (v1212 : BitVec 32) (k0_hw6 : k0_chk6 v1212), ∀ a, (k0_off110 v1212) a + S1x16.size a ≤ S400x128.size a := fun v1212 k0_hw6 => k0_hw6.2.2.2.2.1
theorem k0_off112_inb : ∀ (v1212 : BitVec 32) (k0_hw6 : k0_chk6 v1212), ∀ a, (k0_off112 v1212) a + S1x16.size a ≤ S400x128.size a := fun v1212 k0_hw6 => k0_hw6.2.2.2.2.2.1
theorem k0_off114_inb : ∀ (v1212 : BitVec 32) (k0_hw6 : k0_chk6 v1212), ∀ a, (k0_off114 v1212) a + S1x16.size a ≤ S400x128.size a := fun v1212 k0_hw6 => k0_hw6.2.2.2.2.2.2.1
theorem k0_off116_inb : ∀ (v1212 : BitVec 32) (k0_hw6 : k0_chk6 v1212), ∀ a, (k0_off116 v1212) a + S1x16.size a ≤ S400x128.size a := fun v1212 k0_hw6 => k0_hw6.2.2.2.2.2.2.2

def k0_off117 (k0_t3 : Fin k0_t3_loop.trips) (c5_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v1210 : BitVec 32 := Scalar.addi v141 c5_i32
  let v1362 : Index := Scalar.indexCast v1210
  let c0_297 : Index := 0#32
  ![v1362.toNat, 0]
def k0_off118 (v1424 : BitVec 32) : Fin 2 → Nat :=
  let v1430 : Index := Scalar.indexCast v1424
  let c0_308 : Index := 0#32
  ![v1430.toNat, 0]

def k0_off119 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c6_i32 : BitVec 32 := 6#32
  let v1422 : BitVec 32 := Scalar.addi v141 c6_i32
  let v1437 : Index := Scalar.indexCast v1422
  let c16_309 : Index := 16#32
  ![v1437.toNat, 16]
def k0_off120 (v1424 : BitVec 32) : Fin 2 → Nat :=
  let v1440 : Index := Scalar.indexCast v1424
  let c16_310 : Index := 16#32
  ![v1440.toNat, 16]
def k0_off121 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c6_i32 : BitVec 32 := 6#32
  let v1422 : BitVec 32 := Scalar.addi v141 c6_i32
  let v1447 : Index := Scalar.indexCast v1422
  let c32_311 : Index := 32#32
  ![v1447.toNat, 32]
def k0_off122 (v1424 : BitVec 32) : Fin 2 → Nat :=
  let v1450 : Index := Scalar.indexCast v1424
  let c32_312 : Index := 32#32
  ![v1450.toNat, 32]
def k0_off123 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c6_i32 : BitVec 32 := 6#32
  let v1422 : BitVec 32 := Scalar.addi v141 c6_i32
  let v1457 : Index := Scalar.indexCast v1422
  let c48_313 : Index := 48#32
  ![v1457.toNat, 48]
def k0_off124 (v1424 : BitVec 32) : Fin 2 → Nat :=
  let v1460 : Index := Scalar.indexCast v1424
  let c48_314 : Index := 48#32
  ![v1460.toNat, 48]
def k0_off125 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c6_i32 : BitVec 32 := 6#32
  let v1422 : BitVec 32 := Scalar.addi v141 c6_i32
  let v1467 : Index := Scalar.indexCast v1422
  let c64_315 : Index := 64#32
  ![v1467.toNat, 64]
def k0_off126 (v1424 : BitVec 32) : Fin 2 → Nat :=
  let v1470 : Index := Scalar.indexCast v1424
  let c64_316 : Index := 64#32
  ![v1470.toNat, 64]
def k0_off127 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c6_i32 : BitVec 32 := 6#32
  let v1422 : BitVec 32 := Scalar.addi v141 c6_i32
  let v1477 : Index := Scalar.indexCast v1422
  let c80_317 : Index := 80#32
  ![v1477.toNat, 80]
def k0_off128 (v1424 : BitVec 32) : Fin 2 → Nat :=
  let v1480 : Index := Scalar.indexCast v1424
  let c80_318 : Index := 80#32
  ![v1480.toNat, 80]
def k0_off129 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c6_i32 : BitVec 32 := 6#32
  let v1422 : BitVec 32 := Scalar.addi v141 c6_i32
  let v1487 : Index := Scalar.indexCast v1422
  let c96_319 : Index := 96#32
  ![v1487.toNat, 96]
def k0_off130 (v1424 : BitVec 32) : Fin 2 → Nat :=
  let v1490 : Index := Scalar.indexCast v1424
  let c96_320 : Index := 96#32
  ![v1490.toNat, 96]
def k0_off131 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c6_i32 : BitVec 32 := 6#32
  let v1422 : BitVec 32 := Scalar.addi v141 c6_i32
  let v1497 : Index := Scalar.indexCast v1422
  let c112_321 : Index := 112#32
  ![v1497.toNat, 112]
def k0_off132 (v1424 : BitVec 32) : Fin 2 → Nat :=
  let v1500 : Index := Scalar.indexCast v1424
  let c112_322 : Index := 112#32
  ![v1500.toNat, 112]

def k0_chk7 (v1424 : BitVec 32) : Prop :=
  (∀ a, (k0_off118 v1424) a + S1x16.size a ≤ S400x128.size a) ∧
  (∀ a, (k0_off120 v1424) a + S1x16.size a ≤ S400x128.size a) ∧
  (∀ a, (k0_off122 v1424) a + S1x16.size a ≤ S400x128.size a) ∧
  (∀ a, (k0_off124 v1424) a + S1x16.size a ≤ S400x128.size a) ∧
  (∀ a, (k0_off126 v1424) a + S1x16.size a ≤ S400x128.size a) ∧
  (∀ a, (k0_off128 v1424) a + S1x16.size a ≤ S400x128.size a) ∧
  (∀ a, (k0_off130 v1424) a + S1x16.size a ≤ S400x128.size a) ∧
  (∀ a, (k0_off132 v1424) a + S1x16.size a ≤ S400x128.size a)
theorem k0_off118_inb : ∀ (v1424 : BitVec 32) (k0_hw7 : k0_chk7 v1424), ∀ a, (k0_off118 v1424) a + S1x16.size a ≤ S400x128.size a := fun v1424 k0_hw7 => k0_hw7.1
theorem k0_off120_inb : ∀ (v1424 : BitVec 32) (k0_hw7 : k0_chk7 v1424), ∀ a, (k0_off120 v1424) a + S1x16.size a ≤ S400x128.size a := fun v1424 k0_hw7 => k0_hw7.2.1
theorem k0_off122_inb : ∀ (v1424 : BitVec 32) (k0_hw7 : k0_chk7 v1424), ∀ a, (k0_off122 v1424) a + S1x16.size a ≤ S400x128.size a := fun v1424 k0_hw7 => k0_hw7.2.2.1
theorem k0_off124_inb : ∀ (v1424 : BitVec 32) (k0_hw7 : k0_chk7 v1424), ∀ a, (k0_off124 v1424) a + S1x16.size a ≤ S400x128.size a := fun v1424 k0_hw7 => k0_hw7.2.2.2.1
theorem k0_off126_inb : ∀ (v1424 : BitVec 32) (k0_hw7 : k0_chk7 v1424), ∀ a, (k0_off126 v1424) a + S1x16.size a ≤ S400x128.size a := fun v1424 k0_hw7 => k0_hw7.2.2.2.2.1
theorem k0_off128_inb : ∀ (v1424 : BitVec 32) (k0_hw7 : k0_chk7 v1424), ∀ a, (k0_off128 v1424) a + S1x16.size a ≤ S400x128.size a := fun v1424 k0_hw7 => k0_hw7.2.2.2.2.2.1
theorem k0_off130_inb : ∀ (v1424 : BitVec 32) (k0_hw7 : k0_chk7 v1424), ∀ a, (k0_off130 v1424) a + S1x16.size a ≤ S400x128.size a := fun v1424 k0_hw7 => k0_hw7.2.2.2.2.2.2.1
theorem k0_off132_inb : ∀ (v1424 : BitVec 32) (k0_hw7 : k0_chk7 v1424), ∀ a, (k0_off132 v1424) a + S1x16.size a ≤ S400x128.size a := fun v1424 k0_hw7 => k0_hw7.2.2.2.2.2.2.2

def k0_off133 (k0_t3 : Fin k0_t3_loop.trips) (c6_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v1422 : BitVec 32 := Scalar.addi v141 c6_i32
  let v1574 : Index := Scalar.indexCast v1422
  let c0_332 : Index := 0#32
  ![v1574.toNat, 0]
def k0_off134 (v1636 : BitVec 32) : Fin 2 → Nat :=
  let v1642 : Index := Scalar.indexCast v1636
  let c0_343 : Index := 0#32
  ![v1642.toNat, 0]

def k0_off135 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c7_i32 : BitVec 32 := 7#32
  let v1634 : BitVec 32 := Scalar.addi v141 c7_i32
  let v1649 : Index := Scalar.indexCast v1634
  let c16_344 : Index := 16#32
  ![v1649.toNat, 16]
def k0_off136 (v1636 : BitVec 32) : Fin 2 → Nat :=
  let v1652 : Index := Scalar.indexCast v1636
  let c16_345 : Index := 16#32
  ![v1652.toNat, 16]
def k0_off137 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c7_i32 : BitVec 32 := 7#32
  let v1634 : BitVec 32 := Scalar.addi v141 c7_i32
  let v1659 : Index := Scalar.indexCast v1634
  let c32_346 : Index := 32#32
  ![v1659.toNat, 32]
def k0_off138 (v1636 : BitVec 32) : Fin 2 → Nat :=
  let v1662 : Index := Scalar.indexCast v1636
  let c32_347 : Index := 32#32
  ![v1662.toNat, 32]
def k0_off139 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c7_i32 : BitVec 32 := 7#32
  let v1634 : BitVec 32 := Scalar.addi v141 c7_i32
  let v1669 : Index := Scalar.indexCast v1634
  let c48_348 : Index := 48#32
  ![v1669.toNat, 48]
def k0_off140 (v1636 : BitVec 32) : Fin 2 → Nat :=
  let v1672 : Index := Scalar.indexCast v1636
  let c48_349 : Index := 48#32
  ![v1672.toNat, 48]
def k0_off141 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c7_i32 : BitVec 32 := 7#32
  let v1634 : BitVec 32 := Scalar.addi v141 c7_i32
  let v1679 : Index := Scalar.indexCast v1634
  let c64_350 : Index := 64#32
  ![v1679.toNat, 64]
def k0_off142 (v1636 : BitVec 32) : Fin 2 → Nat :=
  let v1682 : Index := Scalar.indexCast v1636
  let c64_351 : Index := 64#32
  ![v1682.toNat, 64]
def k0_off143 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c7_i32 : BitVec 32 := 7#32
  let v1634 : BitVec 32 := Scalar.addi v141 c7_i32
  let v1689 : Index := Scalar.indexCast v1634
  let c80_352 : Index := 80#32
  ![v1689.toNat, 80]
def k0_off144 (v1636 : BitVec 32) : Fin 2 → Nat :=
  let v1692 : Index := Scalar.indexCast v1636
  let c80_353 : Index := 80#32
  ![v1692.toNat, 80]
def k0_off145 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c7_i32 : BitVec 32 := 7#32
  let v1634 : BitVec 32 := Scalar.addi v141 c7_i32
  let v1699 : Index := Scalar.indexCast v1634
  let c96_354 : Index := 96#32
  ![v1699.toNat, 96]
def k0_off146 (v1636 : BitVec 32) : Fin 2 → Nat :=
  let v1702 : Index := Scalar.indexCast v1636
  let c96_355 : Index := 96#32
  ![v1702.toNat, 96]
def k0_off147 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c7_i32 : BitVec 32 := 7#32
  let v1634 : BitVec 32 := Scalar.addi v141 c7_i32
  let v1709 : Index := Scalar.indexCast v1634
  let c112_356 : Index := 112#32
  ![v1709.toNat, 112]
def k0_off148 (v1636 : BitVec 32) : Fin 2 → Nat :=
  let v1712 : Index := Scalar.indexCast v1636
  let c112_357 : Index := 112#32
  ![v1712.toNat, 112]

def k0_chk8 (v1636 : BitVec 32) : Prop :=
  (∀ a, (k0_off134 v1636) a + S1x16.size a ≤ S400x128.size a) ∧
  (∀ a, (k0_off136 v1636) a + S1x16.size a ≤ S400x128.size a) ∧
  (∀ a, (k0_off138 v1636) a + S1x16.size a ≤ S400x128.size a) ∧
  (∀ a, (k0_off140 v1636) a + S1x16.size a ≤ S400x128.size a) ∧
  (∀ a, (k0_off142 v1636) a + S1x16.size a ≤ S400x128.size a) ∧
  (∀ a, (k0_off144 v1636) a + S1x16.size a ≤ S400x128.size a) ∧
  (∀ a, (k0_off146 v1636) a + S1x16.size a ≤ S400x128.size a) ∧
  (∀ a, (k0_off148 v1636) a + S1x16.size a ≤ S400x128.size a)
theorem k0_off134_inb : ∀ (v1636 : BitVec 32) (k0_hw8 : k0_chk8 v1636), ∀ a, (k0_off134 v1636) a + S1x16.size a ≤ S400x128.size a := fun v1636 k0_hw8 => k0_hw8.1
theorem k0_off136_inb : ∀ (v1636 : BitVec 32) (k0_hw8 : k0_chk8 v1636), ∀ a, (k0_off136 v1636) a + S1x16.size a ≤ S400x128.size a := fun v1636 k0_hw8 => k0_hw8.2.1
theorem k0_off138_inb : ∀ (v1636 : BitVec 32) (k0_hw8 : k0_chk8 v1636), ∀ a, (k0_off138 v1636) a + S1x16.size a ≤ S400x128.size a := fun v1636 k0_hw8 => k0_hw8.2.2.1
theorem k0_off140_inb : ∀ (v1636 : BitVec 32) (k0_hw8 : k0_chk8 v1636), ∀ a, (k0_off140 v1636) a + S1x16.size a ≤ S400x128.size a := fun v1636 k0_hw8 => k0_hw8.2.2.2.1
theorem k0_off142_inb : ∀ (v1636 : BitVec 32) (k0_hw8 : k0_chk8 v1636), ∀ a, (k0_off142 v1636) a + S1x16.size a ≤ S400x128.size a := fun v1636 k0_hw8 => k0_hw8.2.2.2.2.1
theorem k0_off144_inb : ∀ (v1636 : BitVec 32) (k0_hw8 : k0_chk8 v1636), ∀ a, (k0_off144 v1636) a + S1x16.size a ≤ S400x128.size a := fun v1636 k0_hw8 => k0_hw8.2.2.2.2.2.1
theorem k0_off146_inb : ∀ (v1636 : BitVec 32) (k0_hw8 : k0_chk8 v1636), ∀ a, (k0_off146 v1636) a + S1x16.size a ≤ S400x128.size a := fun v1636 k0_hw8 => k0_hw8.2.2.2.2.2.2.1
theorem k0_off148_inb : ∀ (v1636 : BitVec 32) (k0_hw8 : k0_chk8 v1636), ∀ a, (k0_off148 v1636) a + S1x16.size a ≤ S400x128.size a := fun v1636 k0_hw8 => k0_hw8.2.2.2.2.2.2.2

def k0_off149 (k0_t3 : Fin k0_t3_loop.trips) (c7_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v1634 : BitVec 32 := Scalar.addi v141 c7_i32
  let v1786 : Index := Scalar.indexCast v1634
  let c0_367 : Index := 0#32
  ![v1786.toNat, 0]
def k0_off150 (v1848 : BitVec 32) : Fin 2 → Nat :=
  let v1854 : Index := Scalar.indexCast v1848
  let c0_379 : Index := 0#32
  ![v1854.toNat, 0]

def k0_off151 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c8_i32_375 : BitVec 32 := 8#32
  let v1846 : BitVec 32 := Scalar.addi v141 c8_i32_375
  let v1861 : Index := Scalar.indexCast v1846
  let c16_380 : Index := 16#32
  ![v1861.toNat, 16]
def k0_off152 (v1848 : BitVec 32) : Fin 2 → Nat :=
  let v1864 : Index := Scalar.indexCast v1848
  let c16_381 : Index := 16#32
  ![v1864.toNat, 16]
def k0_off153 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c8_i32_375 : BitVec 32 := 8#32
  let v1846 : BitVec 32 := Scalar.addi v141 c8_i32_375
  let v1871 : Index := Scalar.indexCast v1846
  let c32_382 : Index := 32#32
  ![v1871.toNat, 32]
def k0_off154 (v1848 : BitVec 32) : Fin 2 → Nat :=
  let v1874 : Index := Scalar.indexCast v1848
  let c32_383 : Index := 32#32
  ![v1874.toNat, 32]
def k0_off155 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c8_i32_375 : BitVec 32 := 8#32
  let v1846 : BitVec 32 := Scalar.addi v141 c8_i32_375
  let v1881 : Index := Scalar.indexCast v1846
  let c48_384 : Index := 48#32
  ![v1881.toNat, 48]
def k0_off156 (v1848 : BitVec 32) : Fin 2 → Nat :=
  let v1884 : Index := Scalar.indexCast v1848
  let c48_385 : Index := 48#32
  ![v1884.toNat, 48]
def k0_off157 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c8_i32_375 : BitVec 32 := 8#32
  let v1846 : BitVec 32 := Scalar.addi v141 c8_i32_375
  let v1891 : Index := Scalar.indexCast v1846
  let c64_386 : Index := 64#32
  ![v1891.toNat, 64]
def k0_off158 (v1848 : BitVec 32) : Fin 2 → Nat :=
  let v1894 : Index := Scalar.indexCast v1848
  let c64_387 : Index := 64#32
  ![v1894.toNat, 64]
def k0_off159 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c8_i32_375 : BitVec 32 := 8#32
  let v1846 : BitVec 32 := Scalar.addi v141 c8_i32_375
  let v1901 : Index := Scalar.indexCast v1846
  let c80_388 : Index := 80#32
  ![v1901.toNat, 80]
def k0_off160 (v1848 : BitVec 32) : Fin 2 → Nat :=
  let v1904 : Index := Scalar.indexCast v1848
  let c80_389 : Index := 80#32
  ![v1904.toNat, 80]
def k0_off161 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c8_i32_375 : BitVec 32 := 8#32
  let v1846 : BitVec 32 := Scalar.addi v141 c8_i32_375
  let v1911 : Index := Scalar.indexCast v1846
  let c96_390 : Index := 96#32
  ![v1911.toNat, 96]
def k0_off162 (v1848 : BitVec 32) : Fin 2 → Nat :=
  let v1914 : Index := Scalar.indexCast v1848
  let c96_391 : Index := 96#32
  ![v1914.toNat, 96]
def k0_off163 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c8_i32_375 : BitVec 32 := 8#32
  let v1846 : BitVec 32 := Scalar.addi v141 c8_i32_375
  let v1921 : Index := Scalar.indexCast v1846
  let c112_392 : Index := 112#32
  ![v1921.toNat, 112]
def k0_off164 (v1848 : BitVec 32) : Fin 2 → Nat :=
  let v1924 : Index := Scalar.indexCast v1848
  let c112_393 : Index := 112#32
  ![v1924.toNat, 112]

def k0_chk9 (v1848 : BitVec 32) : Prop :=
  (∀ a, (k0_off150 v1848) a + S1x16.size a ≤ S400x128.size a) ∧
  (∀ a, (k0_off152 v1848) a + S1x16.size a ≤ S400x128.size a) ∧
  (∀ a, (k0_off154 v1848) a + S1x16.size a ≤ S400x128.size a) ∧
  (∀ a, (k0_off156 v1848) a + S1x16.size a ≤ S400x128.size a) ∧
  (∀ a, (k0_off158 v1848) a + S1x16.size a ≤ S400x128.size a) ∧
  (∀ a, (k0_off160 v1848) a + S1x16.size a ≤ S400x128.size a) ∧
  (∀ a, (k0_off162 v1848) a + S1x16.size a ≤ S400x128.size a) ∧
  (∀ a, (k0_off164 v1848) a + S1x16.size a ≤ S400x128.size a)
theorem k0_off150_inb : ∀ (v1848 : BitVec 32) (k0_hw9 : k0_chk9 v1848), ∀ a, (k0_off150 v1848) a + S1x16.size a ≤ S400x128.size a := fun v1848 k0_hw9 => k0_hw9.1
theorem k0_off152_inb : ∀ (v1848 : BitVec 32) (k0_hw9 : k0_chk9 v1848), ∀ a, (k0_off152 v1848) a + S1x16.size a ≤ S400x128.size a := fun v1848 k0_hw9 => k0_hw9.2.1
theorem k0_off154_inb : ∀ (v1848 : BitVec 32) (k0_hw9 : k0_chk9 v1848), ∀ a, (k0_off154 v1848) a + S1x16.size a ≤ S400x128.size a := fun v1848 k0_hw9 => k0_hw9.2.2.1
theorem k0_off156_inb : ∀ (v1848 : BitVec 32) (k0_hw9 : k0_chk9 v1848), ∀ a, (k0_off156 v1848) a + S1x16.size a ≤ S400x128.size a := fun v1848 k0_hw9 => k0_hw9.2.2.2.1
theorem k0_off158_inb : ∀ (v1848 : BitVec 32) (k0_hw9 : k0_chk9 v1848), ∀ a, (k0_off158 v1848) a + S1x16.size a ≤ S400x128.size a := fun v1848 k0_hw9 => k0_hw9.2.2.2.2.1
theorem k0_off160_inb : ∀ (v1848 : BitVec 32) (k0_hw9 : k0_chk9 v1848), ∀ a, (k0_off160 v1848) a + S1x16.size a ≤ S400x128.size a := fun v1848 k0_hw9 => k0_hw9.2.2.2.2.2.1
theorem k0_off162_inb : ∀ (v1848 : BitVec 32) (k0_hw9 : k0_chk9 v1848), ∀ a, (k0_off162 v1848) a + S1x16.size a ≤ S400x128.size a := fun v1848 k0_hw9 => k0_hw9.2.2.2.2.2.2.1
theorem k0_off164_inb : ∀ (v1848 : BitVec 32) (k0_hw9 : k0_chk9 v1848), ∀ a, (k0_off164 v1848) a + S1x16.size a ≤ S400x128.size a := fun v1848 k0_hw9 => k0_hw9.2.2.2.2.2.2.2

def k0_off165 (k0_t3 : Fin k0_t3_loop.trips) (c8_i32_375 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v1846 : BitVec 32 := Scalar.addi v141 c8_i32_375
  let v1998 : Index := Scalar.indexCast v1846
  let c0_403 : Index := 0#32
  ![v1998.toNat, 0]
def k0_off166 (v2060 : BitVec 32) : Fin 2 → Nat :=
  let v2066 : Index := Scalar.indexCast v2060
  let c0_414 : Index := 0#32
  ![v2066.toNat, 0]

def k0_off167 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c9_i32 : BitVec 32 := 9#32
  let v2058 : BitVec 32 := Scalar.addi v141 c9_i32
  let v2073 : Index := Scalar.indexCast v2058
  let c16_415 : Index := 16#32
  ![v2073.toNat, 16]
def k0_off168 (v2060 : BitVec 32) : Fin 2 → Nat :=
  let v2076 : Index := Scalar.indexCast v2060
  let c16_416 : Index := 16#32
  ![v2076.toNat, 16]
def k0_off169 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c9_i32 : BitVec 32 := 9#32
  let v2058 : BitVec 32 := Scalar.addi v141 c9_i32
  let v2083 : Index := Scalar.indexCast v2058
  let c32_417 : Index := 32#32
  ![v2083.toNat, 32]
def k0_off170 (v2060 : BitVec 32) : Fin 2 → Nat :=
  let v2086 : Index := Scalar.indexCast v2060
  let c32_418 : Index := 32#32
  ![v2086.toNat, 32]
def k0_off171 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c9_i32 : BitVec 32 := 9#32
  let v2058 : BitVec 32 := Scalar.addi v141 c9_i32
  let v2093 : Index := Scalar.indexCast v2058
  let c48_419 : Index := 48#32
  ![v2093.toNat, 48]
def k0_off172 (v2060 : BitVec 32) : Fin 2 → Nat :=
  let v2096 : Index := Scalar.indexCast v2060
  let c48_420 : Index := 48#32
  ![v2096.toNat, 48]
def k0_off173 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c9_i32 : BitVec 32 := 9#32
  let v2058 : BitVec 32 := Scalar.addi v141 c9_i32
  let v2103 : Index := Scalar.indexCast v2058
  let c64_421 : Index := 64#32
  ![v2103.toNat, 64]
def k0_off174 (v2060 : BitVec 32) : Fin 2 → Nat :=
  let v2106 : Index := Scalar.indexCast v2060
  let c64_422 : Index := 64#32
  ![v2106.toNat, 64]
def k0_off175 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c9_i32 : BitVec 32 := 9#32
  let v2058 : BitVec 32 := Scalar.addi v141 c9_i32
  let v2113 : Index := Scalar.indexCast v2058
  let c80_423 : Index := 80#32
  ![v2113.toNat, 80]
def k0_off176 (v2060 : BitVec 32) : Fin 2 → Nat :=
  let v2116 : Index := Scalar.indexCast v2060
  let c80_424 : Index := 80#32
  ![v2116.toNat, 80]
def k0_off177 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c9_i32 : BitVec 32 := 9#32
  let v2058 : BitVec 32 := Scalar.addi v141 c9_i32
  let v2123 : Index := Scalar.indexCast v2058
  let c96_425 : Index := 96#32
  ![v2123.toNat, 96]
def k0_off178 (v2060 : BitVec 32) : Fin 2 → Nat :=
  let v2126 : Index := Scalar.indexCast v2060
  let c96_426 : Index := 96#32
  ![v2126.toNat, 96]
def k0_off179 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c9_i32 : BitVec 32 := 9#32
  let v2058 : BitVec 32 := Scalar.addi v141 c9_i32
  let v2133 : Index := Scalar.indexCast v2058
  let c112_427 : Index := 112#32
  ![v2133.toNat, 112]
def k0_off180 (v2060 : BitVec 32) : Fin 2 → Nat :=
  let v2136 : Index := Scalar.indexCast v2060
  let c112_428 : Index := 112#32
  ![v2136.toNat, 112]

def k0_chk10 (v2060 : BitVec 32) : Prop :=
  (∀ a, (k0_off166 v2060) a + S1x16.size a ≤ S400x128.size a) ∧
  (∀ a, (k0_off168 v2060) a + S1x16.size a ≤ S400x128.size a) ∧
  (∀ a, (k0_off170 v2060) a + S1x16.size a ≤ S400x128.size a) ∧
  (∀ a, (k0_off172 v2060) a + S1x16.size a ≤ S400x128.size a) ∧
  (∀ a, (k0_off174 v2060) a + S1x16.size a ≤ S400x128.size a) ∧
  (∀ a, (k0_off176 v2060) a + S1x16.size a ≤ S400x128.size a) ∧
  (∀ a, (k0_off178 v2060) a + S1x16.size a ≤ S400x128.size a) ∧
  (∀ a, (k0_off180 v2060) a + S1x16.size a ≤ S400x128.size a)
theorem k0_off166_inb : ∀ (v2060 : BitVec 32) (k0_hw10 : k0_chk10 v2060), ∀ a, (k0_off166 v2060) a + S1x16.size a ≤ S400x128.size a := fun v2060 k0_hw10 => k0_hw10.1
theorem k0_off168_inb : ∀ (v2060 : BitVec 32) (k0_hw10 : k0_chk10 v2060), ∀ a, (k0_off168 v2060) a + S1x16.size a ≤ S400x128.size a := fun v2060 k0_hw10 => k0_hw10.2.1
theorem k0_off170_inb : ∀ (v2060 : BitVec 32) (k0_hw10 : k0_chk10 v2060), ∀ a, (k0_off170 v2060) a + S1x16.size a ≤ S400x128.size a := fun v2060 k0_hw10 => k0_hw10.2.2.1
theorem k0_off172_inb : ∀ (v2060 : BitVec 32) (k0_hw10 : k0_chk10 v2060), ∀ a, (k0_off172 v2060) a + S1x16.size a ≤ S400x128.size a := fun v2060 k0_hw10 => k0_hw10.2.2.2.1
theorem k0_off174_inb : ∀ (v2060 : BitVec 32) (k0_hw10 : k0_chk10 v2060), ∀ a, (k0_off174 v2060) a + S1x16.size a ≤ S400x128.size a := fun v2060 k0_hw10 => k0_hw10.2.2.2.2.1
theorem k0_off176_inb : ∀ (v2060 : BitVec 32) (k0_hw10 : k0_chk10 v2060), ∀ a, (k0_off176 v2060) a + S1x16.size a ≤ S400x128.size a := fun v2060 k0_hw10 => k0_hw10.2.2.2.2.2.1
theorem k0_off178_inb : ∀ (v2060 : BitVec 32) (k0_hw10 : k0_chk10 v2060), ∀ a, (k0_off178 v2060) a + S1x16.size a ≤ S400x128.size a := fun v2060 k0_hw10 => k0_hw10.2.2.2.2.2.2.1
theorem k0_off180_inb : ∀ (v2060 : BitVec 32) (k0_hw10 : k0_chk10 v2060), ∀ a, (k0_off180 v2060) a + S1x16.size a ≤ S400x128.size a := fun v2060 k0_hw10 => k0_hw10.2.2.2.2.2.2.2

def k0_off181 (k0_t3 : Fin k0_t3_loop.trips) (c9_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v2058 : BitVec 32 := Scalar.addi v141 c9_i32
  let v2210 : Index := Scalar.indexCast v2058
  let c0_438 : Index := 0#32
  ![v2210.toNat, 0]
def k0_off182 (v2272 : BitVec 32) : Fin 2 → Nat :=
  let v2278 : Index := Scalar.indexCast v2272
  let c0_449 : Index := 0#32
  ![v2278.toNat, 0]

def k0_off183 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c10_i32 : BitVec 32 := 10#32
  let v2270 : BitVec 32 := Scalar.addi v141 c10_i32
  let v2285 : Index := Scalar.indexCast v2270
  let c16_450 : Index := 16#32
  ![v2285.toNat, 16]
def k0_off184 (v2272 : BitVec 32) : Fin 2 → Nat :=
  let v2288 : Index := Scalar.indexCast v2272
  let c16_451 : Index := 16#32
  ![v2288.toNat, 16]
def k0_off185 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c10_i32 : BitVec 32 := 10#32
  let v2270 : BitVec 32 := Scalar.addi v141 c10_i32
  let v2295 : Index := Scalar.indexCast v2270
  let c32_452 : Index := 32#32
  ![v2295.toNat, 32]
def k0_off186 (v2272 : BitVec 32) : Fin 2 → Nat :=
  let v2298 : Index := Scalar.indexCast v2272
  let c32_453 : Index := 32#32
  ![v2298.toNat, 32]
def k0_off187 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c10_i32 : BitVec 32 := 10#32
  let v2270 : BitVec 32 := Scalar.addi v141 c10_i32
  let v2305 : Index := Scalar.indexCast v2270
  let c48_454 : Index := 48#32
  ![v2305.toNat, 48]
def k0_off188 (v2272 : BitVec 32) : Fin 2 → Nat :=
  let v2308 : Index := Scalar.indexCast v2272
  let c48_455 : Index := 48#32
  ![v2308.toNat, 48]
def k0_off189 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c10_i32 : BitVec 32 := 10#32
  let v2270 : BitVec 32 := Scalar.addi v141 c10_i32
  let v2315 : Index := Scalar.indexCast v2270
  let c64_456 : Index := 64#32
  ![v2315.toNat, 64]
def k0_off190 (v2272 : BitVec 32) : Fin 2 → Nat :=
  let v2318 : Index := Scalar.indexCast v2272
  let c64_457 : Index := 64#32
  ![v2318.toNat, 64]
def k0_off191 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c10_i32 : BitVec 32 := 10#32
  let v2270 : BitVec 32 := Scalar.addi v141 c10_i32
  let v2325 : Index := Scalar.indexCast v2270
  let c80_458 : Index := 80#32
  ![v2325.toNat, 80]
def k0_off192 (v2272 : BitVec 32) : Fin 2 → Nat :=
  let v2328 : Index := Scalar.indexCast v2272
  let c80_459 : Index := 80#32
  ![v2328.toNat, 80]
def k0_off193 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c10_i32 : BitVec 32 := 10#32
  let v2270 : BitVec 32 := Scalar.addi v141 c10_i32
  let v2335 : Index := Scalar.indexCast v2270
  let c96_460 : Index := 96#32
  ![v2335.toNat, 96]
def k0_off194 (v2272 : BitVec 32) : Fin 2 → Nat :=
  let v2338 : Index := Scalar.indexCast v2272
  let c96_461 : Index := 96#32
  ![v2338.toNat, 96]
def k0_off195 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c10_i32 : BitVec 32 := 10#32
  let v2270 : BitVec 32 := Scalar.addi v141 c10_i32
  let v2345 : Index := Scalar.indexCast v2270
  let c112_462 : Index := 112#32
  ![v2345.toNat, 112]
def k0_off196 (v2272 : BitVec 32) : Fin 2 → Nat :=
  let v2348 : Index := Scalar.indexCast v2272
  let c112_463 : Index := 112#32
  ![v2348.toNat, 112]

def k0_chk11 (v2272 : BitVec 32) : Prop :=
  (∀ a, (k0_off182 v2272) a + S1x16.size a ≤ S400x128.size a) ∧
  (∀ a, (k0_off184 v2272) a + S1x16.size a ≤ S400x128.size a) ∧
  (∀ a, (k0_off186 v2272) a + S1x16.size a ≤ S400x128.size a) ∧
  (∀ a, (k0_off188 v2272) a + S1x16.size a ≤ S400x128.size a) ∧
  (∀ a, (k0_off190 v2272) a + S1x16.size a ≤ S400x128.size a) ∧
  (∀ a, (k0_off192 v2272) a + S1x16.size a ≤ S400x128.size a) ∧
  (∀ a, (k0_off194 v2272) a + S1x16.size a ≤ S400x128.size a) ∧
  (∀ a, (k0_off196 v2272) a + S1x16.size a ≤ S400x128.size a)
theorem k0_off182_inb : ∀ (v2272 : BitVec 32) (k0_hw11 : k0_chk11 v2272), ∀ a, (k0_off182 v2272) a + S1x16.size a ≤ S400x128.size a := fun v2272 k0_hw11 => k0_hw11.1
theorem k0_off184_inb : ∀ (v2272 : BitVec 32) (k0_hw11 : k0_chk11 v2272), ∀ a, (k0_off184 v2272) a + S1x16.size a ≤ S400x128.size a := fun v2272 k0_hw11 => k0_hw11.2.1
theorem k0_off186_inb : ∀ (v2272 : BitVec 32) (k0_hw11 : k0_chk11 v2272), ∀ a, (k0_off186 v2272) a + S1x16.size a ≤ S400x128.size a := fun v2272 k0_hw11 => k0_hw11.2.2.1
theorem k0_off188_inb : ∀ (v2272 : BitVec 32) (k0_hw11 : k0_chk11 v2272), ∀ a, (k0_off188 v2272) a + S1x16.size a ≤ S400x128.size a := fun v2272 k0_hw11 => k0_hw11.2.2.2.1
theorem k0_off190_inb : ∀ (v2272 : BitVec 32) (k0_hw11 : k0_chk11 v2272), ∀ a, (k0_off190 v2272) a + S1x16.size a ≤ S400x128.size a := fun v2272 k0_hw11 => k0_hw11.2.2.2.2.1
theorem k0_off192_inb : ∀ (v2272 : BitVec 32) (k0_hw11 : k0_chk11 v2272), ∀ a, (k0_off192 v2272) a + S1x16.size a ≤ S400x128.size a := fun v2272 k0_hw11 => k0_hw11.2.2.2.2.2.1
theorem k0_off194_inb : ∀ (v2272 : BitVec 32) (k0_hw11 : k0_chk11 v2272), ∀ a, (k0_off194 v2272) a + S1x16.size a ≤ S400x128.size a := fun v2272 k0_hw11 => k0_hw11.2.2.2.2.2.2.1
theorem k0_off196_inb : ∀ (v2272 : BitVec 32) (k0_hw11 : k0_chk11 v2272), ∀ a, (k0_off196 v2272) a + S1x16.size a ≤ S400x128.size a := fun v2272 k0_hw11 => k0_hw11.2.2.2.2.2.2.2

def k0_off197 (k0_t3 : Fin k0_t3_loop.trips) (c10_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v2270 : BitVec 32 := Scalar.addi v141 c10_i32
  let v2422 : Index := Scalar.indexCast v2270
  let c0_473 : Index := 0#32
  ![v2422.toNat, 0]
def k0_off198 (v2484 : BitVec 32) : Fin 2 → Nat :=
  let v2490 : Index := Scalar.indexCast v2484
  let c0_484 : Index := 0#32
  ![v2490.toNat, 0]

def k0_off199 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c11_i32 : BitVec 32 := 11#32
  let v2482 : BitVec 32 := Scalar.addi v141 c11_i32
  let v2497 : Index := Scalar.indexCast v2482
  let c16_485 : Index := 16#32
  ![v2497.toNat, 16]
def k0_off200 (v2484 : BitVec 32) : Fin 2 → Nat :=
  let v2500 : Index := Scalar.indexCast v2484
  let c16_486 : Index := 16#32
  ![v2500.toNat, 16]
def k0_off201 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c11_i32 : BitVec 32 := 11#32
  let v2482 : BitVec 32 := Scalar.addi v141 c11_i32
  let v2507 : Index := Scalar.indexCast v2482
  let c32_487 : Index := 32#32
  ![v2507.toNat, 32]
def k0_off202 (v2484 : BitVec 32) : Fin 2 → Nat :=
  let v2510 : Index := Scalar.indexCast v2484
  let c32_488 : Index := 32#32
  ![v2510.toNat, 32]
def k0_off203 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c11_i32 : BitVec 32 := 11#32
  let v2482 : BitVec 32 := Scalar.addi v141 c11_i32
  let v2517 : Index := Scalar.indexCast v2482
  let c48_489 : Index := 48#32
  ![v2517.toNat, 48]
def k0_off204 (v2484 : BitVec 32) : Fin 2 → Nat :=
  let v2520 : Index := Scalar.indexCast v2484
  let c48_490 : Index := 48#32
  ![v2520.toNat, 48]
def k0_off205 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c11_i32 : BitVec 32 := 11#32
  let v2482 : BitVec 32 := Scalar.addi v141 c11_i32
  let v2527 : Index := Scalar.indexCast v2482
  let c64_491 : Index := 64#32
  ![v2527.toNat, 64]
def k0_off206 (v2484 : BitVec 32) : Fin 2 → Nat :=
  let v2530 : Index := Scalar.indexCast v2484
  let c64_492 : Index := 64#32
  ![v2530.toNat, 64]
def k0_off207 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c11_i32 : BitVec 32 := 11#32
  let v2482 : BitVec 32 := Scalar.addi v141 c11_i32
  let v2537 : Index := Scalar.indexCast v2482
  let c80_493 : Index := 80#32
  ![v2537.toNat, 80]
def k0_off208 (v2484 : BitVec 32) : Fin 2 → Nat :=
  let v2540 : Index := Scalar.indexCast v2484
  let c80_494 : Index := 80#32
  ![v2540.toNat, 80]
def k0_off209 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c11_i32 : BitVec 32 := 11#32
  let v2482 : BitVec 32 := Scalar.addi v141 c11_i32
  let v2547 : Index := Scalar.indexCast v2482
  let c96_495 : Index := 96#32
  ![v2547.toNat, 96]
def k0_off210 (v2484 : BitVec 32) : Fin 2 → Nat :=
  let v2550 : Index := Scalar.indexCast v2484
  let c96_496 : Index := 96#32
  ![v2550.toNat, 96]
def k0_off211 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c11_i32 : BitVec 32 := 11#32
  let v2482 : BitVec 32 := Scalar.addi v141 c11_i32
  let v2557 : Index := Scalar.indexCast v2482
  let c112_497 : Index := 112#32
  ![v2557.toNat, 112]
def k0_off212 (v2484 : BitVec 32) : Fin 2 → Nat :=
  let v2560 : Index := Scalar.indexCast v2484
  let c112_498 : Index := 112#32
  ![v2560.toNat, 112]

def k0_chk12 (v2484 : BitVec 32) : Prop :=
  (∀ a, (k0_off198 v2484) a + S1x16.size a ≤ S400x128.size a) ∧
  (∀ a, (k0_off200 v2484) a + S1x16.size a ≤ S400x128.size a) ∧
  (∀ a, (k0_off202 v2484) a + S1x16.size a ≤ S400x128.size a) ∧
  (∀ a, (k0_off204 v2484) a + S1x16.size a ≤ S400x128.size a) ∧
  (∀ a, (k0_off206 v2484) a + S1x16.size a ≤ S400x128.size a) ∧
  (∀ a, (k0_off208 v2484) a + S1x16.size a ≤ S400x128.size a) ∧
  (∀ a, (k0_off210 v2484) a + S1x16.size a ≤ S400x128.size a) ∧
  (∀ a, (k0_off212 v2484) a + S1x16.size a ≤ S400x128.size a)
theorem k0_off198_inb : ∀ (v2484 : BitVec 32) (k0_hw12 : k0_chk12 v2484), ∀ a, (k0_off198 v2484) a + S1x16.size a ≤ S400x128.size a := fun v2484 k0_hw12 => k0_hw12.1
theorem k0_off200_inb : ∀ (v2484 : BitVec 32) (k0_hw12 : k0_chk12 v2484), ∀ a, (k0_off200 v2484) a + S1x16.size a ≤ S400x128.size a := fun v2484 k0_hw12 => k0_hw12.2.1
theorem k0_off202_inb : ∀ (v2484 : BitVec 32) (k0_hw12 : k0_chk12 v2484), ∀ a, (k0_off202 v2484) a + S1x16.size a ≤ S400x128.size a := fun v2484 k0_hw12 => k0_hw12.2.2.1
theorem k0_off204_inb : ∀ (v2484 : BitVec 32) (k0_hw12 : k0_chk12 v2484), ∀ a, (k0_off204 v2484) a + S1x16.size a ≤ S400x128.size a := fun v2484 k0_hw12 => k0_hw12.2.2.2.1
theorem k0_off206_inb : ∀ (v2484 : BitVec 32) (k0_hw12 : k0_chk12 v2484), ∀ a, (k0_off206 v2484) a + S1x16.size a ≤ S400x128.size a := fun v2484 k0_hw12 => k0_hw12.2.2.2.2.1
theorem k0_off208_inb : ∀ (v2484 : BitVec 32) (k0_hw12 : k0_chk12 v2484), ∀ a, (k0_off208 v2484) a + S1x16.size a ≤ S400x128.size a := fun v2484 k0_hw12 => k0_hw12.2.2.2.2.2.1
theorem k0_off210_inb : ∀ (v2484 : BitVec 32) (k0_hw12 : k0_chk12 v2484), ∀ a, (k0_off210 v2484) a + S1x16.size a ≤ S400x128.size a := fun v2484 k0_hw12 => k0_hw12.2.2.2.2.2.2.1
theorem k0_off212_inb : ∀ (v2484 : BitVec 32) (k0_hw12 : k0_chk12 v2484), ∀ a, (k0_off212 v2484) a + S1x16.size a ≤ S400x128.size a := fun v2484 k0_hw12 => k0_hw12.2.2.2.2.2.2.2

def k0_off213 (k0_t3 : Fin k0_t3_loop.trips) (c11_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v2482 : BitVec 32 := Scalar.addi v141 c11_i32
  let v2634 : Index := Scalar.indexCast v2482
  let c0_508 : Index := 0#32
  ![v2634.toNat, 0]
def k0_off214 (v2696 : BitVec 32) : Fin 2 → Nat :=
  let v2702 : Index := Scalar.indexCast v2696
  let c0_519 : Index := 0#32
  ![v2702.toNat, 0]

def k0_off215 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c12_i32 : BitVec 32 := 12#32
  let v2694 : BitVec 32 := Scalar.addi v141 c12_i32
  let v2709 : Index := Scalar.indexCast v2694
  let c16_520 : Index := 16#32
  ![v2709.toNat, 16]
def k0_off216 (v2696 : BitVec 32) : Fin 2 → Nat :=
  let v2712 : Index := Scalar.indexCast v2696
  let c16_521 : Index := 16#32
  ![v2712.toNat, 16]
def k0_off217 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c12_i32 : BitVec 32 := 12#32
  let v2694 : BitVec 32 := Scalar.addi v141 c12_i32
  let v2719 : Index := Scalar.indexCast v2694
  let c32_522 : Index := 32#32
  ![v2719.toNat, 32]
def k0_off218 (v2696 : BitVec 32) : Fin 2 → Nat :=
  let v2722 : Index := Scalar.indexCast v2696
  let c32_523 : Index := 32#32
  ![v2722.toNat, 32]
def k0_off219 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c12_i32 : BitVec 32 := 12#32
  let v2694 : BitVec 32 := Scalar.addi v141 c12_i32
  let v2729 : Index := Scalar.indexCast v2694
  let c48_524 : Index := 48#32
  ![v2729.toNat, 48]
def k0_off220 (v2696 : BitVec 32) : Fin 2 → Nat :=
  let v2732 : Index := Scalar.indexCast v2696
  let c48_525 : Index := 48#32
  ![v2732.toNat, 48]
def k0_off221 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c12_i32 : BitVec 32 := 12#32
  let v2694 : BitVec 32 := Scalar.addi v141 c12_i32
  let v2739 : Index := Scalar.indexCast v2694
  let c64_526 : Index := 64#32
  ![v2739.toNat, 64]
def k0_off222 (v2696 : BitVec 32) : Fin 2 → Nat :=
  let v2742 : Index := Scalar.indexCast v2696
  let c64_527 : Index := 64#32
  ![v2742.toNat, 64]
def k0_off223 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c12_i32 : BitVec 32 := 12#32
  let v2694 : BitVec 32 := Scalar.addi v141 c12_i32
  let v2749 : Index := Scalar.indexCast v2694
  let c80_528 : Index := 80#32
  ![v2749.toNat, 80]
def k0_off224 (v2696 : BitVec 32) : Fin 2 → Nat :=
  let v2752 : Index := Scalar.indexCast v2696
  let c80_529 : Index := 80#32
  ![v2752.toNat, 80]
def k0_off225 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c12_i32 : BitVec 32 := 12#32
  let v2694 : BitVec 32 := Scalar.addi v141 c12_i32
  let v2759 : Index := Scalar.indexCast v2694
  let c96_530 : Index := 96#32
  ![v2759.toNat, 96]
def k0_off226 (v2696 : BitVec 32) : Fin 2 → Nat :=
  let v2762 : Index := Scalar.indexCast v2696
  let c96_531 : Index := 96#32
  ![v2762.toNat, 96]
def k0_off227 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c12_i32 : BitVec 32 := 12#32
  let v2694 : BitVec 32 := Scalar.addi v141 c12_i32
  let v2769 : Index := Scalar.indexCast v2694
  let c112_532 : Index := 112#32
  ![v2769.toNat, 112]
def k0_off228 (v2696 : BitVec 32) : Fin 2 → Nat :=
  let v2772 : Index := Scalar.indexCast v2696
  let c112_533 : Index := 112#32
  ![v2772.toNat, 112]

def k0_chk13 (v2696 : BitVec 32) : Prop :=
  (∀ a, (k0_off214 v2696) a + S1x16.size a ≤ S400x128.size a) ∧
  (∀ a, (k0_off216 v2696) a + S1x16.size a ≤ S400x128.size a) ∧
  (∀ a, (k0_off218 v2696) a + S1x16.size a ≤ S400x128.size a) ∧
  (∀ a, (k0_off220 v2696) a + S1x16.size a ≤ S400x128.size a) ∧
  (∀ a, (k0_off222 v2696) a + S1x16.size a ≤ S400x128.size a) ∧
  (∀ a, (k0_off224 v2696) a + S1x16.size a ≤ S400x128.size a) ∧
  (∀ a, (k0_off226 v2696) a + S1x16.size a ≤ S400x128.size a) ∧
  (∀ a, (k0_off228 v2696) a + S1x16.size a ≤ S400x128.size a)
theorem k0_off214_inb : ∀ (v2696 : BitVec 32) (k0_hw13 : k0_chk13 v2696), ∀ a, (k0_off214 v2696) a + S1x16.size a ≤ S400x128.size a := fun v2696 k0_hw13 => k0_hw13.1
theorem k0_off216_inb : ∀ (v2696 : BitVec 32) (k0_hw13 : k0_chk13 v2696), ∀ a, (k0_off216 v2696) a + S1x16.size a ≤ S400x128.size a := fun v2696 k0_hw13 => k0_hw13.2.1
theorem k0_off218_inb : ∀ (v2696 : BitVec 32) (k0_hw13 : k0_chk13 v2696), ∀ a, (k0_off218 v2696) a + S1x16.size a ≤ S400x128.size a := fun v2696 k0_hw13 => k0_hw13.2.2.1
theorem k0_off220_inb : ∀ (v2696 : BitVec 32) (k0_hw13 : k0_chk13 v2696), ∀ a, (k0_off220 v2696) a + S1x16.size a ≤ S400x128.size a := fun v2696 k0_hw13 => k0_hw13.2.2.2.1
theorem k0_off222_inb : ∀ (v2696 : BitVec 32) (k0_hw13 : k0_chk13 v2696), ∀ a, (k0_off222 v2696) a + S1x16.size a ≤ S400x128.size a := fun v2696 k0_hw13 => k0_hw13.2.2.2.2.1
theorem k0_off224_inb : ∀ (v2696 : BitVec 32) (k0_hw13 : k0_chk13 v2696), ∀ a, (k0_off224 v2696) a + S1x16.size a ≤ S400x128.size a := fun v2696 k0_hw13 => k0_hw13.2.2.2.2.2.1
theorem k0_off226_inb : ∀ (v2696 : BitVec 32) (k0_hw13 : k0_chk13 v2696), ∀ a, (k0_off226 v2696) a + S1x16.size a ≤ S400x128.size a := fun v2696 k0_hw13 => k0_hw13.2.2.2.2.2.2.1
theorem k0_off228_inb : ∀ (v2696 : BitVec 32) (k0_hw13 : k0_chk13 v2696), ∀ a, (k0_off228 v2696) a + S1x16.size a ≤ S400x128.size a := fun v2696 k0_hw13 => k0_hw13.2.2.2.2.2.2.2

def k0_off229 (k0_t3 : Fin k0_t3_loop.trips) (c12_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v2694 : BitVec 32 := Scalar.addi v141 c12_i32
  let v2846 : Index := Scalar.indexCast v2694
  let c0_543 : Index := 0#32
  ![v2846.toNat, 0]
def k0_off230 (v2908 : BitVec 32) : Fin 2 → Nat :=
  let v2914 : Index := Scalar.indexCast v2908
  let c0_554 : Index := 0#32
  ![v2914.toNat, 0]

def k0_off231 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c13_i32 : BitVec 32 := 13#32
  let v2906 : BitVec 32 := Scalar.addi v141 c13_i32
  let v2921 : Index := Scalar.indexCast v2906
  let c16_555 : Index := 16#32
  ![v2921.toNat, 16]
def k0_off232 (v2908 : BitVec 32) : Fin 2 → Nat :=
  let v2924 : Index := Scalar.indexCast v2908
  let c16_556 : Index := 16#32
  ![v2924.toNat, 16]
def k0_off233 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c13_i32 : BitVec 32 := 13#32
  let v2906 : BitVec 32 := Scalar.addi v141 c13_i32
  let v2931 : Index := Scalar.indexCast v2906
  let c32_557 : Index := 32#32
  ![v2931.toNat, 32]
def k0_off234 (v2908 : BitVec 32) : Fin 2 → Nat :=
  let v2934 : Index := Scalar.indexCast v2908
  let c32_558 : Index := 32#32
  ![v2934.toNat, 32]
def k0_off235 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c13_i32 : BitVec 32 := 13#32
  let v2906 : BitVec 32 := Scalar.addi v141 c13_i32
  let v2941 : Index := Scalar.indexCast v2906
  let c48_559 : Index := 48#32
  ![v2941.toNat, 48]
def k0_off236 (v2908 : BitVec 32) : Fin 2 → Nat :=
  let v2944 : Index := Scalar.indexCast v2908
  let c48_560 : Index := 48#32
  ![v2944.toNat, 48]
def k0_off237 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c13_i32 : BitVec 32 := 13#32
  let v2906 : BitVec 32 := Scalar.addi v141 c13_i32
  let v2951 : Index := Scalar.indexCast v2906
  let c64_561 : Index := 64#32
  ![v2951.toNat, 64]
def k0_off238 (v2908 : BitVec 32) : Fin 2 → Nat :=
  let v2954 : Index := Scalar.indexCast v2908
  let c64_562 : Index := 64#32
  ![v2954.toNat, 64]
def k0_off239 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c13_i32 : BitVec 32 := 13#32
  let v2906 : BitVec 32 := Scalar.addi v141 c13_i32
  let v2961 : Index := Scalar.indexCast v2906
  let c80_563 : Index := 80#32
  ![v2961.toNat, 80]
def k0_off240 (v2908 : BitVec 32) : Fin 2 → Nat :=
  let v2964 : Index := Scalar.indexCast v2908
  let c80_564 : Index := 80#32
  ![v2964.toNat, 80]
def k0_off241 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c13_i32 : BitVec 32 := 13#32
  let v2906 : BitVec 32 := Scalar.addi v141 c13_i32
  let v2971 : Index := Scalar.indexCast v2906
  let c96_565 : Index := 96#32
  ![v2971.toNat, 96]
def k0_off242 (v2908 : BitVec 32) : Fin 2 → Nat :=
  let v2974 : Index := Scalar.indexCast v2908
  let c96_566 : Index := 96#32
  ![v2974.toNat, 96]
def k0_off243 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c13_i32 : BitVec 32 := 13#32
  let v2906 : BitVec 32 := Scalar.addi v141 c13_i32
  let v2981 : Index := Scalar.indexCast v2906
  let c112_567 : Index := 112#32
  ![v2981.toNat, 112]
def k0_off244 (v2908 : BitVec 32) : Fin 2 → Nat :=
  let v2984 : Index := Scalar.indexCast v2908
  let c112_568 : Index := 112#32
  ![v2984.toNat, 112]

def k0_chk14 (v2908 : BitVec 32) : Prop :=
  (∀ a, (k0_off230 v2908) a + S1x16.size a ≤ S400x128.size a) ∧
  (∀ a, (k0_off232 v2908) a + S1x16.size a ≤ S400x128.size a) ∧
  (∀ a, (k0_off234 v2908) a + S1x16.size a ≤ S400x128.size a) ∧
  (∀ a, (k0_off236 v2908) a + S1x16.size a ≤ S400x128.size a) ∧
  (∀ a, (k0_off238 v2908) a + S1x16.size a ≤ S400x128.size a) ∧
  (∀ a, (k0_off240 v2908) a + S1x16.size a ≤ S400x128.size a) ∧
  (∀ a, (k0_off242 v2908) a + S1x16.size a ≤ S400x128.size a) ∧
  (∀ a, (k0_off244 v2908) a + S1x16.size a ≤ S400x128.size a)
theorem k0_off230_inb : ∀ (v2908 : BitVec 32) (k0_hw14 : k0_chk14 v2908), ∀ a, (k0_off230 v2908) a + S1x16.size a ≤ S400x128.size a := fun v2908 k0_hw14 => k0_hw14.1
theorem k0_off232_inb : ∀ (v2908 : BitVec 32) (k0_hw14 : k0_chk14 v2908), ∀ a, (k0_off232 v2908) a + S1x16.size a ≤ S400x128.size a := fun v2908 k0_hw14 => k0_hw14.2.1
theorem k0_off234_inb : ∀ (v2908 : BitVec 32) (k0_hw14 : k0_chk14 v2908), ∀ a, (k0_off234 v2908) a + S1x16.size a ≤ S400x128.size a := fun v2908 k0_hw14 => k0_hw14.2.2.1
theorem k0_off236_inb : ∀ (v2908 : BitVec 32) (k0_hw14 : k0_chk14 v2908), ∀ a, (k0_off236 v2908) a + S1x16.size a ≤ S400x128.size a := fun v2908 k0_hw14 => k0_hw14.2.2.2.1
theorem k0_off238_inb : ∀ (v2908 : BitVec 32) (k0_hw14 : k0_chk14 v2908), ∀ a, (k0_off238 v2908) a + S1x16.size a ≤ S400x128.size a := fun v2908 k0_hw14 => k0_hw14.2.2.2.2.1
theorem k0_off240_inb : ∀ (v2908 : BitVec 32) (k0_hw14 : k0_chk14 v2908), ∀ a, (k0_off240 v2908) a + S1x16.size a ≤ S400x128.size a := fun v2908 k0_hw14 => k0_hw14.2.2.2.2.2.1
theorem k0_off242_inb : ∀ (v2908 : BitVec 32) (k0_hw14 : k0_chk14 v2908), ∀ a, (k0_off242 v2908) a + S1x16.size a ≤ S400x128.size a := fun v2908 k0_hw14 => k0_hw14.2.2.2.2.2.2.1
theorem k0_off244_inb : ∀ (v2908 : BitVec 32) (k0_hw14 : k0_chk14 v2908), ∀ a, (k0_off244 v2908) a + S1x16.size a ≤ S400x128.size a := fun v2908 k0_hw14 => k0_hw14.2.2.2.2.2.2.2

def k0_off245 (k0_t3 : Fin k0_t3_loop.trips) (c13_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v2906 : BitVec 32 := Scalar.addi v141 c13_i32
  let v3058 : Index := Scalar.indexCast v2906
  let c0_578 : Index := 0#32
  ![v3058.toNat, 0]
def k0_off246 (v3120 : BitVec 32) : Fin 2 → Nat :=
  let v3126 : Index := Scalar.indexCast v3120
  let c0_589 : Index := 0#32
  ![v3126.toNat, 0]

def k0_off247 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c14_i32 : BitVec 32 := 14#32
  let v3118 : BitVec 32 := Scalar.addi v141 c14_i32
  let v3133 : Index := Scalar.indexCast v3118
  let c16_590 : Index := 16#32
  ![v3133.toNat, 16]
def k0_off248 (v3120 : BitVec 32) : Fin 2 → Nat :=
  let v3136 : Index := Scalar.indexCast v3120
  let c16_591 : Index := 16#32
  ![v3136.toNat, 16]
def k0_off249 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c14_i32 : BitVec 32 := 14#32
  let v3118 : BitVec 32 := Scalar.addi v141 c14_i32
  let v3143 : Index := Scalar.indexCast v3118
  let c32_592 : Index := 32#32
  ![v3143.toNat, 32]
def k0_off250 (v3120 : BitVec 32) : Fin 2 → Nat :=
  let v3146 : Index := Scalar.indexCast v3120
  let c32_593 : Index := 32#32
  ![v3146.toNat, 32]
def k0_off251 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c14_i32 : BitVec 32 := 14#32
  let v3118 : BitVec 32 := Scalar.addi v141 c14_i32
  let v3153 : Index := Scalar.indexCast v3118
  let c48_594 : Index := 48#32
  ![v3153.toNat, 48]
def k0_off252 (v3120 : BitVec 32) : Fin 2 → Nat :=
  let v3156 : Index := Scalar.indexCast v3120
  let c48_595 : Index := 48#32
  ![v3156.toNat, 48]
def k0_off253 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c14_i32 : BitVec 32 := 14#32
  let v3118 : BitVec 32 := Scalar.addi v141 c14_i32
  let v3163 : Index := Scalar.indexCast v3118
  let c64_596 : Index := 64#32
  ![v3163.toNat, 64]
def k0_off254 (v3120 : BitVec 32) : Fin 2 → Nat :=
  let v3166 : Index := Scalar.indexCast v3120
  let c64_597 : Index := 64#32
  ![v3166.toNat, 64]
def k0_off255 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c14_i32 : BitVec 32 := 14#32
  let v3118 : BitVec 32 := Scalar.addi v141 c14_i32
  let v3173 : Index := Scalar.indexCast v3118
  let c80_598 : Index := 80#32
  ![v3173.toNat, 80]
def k0_off256 (v3120 : BitVec 32) : Fin 2 → Nat :=
  let v3176 : Index := Scalar.indexCast v3120
  let c80_599 : Index := 80#32
  ![v3176.toNat, 80]
def k0_off257 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c14_i32 : BitVec 32 := 14#32
  let v3118 : BitVec 32 := Scalar.addi v141 c14_i32
  let v3183 : Index := Scalar.indexCast v3118
  let c96_600 : Index := 96#32
  ![v3183.toNat, 96]
def k0_off258 (v3120 : BitVec 32) : Fin 2 → Nat :=
  let v3186 : Index := Scalar.indexCast v3120
  let c96_601 : Index := 96#32
  ![v3186.toNat, 96]
def k0_off259 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c14_i32 : BitVec 32 := 14#32
  let v3118 : BitVec 32 := Scalar.addi v141 c14_i32
  let v3193 : Index := Scalar.indexCast v3118
  let c112_602 : Index := 112#32
  ![v3193.toNat, 112]
def k0_off260 (v3120 : BitVec 32) : Fin 2 → Nat :=
  let v3196 : Index := Scalar.indexCast v3120
  let c112_603 : Index := 112#32
  ![v3196.toNat, 112]

def k0_chk15 (v3120 : BitVec 32) : Prop :=
  (∀ a, (k0_off246 v3120) a + S1x16.size a ≤ S400x128.size a) ∧
  (∀ a, (k0_off248 v3120) a + S1x16.size a ≤ S400x128.size a) ∧
  (∀ a, (k0_off250 v3120) a + S1x16.size a ≤ S400x128.size a) ∧
  (∀ a, (k0_off252 v3120) a + S1x16.size a ≤ S400x128.size a) ∧
  (∀ a, (k0_off254 v3120) a + S1x16.size a ≤ S400x128.size a) ∧
  (∀ a, (k0_off256 v3120) a + S1x16.size a ≤ S400x128.size a) ∧
  (∀ a, (k0_off258 v3120) a + S1x16.size a ≤ S400x128.size a) ∧
  (∀ a, (k0_off260 v3120) a + S1x16.size a ≤ S400x128.size a)
theorem k0_off246_inb : ∀ (v3120 : BitVec 32) (k0_hw15 : k0_chk15 v3120), ∀ a, (k0_off246 v3120) a + S1x16.size a ≤ S400x128.size a := fun v3120 k0_hw15 => k0_hw15.1
theorem k0_off248_inb : ∀ (v3120 : BitVec 32) (k0_hw15 : k0_chk15 v3120), ∀ a, (k0_off248 v3120) a + S1x16.size a ≤ S400x128.size a := fun v3120 k0_hw15 => k0_hw15.2.1
theorem k0_off250_inb : ∀ (v3120 : BitVec 32) (k0_hw15 : k0_chk15 v3120), ∀ a, (k0_off250 v3120) a + S1x16.size a ≤ S400x128.size a := fun v3120 k0_hw15 => k0_hw15.2.2.1
theorem k0_off252_inb : ∀ (v3120 : BitVec 32) (k0_hw15 : k0_chk15 v3120), ∀ a, (k0_off252 v3120) a + S1x16.size a ≤ S400x128.size a := fun v3120 k0_hw15 => k0_hw15.2.2.2.1
theorem k0_off254_inb : ∀ (v3120 : BitVec 32) (k0_hw15 : k0_chk15 v3120), ∀ a, (k0_off254 v3120) a + S1x16.size a ≤ S400x128.size a := fun v3120 k0_hw15 => k0_hw15.2.2.2.2.1
theorem k0_off256_inb : ∀ (v3120 : BitVec 32) (k0_hw15 : k0_chk15 v3120), ∀ a, (k0_off256 v3120) a + S1x16.size a ≤ S400x128.size a := fun v3120 k0_hw15 => k0_hw15.2.2.2.2.2.1
theorem k0_off258_inb : ∀ (v3120 : BitVec 32) (k0_hw15 : k0_chk15 v3120), ∀ a, (k0_off258 v3120) a + S1x16.size a ≤ S400x128.size a := fun v3120 k0_hw15 => k0_hw15.2.2.2.2.2.2.1
theorem k0_off260_inb : ∀ (v3120 : BitVec 32) (k0_hw15 : k0_chk15 v3120), ∀ a, (k0_off260 v3120) a + S1x16.size a ≤ S400x128.size a := fun v3120 k0_hw15 => k0_hw15.2.2.2.2.2.2.2

def k0_off261 (k0_t3 : Fin k0_t3_loop.trips) (c14_i32 : BitVec 32) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let v3118 : BitVec 32 := Scalar.addi v141 c14_i32
  let v3270 : Index := Scalar.indexCast v3118
  let c0_613 : Index := 0#32
  ![v3270.toNat, 0]
def k0_off262 (v3332 : BitVec 32) : Fin 2 → Nat :=
  let v3338 : Index := Scalar.indexCast v3332
  let c0_624 : Index := 0#32
  ![v3338.toNat, 0]

def k0_off263 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3345 : Index := Scalar.indexCast v3330
  let c16_625 : Index := 16#32
  ![v3345.toNat, 16]
def k0_off264 (v3332 : BitVec 32) : Fin 2 → Nat :=
  let v3348 : Index := Scalar.indexCast v3332
  let c16_626 : Index := 16#32
  ![v3348.toNat, 16]
def k0_off265 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3355 : Index := Scalar.indexCast v3330
  let c32_627 : Index := 32#32
  ![v3355.toNat, 32]
def k0_off266 (v3332 : BitVec 32) : Fin 2 → Nat :=
  let v3358 : Index := Scalar.indexCast v3332
  let c32_628 : Index := 32#32
  ![v3358.toNat, 32]
def k0_off267 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3365 : Index := Scalar.indexCast v3330
  let c48_629 : Index := 48#32
  ![v3365.toNat, 48]
def k0_off268 (v3332 : BitVec 32) : Fin 2 → Nat :=
  let v3368 : Index := Scalar.indexCast v3332
  let c48_630 : Index := 48#32
  ![v3368.toNat, 48]
def k0_off269 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3375 : Index := Scalar.indexCast v3330
  let c64_631 : Index := 64#32
  ![v3375.toNat, 64]
def k0_off270 (v3332 : BitVec 32) : Fin 2 → Nat :=
  let v3378 : Index := Scalar.indexCast v3332
  let c64_632 : Index := 64#32
  ![v3378.toNat, 64]
def k0_off271 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3385 : Index := Scalar.indexCast v3330
  let c80_633 : Index := 80#32
  ![v3385.toNat, 80]
def k0_off272 (v3332 : BitVec 32) : Fin 2 → Nat :=
  let v3388 : Index := Scalar.indexCast v3332
  let c80_634 : Index := 80#32
  ![v3388.toNat, 80]
def k0_off273 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3395 : Index := Scalar.indexCast v3330
  let c96_635 : Index := 96#32
  ![v3395.toNat, 96]
def k0_off274 (v3332 : BitVec 32) : Fin 2 → Nat :=
  let v3398 : Index := Scalar.indexCast v3332
  let c96_636 : Index := 96#32
  ![v3398.toNat, 96]
def k0_off275 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3405 : Index := Scalar.indexCast v3330
  let c112_637 : Index := 112#32
  ![v3405.toNat, 112]
def k0_off276 (v3332 : BitVec 32) : Fin 2 → Nat :=
  let v3408 : Index := Scalar.indexCast v3332
  let c112_638 : Index := 112#32
  ![v3408.toNat, 112]

def k0_chk16 (v3332 : BitVec 32) : Prop :=
  (∀ a, (k0_off262 v3332) a + S1x16.size a ≤ S400x128.size a) ∧
  (∀ a, (k0_off264 v3332) a + S1x16.size a ≤ S400x128.size a) ∧
  (∀ a, (k0_off266 v3332) a + S1x16.size a ≤ S400x128.size a) ∧
  (∀ a, (k0_off268 v3332) a + S1x16.size a ≤ S400x128.size a) ∧
  (∀ a, (k0_off270 v3332) a + S1x16.size a ≤ S400x128.size a) ∧
  (∀ a, (k0_off272 v3332) a + S1x16.size a ≤ S400x128.size a) ∧
  (∀ a, (k0_off274 v3332) a + S1x16.size a ≤ S400x128.size a) ∧
  (∀ a, (k0_off276 v3332) a + S1x16.size a ≤ S400x128.size a)
theorem k0_off262_inb : ∀ (v3332 : BitVec 32) (k0_hw16 : k0_chk16 v3332), ∀ a, (k0_off262 v3332) a + S1x16.size a ≤ S400x128.size a := fun v3332 k0_hw16 => k0_hw16.1
theorem k0_off264_inb : ∀ (v3332 : BitVec 32) (k0_hw16 : k0_chk16 v3332), ∀ a, (k0_off264 v3332) a + S1x16.size a ≤ S400x128.size a := fun v3332 k0_hw16 => k0_hw16.2.1
theorem k0_off266_inb : ∀ (v3332 : BitVec 32) (k0_hw16 : k0_chk16 v3332), ∀ a, (k0_off266 v3332) a + S1x16.size a ≤ S400x128.size a := fun v3332 k0_hw16 => k0_hw16.2.2.1
theorem k0_off268_inb : ∀ (v3332 : BitVec 32) (k0_hw16 : k0_chk16 v3332), ∀ a, (k0_off268 v3332) a + S1x16.size a ≤ S400x128.size a := fun v3332 k0_hw16 => k0_hw16.2.2.2.1
theorem k0_off270_inb : ∀ (v3332 : BitVec 32) (k0_hw16 : k0_chk16 v3332), ∀ a, (k0_off270 v3332) a + S1x16.size a ≤ S400x128.size a := fun v3332 k0_hw16 => k0_hw16.2.2.2.2.1
theorem k0_off272_inb : ∀ (v3332 : BitVec 32) (k0_hw16 : k0_chk16 v3332), ∀ a, (k0_off272 v3332) a + S1x16.size a ≤ S400x128.size a := fun v3332 k0_hw16 => k0_hw16.2.2.2.2.2.1
theorem k0_off274_inb : ∀ (v3332 : BitVec 32) (k0_hw16 : k0_chk16 v3332), ∀ a, (k0_off274 v3332) a + S1x16.size a ≤ S400x128.size a := fun v3332 k0_hw16 => k0_hw16.2.2.2.2.2.2.1
theorem k0_off276_inb : ∀ (v3332 : BitVec 32) (k0_hw16 : k0_chk16 v3332), ∀ a, (k0_off276 v3332) a + S1x16.size a ≤ S400x128.size a := fun v3332 k0_hw16 => k0_hw16.2.2.2.2.2.2.2

def k0_off277 (k0_t3 : Fin k0_t3_loop.trips) : Fin 2 → Nat :=
  let c0_i32_67 : BitVec 32 := 0#32
  let c1_i32_68 : BitVec 32 := 1#32
  let arg24 : BitVec 32 := Scf.iv c0_i32_67 c1_i32_68 k0_t3
  let c16_i32 : BitVec 32 := 16#32
  let v141 : BitVec 32 := Scalar.muli arg24 c16_i32
  let c15_i32 : BitVec 32 := 15#32
  let v3330 : BitVec 32 := Scalar.addi v141 c15_i32
  let v3482 : Index := Scalar.indexCast v3330
  let c0_648 : Index := 0#32
  ![v3482.toNat, 0]
def k0_off278 (i : grid0.Coords) (k0_t2 : Fin k0_t2_loop.trips) (c0_i32_58 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c2_i32_57 : BitVec 32 := 2#32
  let c0_i32_46 : BitVec 32 := 0#32
  let c1_i32_47 : BitVec 32 := 1#32
  let arg22 : BitVec 32 := Scf.iv c0_i32_46 c1_i32_47 k0_t2
  let v93 : BitVec 32 := Scalar.muli c2_i32_57 arg22
  let v94 : BitVec 32 := Scalar.addi v93 c0_i32_58
  let c128_i32 : BitVec 32 := 128#32
  let v99 : BitVec 32 := Scalar.muli v94 c128_i32
  let v100 : BitVec 32 := Scalar.addi v2 v99
  let c0_i32_70 : BitVec 32 := 0#32
  ![v100.toNat, 0]
def k0_cond3 (k0_t2 : Fin k0_t2_loop.trips) : BitVec 1 :=
  let c2_i32_72 : BitVec 32 := 2#32
  let c0_i32_46 : BitVec 32 := 0#32
  let c1_i32_47 : BitVec 32 := 1#32
  let arg22 : BitVec 32 := Scf.iv c0_i32_46 c1_i32_47 k0_t2
  let v117 : BitVec 32 := Scalar.muli c2_i32_72 arg22
  let c1_i32_73 : BitVec 32 := 1#32
  let v118 : BitVec 32 := Scalar.addi v117 c1_i32_73
  let c1_i32_74 : BitVec 32 := 1#32
  let v119 : BitVec 32 := Scalar.addi v118 c1_i32_74
  let c50_i32_75 : BitVec 32 := 50#32
  let v120 : BitVec 1 := Scalar.cmpi .slt v119 c50_i32_75
  let v121 : BitVec 32 := Scalar.extui v120
  let c0_i32_76 : BitVec 32 := 0#32
  let v122 : BitVec 1 := Scalar.cmpi .ne v121 c0_i32_76
  v122

def k0_off279 (k0_t2 : Fin k0_t2_loop.trips) : Fin 1 → Nat :=
  let c2_i32_72 : BitVec 32 := 2#32
  let c0_i32_46 : BitVec 32 := 0#32
  let c1_i32_47 : BitVec 32 := 1#32
  let arg22 : BitVec 32 := Scf.iv c0_i32_46 c1_i32_47 k0_t2
  let v117 : BitVec 32 := Scalar.muli c2_i32_72 arg22
  let c1_i32_73 : BitVec 32 := 1#32
  let v118 : BitVec 32 := Scalar.addi v117 c1_i32_73
  let c1_i32_93 : BitVec 32 := 1#32
  let v144 : BitVec 32 := Scalar.addi v118 c1_i32_93
  let c128_i32_94 : BitVec 32 := 128#32
  let v145 : BitVec 32 := Scalar.muli v144 c128_i32_94
  ![v145.toNat]
@[reducible] def k0_t4_loop : Scf.Loop 32 :=
  let c0_i32_84 : BitVec 32 := 0#32
  let c8_i32_85 : BitVec 32 := 8#32
  let v137 : BitVec 32 := Scalar.addi c0_i32_84 c8_i32_85
  let c1_i32_86 : BitVec 32 := 1#32
  ⟨c0_i32_84, v137, c1_i32_86⟩
def k0_off280 (k0_t2 : Fin k0_t2_loop.trips) (k0_t4 : Fin k0_t4_loop.trips) : Fin 1 → Nat :=
  let c2_i32_72 : BitVec 32 := 2#32
  let c0_i32_46 : BitVec 32 := 0#32
  let c1_i32_47 : BitVec 32 := 1#32
  let arg22 : BitVec 32 := Scf.iv c0_i32_46 c1_i32_47 k0_t2
  let v117 : BitVec 32 := Scalar.muli c2_i32_72 arg22
  let c1_i32_73 : BitVec 32 := 1#32
  let v118 : BitVec 32 := Scalar.addi v117 c1_i32_73
  let c128_i32_91 : BitVec 32 := 128#32
  let v142 : BitVec 32 := Scalar.muli v118 c128_i32_91
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v143 : BitVec 32 := Scalar.addi v142 v141
  let v144 : Index := Scalar.indexCast v143
  ![v144.toNat]
def k0_off281 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v155 : Index := Scalar.indexCast v150
  let c0_95 : Index := 0#32
  ![v155.toNat, 0]
def k0_off282 (v152 : BitVec 32) : Fin 2 → Nat :=
  let v158 : Index := Scalar.indexCast v152
  let c0_96 : Index := 0#32
  ![v158.toNat, 0]

def k0_off283 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v165 : Index := Scalar.indexCast v150
  let c16_97 : Index := 16#32
  ![v165.toNat, 16]
def k0_off284 (v152 : BitVec 32) : Fin 2 → Nat :=
  let v168 : Index := Scalar.indexCast v152
  let c16_98 : Index := 16#32
  ![v168.toNat, 16]
def k0_off285 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v175 : Index := Scalar.indexCast v150
  let c32_99 : Index := 32#32
  ![v175.toNat, 32]
def k0_off286 (v152 : BitVec 32) : Fin 2 → Nat :=
  let v178 : Index := Scalar.indexCast v152
  let c32_100 : Index := 32#32
  ![v178.toNat, 32]
def k0_off287 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v185 : Index := Scalar.indexCast v150
  let c48_101 : Index := 48#32
  ![v185.toNat, 48]
def k0_off288 (v152 : BitVec 32) : Fin 2 → Nat :=
  let v188 : Index := Scalar.indexCast v152
  let c48_102 : Index := 48#32
  ![v188.toNat, 48]
def k0_off289 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v195 : Index := Scalar.indexCast v150
  let c64_103 : Index := 64#32
  ![v195.toNat, 64]
def k0_off290 (v152 : BitVec 32) : Fin 2 → Nat :=
  let v198 : Index := Scalar.indexCast v152
  let c64_104 : Index := 64#32
  ![v198.toNat, 64]
def k0_off291 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v205 : Index := Scalar.indexCast v150
  let c80_105 : Index := 80#32
  ![v205.toNat, 80]
def k0_off292 (v152 : BitVec 32) : Fin 2 → Nat :=
  let v208 : Index := Scalar.indexCast v152
  let c80_106 : Index := 80#32
  ![v208.toNat, 80]
def k0_off293 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v215 : Index := Scalar.indexCast v150
  let c96_107 : Index := 96#32
  ![v215.toNat, 96]
def k0_off294 (v152 : BitVec 32) : Fin 2 → Nat :=
  let v218 : Index := Scalar.indexCast v152
  let c96_108 : Index := 96#32
  ![v218.toNat, 96]
def k0_off295 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c0_i32_93 : BitVec 32 := 0#32
  let v150 : BitVec 32 := Scalar.addi v141 c0_i32_93
  let v225 : Index := Scalar.indexCast v150
  let c112_109 : Index := 112#32
  ![v225.toNat, 112]
def k0_off296 (v152 : BitVec 32) : Fin 2 → Nat :=
  let v228 : Index := Scalar.indexCast v152
  let c112_110 : Index := 112#32
  ![v228.toNat, 112]

def k0_chk17 (v152 : BitVec 32) : Prop :=
  (∀ a, (k0_off282 v152) a + S1x16.size a ≤ S400x128.size a) ∧
  (∀ a, (k0_off284 v152) a + S1x16.size a ≤ S400x128.size a) ∧
  (∀ a, (k0_off286 v152) a + S1x16.size a ≤ S400x128.size a) ∧
  (∀ a, (k0_off288 v152) a + S1x16.size a ≤ S400x128.size a) ∧
  (∀ a, (k0_off290 v152) a + S1x16.size a ≤ S400x128.size a) ∧
  (∀ a, (k0_off292 v152) a + S1x16.size a ≤ S400x128.size a) ∧
  (∀ a, (k0_off294 v152) a + S1x16.size a ≤ S400x128.size a) ∧
  (∀ a, (k0_off296 v152) a + S1x16.size a ≤ S400x128.size a)
theorem k0_off282_inb : ∀ (v152 : BitVec 32) (k0_hw17 : k0_chk17 v152), ∀ a, (k0_off282 v152) a + S1x16.size a ≤ S400x128.size a := fun v152 k0_hw17 => k0_hw17.1
theorem k0_off284_inb : ∀ (v152 : BitVec 32) (k0_hw17 : k0_chk17 v152), ∀ a, (k0_off284 v152) a + S1x16.size a ≤ S400x128.size a := fun v152 k0_hw17 => k0_hw17.2.1
theorem k0_off286_inb : ∀ (v152 : BitVec 32) (k0_hw17 : k0_chk17 v152), ∀ a, (k0_off286 v152) a + S1x16.size a ≤ S400x128.size a := fun v152 k0_hw17 => k0_hw17.2.2.1
theorem k0_off288_inb : ∀ (v152 : BitVec 32) (k0_hw17 : k0_chk17 v152), ∀ a, (k0_off288 v152) a + S1x16.size a ≤ S400x128.size a := fun v152 k0_hw17 => k0_hw17.2.2.2.1
theorem k0_off290_inb : ∀ (v152 : BitVec 32) (k0_hw17 : k0_chk17 v152), ∀ a, (k0_off290 v152) a + S1x16.size a ≤ S400x128.size a := fun v152 k0_hw17 => k0_hw17.2.2.2.2.1
theorem k0_off292_inb : ∀ (v152 : BitVec 32) (k0_hw17 : k0_chk17 v152), ∀ a, (k0_off292 v152) a + S1x16.size a ≤ S400x128.size a := fun v152 k0_hw17 => k0_hw17.2.2.2.2.2.1
theorem k0_off294_inb : ∀ (v152 : BitVec 32) (k0_hw17 : k0_chk17 v152), ∀ a, (k0_off294 v152) a + S1x16.size a ≤ S400x128.size a := fun v152 k0_hw17 => k0_hw17.2.2.2.2.2.2.1
theorem k0_off296_inb : ∀ (v152 : BitVec 32) (k0_hw17 : k0_chk17 v152), ∀ a, (k0_off296 v152) a + S1x16.size a ≤ S400x128.size a := fun v152 k0_hw17 => k0_hw17.2.2.2.2.2.2.2

def k0_off297 (k0_t4 : Fin k0_t4_loop.trips) (c0_i32_93 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v150 : BitVec 32 := Scalar.addi v141 c0_i32_93
  let v302 : Index := Scalar.indexCast v150
  let c0_120 : Index := 0#32
  ![v302.toNat, 0]
def k0_off298 (v364 : BitVec 32) : Fin 2 → Nat :=
  let v370 : Index := Scalar.indexCast v364
  let c0_132 : Index := 0#32
  ![v370.toNat, 0]

def k0_off299 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c1_i32_128 : BitVec 32 := 1#32
  let v362 : BitVec 32 := Scalar.addi v141 c1_i32_128
  let v377 : Index := Scalar.indexCast v362
  let c16_133 : Index := 16#32
  ![v377.toNat, 16]
def k0_off300 (v364 : BitVec 32) : Fin 2 → Nat :=
  let v380 : Index := Scalar.indexCast v364
  let c16_134 : Index := 16#32
  ![v380.toNat, 16]
def k0_off301 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c1_i32_128 : BitVec 32 := 1#32
  let v362 : BitVec 32 := Scalar.addi v141 c1_i32_128
  let v387 : Index := Scalar.indexCast v362
  let c32_135 : Index := 32#32
  ![v387.toNat, 32]
def k0_off302 (v364 : BitVec 32) : Fin 2 → Nat :=
  let v390 : Index := Scalar.indexCast v364
  let c32_136 : Index := 32#32
  ![v390.toNat, 32]
def k0_off303 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c1_i32_128 : BitVec 32 := 1#32
  let v362 : BitVec 32 := Scalar.addi v141 c1_i32_128
  let v397 : Index := Scalar.indexCast v362
  let c48_137 : Index := 48#32
  ![v397.toNat, 48]
def k0_off304 (v364 : BitVec 32) : Fin 2 → Nat :=
  let v400 : Index := Scalar.indexCast v364
  let c48_138 : Index := 48#32
  ![v400.toNat, 48]
def k0_off305 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c1_i32_128 : BitVec 32 := 1#32
  let v362 : BitVec 32 := Scalar.addi v141 c1_i32_128
  let v407 : Index := Scalar.indexCast v362
  let c64_139 : Index := 64#32
  ![v407.toNat, 64]
def k0_off306 (v364 : BitVec 32) : Fin 2 → Nat :=
  let v410 : Index := Scalar.indexCast v364
  let c64_140 : Index := 64#32
  ![v410.toNat, 64]
def k0_off307 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c1_i32_128 : BitVec 32 := 1#32
  let v362 : BitVec 32 := Scalar.addi v141 c1_i32_128
  let v417 : Index := Scalar.indexCast v362
  let c80_141 : Index := 80#32
  ![v417.toNat, 80]
def k0_off308 (v364 : BitVec 32) : Fin 2 → Nat :=
  let v420 : Index := Scalar.indexCast v364
  let c80_142 : Index := 80#32
  ![v420.toNat, 80]
def k0_off309 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c1_i32_128 : BitVec 32 := 1#32
  let v362 : BitVec 32 := Scalar.addi v141 c1_i32_128
  let v427 : Index := Scalar.indexCast v362
  let c96_143 : Index := 96#32
  ![v427.toNat, 96]
def k0_off310 (v364 : BitVec 32) : Fin 2 → Nat :=
  let v430 : Index := Scalar.indexCast v364
  let c96_144 : Index := 96#32
  ![v430.toNat, 96]
def k0_off311 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c1_i32_128 : BitVec 32 := 1#32
  let v362 : BitVec 32 := Scalar.addi v141 c1_i32_128
  let v437 : Index := Scalar.indexCast v362
  let c112_145 : Index := 112#32
  ![v437.toNat, 112]
def k0_off312 (v364 : BitVec 32) : Fin 2 → Nat :=
  let v440 : Index := Scalar.indexCast v364
  let c112_146 : Index := 112#32
  ![v440.toNat, 112]

def k0_chk18 (v364 : BitVec 32) : Prop :=
  (∀ a, (k0_off298 v364) a + S1x16.size a ≤ S400x128.size a) ∧
  (∀ a, (k0_off300 v364) a + S1x16.size a ≤ S400x128.size a) ∧
  (∀ a, (k0_off302 v364) a + S1x16.size a ≤ S400x128.size a) ∧
  (∀ a, (k0_off304 v364) a + S1x16.size a ≤ S400x128.size a) ∧
  (∀ a, (k0_off306 v364) a + S1x16.size a ≤ S400x128.size a) ∧
  (∀ a, (k0_off308 v364) a + S1x16.size a ≤ S400x128.size a) ∧
  (∀ a, (k0_off310 v364) a + S1x16.size a ≤ S400x128.size a) ∧
  (∀ a, (k0_off312 v364) a + S1x16.size a ≤ S400x128.size a)
theorem k0_off298_inb : ∀ (v364 : BitVec 32) (k0_hw18 : k0_chk18 v364), ∀ a, (k0_off298 v364) a + S1x16.size a ≤ S400x128.size a := fun v364 k0_hw18 => k0_hw18.1
theorem k0_off300_inb : ∀ (v364 : BitVec 32) (k0_hw18 : k0_chk18 v364), ∀ a, (k0_off300 v364) a + S1x16.size a ≤ S400x128.size a := fun v364 k0_hw18 => k0_hw18.2.1
theorem k0_off302_inb : ∀ (v364 : BitVec 32) (k0_hw18 : k0_chk18 v364), ∀ a, (k0_off302 v364) a + S1x16.size a ≤ S400x128.size a := fun v364 k0_hw18 => k0_hw18.2.2.1
theorem k0_off304_inb : ∀ (v364 : BitVec 32) (k0_hw18 : k0_chk18 v364), ∀ a, (k0_off304 v364) a + S1x16.size a ≤ S400x128.size a := fun v364 k0_hw18 => k0_hw18.2.2.2.1
theorem k0_off306_inb : ∀ (v364 : BitVec 32) (k0_hw18 : k0_chk18 v364), ∀ a, (k0_off306 v364) a + S1x16.size a ≤ S400x128.size a := fun v364 k0_hw18 => k0_hw18.2.2.2.2.1
theorem k0_off308_inb : ∀ (v364 : BitVec 32) (k0_hw18 : k0_chk18 v364), ∀ a, (k0_off308 v364) a + S1x16.size a ≤ S400x128.size a := fun v364 k0_hw18 => k0_hw18.2.2.2.2.2.1
theorem k0_off310_inb : ∀ (v364 : BitVec 32) (k0_hw18 : k0_chk18 v364), ∀ a, (k0_off310 v364) a + S1x16.size a ≤ S400x128.size a := fun v364 k0_hw18 => k0_hw18.2.2.2.2.2.2.1
theorem k0_off312_inb : ∀ (v364 : BitVec 32) (k0_hw18 : k0_chk18 v364), ∀ a, (k0_off312 v364) a + S1x16.size a ≤ S400x128.size a := fun v364 k0_hw18 => k0_hw18.2.2.2.2.2.2.2

def k0_off313 (k0_t4 : Fin k0_t4_loop.trips) (c1_i32_128 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v362 : BitVec 32 := Scalar.addi v141 c1_i32_128
  let v514 : Index := Scalar.indexCast v362
  let c0_156 : Index := 0#32
  ![v514.toNat, 0]
def k0_off314 (v576 : BitVec 32) : Fin 2 → Nat :=
  let v582 : Index := Scalar.indexCast v576
  let c0_168 : Index := 0#32
  ![v582.toNat, 0]

def k0_off315 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c2_i32_164 : BitVec 32 := 2#32
  let v574 : BitVec 32 := Scalar.addi v141 c2_i32_164
  let v589 : Index := Scalar.indexCast v574
  let c16_169 : Index := 16#32
  ![v589.toNat, 16]
def k0_off316 (v576 : BitVec 32) : Fin 2 → Nat :=
  let v592 : Index := Scalar.indexCast v576
  let c16_170 : Index := 16#32
  ![v592.toNat, 16]
def k0_off317 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c2_i32_164 : BitVec 32 := 2#32
  let v574 : BitVec 32 := Scalar.addi v141 c2_i32_164
  let v599 : Index := Scalar.indexCast v574
  let c32_171 : Index := 32#32
  ![v599.toNat, 32]
def k0_off318 (v576 : BitVec 32) : Fin 2 → Nat :=
  let v602 : Index := Scalar.indexCast v576
  let c32_172 : Index := 32#32
  ![v602.toNat, 32]
def k0_off319 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c2_i32_164 : BitVec 32 := 2#32
  let v574 : BitVec 32 := Scalar.addi v141 c2_i32_164
  let v609 : Index := Scalar.indexCast v574
  let c48_173 : Index := 48#32
  ![v609.toNat, 48]
def k0_off320 (v576 : BitVec 32) : Fin 2 → Nat :=
  let v612 : Index := Scalar.indexCast v576
  let c48_174 : Index := 48#32
  ![v612.toNat, 48]
def k0_off321 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c2_i32_164 : BitVec 32 := 2#32
  let v574 : BitVec 32 := Scalar.addi v141 c2_i32_164
  let v619 : Index := Scalar.indexCast v574
  let c64_175 : Index := 64#32
  ![v619.toNat, 64]
def k0_off322 (v576 : BitVec 32) : Fin 2 → Nat :=
  let v622 : Index := Scalar.indexCast v576
  let c64_176 : Index := 64#32
  ![v622.toNat, 64]
def k0_off323 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c2_i32_164 : BitVec 32 := 2#32
  let v574 : BitVec 32 := Scalar.addi v141 c2_i32_164
  let v629 : Index := Scalar.indexCast v574
  let c80_177 : Index := 80#32
  ![v629.toNat, 80]
def k0_off324 (v576 : BitVec 32) : Fin 2 → Nat :=
  let v632 : Index := Scalar.indexCast v576
  let c80_178 : Index := 80#32
  ![v632.toNat, 80]
def k0_off325 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c2_i32_164 : BitVec 32 := 2#32
  let v574 : BitVec 32 := Scalar.addi v141 c2_i32_164
  let v639 : Index := Scalar.indexCast v574
  let c96_179 : Index := 96#32
  ![v639.toNat, 96]
def k0_off326 (v576 : BitVec 32) : Fin 2 → Nat :=
  let v642 : Index := Scalar.indexCast v576
  let c96_180 : Index := 96#32
  ![v642.toNat, 96]
def k0_off327 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c2_i32_164 : BitVec 32 := 2#32
  let v574 : BitVec 32 := Scalar.addi v141 c2_i32_164
  let v649 : Index := Scalar.indexCast v574
  let c112_181 : Index := 112#32
  ![v649.toNat, 112]
def k0_off328 (v576 : BitVec 32) : Fin 2 → Nat :=
  let v652 : Index := Scalar.indexCast v576
  let c112_182 : Index := 112#32
  ![v652.toNat, 112]

def k0_chk19 (v576 : BitVec 32) : Prop :=
  (∀ a, (k0_off314 v576) a + S1x16.size a ≤ S400x128.size a) ∧
  (∀ a, (k0_off316 v576) a + S1x16.size a ≤ S400x128.size a) ∧
  (∀ a, (k0_off318 v576) a + S1x16.size a ≤ S400x128.size a) ∧
  (∀ a, (k0_off320 v576) a + S1x16.size a ≤ S400x128.size a) ∧
  (∀ a, (k0_off322 v576) a + S1x16.size a ≤ S400x128.size a) ∧
  (∀ a, (k0_off324 v576) a + S1x16.size a ≤ S400x128.size a) ∧
  (∀ a, (k0_off326 v576) a + S1x16.size a ≤ S400x128.size a) ∧
  (∀ a, (k0_off328 v576) a + S1x16.size a ≤ S400x128.size a)
theorem k0_off314_inb : ∀ (v576 : BitVec 32) (k0_hw19 : k0_chk19 v576), ∀ a, (k0_off314 v576) a + S1x16.size a ≤ S400x128.size a := fun v576 k0_hw19 => k0_hw19.1
theorem k0_off316_inb : ∀ (v576 : BitVec 32) (k0_hw19 : k0_chk19 v576), ∀ a, (k0_off316 v576) a + S1x16.size a ≤ S400x128.size a := fun v576 k0_hw19 => k0_hw19.2.1
theorem k0_off318_inb : ∀ (v576 : BitVec 32) (k0_hw19 : k0_chk19 v576), ∀ a, (k0_off318 v576) a + S1x16.size a ≤ S400x128.size a := fun v576 k0_hw19 => k0_hw19.2.2.1
theorem k0_off320_inb : ∀ (v576 : BitVec 32) (k0_hw19 : k0_chk19 v576), ∀ a, (k0_off320 v576) a + S1x16.size a ≤ S400x128.size a := fun v576 k0_hw19 => k0_hw19.2.2.2.1
theorem k0_off322_inb : ∀ (v576 : BitVec 32) (k0_hw19 : k0_chk19 v576), ∀ a, (k0_off322 v576) a + S1x16.size a ≤ S400x128.size a := fun v576 k0_hw19 => k0_hw19.2.2.2.2.1
theorem k0_off324_inb : ∀ (v576 : BitVec 32) (k0_hw19 : k0_chk19 v576), ∀ a, (k0_off324 v576) a + S1x16.size a ≤ S400x128.size a := fun v576 k0_hw19 => k0_hw19.2.2.2.2.2.1
theorem k0_off326_inb : ∀ (v576 : BitVec 32) (k0_hw19 : k0_chk19 v576), ∀ a, (k0_off326 v576) a + S1x16.size a ≤ S400x128.size a := fun v576 k0_hw19 => k0_hw19.2.2.2.2.2.2.1
theorem k0_off328_inb : ∀ (v576 : BitVec 32) (k0_hw19 : k0_chk19 v576), ∀ a, (k0_off328 v576) a + S1x16.size a ≤ S400x128.size a := fun v576 k0_hw19 => k0_hw19.2.2.2.2.2.2.2

def k0_off329 (k0_t4 : Fin k0_t4_loop.trips) (c2_i32_164 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v574 : BitVec 32 := Scalar.addi v141 c2_i32_164
  let v726 : Index := Scalar.indexCast v574
  let c0_192 : Index := 0#32
  ![v726.toNat, 0]
def k0_off330 (v788 : BitVec 32) : Fin 2 → Nat :=
  let v794 : Index := Scalar.indexCast v788
  let c0_203 : Index := 0#32
  ![v794.toNat, 0]

def k0_off331 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c3_i32 : BitVec 32 := 3#32
  let v786 : BitVec 32 := Scalar.addi v141 c3_i32
  let v801 : Index := Scalar.indexCast v786
  let c16_204 : Index := 16#32
  ![v801.toNat, 16]
def k0_off332 (v788 : BitVec 32) : Fin 2 → Nat :=
  let v804 : Index := Scalar.indexCast v788
  let c16_205 : Index := 16#32
  ![v804.toNat, 16]
def k0_off333 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c3_i32 : BitVec 32 := 3#32
  let v786 : BitVec 32 := Scalar.addi v141 c3_i32
  let v811 : Index := Scalar.indexCast v786
  let c32_206 : Index := 32#32
  ![v811.toNat, 32]
def k0_off334 (v788 : BitVec 32) : Fin 2 → Nat :=
  let v814 : Index := Scalar.indexCast v788
  let c32_207 : Index := 32#32
  ![v814.toNat, 32]
def k0_off335 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c3_i32 : BitVec 32 := 3#32
  let v786 : BitVec 32 := Scalar.addi v141 c3_i32
  let v821 : Index := Scalar.indexCast v786
  let c48_208 : Index := 48#32
  ![v821.toNat, 48]
def k0_off336 (v788 : BitVec 32) : Fin 2 → Nat :=
  let v824 : Index := Scalar.indexCast v788
  let c48_209 : Index := 48#32
  ![v824.toNat, 48]
def k0_off337 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c3_i32 : BitVec 32 := 3#32
  let v786 : BitVec 32 := Scalar.addi v141 c3_i32
  let v831 : Index := Scalar.indexCast v786
  let c64_210 : Index := 64#32
  ![v831.toNat, 64]
def k0_off338 (v788 : BitVec 32) : Fin 2 → Nat :=
  let v834 : Index := Scalar.indexCast v788
  let c64_211 : Index := 64#32
  ![v834.toNat, 64]
def k0_off339 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c3_i32 : BitVec 32 := 3#32
  let v786 : BitVec 32 := Scalar.addi v141 c3_i32
  let v841 : Index := Scalar.indexCast v786
  let c80_212 : Index := 80#32
  ![v841.toNat, 80]
def k0_off340 (v788 : BitVec 32) : Fin 2 → Nat :=
  let v844 : Index := Scalar.indexCast v788
  let c80_213 : Index := 80#32
  ![v844.toNat, 80]
def k0_off341 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c3_i32 : BitVec 32 := 3#32
  let v786 : BitVec 32 := Scalar.addi v141 c3_i32
  let v851 : Index := Scalar.indexCast v786
  let c96_214 : Index := 96#32
  ![v851.toNat, 96]
def k0_off342 (v788 : BitVec 32) : Fin 2 → Nat :=
  let v854 : Index := Scalar.indexCast v788
  let c96_215 : Index := 96#32
  ![v854.toNat, 96]
def k0_off343 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c3_i32 : BitVec 32 := 3#32
  let v786 : BitVec 32 := Scalar.addi v141 c3_i32
  let v861 : Index := Scalar.indexCast v786
  let c112_216 : Index := 112#32
  ![v861.toNat, 112]
def k0_off344 (v788 : BitVec 32) : Fin 2 → Nat :=
  let v864 : Index := Scalar.indexCast v788
  let c112_217 : Index := 112#32
  ![v864.toNat, 112]

def k0_chk20 (v788 : BitVec 32) : Prop :=
  (∀ a, (k0_off330 v788) a + S1x16.size a ≤ S400x128.size a) ∧
  (∀ a, (k0_off332 v788) a + S1x16.size a ≤ S400x128.size a) ∧
  (∀ a, (k0_off334 v788) a + S1x16.size a ≤ S400x128.size a) ∧
  (∀ a, (k0_off336 v788) a + S1x16.size a ≤ S400x128.size a) ∧
  (∀ a, (k0_off338 v788) a + S1x16.size a ≤ S400x128.size a) ∧
  (∀ a, (k0_off340 v788) a + S1x16.size a ≤ S400x128.size a) ∧
  (∀ a, (k0_off342 v788) a + S1x16.size a ≤ S400x128.size a) ∧
  (∀ a, (k0_off344 v788) a + S1x16.size a ≤ S400x128.size a)
theorem k0_off330_inb : ∀ (v788 : BitVec 32) (k0_hw20 : k0_chk20 v788), ∀ a, (k0_off330 v788) a + S1x16.size a ≤ S400x128.size a := fun v788 k0_hw20 => k0_hw20.1
theorem k0_off332_inb : ∀ (v788 : BitVec 32) (k0_hw20 : k0_chk20 v788), ∀ a, (k0_off332 v788) a + S1x16.size a ≤ S400x128.size a := fun v788 k0_hw20 => k0_hw20.2.1
theorem k0_off334_inb : ∀ (v788 : BitVec 32) (k0_hw20 : k0_chk20 v788), ∀ a, (k0_off334 v788) a + S1x16.size a ≤ S400x128.size a := fun v788 k0_hw20 => k0_hw20.2.2.1
theorem k0_off336_inb : ∀ (v788 : BitVec 32) (k0_hw20 : k0_chk20 v788), ∀ a, (k0_off336 v788) a + S1x16.size a ≤ S400x128.size a := fun v788 k0_hw20 => k0_hw20.2.2.2.1
theorem k0_off338_inb : ∀ (v788 : BitVec 32) (k0_hw20 : k0_chk20 v788), ∀ a, (k0_off338 v788) a + S1x16.size a ≤ S400x128.size a := fun v788 k0_hw20 => k0_hw20.2.2.2.2.1
theorem k0_off340_inb : ∀ (v788 : BitVec 32) (k0_hw20 : k0_chk20 v788), ∀ a, (k0_off340 v788) a + S1x16.size a ≤ S400x128.size a := fun v788 k0_hw20 => k0_hw20.2.2.2.2.2.1
theorem k0_off342_inb : ∀ (v788 : BitVec 32) (k0_hw20 : k0_chk20 v788), ∀ a, (k0_off342 v788) a + S1x16.size a ≤ S400x128.size a := fun v788 k0_hw20 => k0_hw20.2.2.2.2.2.2.1
theorem k0_off344_inb : ∀ (v788 : BitVec 32) (k0_hw20 : k0_chk20 v788), ∀ a, (k0_off344 v788) a + S1x16.size a ≤ S400x128.size a := fun v788 k0_hw20 => k0_hw20.2.2.2.2.2.2.2

def k0_off345 (k0_t4 : Fin k0_t4_loop.trips) (c3_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v786 : BitVec 32 := Scalar.addi v141 c3_i32
  let v938 : Index := Scalar.indexCast v786
  let c0_227 : Index := 0#32
  ![v938.toNat, 0]
def k0_off346 (v1000 : BitVec 32) : Fin 2 → Nat :=
  let v1006 : Index := Scalar.indexCast v1000
  let c0_238 : Index := 0#32
  ![v1006.toNat, 0]

def k0_off347 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c4_i32 : BitVec 32 := 4#32
  let v998 : BitVec 32 := Scalar.addi v141 c4_i32
  let v1013 : Index := Scalar.indexCast v998
  let c16_239 : Index := 16#32
  ![v1013.toNat, 16]
def k0_off348 (v1000 : BitVec 32) : Fin 2 → Nat :=
  let v1016 : Index := Scalar.indexCast v1000
  let c16_240 : Index := 16#32
  ![v1016.toNat, 16]
def k0_off349 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c4_i32 : BitVec 32 := 4#32
  let v998 : BitVec 32 := Scalar.addi v141 c4_i32
  let v1023 : Index := Scalar.indexCast v998
  let c32_241 : Index := 32#32
  ![v1023.toNat, 32]
def k0_off350 (v1000 : BitVec 32) : Fin 2 → Nat :=
  let v1026 : Index := Scalar.indexCast v1000
  let c32_242 : Index := 32#32
  ![v1026.toNat, 32]
def k0_off351 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c4_i32 : BitVec 32 := 4#32
  let v998 : BitVec 32 := Scalar.addi v141 c4_i32
  let v1033 : Index := Scalar.indexCast v998
  let c48_243 : Index := 48#32
  ![v1033.toNat, 48]
def k0_off352 (v1000 : BitVec 32) : Fin 2 → Nat :=
  let v1036 : Index := Scalar.indexCast v1000
  let c48_244 : Index := 48#32
  ![v1036.toNat, 48]
def k0_off353 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c4_i32 : BitVec 32 := 4#32
  let v998 : BitVec 32 := Scalar.addi v141 c4_i32
  let v1043 : Index := Scalar.indexCast v998
  let c64_245 : Index := 64#32
  ![v1043.toNat, 64]
def k0_off354 (v1000 : BitVec 32) : Fin 2 → Nat :=
  let v1046 : Index := Scalar.indexCast v1000
  let c64_246 : Index := 64#32
  ![v1046.toNat, 64]
def k0_off355 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c4_i32 : BitVec 32 := 4#32
  let v998 : BitVec 32 := Scalar.addi v141 c4_i32
  let v1053 : Index := Scalar.indexCast v998
  let c80_247 : Index := 80#32
  ![v1053.toNat, 80]
def k0_off356 (v1000 : BitVec 32) : Fin 2 → Nat :=
  let v1056 : Index := Scalar.indexCast v1000
  let c80_248 : Index := 80#32
  ![v1056.toNat, 80]
def k0_off357 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c4_i32 : BitVec 32 := 4#32
  let v998 : BitVec 32 := Scalar.addi v141 c4_i32
  let v1063 : Index := Scalar.indexCast v998
  let c96_249 : Index := 96#32
  ![v1063.toNat, 96]
def k0_off358 (v1000 : BitVec 32) : Fin 2 → Nat :=
  let v1066 : Index := Scalar.indexCast v1000
  let c96_250 : Index := 96#32
  ![v1066.toNat, 96]
def k0_off359 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c4_i32 : BitVec 32 := 4#32
  let v998 : BitVec 32 := Scalar.addi v141 c4_i32
  let v1073 : Index := Scalar.indexCast v998
  let c112_251 : Index := 112#32
  ![v1073.toNat, 112]
def k0_off360 (v1000 : BitVec 32) : Fin 2 → Nat :=
  let v1076 : Index := Scalar.indexCast v1000
  let c112_252 : Index := 112#32
  ![v1076.toNat, 112]

def k0_chk21 (v1000 : BitVec 32) : Prop :=
  (∀ a, (k0_off346 v1000) a + S1x16.size a ≤ S400x128.size a) ∧
  (∀ a, (k0_off348 v1000) a + S1x16.size a ≤ S400x128.size a) ∧
  (∀ a, (k0_off350 v1000) a + S1x16.size a ≤ S400x128.size a) ∧
  (∀ a, (k0_off352 v1000) a + S1x16.size a ≤ S400x128.size a) ∧
  (∀ a, (k0_off354 v1000) a + S1x16.size a ≤ S400x128.size a) ∧
  (∀ a, (k0_off356 v1000) a + S1x16.size a ≤ S400x128.size a) ∧
  (∀ a, (k0_off358 v1000) a + S1x16.size a ≤ S400x128.size a) ∧
  (∀ a, (k0_off360 v1000) a + S1x16.size a ≤ S400x128.size a)
theorem k0_off346_inb : ∀ (v1000 : BitVec 32) (k0_hw21 : k0_chk21 v1000), ∀ a, (k0_off346 v1000) a + S1x16.size a ≤ S400x128.size a := fun v1000 k0_hw21 => k0_hw21.1
theorem k0_off348_inb : ∀ (v1000 : BitVec 32) (k0_hw21 : k0_chk21 v1000), ∀ a, (k0_off348 v1000) a + S1x16.size a ≤ S400x128.size a := fun v1000 k0_hw21 => k0_hw21.2.1
theorem k0_off350_inb : ∀ (v1000 : BitVec 32) (k0_hw21 : k0_chk21 v1000), ∀ a, (k0_off350 v1000) a + S1x16.size a ≤ S400x128.size a := fun v1000 k0_hw21 => k0_hw21.2.2.1
theorem k0_off352_inb : ∀ (v1000 : BitVec 32) (k0_hw21 : k0_chk21 v1000), ∀ a, (k0_off352 v1000) a + S1x16.size a ≤ S400x128.size a := fun v1000 k0_hw21 => k0_hw21.2.2.2.1
theorem k0_off354_inb : ∀ (v1000 : BitVec 32) (k0_hw21 : k0_chk21 v1000), ∀ a, (k0_off354 v1000) a + S1x16.size a ≤ S400x128.size a := fun v1000 k0_hw21 => k0_hw21.2.2.2.2.1
theorem k0_off356_inb : ∀ (v1000 : BitVec 32) (k0_hw21 : k0_chk21 v1000), ∀ a, (k0_off356 v1000) a + S1x16.size a ≤ S400x128.size a := fun v1000 k0_hw21 => k0_hw21.2.2.2.2.2.1
theorem k0_off358_inb : ∀ (v1000 : BitVec 32) (k0_hw21 : k0_chk21 v1000), ∀ a, (k0_off358 v1000) a + S1x16.size a ≤ S400x128.size a := fun v1000 k0_hw21 => k0_hw21.2.2.2.2.2.2.1
theorem k0_off360_inb : ∀ (v1000 : BitVec 32) (k0_hw21 : k0_chk21 v1000), ∀ a, (k0_off360 v1000) a + S1x16.size a ≤ S400x128.size a := fun v1000 k0_hw21 => k0_hw21.2.2.2.2.2.2.2

def k0_off361 (k0_t4 : Fin k0_t4_loop.trips) (c4_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v998 : BitVec 32 := Scalar.addi v141 c4_i32
  let v1150 : Index := Scalar.indexCast v998
  let c0_262 : Index := 0#32
  ![v1150.toNat, 0]
def k0_off362 (v1212 : BitVec 32) : Fin 2 → Nat :=
  let v1218 : Index := Scalar.indexCast v1212
  let c0_273 : Index := 0#32
  ![v1218.toNat, 0]

def k0_off363 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c5_i32 : BitVec 32 := 5#32
  let v1210 : BitVec 32 := Scalar.addi v141 c5_i32
  let v1225 : Index := Scalar.indexCast v1210
  let c16_274 : Index := 16#32
  ![v1225.toNat, 16]
def k0_off364 (v1212 : BitVec 32) : Fin 2 → Nat :=
  let v1228 : Index := Scalar.indexCast v1212
  let c16_275 : Index := 16#32
  ![v1228.toNat, 16]
def k0_off365 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c5_i32 : BitVec 32 := 5#32
  let v1210 : BitVec 32 := Scalar.addi v141 c5_i32
  let v1235 : Index := Scalar.indexCast v1210
  let c32_276 : Index := 32#32
  ![v1235.toNat, 32]
def k0_off366 (v1212 : BitVec 32) : Fin 2 → Nat :=
  let v1238 : Index := Scalar.indexCast v1212
  let c32_277 : Index := 32#32
  ![v1238.toNat, 32]
def k0_off367 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c5_i32 : BitVec 32 := 5#32
  let v1210 : BitVec 32 := Scalar.addi v141 c5_i32
  let v1245 : Index := Scalar.indexCast v1210
  let c48_278 : Index := 48#32
  ![v1245.toNat, 48]
def k0_off368 (v1212 : BitVec 32) : Fin 2 → Nat :=
  let v1248 : Index := Scalar.indexCast v1212
  let c48_279 : Index := 48#32
  ![v1248.toNat, 48]
def k0_off369 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c5_i32 : BitVec 32 := 5#32
  let v1210 : BitVec 32 := Scalar.addi v141 c5_i32
  let v1255 : Index := Scalar.indexCast v1210
  let c64_280 : Index := 64#32
  ![v1255.toNat, 64]
def k0_off370 (v1212 : BitVec 32) : Fin 2 → Nat :=
  let v1258 : Index := Scalar.indexCast v1212
  let c64_281 : Index := 64#32
  ![v1258.toNat, 64]
def k0_off371 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c5_i32 : BitVec 32 := 5#32
  let v1210 : BitVec 32 := Scalar.addi v141 c5_i32
  let v1265 : Index := Scalar.indexCast v1210
  let c80_282 : Index := 80#32
  ![v1265.toNat, 80]
def k0_off372 (v1212 : BitVec 32) : Fin 2 → Nat :=
  let v1268 : Index := Scalar.indexCast v1212
  let c80_283 : Index := 80#32
  ![v1268.toNat, 80]
def k0_off373 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c5_i32 : BitVec 32 := 5#32
  let v1210 : BitVec 32 := Scalar.addi v141 c5_i32
  let v1275 : Index := Scalar.indexCast v1210
  let c96_284 : Index := 96#32
  ![v1275.toNat, 96]
def k0_off374 (v1212 : BitVec 32) : Fin 2 → Nat :=
  let v1278 : Index := Scalar.indexCast v1212
  let c96_285 : Index := 96#32
  ![v1278.toNat, 96]
def k0_off375 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c5_i32 : BitVec 32 := 5#32
  let v1210 : BitVec 32 := Scalar.addi v141 c5_i32
  let v1285 : Index := Scalar.indexCast v1210
  let c112_286 : Index := 112#32
  ![v1285.toNat, 112]
def k0_off376 (v1212 : BitVec 32) : Fin 2 → Nat :=
  let v1288 : Index := Scalar.indexCast v1212
  let c112_287 : Index := 112#32
  ![v1288.toNat, 112]

def k0_chk22 (v1212 : BitVec 32) : Prop :=
  (∀ a, (k0_off362 v1212) a + S1x16.size a ≤ S400x128.size a) ∧
  (∀ a, (k0_off364 v1212) a + S1x16.size a ≤ S400x128.size a) ∧
  (∀ a, (k0_off366 v1212) a + S1x16.size a ≤ S400x128.size a) ∧
  (∀ a, (k0_off368 v1212) a + S1x16.size a ≤ S400x128.size a) ∧
  (∀ a, (k0_off370 v1212) a + S1x16.size a ≤ S400x128.size a) ∧
  (∀ a, (k0_off372 v1212) a + S1x16.size a ≤ S400x128.size a) ∧
  (∀ a, (k0_off374 v1212) a + S1x16.size a ≤ S400x128.size a) ∧
  (∀ a, (k0_off376 v1212) a + S1x16.size a ≤ S400x128.size a)
theorem k0_off362_inb : ∀ (v1212 : BitVec 32) (k0_hw22 : k0_chk22 v1212), ∀ a, (k0_off362 v1212) a + S1x16.size a ≤ S400x128.size a := fun v1212 k0_hw22 => k0_hw22.1
theorem k0_off364_inb : ∀ (v1212 : BitVec 32) (k0_hw22 : k0_chk22 v1212), ∀ a, (k0_off364 v1212) a + S1x16.size a ≤ S400x128.size a := fun v1212 k0_hw22 => k0_hw22.2.1
theorem k0_off366_inb : ∀ (v1212 : BitVec 32) (k0_hw22 : k0_chk22 v1212), ∀ a, (k0_off366 v1212) a + S1x16.size a ≤ S400x128.size a := fun v1212 k0_hw22 => k0_hw22.2.2.1
theorem k0_off368_inb : ∀ (v1212 : BitVec 32) (k0_hw22 : k0_chk22 v1212), ∀ a, (k0_off368 v1212) a + S1x16.size a ≤ S400x128.size a := fun v1212 k0_hw22 => k0_hw22.2.2.2.1
theorem k0_off370_inb : ∀ (v1212 : BitVec 32) (k0_hw22 : k0_chk22 v1212), ∀ a, (k0_off370 v1212) a + S1x16.size a ≤ S400x128.size a := fun v1212 k0_hw22 => k0_hw22.2.2.2.2.1
theorem k0_off372_inb : ∀ (v1212 : BitVec 32) (k0_hw22 : k0_chk22 v1212), ∀ a, (k0_off372 v1212) a + S1x16.size a ≤ S400x128.size a := fun v1212 k0_hw22 => k0_hw22.2.2.2.2.2.1
theorem k0_off374_inb : ∀ (v1212 : BitVec 32) (k0_hw22 : k0_chk22 v1212), ∀ a, (k0_off374 v1212) a + S1x16.size a ≤ S400x128.size a := fun v1212 k0_hw22 => k0_hw22.2.2.2.2.2.2.1
theorem k0_off376_inb : ∀ (v1212 : BitVec 32) (k0_hw22 : k0_chk22 v1212), ∀ a, (k0_off376 v1212) a + S1x16.size a ≤ S400x128.size a := fun v1212 k0_hw22 => k0_hw22.2.2.2.2.2.2.2

def k0_off377 (k0_t4 : Fin k0_t4_loop.trips) (c5_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v1210 : BitVec 32 := Scalar.addi v141 c5_i32
  let v1362 : Index := Scalar.indexCast v1210
  let c0_297 : Index := 0#32
  ![v1362.toNat, 0]
def k0_off378 (v1424 : BitVec 32) : Fin 2 → Nat :=
  let v1430 : Index := Scalar.indexCast v1424
  let c0_308 : Index := 0#32
  ![v1430.toNat, 0]

def k0_off379 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c6_i32 : BitVec 32 := 6#32
  let v1422 : BitVec 32 := Scalar.addi v141 c6_i32
  let v1437 : Index := Scalar.indexCast v1422
  let c16_309 : Index := 16#32
  ![v1437.toNat, 16]
def k0_off380 (v1424 : BitVec 32) : Fin 2 → Nat :=
  let v1440 : Index := Scalar.indexCast v1424
  let c16_310 : Index := 16#32
  ![v1440.toNat, 16]
def k0_off381 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c6_i32 : BitVec 32 := 6#32
  let v1422 : BitVec 32 := Scalar.addi v141 c6_i32
  let v1447 : Index := Scalar.indexCast v1422
  let c32_311 : Index := 32#32
  ![v1447.toNat, 32]
def k0_off382 (v1424 : BitVec 32) : Fin 2 → Nat :=
  let v1450 : Index := Scalar.indexCast v1424
  let c32_312 : Index := 32#32
  ![v1450.toNat, 32]
def k0_off383 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c6_i32 : BitVec 32 := 6#32
  let v1422 : BitVec 32 := Scalar.addi v141 c6_i32
  let v1457 : Index := Scalar.indexCast v1422
  let c48_313 : Index := 48#32
  ![v1457.toNat, 48]
def k0_off384 (v1424 : BitVec 32) : Fin 2 → Nat :=
  let v1460 : Index := Scalar.indexCast v1424
  let c48_314 : Index := 48#32
  ![v1460.toNat, 48]
def k0_off385 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c6_i32 : BitVec 32 := 6#32
  let v1422 : BitVec 32 := Scalar.addi v141 c6_i32
  let v1467 : Index := Scalar.indexCast v1422
  let c64_315 : Index := 64#32
  ![v1467.toNat, 64]
def k0_off386 (v1424 : BitVec 32) : Fin 2 → Nat :=
  let v1470 : Index := Scalar.indexCast v1424
  let c64_316 : Index := 64#32
  ![v1470.toNat, 64]
def k0_off387 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c6_i32 : BitVec 32 := 6#32
  let v1422 : BitVec 32 := Scalar.addi v141 c6_i32
  let v1477 : Index := Scalar.indexCast v1422
  let c80_317 : Index := 80#32
  ![v1477.toNat, 80]
def k0_off388 (v1424 : BitVec 32) : Fin 2 → Nat :=
  let v1480 : Index := Scalar.indexCast v1424
  let c80_318 : Index := 80#32
  ![v1480.toNat, 80]
def k0_off389 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c6_i32 : BitVec 32 := 6#32
  let v1422 : BitVec 32 := Scalar.addi v141 c6_i32
  let v1487 : Index := Scalar.indexCast v1422
  let c96_319 : Index := 96#32
  ![v1487.toNat, 96]
def k0_off390 (v1424 : BitVec 32) : Fin 2 → Nat :=
  let v1490 : Index := Scalar.indexCast v1424
  let c96_320 : Index := 96#32
  ![v1490.toNat, 96]
def k0_off391 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c6_i32 : BitVec 32 := 6#32
  let v1422 : BitVec 32 := Scalar.addi v141 c6_i32
  let v1497 : Index := Scalar.indexCast v1422
  let c112_321 : Index := 112#32
  ![v1497.toNat, 112]
def k0_off392 (v1424 : BitVec 32) : Fin 2 → Nat :=
  let v1500 : Index := Scalar.indexCast v1424
  let c112_322 : Index := 112#32
  ![v1500.toNat, 112]

def k0_chk23 (v1424 : BitVec 32) : Prop :=
  (∀ a, (k0_off378 v1424) a + S1x16.size a ≤ S400x128.size a) ∧
  (∀ a, (k0_off380 v1424) a + S1x16.size a ≤ S400x128.size a) ∧
  (∀ a, (k0_off382 v1424) a + S1x16.size a ≤ S400x128.size a) ∧
  (∀ a, (k0_off384 v1424) a + S1x16.size a ≤ S400x128.size a) ∧
  (∀ a, (k0_off386 v1424) a + S1x16.size a ≤ S400x128.size a) ∧
  (∀ a, (k0_off388 v1424) a + S1x16.size a ≤ S400x128.size a) ∧
  (∀ a, (k0_off390 v1424) a + S1x16.size a ≤ S400x128.size a) ∧
  (∀ a, (k0_off392 v1424) a + S1x16.size a ≤ S400x128.size a)
theorem k0_off378_inb : ∀ (v1424 : BitVec 32) (k0_hw23 : k0_chk23 v1424), ∀ a, (k0_off378 v1424) a + S1x16.size a ≤ S400x128.size a := fun v1424 k0_hw23 => k0_hw23.1
theorem k0_off380_inb : ∀ (v1424 : BitVec 32) (k0_hw23 : k0_chk23 v1424), ∀ a, (k0_off380 v1424) a + S1x16.size a ≤ S400x128.size a := fun v1424 k0_hw23 => k0_hw23.2.1
theorem k0_off382_inb : ∀ (v1424 : BitVec 32) (k0_hw23 : k0_chk23 v1424), ∀ a, (k0_off382 v1424) a + S1x16.size a ≤ S400x128.size a := fun v1424 k0_hw23 => k0_hw23.2.2.1
theorem k0_off384_inb : ∀ (v1424 : BitVec 32) (k0_hw23 : k0_chk23 v1424), ∀ a, (k0_off384 v1424) a + S1x16.size a ≤ S400x128.size a := fun v1424 k0_hw23 => k0_hw23.2.2.2.1
theorem k0_off386_inb : ∀ (v1424 : BitVec 32) (k0_hw23 : k0_chk23 v1424), ∀ a, (k0_off386 v1424) a + S1x16.size a ≤ S400x128.size a := fun v1424 k0_hw23 => k0_hw23.2.2.2.2.1
theorem k0_off388_inb : ∀ (v1424 : BitVec 32) (k0_hw23 : k0_chk23 v1424), ∀ a, (k0_off388 v1424) a + S1x16.size a ≤ S400x128.size a := fun v1424 k0_hw23 => k0_hw23.2.2.2.2.2.1
theorem k0_off390_inb : ∀ (v1424 : BitVec 32) (k0_hw23 : k0_chk23 v1424), ∀ a, (k0_off390 v1424) a + S1x16.size a ≤ S400x128.size a := fun v1424 k0_hw23 => k0_hw23.2.2.2.2.2.2.1
theorem k0_off392_inb : ∀ (v1424 : BitVec 32) (k0_hw23 : k0_chk23 v1424), ∀ a, (k0_off392 v1424) a + S1x16.size a ≤ S400x128.size a := fun v1424 k0_hw23 => k0_hw23.2.2.2.2.2.2.2

def k0_off393 (k0_t4 : Fin k0_t4_loop.trips) (c6_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v1422 : BitVec 32 := Scalar.addi v141 c6_i32
  let v1574 : Index := Scalar.indexCast v1422
  let c0_332 : Index := 0#32
  ![v1574.toNat, 0]
def k0_off394 (v1636 : BitVec 32) : Fin 2 → Nat :=
  let v1642 : Index := Scalar.indexCast v1636
  let c0_343 : Index := 0#32
  ![v1642.toNat, 0]

def k0_off395 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c7_i32 : BitVec 32 := 7#32
  let v1634 : BitVec 32 := Scalar.addi v141 c7_i32
  let v1649 : Index := Scalar.indexCast v1634
  let c16_344 : Index := 16#32
  ![v1649.toNat, 16]
def k0_off396 (v1636 : BitVec 32) : Fin 2 → Nat :=
  let v1652 : Index := Scalar.indexCast v1636
  let c16_345 : Index := 16#32
  ![v1652.toNat, 16]
def k0_off397 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c7_i32 : BitVec 32 := 7#32
  let v1634 : BitVec 32 := Scalar.addi v141 c7_i32
  let v1659 : Index := Scalar.indexCast v1634
  let c32_346 : Index := 32#32
  ![v1659.toNat, 32]
def k0_off398 (v1636 : BitVec 32) : Fin 2 → Nat :=
  let v1662 : Index := Scalar.indexCast v1636
  let c32_347 : Index := 32#32
  ![v1662.toNat, 32]
def k0_off399 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c7_i32 : BitVec 32 := 7#32
  let v1634 : BitVec 32 := Scalar.addi v141 c7_i32
  let v1669 : Index := Scalar.indexCast v1634
  let c48_348 : Index := 48#32
  ![v1669.toNat, 48]
def k0_off400 (v1636 : BitVec 32) : Fin 2 → Nat :=
  let v1672 : Index := Scalar.indexCast v1636
  let c48_349 : Index := 48#32
  ![v1672.toNat, 48]
def k0_off401 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c7_i32 : BitVec 32 := 7#32
  let v1634 : BitVec 32 := Scalar.addi v141 c7_i32
  let v1679 : Index := Scalar.indexCast v1634
  let c64_350 : Index := 64#32
  ![v1679.toNat, 64]
def k0_off402 (v1636 : BitVec 32) : Fin 2 → Nat :=
  let v1682 : Index := Scalar.indexCast v1636
  let c64_351 : Index := 64#32
  ![v1682.toNat, 64]
def k0_off403 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c7_i32 : BitVec 32 := 7#32
  let v1634 : BitVec 32 := Scalar.addi v141 c7_i32
  let v1689 : Index := Scalar.indexCast v1634
  let c80_352 : Index := 80#32
  ![v1689.toNat, 80]
def k0_off404 (v1636 : BitVec 32) : Fin 2 → Nat :=
  let v1692 : Index := Scalar.indexCast v1636
  let c80_353 : Index := 80#32
  ![v1692.toNat, 80]
def k0_off405 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c7_i32 : BitVec 32 := 7#32
  let v1634 : BitVec 32 := Scalar.addi v141 c7_i32
  let v1699 : Index := Scalar.indexCast v1634
  let c96_354 : Index := 96#32
  ![v1699.toNat, 96]
def k0_off406 (v1636 : BitVec 32) : Fin 2 → Nat :=
  let v1702 : Index := Scalar.indexCast v1636
  let c96_355 : Index := 96#32
  ![v1702.toNat, 96]
def k0_off407 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c7_i32 : BitVec 32 := 7#32
  let v1634 : BitVec 32 := Scalar.addi v141 c7_i32
  let v1709 : Index := Scalar.indexCast v1634
  let c112_356 : Index := 112#32
  ![v1709.toNat, 112]
def k0_off408 (v1636 : BitVec 32) : Fin 2 → Nat :=
  let v1712 : Index := Scalar.indexCast v1636
  let c112_357 : Index := 112#32
  ![v1712.toNat, 112]

def k0_chk24 (v1636 : BitVec 32) : Prop :=
  (∀ a, (k0_off394 v1636) a + S1x16.size a ≤ S400x128.size a) ∧
  (∀ a, (k0_off396 v1636) a + S1x16.size a ≤ S400x128.size a) ∧
  (∀ a, (k0_off398 v1636) a + S1x16.size a ≤ S400x128.size a) ∧
  (∀ a, (k0_off400 v1636) a + S1x16.size a ≤ S400x128.size a) ∧
  (∀ a, (k0_off402 v1636) a + S1x16.size a ≤ S400x128.size a) ∧
  (∀ a, (k0_off404 v1636) a + S1x16.size a ≤ S400x128.size a) ∧
  (∀ a, (k0_off406 v1636) a + S1x16.size a ≤ S400x128.size a) ∧
  (∀ a, (k0_off408 v1636) a + S1x16.size a ≤ S400x128.size a)
theorem k0_off394_inb : ∀ (v1636 : BitVec 32) (k0_hw24 : k0_chk24 v1636), ∀ a, (k0_off394 v1636) a + S1x16.size a ≤ S400x128.size a := fun v1636 k0_hw24 => k0_hw24.1
theorem k0_off396_inb : ∀ (v1636 : BitVec 32) (k0_hw24 : k0_chk24 v1636), ∀ a, (k0_off396 v1636) a + S1x16.size a ≤ S400x128.size a := fun v1636 k0_hw24 => k0_hw24.2.1
theorem k0_off398_inb : ∀ (v1636 : BitVec 32) (k0_hw24 : k0_chk24 v1636), ∀ a, (k0_off398 v1636) a + S1x16.size a ≤ S400x128.size a := fun v1636 k0_hw24 => k0_hw24.2.2.1
theorem k0_off400_inb : ∀ (v1636 : BitVec 32) (k0_hw24 : k0_chk24 v1636), ∀ a, (k0_off400 v1636) a + S1x16.size a ≤ S400x128.size a := fun v1636 k0_hw24 => k0_hw24.2.2.2.1
theorem k0_off402_inb : ∀ (v1636 : BitVec 32) (k0_hw24 : k0_chk24 v1636), ∀ a, (k0_off402 v1636) a + S1x16.size a ≤ S400x128.size a := fun v1636 k0_hw24 => k0_hw24.2.2.2.2.1
theorem k0_off404_inb : ∀ (v1636 : BitVec 32) (k0_hw24 : k0_chk24 v1636), ∀ a, (k0_off404 v1636) a + S1x16.size a ≤ S400x128.size a := fun v1636 k0_hw24 => k0_hw24.2.2.2.2.2.1
theorem k0_off406_inb : ∀ (v1636 : BitVec 32) (k0_hw24 : k0_chk24 v1636), ∀ a, (k0_off406 v1636) a + S1x16.size a ≤ S400x128.size a := fun v1636 k0_hw24 => k0_hw24.2.2.2.2.2.2.1
theorem k0_off408_inb : ∀ (v1636 : BitVec 32) (k0_hw24 : k0_chk24 v1636), ∀ a, (k0_off408 v1636) a + S1x16.size a ≤ S400x128.size a := fun v1636 k0_hw24 => k0_hw24.2.2.2.2.2.2.2

def k0_off409 (k0_t4 : Fin k0_t4_loop.trips) (c7_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v1634 : BitVec 32 := Scalar.addi v141 c7_i32
  let v1786 : Index := Scalar.indexCast v1634
  let c0_367 : Index := 0#32
  ![v1786.toNat, 0]
def k0_off410 (v1848 : BitVec 32) : Fin 2 → Nat :=
  let v1854 : Index := Scalar.indexCast v1848
  let c0_379 : Index := 0#32
  ![v1854.toNat, 0]

def k0_off411 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c8_i32_375 : BitVec 32 := 8#32
  let v1846 : BitVec 32 := Scalar.addi v141 c8_i32_375
  let v1861 : Index := Scalar.indexCast v1846
  let c16_380 : Index := 16#32
  ![v1861.toNat, 16]
def k0_off412 (v1848 : BitVec 32) : Fin 2 → Nat :=
  let v1864 : Index := Scalar.indexCast v1848
  let c16_381 : Index := 16#32
  ![v1864.toNat, 16]
def k0_off413 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c8_i32_375 : BitVec 32 := 8#32
  let v1846 : BitVec 32 := Scalar.addi v141 c8_i32_375
  let v1871 : Index := Scalar.indexCast v1846
  let c32_382 : Index := 32#32
  ![v1871.toNat, 32]
def k0_off414 (v1848 : BitVec 32) : Fin 2 → Nat :=
  let v1874 : Index := Scalar.indexCast v1848
  let c32_383 : Index := 32#32
  ![v1874.toNat, 32]
def k0_off415 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c8_i32_375 : BitVec 32 := 8#32
  let v1846 : BitVec 32 := Scalar.addi v141 c8_i32_375
  let v1881 : Index := Scalar.indexCast v1846
  let c48_384 : Index := 48#32
  ![v1881.toNat, 48]
def k0_off416 (v1848 : BitVec 32) : Fin 2 → Nat :=
  let v1884 : Index := Scalar.indexCast v1848
  let c48_385 : Index := 48#32
  ![v1884.toNat, 48]
def k0_off417 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c8_i32_375 : BitVec 32 := 8#32
  let v1846 : BitVec 32 := Scalar.addi v141 c8_i32_375
  let v1891 : Index := Scalar.indexCast v1846
  let c64_386 : Index := 64#32
  ![v1891.toNat, 64]
def k0_off418 (v1848 : BitVec 32) : Fin 2 → Nat :=
  let v1894 : Index := Scalar.indexCast v1848
  let c64_387 : Index := 64#32
  ![v1894.toNat, 64]
def k0_off419 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c8_i32_375 : BitVec 32 := 8#32
  let v1846 : BitVec 32 := Scalar.addi v141 c8_i32_375
  let v1901 : Index := Scalar.indexCast v1846
  let c80_388 : Index := 80#32
  ![v1901.toNat, 80]
def k0_off420 (v1848 : BitVec 32) : Fin 2 → Nat :=
  let v1904 : Index := Scalar.indexCast v1848
  let c80_389 : Index := 80#32
  ![v1904.toNat, 80]
def k0_off421 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c8_i32_375 : BitVec 32 := 8#32
  let v1846 : BitVec 32 := Scalar.addi v141 c8_i32_375
  let v1911 : Index := Scalar.indexCast v1846
  let c96_390 : Index := 96#32
  ![v1911.toNat, 96]
def k0_off422 (v1848 : BitVec 32) : Fin 2 → Nat :=
  let v1914 : Index := Scalar.indexCast v1848
  let c96_391 : Index := 96#32
  ![v1914.toNat, 96]
def k0_off423 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c8_i32_375 : BitVec 32 := 8#32
  let v1846 : BitVec 32 := Scalar.addi v141 c8_i32_375
  let v1921 : Index := Scalar.indexCast v1846
  let c112_392 : Index := 112#32
  ![v1921.toNat, 112]
def k0_off424 (v1848 : BitVec 32) : Fin 2 → Nat :=
  let v1924 : Index := Scalar.indexCast v1848
  let c112_393 : Index := 112#32
  ![v1924.toNat, 112]

def k0_chk25 (v1848 : BitVec 32) : Prop :=
  (∀ a, (k0_off410 v1848) a + S1x16.size a ≤ S400x128.size a) ∧
  (∀ a, (k0_off412 v1848) a + S1x16.size a ≤ S400x128.size a) ∧
  (∀ a, (k0_off414 v1848) a + S1x16.size a ≤ S400x128.size a) ∧
  (∀ a, (k0_off416 v1848) a + S1x16.size a ≤ S400x128.size a) ∧
  (∀ a, (k0_off418 v1848) a + S1x16.size a ≤ S400x128.size a) ∧
  (∀ a, (k0_off420 v1848) a + S1x16.size a ≤ S400x128.size a) ∧
  (∀ a, (k0_off422 v1848) a + S1x16.size a ≤ S400x128.size a) ∧
  (∀ a, (k0_off424 v1848) a + S1x16.size a ≤ S400x128.size a)
theorem k0_off410_inb : ∀ (v1848 : BitVec 32) (k0_hw25 : k0_chk25 v1848), ∀ a, (k0_off410 v1848) a + S1x16.size a ≤ S400x128.size a := fun v1848 k0_hw25 => k0_hw25.1
theorem k0_off412_inb : ∀ (v1848 : BitVec 32) (k0_hw25 : k0_chk25 v1848), ∀ a, (k0_off412 v1848) a + S1x16.size a ≤ S400x128.size a := fun v1848 k0_hw25 => k0_hw25.2.1
theorem k0_off414_inb : ∀ (v1848 : BitVec 32) (k0_hw25 : k0_chk25 v1848), ∀ a, (k0_off414 v1848) a + S1x16.size a ≤ S400x128.size a := fun v1848 k0_hw25 => k0_hw25.2.2.1
theorem k0_off416_inb : ∀ (v1848 : BitVec 32) (k0_hw25 : k0_chk25 v1848), ∀ a, (k0_off416 v1848) a + S1x16.size a ≤ S400x128.size a := fun v1848 k0_hw25 => k0_hw25.2.2.2.1
theorem k0_off418_inb : ∀ (v1848 : BitVec 32) (k0_hw25 : k0_chk25 v1848), ∀ a, (k0_off418 v1848) a + S1x16.size a ≤ S400x128.size a := fun v1848 k0_hw25 => k0_hw25.2.2.2.2.1
theorem k0_off420_inb : ∀ (v1848 : BitVec 32) (k0_hw25 : k0_chk25 v1848), ∀ a, (k0_off420 v1848) a + S1x16.size a ≤ S400x128.size a := fun v1848 k0_hw25 => k0_hw25.2.2.2.2.2.1
theorem k0_off422_inb : ∀ (v1848 : BitVec 32) (k0_hw25 : k0_chk25 v1848), ∀ a, (k0_off422 v1848) a + S1x16.size a ≤ S400x128.size a := fun v1848 k0_hw25 => k0_hw25.2.2.2.2.2.2.1
theorem k0_off424_inb : ∀ (v1848 : BitVec 32) (k0_hw25 : k0_chk25 v1848), ∀ a, (k0_off424 v1848) a + S1x16.size a ≤ S400x128.size a := fun v1848 k0_hw25 => k0_hw25.2.2.2.2.2.2.2

def k0_off425 (k0_t4 : Fin k0_t4_loop.trips) (c8_i32_375 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v1846 : BitVec 32 := Scalar.addi v141 c8_i32_375
  let v1998 : Index := Scalar.indexCast v1846
  let c0_403 : Index := 0#32
  ![v1998.toNat, 0]
def k0_off426 (v2060 : BitVec 32) : Fin 2 → Nat :=
  let v2066 : Index := Scalar.indexCast v2060
  let c0_414 : Index := 0#32
  ![v2066.toNat, 0]

def k0_off427 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c9_i32 : BitVec 32 := 9#32
  let v2058 : BitVec 32 := Scalar.addi v141 c9_i32
  let v2073 : Index := Scalar.indexCast v2058
  let c16_415 : Index := 16#32
  ![v2073.toNat, 16]
def k0_off428 (v2060 : BitVec 32) : Fin 2 → Nat :=
  let v2076 : Index := Scalar.indexCast v2060
  let c16_416 : Index := 16#32
  ![v2076.toNat, 16]
def k0_off429 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c9_i32 : BitVec 32 := 9#32
  let v2058 : BitVec 32 := Scalar.addi v141 c9_i32
  let v2083 : Index := Scalar.indexCast v2058
  let c32_417 : Index := 32#32
  ![v2083.toNat, 32]
def k0_off430 (v2060 : BitVec 32) : Fin 2 → Nat :=
  let v2086 : Index := Scalar.indexCast v2060
  let c32_418 : Index := 32#32
  ![v2086.toNat, 32]
def k0_off431 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c9_i32 : BitVec 32 := 9#32
  let v2058 : BitVec 32 := Scalar.addi v141 c9_i32
  let v2093 : Index := Scalar.indexCast v2058
  let c48_419 : Index := 48#32
  ![v2093.toNat, 48]
def k0_off432 (v2060 : BitVec 32) : Fin 2 → Nat :=
  let v2096 : Index := Scalar.indexCast v2060
  let c48_420 : Index := 48#32
  ![v2096.toNat, 48]
def k0_off433 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c9_i32 : BitVec 32 := 9#32
  let v2058 : BitVec 32 := Scalar.addi v141 c9_i32
  let v2103 : Index := Scalar.indexCast v2058
  let c64_421 : Index := 64#32
  ![v2103.toNat, 64]
def k0_off434 (v2060 : BitVec 32) : Fin 2 → Nat :=
  let v2106 : Index := Scalar.indexCast v2060
  let c64_422 : Index := 64#32
  ![v2106.toNat, 64]
def k0_off435 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c9_i32 : BitVec 32 := 9#32
  let v2058 : BitVec 32 := Scalar.addi v141 c9_i32
  let v2113 : Index := Scalar.indexCast v2058
  let c80_423 : Index := 80#32
  ![v2113.toNat, 80]
def k0_off436 (v2060 : BitVec 32) : Fin 2 → Nat :=
  let v2116 : Index := Scalar.indexCast v2060
  let c80_424 : Index := 80#32
  ![v2116.toNat, 80]
def k0_off437 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c9_i32 : BitVec 32 := 9#32
  let v2058 : BitVec 32 := Scalar.addi v141 c9_i32
  let v2123 : Index := Scalar.indexCast v2058
  let c96_425 : Index := 96#32
  ![v2123.toNat, 96]
def k0_off438 (v2060 : BitVec 32) : Fin 2 → Nat :=
  let v2126 : Index := Scalar.indexCast v2060
  let c96_426 : Index := 96#32
  ![v2126.toNat, 96]
def k0_off439 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c9_i32 : BitVec 32 := 9#32
  let v2058 : BitVec 32 := Scalar.addi v141 c9_i32
  let v2133 : Index := Scalar.indexCast v2058
  let c112_427 : Index := 112#32
  ![v2133.toNat, 112]
def k0_off440 (v2060 : BitVec 32) : Fin 2 → Nat :=
  let v2136 : Index := Scalar.indexCast v2060
  let c112_428 : Index := 112#32
  ![v2136.toNat, 112]

def k0_chk26 (v2060 : BitVec 32) : Prop :=
  (∀ a, (k0_off426 v2060) a + S1x16.size a ≤ S400x128.size a) ∧
  (∀ a, (k0_off428 v2060) a + S1x16.size a ≤ S400x128.size a) ∧
  (∀ a, (k0_off430 v2060) a + S1x16.size a ≤ S400x128.size a) ∧
  (∀ a, (k0_off432 v2060) a + S1x16.size a ≤ S400x128.size a) ∧
  (∀ a, (k0_off434 v2060) a + S1x16.size a ≤ S400x128.size a) ∧
  (∀ a, (k0_off436 v2060) a + S1x16.size a ≤ S400x128.size a) ∧
  (∀ a, (k0_off438 v2060) a + S1x16.size a ≤ S400x128.size a) ∧
  (∀ a, (k0_off440 v2060) a + S1x16.size a ≤ S400x128.size a)
theorem k0_off426_inb : ∀ (v2060 : BitVec 32) (k0_hw26 : k0_chk26 v2060), ∀ a, (k0_off426 v2060) a + S1x16.size a ≤ S400x128.size a := fun v2060 k0_hw26 => k0_hw26.1
theorem k0_off428_inb : ∀ (v2060 : BitVec 32) (k0_hw26 : k0_chk26 v2060), ∀ a, (k0_off428 v2060) a + S1x16.size a ≤ S400x128.size a := fun v2060 k0_hw26 => k0_hw26.2.1
theorem k0_off430_inb : ∀ (v2060 : BitVec 32) (k0_hw26 : k0_chk26 v2060), ∀ a, (k0_off430 v2060) a + S1x16.size a ≤ S400x128.size a := fun v2060 k0_hw26 => k0_hw26.2.2.1
theorem k0_off432_inb : ∀ (v2060 : BitVec 32) (k0_hw26 : k0_chk26 v2060), ∀ a, (k0_off432 v2060) a + S1x16.size a ≤ S400x128.size a := fun v2060 k0_hw26 => k0_hw26.2.2.2.1
theorem k0_off434_inb : ∀ (v2060 : BitVec 32) (k0_hw26 : k0_chk26 v2060), ∀ a, (k0_off434 v2060) a + S1x16.size a ≤ S400x128.size a := fun v2060 k0_hw26 => k0_hw26.2.2.2.2.1
theorem k0_off436_inb : ∀ (v2060 : BitVec 32) (k0_hw26 : k0_chk26 v2060), ∀ a, (k0_off436 v2060) a + S1x16.size a ≤ S400x128.size a := fun v2060 k0_hw26 => k0_hw26.2.2.2.2.2.1
theorem k0_off438_inb : ∀ (v2060 : BitVec 32) (k0_hw26 : k0_chk26 v2060), ∀ a, (k0_off438 v2060) a + S1x16.size a ≤ S400x128.size a := fun v2060 k0_hw26 => k0_hw26.2.2.2.2.2.2.1
theorem k0_off440_inb : ∀ (v2060 : BitVec 32) (k0_hw26 : k0_chk26 v2060), ∀ a, (k0_off440 v2060) a + S1x16.size a ≤ S400x128.size a := fun v2060 k0_hw26 => k0_hw26.2.2.2.2.2.2.2

def k0_off441 (k0_t4 : Fin k0_t4_loop.trips) (c9_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v2058 : BitVec 32 := Scalar.addi v141 c9_i32
  let v2210 : Index := Scalar.indexCast v2058
  let c0_438 : Index := 0#32
  ![v2210.toNat, 0]
def k0_off442 (v2272 : BitVec 32) : Fin 2 → Nat :=
  let v2278 : Index := Scalar.indexCast v2272
  let c0_449 : Index := 0#32
  ![v2278.toNat, 0]

def k0_off443 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c10_i32 : BitVec 32 := 10#32
  let v2270 : BitVec 32 := Scalar.addi v141 c10_i32
  let v2285 : Index := Scalar.indexCast v2270
  let c16_450 : Index := 16#32
  ![v2285.toNat, 16]
def k0_off444 (v2272 : BitVec 32) : Fin 2 → Nat :=
  let v2288 : Index := Scalar.indexCast v2272
  let c16_451 : Index := 16#32
  ![v2288.toNat, 16]
def k0_off445 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c10_i32 : BitVec 32 := 10#32
  let v2270 : BitVec 32 := Scalar.addi v141 c10_i32
  let v2295 : Index := Scalar.indexCast v2270
  let c32_452 : Index := 32#32
  ![v2295.toNat, 32]
def k0_off446 (v2272 : BitVec 32) : Fin 2 → Nat :=
  let v2298 : Index := Scalar.indexCast v2272
  let c32_453 : Index := 32#32
  ![v2298.toNat, 32]
def k0_off447 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c10_i32 : BitVec 32 := 10#32
  let v2270 : BitVec 32 := Scalar.addi v141 c10_i32
  let v2305 : Index := Scalar.indexCast v2270
  let c48_454 : Index := 48#32
  ![v2305.toNat, 48]
def k0_off448 (v2272 : BitVec 32) : Fin 2 → Nat :=
  let v2308 : Index := Scalar.indexCast v2272
  let c48_455 : Index := 48#32
  ![v2308.toNat, 48]
def k0_off449 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c10_i32 : BitVec 32 := 10#32
  let v2270 : BitVec 32 := Scalar.addi v141 c10_i32
  let v2315 : Index := Scalar.indexCast v2270
  let c64_456 : Index := 64#32
  ![v2315.toNat, 64]
def k0_off450 (v2272 : BitVec 32) : Fin 2 → Nat :=
  let v2318 : Index := Scalar.indexCast v2272
  let c64_457 : Index := 64#32
  ![v2318.toNat, 64]
def k0_off451 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c10_i32 : BitVec 32 := 10#32
  let v2270 : BitVec 32 := Scalar.addi v141 c10_i32
  let v2325 : Index := Scalar.indexCast v2270
  let c80_458 : Index := 80#32
  ![v2325.toNat, 80]
def k0_off452 (v2272 : BitVec 32) : Fin 2 → Nat :=
  let v2328 : Index := Scalar.indexCast v2272
  let c80_459 : Index := 80#32
  ![v2328.toNat, 80]
def k0_off453 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c10_i32 : BitVec 32 := 10#32
  let v2270 : BitVec 32 := Scalar.addi v141 c10_i32
  let v2335 : Index := Scalar.indexCast v2270
  let c96_460 : Index := 96#32
  ![v2335.toNat, 96]
def k0_off454 (v2272 : BitVec 32) : Fin 2 → Nat :=
  let v2338 : Index := Scalar.indexCast v2272
  let c96_461 : Index := 96#32
  ![v2338.toNat, 96]
def k0_off455 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c10_i32 : BitVec 32 := 10#32
  let v2270 : BitVec 32 := Scalar.addi v141 c10_i32
  let v2345 : Index := Scalar.indexCast v2270
  let c112_462 : Index := 112#32
  ![v2345.toNat, 112]
def k0_off456 (v2272 : BitVec 32) : Fin 2 → Nat :=
  let v2348 : Index := Scalar.indexCast v2272
  let c112_463 : Index := 112#32
  ![v2348.toNat, 112]

def k0_chk27 (v2272 : BitVec 32) : Prop :=
  (∀ a, (k0_off442 v2272) a + S1x16.size a ≤ S400x128.size a) ∧
  (∀ a, (k0_off444 v2272) a + S1x16.size a ≤ S400x128.size a) ∧
  (∀ a, (k0_off446 v2272) a + S1x16.size a ≤ S400x128.size a) ∧
  (∀ a, (k0_off448 v2272) a + S1x16.size a ≤ S400x128.size a) ∧
  (∀ a, (k0_off450 v2272) a + S1x16.size a ≤ S400x128.size a) ∧
  (∀ a, (k0_off452 v2272) a + S1x16.size a ≤ S400x128.size a) ∧
  (∀ a, (k0_off454 v2272) a + S1x16.size a ≤ S400x128.size a) ∧
  (∀ a, (k0_off456 v2272) a + S1x16.size a ≤ S400x128.size a)
theorem k0_off442_inb : ∀ (v2272 : BitVec 32) (k0_hw27 : k0_chk27 v2272), ∀ a, (k0_off442 v2272) a + S1x16.size a ≤ S400x128.size a := fun v2272 k0_hw27 => k0_hw27.1
theorem k0_off444_inb : ∀ (v2272 : BitVec 32) (k0_hw27 : k0_chk27 v2272), ∀ a, (k0_off444 v2272) a + S1x16.size a ≤ S400x128.size a := fun v2272 k0_hw27 => k0_hw27.2.1
theorem k0_off446_inb : ∀ (v2272 : BitVec 32) (k0_hw27 : k0_chk27 v2272), ∀ a, (k0_off446 v2272) a + S1x16.size a ≤ S400x128.size a := fun v2272 k0_hw27 => k0_hw27.2.2.1
theorem k0_off448_inb : ∀ (v2272 : BitVec 32) (k0_hw27 : k0_chk27 v2272), ∀ a, (k0_off448 v2272) a + S1x16.size a ≤ S400x128.size a := fun v2272 k0_hw27 => k0_hw27.2.2.2.1
theorem k0_off450_inb : ∀ (v2272 : BitVec 32) (k0_hw27 : k0_chk27 v2272), ∀ a, (k0_off450 v2272) a + S1x16.size a ≤ S400x128.size a := fun v2272 k0_hw27 => k0_hw27.2.2.2.2.1
theorem k0_off452_inb : ∀ (v2272 : BitVec 32) (k0_hw27 : k0_chk27 v2272), ∀ a, (k0_off452 v2272) a + S1x16.size a ≤ S400x128.size a := fun v2272 k0_hw27 => k0_hw27.2.2.2.2.2.1
theorem k0_off454_inb : ∀ (v2272 : BitVec 32) (k0_hw27 : k0_chk27 v2272), ∀ a, (k0_off454 v2272) a + S1x16.size a ≤ S400x128.size a := fun v2272 k0_hw27 => k0_hw27.2.2.2.2.2.2.1
theorem k0_off456_inb : ∀ (v2272 : BitVec 32) (k0_hw27 : k0_chk27 v2272), ∀ a, (k0_off456 v2272) a + S1x16.size a ≤ S400x128.size a := fun v2272 k0_hw27 => k0_hw27.2.2.2.2.2.2.2

def k0_off457 (k0_t4 : Fin k0_t4_loop.trips) (c10_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v2270 : BitVec 32 := Scalar.addi v141 c10_i32
  let v2422 : Index := Scalar.indexCast v2270
  let c0_473 : Index := 0#32
  ![v2422.toNat, 0]
def k0_off458 (v2484 : BitVec 32) : Fin 2 → Nat :=
  let v2490 : Index := Scalar.indexCast v2484
  let c0_484 : Index := 0#32
  ![v2490.toNat, 0]

def k0_off459 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c11_i32 : BitVec 32 := 11#32
  let v2482 : BitVec 32 := Scalar.addi v141 c11_i32
  let v2497 : Index := Scalar.indexCast v2482
  let c16_485 : Index := 16#32
  ![v2497.toNat, 16]
def k0_off460 (v2484 : BitVec 32) : Fin 2 → Nat :=
  let v2500 : Index := Scalar.indexCast v2484
  let c16_486 : Index := 16#32
  ![v2500.toNat, 16]
def k0_off461 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c11_i32 : BitVec 32 := 11#32
  let v2482 : BitVec 32 := Scalar.addi v141 c11_i32
  let v2507 : Index := Scalar.indexCast v2482
  let c32_487 : Index := 32#32
  ![v2507.toNat, 32]
def k0_off462 (v2484 : BitVec 32) : Fin 2 → Nat :=
  let v2510 : Index := Scalar.indexCast v2484
  let c32_488 : Index := 32#32
  ![v2510.toNat, 32]
def k0_off463 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c11_i32 : BitVec 32 := 11#32
  let v2482 : BitVec 32 := Scalar.addi v141 c11_i32
  let v2517 : Index := Scalar.indexCast v2482
  let c48_489 : Index := 48#32
  ![v2517.toNat, 48]
def k0_off464 (v2484 : BitVec 32) : Fin 2 → Nat :=
  let v2520 : Index := Scalar.indexCast v2484
  let c48_490 : Index := 48#32
  ![v2520.toNat, 48]
def k0_off465 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c11_i32 : BitVec 32 := 11#32
  let v2482 : BitVec 32 := Scalar.addi v141 c11_i32
  let v2527 : Index := Scalar.indexCast v2482
  let c64_491 : Index := 64#32
  ![v2527.toNat, 64]
def k0_off466 (v2484 : BitVec 32) : Fin 2 → Nat :=
  let v2530 : Index := Scalar.indexCast v2484
  let c64_492 : Index := 64#32
  ![v2530.toNat, 64]
def k0_off467 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c11_i32 : BitVec 32 := 11#32
  let v2482 : BitVec 32 := Scalar.addi v141 c11_i32
  let v2537 : Index := Scalar.indexCast v2482
  let c80_493 : Index := 80#32
  ![v2537.toNat, 80]
def k0_off468 (v2484 : BitVec 32) : Fin 2 → Nat :=
  let v2540 : Index := Scalar.indexCast v2484
  let c80_494 : Index := 80#32
  ![v2540.toNat, 80]
def k0_off469 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c11_i32 : BitVec 32 := 11#32
  let v2482 : BitVec 32 := Scalar.addi v141 c11_i32
  let v2547 : Index := Scalar.indexCast v2482
  let c96_495 : Index := 96#32
  ![v2547.toNat, 96]
def k0_off470 (v2484 : BitVec 32) : Fin 2 → Nat :=
  let v2550 : Index := Scalar.indexCast v2484
  let c96_496 : Index := 96#32
  ![v2550.toNat, 96]
def k0_off471 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c11_i32 : BitVec 32 := 11#32
  let v2482 : BitVec 32 := Scalar.addi v141 c11_i32
  let v2557 : Index := Scalar.indexCast v2482
  let c112_497 : Index := 112#32
  ![v2557.toNat, 112]
def k0_off472 (v2484 : BitVec 32) : Fin 2 → Nat :=
  let v2560 : Index := Scalar.indexCast v2484
  let c112_498 : Index := 112#32
  ![v2560.toNat, 112]

def k0_chk28 (v2484 : BitVec 32) : Prop :=
  (∀ a, (k0_off458 v2484) a + S1x16.size a ≤ S400x128.size a) ∧
  (∀ a, (k0_off460 v2484) a + S1x16.size a ≤ S400x128.size a) ∧
  (∀ a, (k0_off462 v2484) a + S1x16.size a ≤ S400x128.size a) ∧
  (∀ a, (k0_off464 v2484) a + S1x16.size a ≤ S400x128.size a) ∧
  (∀ a, (k0_off466 v2484) a + S1x16.size a ≤ S400x128.size a) ∧
  (∀ a, (k0_off468 v2484) a + S1x16.size a ≤ S400x128.size a) ∧
  (∀ a, (k0_off470 v2484) a + S1x16.size a ≤ S400x128.size a) ∧
  (∀ a, (k0_off472 v2484) a + S1x16.size a ≤ S400x128.size a)
theorem k0_off458_inb : ∀ (v2484 : BitVec 32) (k0_hw28 : k0_chk28 v2484), ∀ a, (k0_off458 v2484) a + S1x16.size a ≤ S400x128.size a := fun v2484 k0_hw28 => k0_hw28.1
theorem k0_off460_inb : ∀ (v2484 : BitVec 32) (k0_hw28 : k0_chk28 v2484), ∀ a, (k0_off460 v2484) a + S1x16.size a ≤ S400x128.size a := fun v2484 k0_hw28 => k0_hw28.2.1
theorem k0_off462_inb : ∀ (v2484 : BitVec 32) (k0_hw28 : k0_chk28 v2484), ∀ a, (k0_off462 v2484) a + S1x16.size a ≤ S400x128.size a := fun v2484 k0_hw28 => k0_hw28.2.2.1
theorem k0_off464_inb : ∀ (v2484 : BitVec 32) (k0_hw28 : k0_chk28 v2484), ∀ a, (k0_off464 v2484) a + S1x16.size a ≤ S400x128.size a := fun v2484 k0_hw28 => k0_hw28.2.2.2.1
theorem k0_off466_inb : ∀ (v2484 : BitVec 32) (k0_hw28 : k0_chk28 v2484), ∀ a, (k0_off466 v2484) a + S1x16.size a ≤ S400x128.size a := fun v2484 k0_hw28 => k0_hw28.2.2.2.2.1
theorem k0_off468_inb : ∀ (v2484 : BitVec 32) (k0_hw28 : k0_chk28 v2484), ∀ a, (k0_off468 v2484) a + S1x16.size a ≤ S400x128.size a := fun v2484 k0_hw28 => k0_hw28.2.2.2.2.2.1
theorem k0_off470_inb : ∀ (v2484 : BitVec 32) (k0_hw28 : k0_chk28 v2484), ∀ a, (k0_off470 v2484) a + S1x16.size a ≤ S400x128.size a := fun v2484 k0_hw28 => k0_hw28.2.2.2.2.2.2.1
theorem k0_off472_inb : ∀ (v2484 : BitVec 32) (k0_hw28 : k0_chk28 v2484), ∀ a, (k0_off472 v2484) a + S1x16.size a ≤ S400x128.size a := fun v2484 k0_hw28 => k0_hw28.2.2.2.2.2.2.2

def k0_off473 (k0_t4 : Fin k0_t4_loop.trips) (c11_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v2482 : BitVec 32 := Scalar.addi v141 c11_i32
  let v2634 : Index := Scalar.indexCast v2482
  let c0_508 : Index := 0#32
  ![v2634.toNat, 0]
def k0_off474 (v2696 : BitVec 32) : Fin 2 → Nat :=
  let v2702 : Index := Scalar.indexCast v2696
  let c0_519 : Index := 0#32
  ![v2702.toNat, 0]

def k0_off475 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c12_i32 : BitVec 32 := 12#32
  let v2694 : BitVec 32 := Scalar.addi v141 c12_i32
  let v2709 : Index := Scalar.indexCast v2694
  let c16_520 : Index := 16#32
  ![v2709.toNat, 16]
def k0_off476 (v2696 : BitVec 32) : Fin 2 → Nat :=
  let v2712 : Index := Scalar.indexCast v2696
  let c16_521 : Index := 16#32
  ![v2712.toNat, 16]
def k0_off477 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c12_i32 : BitVec 32 := 12#32
  let v2694 : BitVec 32 := Scalar.addi v141 c12_i32
  let v2719 : Index := Scalar.indexCast v2694
  let c32_522 : Index := 32#32
  ![v2719.toNat, 32]
def k0_off478 (v2696 : BitVec 32) : Fin 2 → Nat :=
  let v2722 : Index := Scalar.indexCast v2696
  let c32_523 : Index := 32#32
  ![v2722.toNat, 32]
def k0_off479 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c12_i32 : BitVec 32 := 12#32
  let v2694 : BitVec 32 := Scalar.addi v141 c12_i32
  let v2729 : Index := Scalar.indexCast v2694
  let c48_524 : Index := 48#32
  ![v2729.toNat, 48]
def k0_off480 (v2696 : BitVec 32) : Fin 2 → Nat :=
  let v2732 : Index := Scalar.indexCast v2696
  let c48_525 : Index := 48#32
  ![v2732.toNat, 48]
def k0_off481 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c12_i32 : BitVec 32 := 12#32
  let v2694 : BitVec 32 := Scalar.addi v141 c12_i32
  let v2739 : Index := Scalar.indexCast v2694
  let c64_526 : Index := 64#32
  ![v2739.toNat, 64]
def k0_off482 (v2696 : BitVec 32) : Fin 2 → Nat :=
  let v2742 : Index := Scalar.indexCast v2696
  let c64_527 : Index := 64#32
  ![v2742.toNat, 64]
def k0_off483 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c12_i32 : BitVec 32 := 12#32
  let v2694 : BitVec 32 := Scalar.addi v141 c12_i32
  let v2749 : Index := Scalar.indexCast v2694
  let c80_528 : Index := 80#32
  ![v2749.toNat, 80]
def k0_off484 (v2696 : BitVec 32) : Fin 2 → Nat :=
  let v2752 : Index := Scalar.indexCast v2696
  let c80_529 : Index := 80#32
  ![v2752.toNat, 80]
def k0_off485 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c12_i32 : BitVec 32 := 12#32
  let v2694 : BitVec 32 := Scalar.addi v141 c12_i32
  let v2759 : Index := Scalar.indexCast v2694
  let c96_530 : Index := 96#32
  ![v2759.toNat, 96]
def k0_off486 (v2696 : BitVec 32) : Fin 2 → Nat :=
  let v2762 : Index := Scalar.indexCast v2696
  let c96_531 : Index := 96#32
  ![v2762.toNat, 96]
def k0_off487 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c12_i32 : BitVec 32 := 12#32
  let v2694 : BitVec 32 := Scalar.addi v141 c12_i32
  let v2769 : Index := Scalar.indexCast v2694
  let c112_532 : Index := 112#32
  ![v2769.toNat, 112]
def k0_off488 (v2696 : BitVec 32) : Fin 2 → Nat :=
  let v2772 : Index := Scalar.indexCast v2696
  let c112_533 : Index := 112#32
  ![v2772.toNat, 112]

def k0_chk29 (v2696 : BitVec 32) : Prop :=
  (∀ a, (k0_off474 v2696) a + S1x16.size a ≤ S400x128.size a) ∧
  (∀ a, (k0_off476 v2696) a + S1x16.size a ≤ S400x128.size a) ∧
  (∀ a, (k0_off478 v2696) a + S1x16.size a ≤ S400x128.size a) ∧
  (∀ a, (k0_off480 v2696) a + S1x16.size a ≤ S400x128.size a) ∧
  (∀ a, (k0_off482 v2696) a + S1x16.size a ≤ S400x128.size a) ∧
  (∀ a, (k0_off484 v2696) a + S1x16.size a ≤ S400x128.size a) ∧
  (∀ a, (k0_off486 v2696) a + S1x16.size a ≤ S400x128.size a) ∧
  (∀ a, (k0_off488 v2696) a + S1x16.size a ≤ S400x128.size a)
theorem k0_off474_inb : ∀ (v2696 : BitVec 32) (k0_hw29 : k0_chk29 v2696), ∀ a, (k0_off474 v2696) a + S1x16.size a ≤ S400x128.size a := fun v2696 k0_hw29 => k0_hw29.1
theorem k0_off476_inb : ∀ (v2696 : BitVec 32) (k0_hw29 : k0_chk29 v2696), ∀ a, (k0_off476 v2696) a + S1x16.size a ≤ S400x128.size a := fun v2696 k0_hw29 => k0_hw29.2.1
theorem k0_off478_inb : ∀ (v2696 : BitVec 32) (k0_hw29 : k0_chk29 v2696), ∀ a, (k0_off478 v2696) a + S1x16.size a ≤ S400x128.size a := fun v2696 k0_hw29 => k0_hw29.2.2.1
theorem k0_off480_inb : ∀ (v2696 : BitVec 32) (k0_hw29 : k0_chk29 v2696), ∀ a, (k0_off480 v2696) a + S1x16.size a ≤ S400x128.size a := fun v2696 k0_hw29 => k0_hw29.2.2.2.1
theorem k0_off482_inb : ∀ (v2696 : BitVec 32) (k0_hw29 : k0_chk29 v2696), ∀ a, (k0_off482 v2696) a + S1x16.size a ≤ S400x128.size a := fun v2696 k0_hw29 => k0_hw29.2.2.2.2.1
theorem k0_off484_inb : ∀ (v2696 : BitVec 32) (k0_hw29 : k0_chk29 v2696), ∀ a, (k0_off484 v2696) a + S1x16.size a ≤ S400x128.size a := fun v2696 k0_hw29 => k0_hw29.2.2.2.2.2.1
theorem k0_off486_inb : ∀ (v2696 : BitVec 32) (k0_hw29 : k0_chk29 v2696), ∀ a, (k0_off486 v2696) a + S1x16.size a ≤ S400x128.size a := fun v2696 k0_hw29 => k0_hw29.2.2.2.2.2.2.1
theorem k0_off488_inb : ∀ (v2696 : BitVec 32) (k0_hw29 : k0_chk29 v2696), ∀ a, (k0_off488 v2696) a + S1x16.size a ≤ S400x128.size a := fun v2696 k0_hw29 => k0_hw29.2.2.2.2.2.2.2

def k0_off489 (k0_t4 : Fin k0_t4_loop.trips) (c12_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v2694 : BitVec 32 := Scalar.addi v141 c12_i32
  let v2846 : Index := Scalar.indexCast v2694
  let c0_543 : Index := 0#32
  ![v2846.toNat, 0]
def k0_off490 (v2908 : BitVec 32) : Fin 2 → Nat :=
  let v2914 : Index := Scalar.indexCast v2908
  let c0_554 : Index := 0#32
  ![v2914.toNat, 0]

def k0_off491 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c13_i32 : BitVec 32 := 13#32
  let v2906 : BitVec 32 := Scalar.addi v141 c13_i32
  let v2921 : Index := Scalar.indexCast v2906
  let c16_555 : Index := 16#32
  ![v2921.toNat, 16]
def k0_off492 (v2908 : BitVec 32) : Fin 2 → Nat :=
  let v2924 : Index := Scalar.indexCast v2908
  let c16_556 : Index := 16#32
  ![v2924.toNat, 16]
def k0_off493 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c13_i32 : BitVec 32 := 13#32
  let v2906 : BitVec 32 := Scalar.addi v141 c13_i32
  let v2931 : Index := Scalar.indexCast v2906
  let c32_557 : Index := 32#32
  ![v2931.toNat, 32]
def k0_off494 (v2908 : BitVec 32) : Fin 2 → Nat :=
  let v2934 : Index := Scalar.indexCast v2908
  let c32_558 : Index := 32#32
  ![v2934.toNat, 32]
def k0_off495 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c13_i32 : BitVec 32 := 13#32
  let v2906 : BitVec 32 := Scalar.addi v141 c13_i32
  let v2941 : Index := Scalar.indexCast v2906
  let c48_559 : Index := 48#32
  ![v2941.toNat, 48]
def k0_off496 (v2908 : BitVec 32) : Fin 2 → Nat :=
  let v2944 : Index := Scalar.indexCast v2908
  let c48_560 : Index := 48#32
  ![v2944.toNat, 48]
def k0_off497 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c13_i32 : BitVec 32 := 13#32
  let v2906 : BitVec 32 := Scalar.addi v141 c13_i32
  let v2951 : Index := Scalar.indexCast v2906
  let c64_561 : Index := 64#32
  ![v2951.toNat, 64]
def k0_off498 (v2908 : BitVec 32) : Fin 2 → Nat :=
  let v2954 : Index := Scalar.indexCast v2908
  let c64_562 : Index := 64#32
  ![v2954.toNat, 64]
def k0_off499 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c13_i32 : BitVec 32 := 13#32
  let v2906 : BitVec 32 := Scalar.addi v141 c13_i32
  let v2961 : Index := Scalar.indexCast v2906
  let c80_563 : Index := 80#32
  ![v2961.toNat, 80]
def k0_off500 (v2908 : BitVec 32) : Fin 2 → Nat :=
  let v2964 : Index := Scalar.indexCast v2908
  let c80_564 : Index := 80#32
  ![v2964.toNat, 80]
def k0_off501 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c13_i32 : BitVec 32 := 13#32
  let v2906 : BitVec 32 := Scalar.addi v141 c13_i32
  let v2971 : Index := Scalar.indexCast v2906
  let c96_565 : Index := 96#32
  ![v2971.toNat, 96]
def k0_off502 (v2908 : BitVec 32) : Fin 2 → Nat :=
  let v2974 : Index := Scalar.indexCast v2908
  let c96_566 : Index := 96#32
  ![v2974.toNat, 96]
def k0_off503 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c13_i32 : BitVec 32 := 13#32
  let v2906 : BitVec 32 := Scalar.addi v141 c13_i32
  let v2981 : Index := Scalar.indexCast v2906
  let c112_567 : Index := 112#32
  ![v2981.toNat, 112]
def k0_off504 (v2908 : BitVec 32) : Fin 2 → Nat :=
  let v2984 : Index := Scalar.indexCast v2908
  let c112_568 : Index := 112#32
  ![v2984.toNat, 112]

def k0_chk30 (v2908 : BitVec 32) : Prop :=
  (∀ a, (k0_off490 v2908) a + S1x16.size a ≤ S400x128.size a) ∧
  (∀ a, (k0_off492 v2908) a + S1x16.size a ≤ S400x128.size a) ∧
  (∀ a, (k0_off494 v2908) a + S1x16.size a ≤ S400x128.size a) ∧
  (∀ a, (k0_off496 v2908) a + S1x16.size a ≤ S400x128.size a) ∧
  (∀ a, (k0_off498 v2908) a + S1x16.size a ≤ S400x128.size a) ∧
  (∀ a, (k0_off500 v2908) a + S1x16.size a ≤ S400x128.size a) ∧
  (∀ a, (k0_off502 v2908) a + S1x16.size a ≤ S400x128.size a) ∧
  (∀ a, (k0_off504 v2908) a + S1x16.size a ≤ S400x128.size a)
theorem k0_off490_inb : ∀ (v2908 : BitVec 32) (k0_hw30 : k0_chk30 v2908), ∀ a, (k0_off490 v2908) a + S1x16.size a ≤ S400x128.size a := fun v2908 k0_hw30 => k0_hw30.1
theorem k0_off492_inb : ∀ (v2908 : BitVec 32) (k0_hw30 : k0_chk30 v2908), ∀ a, (k0_off492 v2908) a + S1x16.size a ≤ S400x128.size a := fun v2908 k0_hw30 => k0_hw30.2.1
theorem k0_off494_inb : ∀ (v2908 : BitVec 32) (k0_hw30 : k0_chk30 v2908), ∀ a, (k0_off494 v2908) a + S1x16.size a ≤ S400x128.size a := fun v2908 k0_hw30 => k0_hw30.2.2.1
theorem k0_off496_inb : ∀ (v2908 : BitVec 32) (k0_hw30 : k0_chk30 v2908), ∀ a, (k0_off496 v2908) a + S1x16.size a ≤ S400x128.size a := fun v2908 k0_hw30 => k0_hw30.2.2.2.1
theorem k0_off498_inb : ∀ (v2908 : BitVec 32) (k0_hw30 : k0_chk30 v2908), ∀ a, (k0_off498 v2908) a + S1x16.size a ≤ S400x128.size a := fun v2908 k0_hw30 => k0_hw30.2.2.2.2.1
theorem k0_off500_inb : ∀ (v2908 : BitVec 32) (k0_hw30 : k0_chk30 v2908), ∀ a, (k0_off500 v2908) a + S1x16.size a ≤ S400x128.size a := fun v2908 k0_hw30 => k0_hw30.2.2.2.2.2.1
theorem k0_off502_inb : ∀ (v2908 : BitVec 32) (k0_hw30 : k0_chk30 v2908), ∀ a, (k0_off502 v2908) a + S1x16.size a ≤ S400x128.size a := fun v2908 k0_hw30 => k0_hw30.2.2.2.2.2.2.1
theorem k0_off504_inb : ∀ (v2908 : BitVec 32) (k0_hw30 : k0_chk30 v2908), ∀ a, (k0_off504 v2908) a + S1x16.size a ≤ S400x128.size a := fun v2908 k0_hw30 => k0_hw30.2.2.2.2.2.2.2

def k0_off505 (k0_t4 : Fin k0_t4_loop.trips) (c13_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v2906 : BitVec 32 := Scalar.addi v141 c13_i32
  let v3058 : Index := Scalar.indexCast v2906
  let c0_578 : Index := 0#32
  ![v3058.toNat, 0]
def k0_off506 (v3120 : BitVec 32) : Fin 2 → Nat :=
  let v3126 : Index := Scalar.indexCast v3120
  let c0_589 : Index := 0#32
  ![v3126.toNat, 0]

def k0_off507 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c14_i32 : BitVec 32 := 14#32
  let v3118 : BitVec 32 := Scalar.addi v141 c14_i32
  let v3133 : Index := Scalar.indexCast v3118
  let c16_590 : Index := 16#32
  ![v3133.toNat, 16]
def k0_off508 (v3120 : BitVec 32) : Fin 2 → Nat :=
  let v3136 : Index := Scalar.indexCast v3120
  let c16_591 : Index := 16#32
  ![v3136.toNat, 16]
def k0_off509 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c14_i32 : BitVec 32 := 14#32
  let v3118 : BitVec 32 := Scalar.addi v141 c14_i32
  let v3143 : Index := Scalar.indexCast v3118
  let c32_592 : Index := 32#32
  ![v3143.toNat, 32]
def k0_off510 (v3120 : BitVec 32) : Fin 2 → Nat :=
  let v3146 : Index := Scalar.indexCast v3120
  let c32_593 : Index := 32#32
  ![v3146.toNat, 32]
def k0_off511 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c14_i32 : BitVec 32 := 14#32
  let v3118 : BitVec 32 := Scalar.addi v141 c14_i32
  let v3153 : Index := Scalar.indexCast v3118
  let c48_594 : Index := 48#32
  ![v3153.toNat, 48]
def k0_off512 (v3120 : BitVec 32) : Fin 2 → Nat :=
  let v3156 : Index := Scalar.indexCast v3120
  let c48_595 : Index := 48#32
  ![v3156.toNat, 48]
def k0_off513 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c14_i32 : BitVec 32 := 14#32
  let v3118 : BitVec 32 := Scalar.addi v141 c14_i32
  let v3163 : Index := Scalar.indexCast v3118
  let c64_596 : Index := 64#32
  ![v3163.toNat, 64]
def k0_off514 (v3120 : BitVec 32) : Fin 2 → Nat :=
  let v3166 : Index := Scalar.indexCast v3120
  let c64_597 : Index := 64#32
  ![v3166.toNat, 64]
def k0_off515 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c14_i32 : BitVec 32 := 14#32
  let v3118 : BitVec 32 := Scalar.addi v141 c14_i32
  let v3173 : Index := Scalar.indexCast v3118
  let c80_598 : Index := 80#32
  ![v3173.toNat, 80]
def k0_off516 (v3120 : BitVec 32) : Fin 2 → Nat :=
  let v3176 : Index := Scalar.indexCast v3120
  let c80_599 : Index := 80#32
  ![v3176.toNat, 80]
def k0_off517 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c14_i32 : BitVec 32 := 14#32
  let v3118 : BitVec 32 := Scalar.addi v141 c14_i32
  let v3183 : Index := Scalar.indexCast v3118
  let c96_600 : Index := 96#32
  ![v3183.toNat, 96]
def k0_off518 (v3120 : BitVec 32) : Fin 2 → Nat :=
  let v3186 : Index := Scalar.indexCast v3120
  let c96_601 : Index := 96#32
  ![v3186.toNat, 96]
def k0_off519 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c14_i32 : BitVec 32 := 14#32
  let v3118 : BitVec 32 := Scalar.addi v141 c14_i32
  let v3193 : Index := Scalar.indexCast v3118
  let c112_602 : Index := 112#32
  ![v3193.toNat, 112]
def k0_off520 (v3120 : BitVec 32) : Fin 2 → Nat :=
  let v3196 : Index := Scalar.indexCast v3120
  let c112_603 : Index := 112#32
  ![v3196.toNat, 112]

def k0_chk31 (v3120 : BitVec 32) : Prop :=
  (∀ a, (k0_off506 v3120) a + S1x16.size a ≤ S400x128.size a) ∧
  (∀ a, (k0_off508 v3120) a + S1x16.size a ≤ S400x128.size a) ∧
  (∀ a, (k0_off510 v3120) a + S1x16.size a ≤ S400x128.size a) ∧
  (∀ a, (k0_off512 v3120) a + S1x16.size a ≤ S400x128.size a) ∧
  (∀ a, (k0_off514 v3120) a + S1x16.size a ≤ S400x128.size a) ∧
  (∀ a, (k0_off516 v3120) a + S1x16.size a ≤ S400x128.size a) ∧
  (∀ a, (k0_off518 v3120) a + S1x16.size a ≤ S400x128.size a) ∧
  (∀ a, (k0_off520 v3120) a + S1x16.size a ≤ S400x128.size a)
theorem k0_off506_inb : ∀ (v3120 : BitVec 32) (k0_hw31 : k0_chk31 v3120), ∀ a, (k0_off506 v3120) a + S1x16.size a ≤ S400x128.size a := fun v3120 k0_hw31 => k0_hw31.1
theorem k0_off508_inb : ∀ (v3120 : BitVec 32) (k0_hw31 : k0_chk31 v3120), ∀ a, (k0_off508 v3120) a + S1x16.size a ≤ S400x128.size a := fun v3120 k0_hw31 => k0_hw31.2.1
theorem k0_off510_inb : ∀ (v3120 : BitVec 32) (k0_hw31 : k0_chk31 v3120), ∀ a, (k0_off510 v3120) a + S1x16.size a ≤ S400x128.size a := fun v3120 k0_hw31 => k0_hw31.2.2.1
theorem k0_off512_inb : ∀ (v3120 : BitVec 32) (k0_hw31 : k0_chk31 v3120), ∀ a, (k0_off512 v3120) a + S1x16.size a ≤ S400x128.size a := fun v3120 k0_hw31 => k0_hw31.2.2.2.1
theorem k0_off514_inb : ∀ (v3120 : BitVec 32) (k0_hw31 : k0_chk31 v3120), ∀ a, (k0_off514 v3120) a + S1x16.size a ≤ S400x128.size a := fun v3120 k0_hw31 => k0_hw31.2.2.2.2.1
theorem k0_off516_inb : ∀ (v3120 : BitVec 32) (k0_hw31 : k0_chk31 v3120), ∀ a, (k0_off516 v3120) a + S1x16.size a ≤ S400x128.size a := fun v3120 k0_hw31 => k0_hw31.2.2.2.2.2.1
theorem k0_off518_inb : ∀ (v3120 : BitVec 32) (k0_hw31 : k0_chk31 v3120), ∀ a, (k0_off518 v3120) a + S1x16.size a ≤ S400x128.size a := fun v3120 k0_hw31 => k0_hw31.2.2.2.2.2.2.1
theorem k0_off520_inb : ∀ (v3120 : BitVec 32) (k0_hw31 : k0_chk31 v3120), ∀ a, (k0_off520 v3120) a + S1x16.size a ≤ S400x128.size a := fun v3120 k0_hw31 => k0_hw31.2.2.2.2.2.2.2

def k0_off521 (k0_t4 : Fin k0_t4_loop.trips) (c14_i32 : BitVec 32) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let v3118 : BitVec 32 := Scalar.addi v141 c14_i32
  let v3270 : Index := Scalar.indexCast v3118
  let c0_613 : Index := 0#32
  ![v3270.toNat, 0]
def k0_off522 (v3332 : BitVec 32) : Fin 2 → Nat :=
  let v3338 : Index := Scalar.indexCast v3332
  let c0_624 : Index := 0#32
  ![v3338.toNat, 0]

def k0_off523 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3345 : Index := Scalar.indexCast v3330
  let c16_625 : Index := 16#32
  ![v3345.toNat, 16]
def k0_off524 (v3332 : BitVec 32) : Fin 2 → Nat :=
  let v3348 : Index := Scalar.indexCast v3332
  let c16_626 : Index := 16#32
  ![v3348.toNat, 16]
def k0_off525 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3355 : Index := Scalar.indexCast v3330
  let c32_627 : Index := 32#32
  ![v3355.toNat, 32]
def k0_off526 (v3332 : BitVec 32) : Fin 2 → Nat :=
  let v3358 : Index := Scalar.indexCast v3332
  let c32_628 : Index := 32#32
  ![v3358.toNat, 32]
def k0_off527 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3365 : Index := Scalar.indexCast v3330
  let c48_629 : Index := 48#32
  ![v3365.toNat, 48]
def k0_off528 (v3332 : BitVec 32) : Fin 2 → Nat :=
  let v3368 : Index := Scalar.indexCast v3332
  let c48_630 : Index := 48#32
  ![v3368.toNat, 48]
def k0_off529 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3375 : Index := Scalar.indexCast v3330
  let c64_631 : Index := 64#32
  ![v3375.toNat, 64]
def k0_off530 (v3332 : BitVec 32) : Fin 2 → Nat :=
  let v3378 : Index := Scalar.indexCast v3332
  let c64_632 : Index := 64#32
  ![v3378.toNat, 64]
def k0_off531 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3385 : Index := Scalar.indexCast v3330
  let c80_633 : Index := 80#32
  ![v3385.toNat, 80]
def k0_off532 (v3332 : BitVec 32) : Fin 2 → Nat :=
  let v3388 : Index := Scalar.indexCast v3332
  let c80_634 : Index := 80#32
  ![v3388.toNat, 80]
def k0_off533 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3395 : Index := Scalar.indexCast v3330
  let c96_635 : Index := 96#32
  ![v3395.toNat, 96]
def k0_off534 (v3332 : BitVec 32) : Fin 2 → Nat :=
  let v3398 : Index := Scalar.indexCast v3332
  let c96_636 : Index := 96#32
  ![v3398.toNat, 96]
def k0_off535 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3405 : Index := Scalar.indexCast v3330
  let c112_637 : Index := 112#32
  ![v3405.toNat, 112]
def k0_off536 (v3332 : BitVec 32) : Fin 2 → Nat :=
  let v3408 : Index := Scalar.indexCast v3332
  let c112_638 : Index := 112#32
  ![v3408.toNat, 112]

def k0_chk32 (v3332 : BitVec 32) : Prop :=
  (∀ a, (k0_off522 v3332) a + S1x16.size a ≤ S400x128.size a) ∧
  (∀ a, (k0_off524 v3332) a + S1x16.size a ≤ S400x128.size a) ∧
  (∀ a, (k0_off526 v3332) a + S1x16.size a ≤ S400x128.size a) ∧
  (∀ a, (k0_off528 v3332) a + S1x16.size a ≤ S400x128.size a) ∧
  (∀ a, (k0_off530 v3332) a + S1x16.size a ≤ S400x128.size a) ∧
  (∀ a, (k0_off532 v3332) a + S1x16.size a ≤ S400x128.size a) ∧
  (∀ a, (k0_off534 v3332) a + S1x16.size a ≤ S400x128.size a) ∧
  (∀ a, (k0_off536 v3332) a + S1x16.size a ≤ S400x128.size a)
theorem k0_off522_inb : ∀ (v3332 : BitVec 32) (k0_hw32 : k0_chk32 v3332), ∀ a, (k0_off522 v3332) a + S1x16.size a ≤ S400x128.size a := fun v3332 k0_hw32 => k0_hw32.1
theorem k0_off524_inb : ∀ (v3332 : BitVec 32) (k0_hw32 : k0_chk32 v3332), ∀ a, (k0_off524 v3332) a + S1x16.size a ≤ S400x128.size a := fun v3332 k0_hw32 => k0_hw32.2.1
theorem k0_off526_inb : ∀ (v3332 : BitVec 32) (k0_hw32 : k0_chk32 v3332), ∀ a, (k0_off526 v3332) a + S1x16.size a ≤ S400x128.size a := fun v3332 k0_hw32 => k0_hw32.2.2.1
theorem k0_off528_inb : ∀ (v3332 : BitVec 32) (k0_hw32 : k0_chk32 v3332), ∀ a, (k0_off528 v3332) a + S1x16.size a ≤ S400x128.size a := fun v3332 k0_hw32 => k0_hw32.2.2.2.1
theorem k0_off530_inb : ∀ (v3332 : BitVec 32) (k0_hw32 : k0_chk32 v3332), ∀ a, (k0_off530 v3332) a + S1x16.size a ≤ S400x128.size a := fun v3332 k0_hw32 => k0_hw32.2.2.2.2.1
theorem k0_off532_inb : ∀ (v3332 : BitVec 32) (k0_hw32 : k0_chk32 v3332), ∀ a, (k0_off532 v3332) a + S1x16.size a ≤ S400x128.size a := fun v3332 k0_hw32 => k0_hw32.2.2.2.2.2.1
theorem k0_off534_inb : ∀ (v3332 : BitVec 32) (k0_hw32 : k0_chk32 v3332), ∀ a, (k0_off534 v3332) a + S1x16.size a ≤ S400x128.size a := fun v3332 k0_hw32 => k0_hw32.2.2.2.2.2.2.1
theorem k0_off536_inb : ∀ (v3332 : BitVec 32) (k0_hw32 : k0_chk32 v3332), ∀ a, (k0_off536 v3332) a + S1x16.size a ≤ S400x128.size a := fun v3332 k0_hw32 => k0_hw32.2.2.2.2.2.2.2

def k0_off537 (k0_t4 : Fin k0_t4_loop.trips) : Fin 2 → Nat :=
  let c0_i32_84 : BitVec 32 := 0#32
  let c1_i32_86 : BitVec 32 := 1#32
  let arg24 : BitVec 32 := Scf.iv c0_i32_84 c1_i32_86 k0_t4
  let c16_i32 : BitVec 32 := 16#32
  let v141 : BitVec 32 := Scalar.muli arg24 c16_i32
  let c15_i32 : BitVec 32 := 15#32
  let v3330 : BitVec 32 := Scalar.addi v141 c15_i32
  let v3482 : Index := Scalar.indexCast v3330
  let c0_648 : Index := 0#32
  ![v3482.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S200 : Shape := ⟨1, ![200]⟩
abbrev S1x200 : Shape := ⟨2, ![1, 200]⟩
abbrev S1x200x1 : Shape := ⟨3, ![1, 200, 1]⟩
abbrev S1x200x128 : Shape := ⟨3, ![1, 200, 128]⟩
abbrev S1x1x128 : Shape := ⟨3, ![1, 1, 128]⟩

abbrev nBuf : Space → Nat
  | .hbm => 125
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S1024x200, .i32⟩
  | .hbm, ⟨9, _⟩ => ⟨S1024x200, .i1⟩
  | .hbm, ⟨10, _⟩ => ⟨S_, .i32⟩
  | .hbm, ⟨11, _⟩ => ⟨S1024x200, .i32⟩
  | .hbm, ⟨12, _⟩ => ⟨S1024x200, .i32⟩
  | .hbm, ⟨13, _⟩ => ⟨S1024x200, .i32⟩
  | .hbm, ⟨14, _⟩ => ⟨S1024x200x1, .i32⟩
  | .hbm, ⟨15, _⟩ => ⟨S1, .i32⟩
  | .hbm, ⟨16, _⟩ => ⟨S_, .i32⟩
  | .hbm, ⟨17, _⟩ => ⟨S1024x200x1, .i32⟩
  | .hbm, ⟨18, _⟩ => ⟨S1024x200x1, .i1⟩
  | .hbm, ⟨19, _⟩ => ⟨S1x1x1, .i32⟩
  | .hbm, ⟨20, _⟩ => ⟨S1024x200x1, .i32⟩
  | .hbm, ⟨21, _⟩ => ⟨S1024x200x1, .i1⟩
  | .hbm, ⟨22, _⟩ => ⟨S1024x200x1, .i1⟩
  | .hbm, ⟨23, _⟩ => ⟨S_, .i1⟩
  | .hbm, ⟨24, _⟩ => ⟨S1024x200, .i1⟩
  | .hbm, ⟨25, _⟩ => ⟨S1024x200x128, .f32⟩
  | .hbm, ⟨26, _⟩ => ⟨S1024x200x128, .i1⟩
  | .hbm, ⟨27, _⟩ => ⟨S_, .f32⟩
  | .hbm, ⟨28, _⟩ => ⟨S1024x200x128, .f32⟩
  | .hbm, ⟨29, _⟩ => ⟨S1024x200x128, .f32⟩
  | .hbm, ⟨30, _⟩ => ⟨S200, .i32⟩
  | .hbm, ⟨31, _⟩ => ⟨S1x200, .i32⟩
  | .hbm, ⟨32, _⟩ => ⟨S_, .i32⟩
  | .hbm, ⟨33, _⟩ => ⟨S1x200, .i32⟩
  | .hbm, ⟨34, _⟩ => ⟨S1x200, .i1⟩
  | .hbm, ⟨35, _⟩ => ⟨S_, .i32⟩
  | .hbm, ⟨36, _⟩ => ⟨S1x200, .i32⟩
  | .hbm, ⟨37, _⟩ => ⟨S1x200, .i32⟩
  | .hbm, ⟨38, _⟩ => ⟨S1x200, .i32⟩
  | .hbm, ⟨39, _⟩ => ⟨S1x200x1, .i32⟩
  | .hbm, ⟨40, _⟩ => ⟨S1, .i32⟩
  | .hbm, ⟨41, _⟩ => ⟨S_, .i32⟩
  | .hbm, ⟨42, _⟩ => ⟨S1x200x1, .i32⟩
  | .hbm, ⟨43, _⟩ => ⟨S1x200x1, .i1⟩
  | .hbm, ⟨44, _⟩ => ⟨S1x1x1, .i32⟩
  | .hbm, ⟨45, _⟩ => ⟨S1x200x1, .i32⟩
  | .hbm, ⟨46, _⟩ => ⟨S1x200x1, .i1⟩
  | .hbm, ⟨47, _⟩ => ⟨S1x200x1, .i1⟩
  | .hbm, ⟨48, _⟩ => ⟨S_, .i1⟩
  | .hbm, ⟨49, _⟩ => ⟨S1x200, .i1⟩
  | .hbm, ⟨50, _⟩ => ⟨S1x200x128, .f32⟩
  | .hbm, ⟨51, _⟩ => ⟨S1x200x128, .i1⟩
  | .hbm, ⟨52, _⟩ => ⟨S_, .f32⟩
  | .hbm, ⟨53, _⟩ => ⟨S1x200x128, .f32⟩
  | .hbm, ⟨54, _⟩ => ⟨S1x200x128, .f32⟩
  | .hbm, ⟨55, _⟩ => ⟨S_, .i32⟩
  | .hbm, ⟨56, _⟩ => ⟨S1024x200, .i32⟩
  | .hbm, ⟨57, _⟩ => ⟨S1024x200, .i1⟩
  | .hbm, ⟨58, _⟩ => ⟨S_, .i32⟩
  | .hbm, ⟨59, _⟩ => ⟨S1024x200, .i32⟩
  | .hbm, ⟨60, _⟩ => ⟨S1024x200, .i32⟩
  | .hbm, ⟨61, _⟩ => ⟨S1024x200, .i32⟩
  | .hbm, ⟨62, _⟩ => ⟨S1024x200x1, .i32⟩
  | .hbm, ⟨63, _⟩ => ⟨S1, .i32⟩
  | .hbm, ⟨64, _⟩ => ⟨S_, .i32⟩
  | .hbm, ⟨65, _⟩ => ⟨S1024x200x1, .i32⟩
  | .hbm, ⟨66, _⟩ => ⟨S1024x200x1, .i1⟩
  | .hbm, ⟨67, _⟩ => ⟨S1x1x1, .i32⟩
  | .hbm, ⟨68, _⟩ => ⟨S1024x200x1, .i32⟩
  | .hbm, ⟨69, _⟩ => ⟨S1024x200x1, .i1⟩
  | .hbm, ⟨70, _⟩ => ⟨S1024x200x1, .i1⟩
  | .hbm, ⟨71, _⟩ => ⟨S_, .i1⟩
  | .hbm, ⟨72, _⟩ => ⟨S1024x200, .i1⟩
  | .hbm, ⟨73, _⟩ => ⟨S1024x200x128, .f32⟩
  | .hbm, ⟨74, _⟩ => ⟨S1024x200x128, .i1⟩
  | .hbm, ⟨75, _⟩ => ⟨S_, .f32⟩
  | .hbm, ⟨76, _⟩ => ⟨S1024x200x128, .f32⟩
  | .hbm, ⟨77, _⟩ => ⟨S1024x200x128, .f32⟩
  | .hbm, ⟨78, _⟩ => ⟨S1024x200x128, .f32⟩
  | .hbm, ⟨79, _⟩ => ⟨S1024x200x128, .f32⟩
  | .hbm, ⟨80, _⟩ => ⟨S1024x200x128, .f32⟩
  | .hbm, ⟨81, _⟩ => ⟨S_, .f32⟩
  | .hbm, ⟨82, _⟩ => ⟨S1024x200, .f32⟩
  | .hbm, ⟨83, _⟩ => ⟨S1024x200x1, .f32⟩
  | .hbm, ⟨84, _⟩ => ⟨S_, .f32⟩
  | .hbm, ⟨85, _⟩ => ⟨S1024x200x1, .f32⟩
  | .hbm, ⟨86, _⟩ => ⟨S1024x200x1, .f32⟩
  | .hbm, ⟨87, _⟩ => ⟨S_, .i32⟩
  | .hbm, ⟨88, _⟩ => ⟨S_, .f32⟩
  | .hbm, ⟨89, _⟩ => ⟨S1024x200, .f32⟩
  | .hbm, ⟨90, _⟩ => ⟨S1024x200x1, .f32⟩
  | .hbm, ⟨91, _⟩ => ⟨S_, .f32⟩
  | .hbm, ⟨92, _⟩ => ⟨S1024x200x1, .f32⟩
  | .hbm, ⟨93, _⟩ => ⟨S1024x200x1, .f32⟩
  | .hbm, ⟨94, _⟩ => ⟨S1024x200x128, .f32⟩
  | .hbm, ⟨95, _⟩ => ⟨S1024x200x128, .f32⟩
  | .hbm, ⟨96, _⟩ => ⟨S1024x200x128, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S1024x200, .f32⟩
  | .hbm, ⟨102, _⟩ => ⟨S1024x200x1, .f32⟩
  | .hbm, ⟨103, _⟩ => ⟨S1024x200x1, .f32⟩
  | .hbm, ⟨104, _⟩ => ⟨S1024x200x1, .f32⟩
  | .hbm, ⟨105, _⟩ => ⟨S_, .f32⟩
  | .hbm, ⟨106, _⟩ => ⟨S_, .i1⟩
  | .hbm, ⟨107, _⟩ => ⟨S_, .f32⟩
  | .hbm, ⟨108, _⟩ => ⟨S_, .f32⟩
  | .hbm, ⟨109, _⟩ => ⟨S1024x200x1, .f32⟩
  | .hbm, ⟨110, _⟩ => ⟨S1024x200x1, .f32⟩
  | .hbm, ⟨111, _⟩ => ⟨S1024x200x128, .f32⟩
  | .hbm, ⟨112, _⟩ => ⟨S1024x200x128, .f32⟩
  | .hbm, ⟨113, _⟩ => ⟨S_, .f32⟩
  | .hbm, ⟨114, _⟩ => ⟨S1024x200x1, .f32⟩
  | .hbm, ⟨115, _⟩ => ⟨S1024x200x1, .f32⟩
  | .hbm, ⟨116, _⟩ => ⟨S1024x200x1, .f32⟩
  | .hbm, ⟨117, _⟩ => ⟨S1024x200x128, .f32⟩
  | .hbm, ⟨118, _⟩ => ⟨S1024x200x128, .f32⟩
  | .hbm, ⟨119, _⟩ => ⟨S1x1x128, .f32⟩
  | .hbm, ⟨120, _⟩ => ⟨S1024x200x128, .f32⟩
  | .hbm, ⟨121, _⟩ => ⟨S1024x200x128, .f32⟩
  | .hbm, ⟨122, _⟩ => ⟨S1x1x128, .f32⟩
  | .hbm, ⟨123, _⟩ => ⟨S1024x200x128, .f32⟩
  | .hbm, ⟨124, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_c : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_cst_3 : Ref sig .tc := ⟨.hbm, 105, rfl⟩
abbrev main_call3_v13 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_cst_1 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩

abbrev nD : Nat := 1
abbrev τ : Topo := Topo.v7x

variable {F : FTy → Type} [FloatOps F]
-- ==== Proof.Row.lean ====
/-
  The unrolled row program of the normalisation loops. Each trip of either inner loop normalises sixteen rows of its
  buffer; the printed body writes the sixteen out one after another. Here one row is written once (`rowProg`), and each
  printed body is that row program sixteen times (`trip_a_eq`, `trip_b_eq`).
-/
module

public import proofs.«01_k».proof.Defs
public import proofs.«01_k».proof.Proof.Gen.KernelIdeal

@[expose] public section

noncomputable section

namespace Cert.Proof.Emb

open Cert.KernelIdeal Cert.KernelIdeal.Gen
open Idealize.ShloMosaic Idealize.SL.Sem

variable {F : FTy → Type} [FloatOps F]

/-- The effects of a tile of the grid. -/
abbrev TileEff (F : FTy → Type) (i : grid0.Coords) : Type → Type := TpuEff nD τ sig (Elt F) Λ₀ (.scVector ((i 0).castLE hcore0) ((i 1).castLE hsub0))

/-! ## Where a row lies -/

/-- Row `16 * t + r` of a row buffer, from column `j`, as the kernel computes it. -/
def rowOff (t : ℕ) (r : BitVec 32) (j : ℕ) : Fin 2 → ℕ :=
  ![(Scalar.indexCast (Scalar.addi (Scalar.muli (Scf.iv 0#32 1#32 t) 16#32) r)).toNat, j]
/-- Row `v` of the position table, from column `j`. -/
def tabOff (v : BitVec 32) (j : ℕ) : Fin 2 → ℕ := ![(Scalar.indexCast v).toNat, j]

theorem rowOff_eq : ∀ (t : Fin 8) (r : Fin 16) (j : ℕ), rowOff t.val (BitVec.ofNat 32 r.val) j = ![16 * t.val + r.val, j] := by
  intro t r j
  have h : ∀ (t : Fin 8) (r : Fin 16), (Scalar.indexCast (Scalar.addi (Scalar.muli (Scf.iv 0#32 1#32 t.val) 16#32) (BitVec.ofNat 32 r.val))).toNat = 16 * t.val + r.val := by decide +kernel
  unfold rowOff; rw [h]

theorem rowOff_inb (t : Fin 8) (r : Fin 16) (j : Fin 8) : ∀ a, rowOff t.val (BitVec.ofNat 32 r.val) (16 * j.val) a + S1x16.size a ≤ S128x128.size a := by
  rw [rowOff_eq]
  intro a
  match a with
  | 0 => show 16 * t.val + r.val + 1 ≤ 128; omega
  | 1 => show 16 * j.val + 16 ≤ 128; omega

/-! ## The row's arithmetic -/

/-- One rotation of the lanes, added: the lanes from `8`, and then the first eight. -/
def rot8 (v : FVec F S16 .f32) : FVec F S16 .f32 :=
  addf v (concatenate S16 0 [⟨S8, extractStridedSlice S8 ![8] v slices_S16_o8_S8⟩, ⟨S8, extractStridedSlice S8 ![0] v slices_S16_o0_S8⟩] concatenates_S8_S8_S16_d0)
def rot4 (v : FVec F S16 .f32) : FVec F S16 .f32 :=
  addf v (concatenate S16 0 [⟨S12, extractStridedSlice S12 ![4] v slices_S16_o4_S12⟩, ⟨S4, extractStridedSlice S4 ![0] v slices_S16_o0_S4⟩] concatenates_S12_S4_S16_d0)
def rot2 (v : FVec F S16 .f32) : FVec F S16 .f32 :=
  addf v (concatenate S16 0 [⟨S14, extractStridedSlice S14 ![2] v slices_S16_o2_S14⟩, ⟨S2, extractStridedSlice S2 ![0] v slices_S16_o0_S2⟩] concatenates_S14_S2_S16_d0)
def rot1 (v : FVec F S16 .f32) : FVec F S16 .f32 :=
  addf v (concatenate S16 0 [⟨S15, extractStridedSlice S15 ![1] v slices_S16_o1_S15⟩, ⟨S1, extractStridedSlice S1 ![0] v slices_S16_o0_S1⟩] concatenates_S15_S1_S16_d0)
/-- The sum of the lanes, in every lane, over 128. -/
def laneMean (v : FVec F S16 .f32) : FVec F S16 .f32 :=
  mulf (rot1 (rot2 (rot4 (rot8 v)))) (broadcast S16 (Scalar.ofBits .f32 0x3C000000#32))
/-- One Newton step of the reciprocal root of `x` from `y`. -/
def newton (x y : FVec F S16 .f32) : FVec F S16 .f32 :=
  mulf y (subf (broadcast S16 (Scalar.ofBits .f32 0x3FC00000#32)) (mulf (mulf (mulf (broadcast S16 (Scalar.ofBits .f32 0x3F000000#32)) x) y) y))
def zero16 : FVec F S16 .f32 := broadcast S16 (Scalar.ofBits .f32 0x00000000#32)
/-- The variance plus the small constant. -/
def varEps (mean msq : FVec F S16 .f32) : FVec F S16 .f32 :=
  addf (subf msq (mulf mean mean)) (broadcast S16 (Scalar.ofBits .f32 0x358637BD#32))
def root (x : FVec F S16 .f32) : FVec F S16 .f32 := newton x (newton x (newton x (rsqrt x)))
/-- The row's sum so far, lane by lane. -/
def rowSum (x : Fin 8 → FVec F S16 .f32) : FVec F S16 .f32 :=
  addf (addf (addf (addf (addf (addf (addf (addf zero16 (x 0)) (x 1)) (x 2)) (x 3)) (x 4)) (x 5)) (x 6)) (x 7)
def rowMean (x : Fin 8 → FVec F S16 .f32) : FVec F S16 .f32 := laneMean (rowSum x)
def rowRs (x : Fin 8 → FVec F S16 .f32) : FVec F S16 .f32 :=
  root (varEps (rowMean x) (laneMean (rowSum fun j => mulf (x j) (x j))))
/-- What the row's sixteen lanes from `16 * j` become. -/
def rowOut (x : Fin 8 → FVec F S16 .f32) (sc bi : FVec F S16 .f32) (j : Fin 8) : FVec F S16 .f32 :=
  addf (mulf (subf (mulf (x j) (rowRs x)) (mulf (rowMean x) (rowRs x))) sc) bi

/-! ## The row program -/

section Prog

variable {i : grid0.Coords}

/-- Sixteen lanes of a row of the buffer and the same lanes of the table's row, added. -/
def ldRow (A : Memref sig .scVector .vmem S128x128 .f32) (G : Memref sig .scVector .vmem S400x128 .f32) (t : Fin 8) (r : Fin 16) (v : BitVec 32)
    (j : Fin 8) (hv : ∀ a, tabOff v (16 * j.val) a + S1x16.size a ≤ S400x128.size a) : Prog (TileEff F i) (FVec F S16 .f32) := do
  let a : Vec F S1x16 .f32 ← Prog.lift (.load A (Rect.unit (s := S128x128) (rowOff t.val (BitVec.ofNat 32 r.val) (16 * j.val)) S1x16.size (rowOff_inb t r j)).toLoadRect (View.loadsAt_vmem h_S1x16))
  let b : Vec F S1x16 .f32 ← Prog.lift (.load G (Rect.unit (s := S400x128) (tabOff v (16 * j.val)) S1x16.size hv).toLoadRect (View.loadsAt_vmem h_S1x16))
  pure (addf (shapeCast S16 a shapeCasts_S1x16_S16) (shapeCast S16 b shapeCasts_S1x16_S16))
/-- Sixteen lanes stored over a row of the buffer (the lanes there before are loaded first, unread). -/
def stRow (A : Memref sig .scVector .vmem S128x128 .f32) (t : Fin 8) (r : Fin 16) (j : Fin 8) (w : FVec F S16 .f32) : Prog (TileEff F i) PUnit := do
  let _ : Vec F S1x16 .f32 ← Prog.lift (.load A (Rect.unit (s := S128x128) (rowOff t.val (BitVec.ofNat 32 r.val) (16 * j.val)) S1x16.size (rowOff_inb t r j)).toLoadRect (View.loadsAt_vmem h_S1x16))
  Prog.lift (.store A (Rect.unit (s := S128x128) (rowOff t.val (BitVec.ofNat 32 r.val) (16 * j.val)) S1x16.size (rowOff_inb t r j)) (shapeCast S1x16 w shapeCasts_S16_S1x16) Finset.univ (View.stores_vmem_bits_univ h_S1x16 rfl) (.inl rfl))

/-- The table's row `v` is one of its 400. -/
def rowChk (v : BitVec 32) : Prop := k0_chk1 v

theorem slices_lane : ∀ r : Fin 16, S16.Slices ![r.val] S1 := by decide
/-- The table's row of lane `r`. -/
def laneAt (r : Fin 16) (idx : IVec S16 32) : BitVec 32 :=
  extractAt ![0] (extractStridedSlice S1 ![r.val] idx (slices_lane r)) inpos_S1_p0

/-- Row `16 * t + r`, normalised in place. -/
def rowProg (A : Memref sig .scVector .vmem S128x128 .f32) (G : Memref sig .scVector .vmem S400x128 .f32) (sc bi : Fin 8 → FVec F S16 .f32)
    (t : Fin 8) (r : Fin 16) (v : BitVec 32) : Prog (TileEff F i) PUnit := do
  have hv : rowChk v := (← Prog.lift (TpuEff.assume (rowChk v) (k0_chk1.dec v))).down
  let x0 ← ldRow A G t r v 0 hv.1
  let x1 ← ldRow A G t r v 1 hv.2.1
  let x2 ← ldRow A G t r v 2 hv.2.2.1
  let x3 ← ldRow A G t r v 3 hv.2.2.2.1
  let x4 ← ldRow A G t r v 4 hv.2.2.2.2.1
  let x5 ← ldRow A G t r v 5 hv.2.2.2.2.2.1
  let x6 ← ldRow A G t r v 6 hv.2.2.2.2.2.2.1
  let x7 ← ldRow A G t r v 7 hv.2.2.2.2.2.2.2
  stRow A t r 0 (rowOut ![x0, x1, x2, x3, x4, x5, x6, x7] (sc 0) (bi 0) 0)
  stRow A t r 1 (rowOut ![x0, x1, x2, x3, x4, x5, x6, x7] (sc 1) (bi 1) 1)
  stRow A t r 2 (rowOut ![x0, x1, x2, x3, x4, x5, x6, x7] (sc 2) (bi 2) 2)
  stRow A t r 3 (rowOut ![x0, x1, x2, x3, x4, x5, x6, x7] (sc 3) (bi 3) 3)
  stRow A t r 4 (rowOut ![x0, x1, x2, x3, x4, x5, x6, x7] (sc 4) (bi 4) 4)
  stRow A t r 5 (rowOut ![x0, x1, x2, x3, x4, x5, x6, x7] (sc 5) (bi 5) 5)
  stRow A t r 6 (rowOut ![x0, x1, x2, x3, x4, x5, x6, x7] (sc 6) (bi 6) 6)
  stRow A t r 7 (rowOut ![x0, x1, x2, x3, x4, x5, x6, x7] (sc 7) (bi 7) 7)

/-- The rows of one trip from row `r` on, `n` of them. -/
def rowsProg (A : Memref sig .scVector .vmem S128x128 .f32) (G : Memref sig .scVector .vmem S400x128 .f32) (sc bi : Fin 8 → FVec F S16 .f32)
    (t : Fin 8) (idx : IVec S16 32) : (n r : ℕ) → r + n = 16 → Prog (TileEff F i) PUnit
  | 0, _, _ => pure ⟨⟩
  | n + 1, r, h => do
    rowProg A G sc bi t ⟨r, by omega⟩ (laneAt ⟨r, by omega⟩ idx)
    rowsProg A G sc bi t idx n (r + 1) (by omega)

end Prog

end Cert.Proof.Emb
-- ==== Proof.Trip.lean ====
module

public import proofs.«01_k».proof.Proof.Row
public import proofs.«01_k».proof.Proof.Gen.KernelIdeal.Skeleton

@[expose] public section

noncomputable section

namespace Cert.Proof.Emb

open Cert.KernelIdeal Cert.KernelIdeal.Gen
open Idealize.ShloMosaic Idealize.SL.Sem

variable {F : FTy → Type} [FloatOps F]

/-- The table rows of sixteen positions: 200 times the segment, plus the position. -/
def idxOf (sid : Vec F S16 .i32) (pos : IVec S16 32) : IVec S16 32 :=
  addi (muli (shapeCast S16 sid shapeCasts_S16_S16) (broadcast S16 200#32)) pos
/-- The next sixteen positions, around 200. -/
def nextPos (pos : IVec S16 32) : IVec S16 32 :=
  select (cmpi .sge (addi pos (broadcast S16 16#32)) (broadcast S16 200#32)) (subi (addi pos (broadcast S16 16#32)) (broadcast S16 200#32)) (addi pos (broadcast S16 16#32))

/-- The same program, read through operation by operation. -/
def walkL {E : Type → Type*} {α : Type} : Prog E α → Prog E α
  | .ret a => .ret a
  | .op e k => .op e fun x => walkL (k x)
def walkR {E : Type → Type*} {α : Type} : Prog E α → Prog E α
  | .ret a => .ret a
  | .op e k => .op e fun x => walkR (k x)
theorem walkL_eq {E : Type → Type*} {α : Type} : ∀ p : Prog E α, walkL p = p
  | .ret a => rfl
  | .op e k => by rw [walkL]; congr 1; funext x; exact walkL_eq (k x)
theorem walkR_eq {E : Type → Type*} {α : Type} : ∀ p : Prog E α, walkR p = p
  | .ret a => rfl
  | .op e k => by rw [walkR]; congr 1; funext x; exact walkR_eq (k x)
theorem eq_of_walk {E : Type → Type*} {α : Type} {p q : Prog E α} (h : walkL p = walkR q) : p = q := by rw [walkL_eq, walkR_eq] at h; exact h

section Prog
variable {i : grid0.Coords}
/-- One trip of an inner loop: the sixteen segments, the sixteen rows, the next positions. -/
def tripProg (A : Memref sig .scVector .vmem S128x128 .f32) (S : Memref sig .scVector .vmem S6400 .i32) (G : Memref sig .scVector .vmem S400x128 .f32) (sc bi : Fin 8 → FVec F S16 .f32)
    (off : Fin 1 → ℕ) (hoff : ∀ a, off a + S16.size a ≤ S6400.size a) (t : Fin 8) (pos : IVec S16 32) : Prog (TileEff F i) (IVec S16 32) := do
  let sid : Vec F S16 .i32 ← Prog.lift (.load S (Rect.unit (s := S6400) off S16.size hoff).toLoadRect (View.loadsAt_vmem h_S16))
  rowsProg A G sc bi t (idxOf sid pos) 16 0 rfl
  pure (nextPos pos)
end Prog

variable (i : grid0.Coords) (arg2 : Memref sig .scVector .hbm S204800 .i32) (harg2 : arg2.IsWhole) (arg3 : Memref sig .scVector .hbm S204800 .i32) (harg3 : arg3.IsWhole) (arg4 : Memref sig .scVector .hbm S100000x128 .f32) (harg4 : arg4.IsWhole) (arg5 : Memref sig .scVector .hbm S200x128 .f32) (harg5 : arg5.IsWhole) (arg6 : Memref sig .scVector .hbm S2x128 .f32) (harg6 : arg6.IsWhole) (arg7 : Memref sig .scVector .hbm S128 .f32) (harg7 : arg7.IsWhole) (arg8 : Memref sig .scVector .hbm S128 .f32) (harg8 : arg8.IsWhole) (arg9 : Memref sig .scVector .hbm S204800x128 .f32) (harg9 : arg9.IsWhole) (arg10 : Memref sig .scVector .vmem S6400 .i32) (harg10 : arg10.IsWhole) (arg11 : Memref sig .scVector .vmem S6400 .i32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S400x128 .f32) (harg14 : arg14.IsWhole) (arg15 : Memref sig .scVector .vmem S2x128 .f32) (harg15 : arg15.IsWhole) (arg16 : Memref sig .scVector .vmem S128 .f32) (harg16 : arg16.IsWhole) (arg17 : Memref sig .scVector .vmem S128 .f32) (harg17 : arg17.IsWhole) (arg18 : DmaSems sig S_) (arg19 : DmaSems sig S_) (arg20 : DmaSems sig S_) (arg21 : DmaSems sig S_) (v93_r0 : DmaSems sig S_) (v93_r1 : DmaSems sig S_) (v93_r2 : DmaSems sig S_) (v93_r3 : DmaSems sig S_) (v93_r4 : DmaSems sig S_) (v93_r5 : DmaSems sig S_) (v93_r6 : DmaSems sig S_)

variable (v54 v56 v58 v60 v62 v64 v66 v68 v70 v72 v74 v76 v78 v80 v82 v84 : FVec F S16 .f32)

set_option maxRecDepth 100000 in
set_option maxHeartbeats 0 in
/-- The first inner loop's printed trip. -/
theorem tripA_eq (v2 c0 c1 : BitVec 32) (k0_t2 : Fin k0_t2_loop.trips) (v94 : BitVec 32) (k0_t3 : Fin k0_t3_loop.trips) (arg25 : IVec S16 32) :
    k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v93_r0 v93_r1 v93_r2 v93_r3 v93_r4 v93_r5 v93_r6 v2 v54 v56 v58 v60 v62 v64 v66 v68 v70 v72 v74 v76 v78 v80 v82 v84 c0 c1 k0_t2 v94 k0_t3 arg25
      = tripProg arg12 arg11 arg14 ![v54, v56, v58, v60, v62, v64, v66, v68] ![v70, v72, v74, v76, v78, v80, v82, v84] (k0_off20 k0_t2 k0_t3) (k0_off20_inb k0_t2 k0_t3) k0_t3 arg25 := by
  apply eq_of_walk
  rfl

set_option maxRecDepth 100000 in
set_option maxHeartbeats 0 in
/-- The second inner loop's printed trip. -/
theorem tripB_eq (v79 v81 v83 : Vec F S16 .f32) (k0_t2 : Fin k0_t2_loop.trips) (v118 : BitVec 32) (k0_t4 : Fin k0_t4_loop.trips) (arg25 : IVec S16 32) :
    k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v93_r0 v93_r1 v93_r2 v93_r3 v93_r4 v93_r5 v93_r6 v54 v56 v58 v60 v62 v64 v66 v68 v70 v72 v74 v76 v78 v79 v81 v83 k0_t2 v118 k0_t4 arg25
      = tripProg arg13 arg11 arg14 ![v54, v56, v58, v60, v62, v64, v66, v68] ![v70, v72, v74, v76, v78, k0_pay1 v79, k0_pay2 v81, k0_pay3 v83] (k0_off280 k0_t2 k0_t4) (k0_off280_inb k0_t2 k0_t4) k0_t4 arg25 := by
  apply eq_of_walk
  rfl

/-! ## The position table's loop -/

section Seg
variable {i : grid0.Coords}
/-- Sixteen lanes of a row of the position table, a segment's added to them in place. -/
def segHalf (G : Memref sig .scVector .vmem S400x128 .f32) (v : BitVec 32) (j : Fin 8) (hv : ∀ a, tabOff v (16 * j.val) a + S1x16.size a ≤ S400x128.size a) (w : FVec F S16 .f32) : Prog (TileEff F i) PUnit := do
  let a : Vec F S1x16 .f32 ← Prog.lift (.load G (Rect.unit (s := S400x128) (tabOff v (16 * j.val)) S1x16.size hv).toLoadRect (View.loadsAt_vmem h_S1x16))
  let _ : Vec F S1x16 .f32 ← Prog.lift (.load G (Rect.unit (s := S400x128) (tabOff v (16 * j.val)) S1x16.size hv).toLoadRect (View.loadsAt_vmem h_S1x16))
  Prog.lift (.store G (Rect.unit (s := S400x128) (tabOff v (16 * j.val)) S1x16.size hv) (shapeCast S1x16 (addf (shapeCast S16 a shapeCasts_S1x16_S16) w) shapeCasts_S16_S1x16) Finset.univ (View.stores_vmem_bits_univ h_S1x16 rfl) (.inl rfl))

/-- The rows a trip of the position table's loop treats: `t` and `200 + t`. -/
def segRow0 (t : ℕ) : BitVec 32 := Scf.iv 0#32 1#32 t
def segRow1 (t : ℕ) : BitVec 32 := Scalar.addi 200#32 (Scf.iv 0#32 1#32 t)
theorem segRow0_inb (t : Fin 200) (j : Fin 8) : ∀ a, tabOff (segRow0 t.val) (16 * j.val) a + S1x16.size a ≤ S400x128.size a := by
  have h : ∀ t : Fin 200, (Scalar.indexCast (segRow0 t.val)).toNat = t.val := by decide +kernel
  intro a
  match a with
  | 0 => show (Scalar.indexCast (segRow0 t.val)).toNat + 1 ≤ 400; rw [h]; omega
  | 1 => show 16 * j.val + 16 ≤ 128; omega
theorem segRow1_inb (t : Fin 200) (j : Fin 8) : ∀ a, tabOff (segRow1 t.val) (16 * j.val) a + S1x16.size a ≤ S400x128.size a := by
  have h : ∀ t : Fin 200, (Scalar.indexCast (segRow1 t.val)).toNat = 200 + t.val := by decide +kernel
  intro a
  match a with
  | 0 => show (Scalar.indexCast (segRow1 t.val)).toNat + 1 ≤ 400; rw [h]; omega
  | 1 => show 16 * j.val + 16 ≤ 128; omega

/-- One trip's columns from `16 * j` on, `n` times sixteen of them. -/
def segProg (G : Memref sig .scVector .vmem S400x128 .f32) (s0 s1 : Fin 8 → FVec F S16 .f32) (t : Fin 200) : (n j : ℕ) → j + n = 8 → Prog (TileEff F i) PUnit
  | 0, _, _ => pure ⟨⟩
  | n + 1, j, h => do
    segHalf G (segRow0 t.val) ⟨j, by omega⟩ (segRow0_inb t _) (s0 ⟨j, by omega⟩)
    segHalf G (segRow1 t.val) ⟨j, by omega⟩ (segRow1_inb t _) (s1 ⟨j, by omega⟩)
    segProg G s0 s1 t n (j + 1) (by omega)
end Seg

set_option maxRecDepth 100000 in
set_option maxHeartbeats 0 in
theorem segTrip_eq (v7 v10 v13 v16 v19 v22 v25 v28 v31 v34 v37 v40 v43 v46 v49 v52 : FVec F S16 .f32) (k0_t1 : Fin k0_t1_loop.trips) (arg23 : BitVec 32) :
    k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v93_r0 v93_r1 v93_r2 v93_r3 v93_r4 v93_r5 v93_r6 v7 v10 v13 v16 v19 v22 v25 v28 v31 v34 v37 v40 v43 v46 v49 v52 k0_t1 arg23
      = (segProg arg14 ![v7, v10, v13, v16, v19, v22, v25, v28] ![v31, v34, v37, v40, v43, v46, v49, v52] k0_t1 8 0 rfl >>= fun _ => pure 0#32) := by
  apply eq_of_walk
  rfl

end Cert.Proof.Emb
-- ==== Proof.Base.lean ====
/-
  The set-up every part of the run is stated over: the launch theorem's view of the program, the ghost algebra, and the
  rows of the buffers as sixteen-lane vectors.
-/
module

public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The propositions of the run. -/
abbrev Mach (F : FTy → Type) : Type _ := MT nD τ sig (HIx 1) (Elt F) ℕ UU ℕ

abbrev EH : Emb UH (Mach F) := embL

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-! ## Rows as vectors of sixteen lanes -/

/-- The sixteen elements of row `r` from column `16 * j`. -/
def rowVec {n : ℕ} (Y : (⟨2, ![n, 128]⟩ : Shape).Idx → F .f32) (r : Fin n) (j : Fin 8) : FVec F S16 .f32 :=
  fun l => Y (ix2 r (⟨16 * j.val + (l 0).val, by have h : (l 0).val < 16 := (l 0).isLt; omega⟩ : Fin 128))
/-- Row `r` replaced by eight vectors. -/
def rowUpd {n : ℕ} (Y : (⟨2, ![n, 128]⟩ : Shape).Idx → F .f32) (r : Fin n) (W : Fin 8 → FVec F S16 .f32) : (⟨2, ![n, 128]⟩ : Shape).Idx → F .f32 :=
  fun y => if (y 0).val = r.val then
      W (⟨(y 1).val / 16, by have h : (y 1).val < 128 := (y 1).isLt; omega⟩ : Fin 8) (ix1 (⟨(y 1).val % 16, by omega⟩ : Fin 16))
    else Y y

variable [FloatOps F]

/-- Row `r` of the buffer and row `v` of the table, added. -/
def addRow (X : S128x128.Idx → F .f32) (G : S400x128.Idx → F .f32) (r : Fin 128) (v : Fin 400) (j : Fin 8) : FVec F S16 .f32 :=
  addf (rowVec (n := 128) X r j) (rowVec (n := 400) G v j)
/-- Row `r` of the buffer normalised. -/
def normRow (X : S128x128.Idx → F .f32) (G : S400x128.Idx → F .f32) (sc bi : Fin 8 → FVec F S16 .f32) (r : Fin 128) (v : Fin 400) : S128x128.Idx → F .f32 :=
  rowUpd (n := 128) X r fun j => rowOut (addRow X G r v) (sc j) (bi j) j

end Cert.Proof.Emb
-- ==== Proof.RowWp.lean ====
/-
  One row of the normalisation loops, run: the buffer holds the row normalised, everything else in it unchanged.
-/
module

public import proofs.«01_k».proof.Proof.Base

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type} [FloatOps F]

local notation "𝕄" => Mach F

/-! ## What a load of sixteen lanes reads, and what a run of stores leaves -/

theorem idx1_eta (l : S16.Idx) : l = ix1 (l 0) := by funext a; match a with | 0 => rfl
theorem idx2_eta {a b : ℕ} (l : (⟨2, ![a, b]⟩ : Shape).Idx) : l = ix2 (l 0) (l 1) := by funext x; match x with | 0 => rfl | 1 => rfl

/-- Sixteen lanes loaded from row `r` of a two-axis buffer, as a vector. -/
theorem read_lanes {n : ℕ} {sig' : RefSig} {κ : Kind} {sp : Space} (v : View sig' κ sp ⟨2, ![n, 128]⟩ .f32) (f : v.ty.Contents (Elt F))
    (off : Fin 2 → ℕ) (hin : ∀ a, off a + S1x16.size a ≤ (⟨2, ![n, 128]⟩ : Shape).size a) (r : Fin n) (j : Fin 8) (h0 : off 0 = r.val) (h1 : off 1 = 16 * j.val) :
    shapeCast S16 (v.readAt (Elt F) (Rect.unit (s := ⟨2, ![n, 128]⟩) off S1x16.size hin).toLoadRect f) shapeCasts_S1x16_S16 = rowVec (v.read (Elt F) f) r j := by
  funext l
  refine (congrArg _ (idx1_eta l)).trans ((shapeCast_1a_a_apply (a := 16) _ shapeCasts_S1x16_S16 (l 0)).trans ?_)
  show v.read (Elt F) f _ = v.read (Elt F) f _
  congr 1
  funext a
  apply Fin.ext
  match a with
  | 0 => show off 0 + 1 * 0 = r.val; omega
  | 1 => show off 1 + 1 * (l 0).val = 16 * j.val + (l 0).val; omega

/-- A store of a row's sixteen lanes, as a piece. -/
abbrev piece {n : ℕ} (off : Fin 2 → ℕ) (hin : ∀ a, off a + S1x16.size a ≤ (⟨2, ![n, 128]⟩ : Shape).size a) (w : FVec F S16 .f32) : View.Piece (Elt F) ⟨2, ![n, 128]⟩ .f32 :=
  ⟨Rect.unit (s := ⟨2, ![n, 128]⟩) off S1x16.size hin, shapeCast S1x16 w shapeCasts_S16_S1x16⟩

theorem piece_apply {n : ℕ} (off : Fin 2 → ℕ) (hin : ∀ a, off a + S1x16.size a ≤ (⟨2, ![n, 128]⟩ : Shape).size a) (w : FVec F S16 .f32) (x : S1x16.Idx) :
    (piece (n := n) off hin w).2 x = w (ix1 (x 1)) := by
  show shapeCast S1x16 w shapeCasts_S16_S1x16 x = _
  rw [idx2_eta (a := 1) (b := 16) x]
  exact shapeCast_a_1a_apply (a := 16) w shapeCasts_S16_S1x16 (x 0) (x 1)

theorem mem_piece {n : ℕ} (off : Fin 2 → ℕ) (hin : ∀ a, off a + S1x16.size a ≤ (⟨2, ![n, 128]⟩ : Shape).size a) (w : FVec F S16 .f32) (y : (⟨2, ![n, 128]⟩ : Shape).Idx) :
    y ∈ (piece (n := n) off hin w).1.set ↔ (y 0).val = off 0 ∧ off 1 ≤ (y 1).val ∧ (y 1).val < off 1 + 16 := by
  show y ∈ (Rect.unit (s := ⟨2, ![n, 128]⟩) off S1x16.size hin).set ↔ _
  refine Rect.mem_set_unit.trans ?_
  constructor
  · intro h
    have h0 : off 0 ≤ (y 0).val ∧ (y 0).val < off 0 + 1 := h 0
    have h1 : off 1 ≤ (y 1).val ∧ (y 1).val < off 1 + 16 := h 1
    omega
  · rintro ⟨h0, h1, h2⟩ a
    match a with
    | 0 => show off 0 ≤ (y 0).val ∧ (y 0).val < off 0 + 1; omega
    | 1 => exact ⟨h1, h2⟩

/-- Eight stores that together cover row `r` leave the row replaced. -/
theorem read_row_stored {n : ℕ} {sig' : RefSig} {κ : Kind} {sp : Space} (v : View sig' κ sp ⟨2, ![n, 128]⟩ .f32) (f : v.ty.Contents (Elt F))
    (r : Fin n) (W : Fin 8 → FVec F S16 .f32) (off : Fin 8 → Fin 2 → ℕ) (hin : ∀ j a, off j a + S1x16.size a ≤ (⟨2, ![n, 128]⟩ : Shape).size a)
    (h0 : ∀ j, off j 0 = r.val) (h1 : ∀ j, off j 1 = 16 * j.val)
    (L : List (View.Piece (Elt F) ⟨2, ![n, 128]⟩ .f32)) (hL : ∀ p, p ∈ L ↔ ∃ j, p = piece (off j) (hin j) (W j)) :
    v.read (Elt F) (v.writes (Elt F) f L) = rowUpd (v.read (Elt F) f) r W := by
  funext y
  have hy1 : (y 1).val < 128 := (y 1).isLt
  by_cases hy : (y 0).val = r.val
  · refine View.read_writes_apply_of_pieces v f (rowUpd (v.read (Elt F) f) r W) L ?_ y ?_
    · intro p hp x
      obtain ⟨j, rfl⟩ := (hL p).mp hp
      refine (piece_apply (off j) (hin j) (W j) x).trans ?_
      have hx0 : (x 0).val < 1 := (x 0).isLt
      have hx1 : (x 1).val < 16 := (x 1).isLt
      have e0 : ((piece (off j) (hin j) (W j)).1.emb x 0).val = r.val := by
        show off j 0 + 1 * (x 0).val = _; rw [h0]; omega
      have e1 : ((piece (off j) (hin j) (W j)).1.emb x 1).val = 16 * j.val + (x 1).val := by
        show off j 1 + 1 * (x 1).val = _; rw [h1]; omega
      unfold rowUpd
      rw [if_pos e0]
      have a1 : (⟨((piece (off j) (hin j) (W j)).1.emb x 1).val / 16, by omega⟩ : Fin 8) = j := Fin.ext (by show _ / 16 = j.val; omega)
      have a2 : (⟨((piece (off j) (hin j) (W j)).1.emb x 1).val % 16, by omega⟩ : Fin 16) = x 1 := Fin.ext (by show _ % 16 = (x 1).val; omega)
      rw [a1, a2]
    · refine ⟨_, (hL _).mpr ⟨⟨(y 1).val / 16, by omega⟩, rfl⟩, ?_⟩
      rw [mem_piece, h0, h1]
      refine ⟨hy, ?_, ?_⟩
      · show 16 * ((y 1).val / 16) ≤ _; omega
      · show _ < 16 * ((y 1).val / 16) + 16; omega
  · rw [View.read_writes_apply_of_forall_not_mem]
    · unfold rowUpd; rw [if_neg hy]
    · intro p hp hm
      obtain ⟨j, rfl⟩ := (hL p).mp hp
      rw [mem_piece, h0] at hm
      exact hy hm.1

theorem mem_eight {α : Type*} (P : Fin 8 → α) (p : α) : p ∈ [P 7, P 6, P 5, P 4, P 3, P 2, P 1, P 0] ↔ ∃ j, p = P j := by
  simp only [List.mem_cons, List.not_mem_nil, or_false]
  constructor
  · rintro (h | h | h | h | h | h | h | h) <;> exact ⟨_, h⟩
  · rintro ⟨j, h⟩
    fin_cases j <;> simp_all

/-! ## The row -/

section Run

variable (d : Dev nD) (L : grid0.Coords)
variable (A : Memref sig .scVector .vmem S128x128 .f32) (G : Memref sig .scVector .vmem S400x128 .f32)
variable (fA : Buf (Elt F) (A.view.loc (thr d L))) (fG : Buf (Elt F) (G.view.loc (thr d L)))

/-- The row buffer, whole, and the table's buffer. -/
abbrev aPts : sProp 𝕄 := A.view.loc (thr d L) ↦[A.view.set]{fullShare} fA
abbrev gPts : sProp 𝕄 := G.view.loc (thr d L) ↦[G.view.set]{fullShare} fG

theorem wp_ldRow (t : Fin 8) (r : Fin 16) (v : BitVec 32) (hv4 : v.toNat < 400) (j : Fin 8)
    (hv : ∀ a, tabOff v (16 * j.val) a + S1x16.size a ≤ S400x128.size a) (Q : FVec F S16 .f32 → sProp 𝕄) :
    iprop(aPts d L A fA ∗ gPts d L G fG ∗ (aPts d L A fA -∗ gPts d L G fG -∗ Q (addRow (A.view.read (Elt F) fA) (G.view.read (Elt F) fG) ⟨16 * t.val + r.val, by omega⟩ ⟨v.toNat, hv4⟩ j)))
      ⊢ wp frame (wpE (defs₀ (F := F)) 𝒱₀ (thr d L) none) Set.univ (ldRow (i := L) A G t r v j hv) Q := by
  have h0 : tabOff v (16 * j.val) 0 = v.toNat := rfl
  have e : addRow (A.view.read (Elt F) fA) (G.view.read (Elt F) fG) ⟨16 * t.val + r.val, by omega⟩ ⟨v.toNat, hv4⟩ j
      = addf (shapeCast S16 (A.view.readAt (Elt F) (Rect.unit (s := S128x128) (rowOff t.val (BitVec.ofNat 32 r.val) (16 * j.val)) S1x16.size (rowOff_inb t r j)).toLoadRect fA) shapeCasts_S1x16_S16)
          (shapeCast S16 (G.view.readAt (Elt F) (Rect.unit (s := S400x128) (tabOff v (16 * j.val)) S1x16.size hv).toLoadRect fG) shapeCasts_S1x16_S16) :=
    congrArg₂ addf (read_lanes (n := 128) A.view fA _ (rowOff_inb t r j) ⟨16 * t.val + r.val, by omega⟩ j (by rw [rowOff_eq]; rfl) (by rw [rowOff_eq]; rfl)).symm
      (read_lanes (n := 400) G.view fG _ hv ⟨v.toNat, hv4⟩ j h0 rfl).symm
  rw [e]
  unfold ldRow
  iintro ⟨HA, HG, HQ⟩
  iapply (wp_load 𝒱₀ (thr d L) none Set.univ (m := A) (View.setOn_subset_set _ _)) $$ HA
  iintro HA
  iapply (wp_load 𝒱₀ (thr d L) none Set.univ (m := G) (View.setOn_subset_set _ _)) $$ HG
  iintro HG
  iapply (le_wp_ret _ _)
  iapply HQ $$ HA HG

theorem wp_stRow (t : Fin 8) (r : Fin 16) (j : Fin 8) (w : FVec F S16 .f32) (Ls : List (View.Piece (Elt F) S128x128 .f32)) (Q : PUnit → sProp 𝕄) :
    iprop(aPts d L A (A.view.writes (Elt F) fA Ls) ∗ (aPts d L A (A.view.writes (Elt F) fA (piece (n := 128) (rowOff t.val (BitVec.ofNat 32 r.val) (16 * j.val)) (rowOff_inb t r j) w :: Ls)) -∗ Q ⟨⟩))
      ⊢ wp frame (wpE (defs₀ (F := F)) 𝒱₀ (thr d L) none) Set.univ (stRow (i := L) A t r j w) Q := by
  unfold stRow
  iintro ⟨HA, HQ⟩
  iapply (wp_load 𝒱₀ (thr d L) none Set.univ (m := A) (View.setOn_subset_set _ _)) $$ HA
  iintro HA
  iapply (wp_store_writes 𝒱₀ (thr d L) none Set.univ (m := A) (A.view.set_slice_subset _)) $$ HA
  iintro HA
  iapply (le_wp_ret _ _)
  iapply HQ $$ HA

theorem rowChk_of (v : BitVec 32) (h : v.toNat < 400) : rowChk v := by
  have key : ∀ j : ℕ, 16 * j + 16 ≤ 128 → ∀ a : Fin 2, tabOff v (16 * j) a + S1x16.size a ≤ S400x128.size a := by
    intro j hj a
    match a with
    | 0 => show v.toNat + 1 ≤ 400; omega
    | 1 => show 16 * j + 16 ≤ 128; omega
  exact ⟨key 0 (by omega), key 1 (by omega), key 2 (by omega), key 3 (by omega), key 4 (by omega), key 5 (by omega), key 6 (by omega), key 7 (by omega)⟩

/-- The row's program after its check. -/
def rowBody (sc bi : Fin 8 → FVec F S16 .f32) (t : Fin 8) (r : Fin 16) (v : BitVec 32) (hv : rowChk v) : Prog (TileEff F L) PUnit := do
  let x0 ← ldRow A G t r v 0 hv.1
  let x1 ← ldRow A G t r v 1 hv.2.1
  let x2 ← ldRow A G t r v 2 hv.2.2.1
  let x3 ← ldRow A G t r v 3 hv.2.2.2.1
  let x4 ← ldRow A G t r v 4 hv.2.2.2.2.1
  let x5 ← ldRow A G t r v 5 hv.2.2.2.2.2.1
  let x6 ← ldRow A G t r v 6 hv.2.2.2.2.2.2.1
  let x7 ← ldRow A G t r v 7 hv.2.2.2.2.2.2.2
  stRow A t r 0 (rowOut ![x0, x1, x2, x3, x4, x5, x6, x7] (sc 0) (bi 0) 0)
  stRow A t r 1 (rowOut ![x0, x1, x2, x3, x4, x5, x6, x7] (sc 1) (bi 1) 1)
  stRow A t r 2 (rowOut ![x0, x1, x2, x3, x4, x5, x6, x7] (sc 2) (bi 2) 2)
  stRow A t r 3 (rowOut ![x0, x1, x2, x3, x4, x5, x6, x7] (sc 3) (bi 3) 3)
  stRow A t r 4 (rowOut ![x0, x1, x2, x3, x4, x5, x6, x7] (sc 4) (bi 4) 4)
  stRow A t r 5 (rowOut ![x0, x1, x2, x3, x4, x5, x6, x7] (sc 5) (bi 5) 5)
  stRow A t r 6 (rowOut ![x0, x1, x2, x3, x4, x5, x6, x7] (sc 6) (bi 6) 6)
  stRow A t r 7 (rowOut ![x0, x1, x2, x3, x4, x5, x6, x7] (sc 7) (bi 7) 7)

theorem rowProg_eq (sc bi : Fin 8 → FVec F S16 .f32) (t : Fin 8) (r : Fin 16) (v : BitVec 32) :
    rowProg (i := L) A G sc bi t r v = Prog.op (TpuEff.assume (rowChk v) (k0_chk1.dec v)) fun h => rowBody L A G sc bi t r v h.down := rfl

set_option maxHeartbeats 1000000 in
theorem wp_rowBody (sc bi : Fin 8 → FVec F S16 .f32) (t : Fin 8) (r : Fin 16) (v : BitVec 32) (hv4 : v.toNat < 400) (hv : rowChk v) (Q : PUnit → sProp 𝕄) :
    iprop(aPts d L A fA ∗ gPts d L G fG ∗ (∀ f', ⌜A.view.read (Elt F) f' = normRow (A.view.read (Elt F) fA) (G.view.read (Elt F) fG) sc bi ⟨16 * t.val + r.val, by omega⟩ ⟨v.toNat, hv4⟩⌝ -∗ aPts d L A f' -∗ gPts d L G fG -∗ Q ⟨⟩))
      ⊢ wp frame (wpE (defs₀ (F := F)) 𝒱₀ (thr d L) none) Set.univ (rowBody L A G sc bi t r v hv) Q := by
  unfold rowBody
  simp only [wp_bind]
  iintro ⟨HA, HG, HQ⟩
  iterate 8
    iapply (wp_ldRow d L A G fA fG t r v hv4 _ _)
    isplitl [HA]; · iexact HA
    isplitl [HG]; · iexact HG
    iintro HA HG
  ihave HA := (show aPts d L A fA ⊢ aPts d L A (A.view.writes (Elt F) fA []) from .rfl) $$ HA
  iterate 8
    iapply (wp_stRow d L A fA t r _ _ _)
    isplitl [HA]; · iexact HA
    iintro HA
  iapply HQ $$ [] HA HG
  ipureintro
  refine read_row_stored (n := 128) A.view fA ⟨16 * t.val + r.val, by omega⟩
    (fun j => rowOut (addRow (A.view.read (Elt F) fA) (G.view.read (Elt F) fG) ⟨16 * t.val + r.val, by omega⟩ ⟨v.toNat, hv4⟩) (sc j) (bi j) j)
    (fun j => rowOff t.val (BitVec.ofNat 32 r.val) (16 * j.val)) (rowOff_inb t r) (fun j => by rw [rowOff_eq]; rfl) (fun j => by rw [rowOff_eq]; rfl) _ ?_
  have hx : ∀ x : Fin 8 → FVec F S16 .f32, ![x 0, x 1, x 2, x 3, x 4, x 5, x 6, x 7] = x := by
    intro x; funext j; fin_cases j <;> rfl
  rw [hx (addRow (A.view.read (Elt F) fA) (G.view.read (Elt F) fG) ⟨16 * t.val + r.val, by omega⟩ ⟨v.toNat, hv4⟩)]
  exact mem_eight (fun j => piece (n := 128) (rowOff t.val (BitVec.ofNat 32 r.val) (16 * j.val)) (rowOff_inb t r j)
    (rowOut (addRow (A.view.read (Elt F) fA) (G.view.read (Elt F) fG) ⟨16 * t.val + r.val, by omega⟩ ⟨v.toNat, hv4⟩) (sc j) (bi j) j))

/-- One row, normalised. -/
theorem wp_rowProg (sc bi : Fin 8 → FVec F S16 .f32) (t : Fin 8) (r : Fin 16) (v : BitVec 32) (hv4 : v.toNat < 400) (Q : PUnit → sProp 𝕄) :
    iprop(aPts d L A fA ∗ gPts d L G fG ∗ (∀ f', ⌜A.view.read (Elt F) f' = normRow (A.view.read (Elt F) fA) (G.view.read (Elt F) fG) sc bi ⟨16 * t.val + r.val, by omega⟩ ⟨v.toNat, hv4⟩⌝ -∗ aPts d L A f' -∗ gPts d L G fG -∗ Q ⟨⟩))
      ⊢ wp frame (wpE (defs₀ (F := F)) 𝒱₀ (thr d L) none) Set.univ (rowProg (i := L) A G sc bi t r v) Q := by
  rw [rowProg_eq]
  exact (wp_rowBody d L A G fA fG sc bi t r v hv4 (rowChk_of v hv4) Q).trans
    (wp_assume 𝒱₀ (thr d L) none Set.univ (k := fun h => rowBody L A G sc bi t r v h.down) (rowChk_of v hv4))

end Run

end Cert.Proof.Emb
-- ==== Proof.ChunkWp.lean ====
/-
  A chunk of 128 rows normalised in its buffer: sixteen rows a trip, eight trips, each row from its gathered token row
  and the table row its segment and its position pick.
-/
module

public import proofs.«01_k».proof.Proof.RowWp

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

/-! ## Positions and table rows -/

/-- The positions of the sixteen rows from row `n` of the tile. -/
def posVec (n : ℕ) : IVec S16 32 := fun l => BitVec.ofNat 32 ((n + (l 0).val) % 200)

theorem nextPos_posVec (n : ℕ) : nextPos (posVec n) = posVec (n + 16) := by
  have key : ∀ a : Fin 200, (if IntOp.cmpi .sge (BitVec.ofNat 32 a.val + 16#32) 200#32 = 1#1 then (BitVec.ofNat 32 a.val + 16#32) - 200#32 else BitVec.ofNat 32 a.val + 16#32)
      = BitVec.ofNat 32 ((a.val + 16) % 200) := by decide +kernel
  funext l
  have h := key ⟨(n + (l 0).val) % 200, Nat.mod_lt _ (by omega)⟩
  have e : (n + 16 + (l 0).val) % 200 = ((n + (l 0).val) % 200 + 16) % 200 := by omega
  show _ = BitVec.ofNat 32 ((n + 16 + (l 0).val) % 200)
  rw [e, ← h]
  rfl

/-- The table row of the tile's row `q`: 200 times its segment, plus its position. -/
def rowWord (Sg : S6400.Idx → BitVec 32) (q : Fin 6400) : BitVec 32 := Sg (ix1 q) * 200#32 + BitVec.ofNat 32 (q.val % 200)
def vRow (Sg : S6400.Idx → BitVec 32) (q : Fin 6400) : Fin 400 := ⟨(rowWord Sg q).toNat % 400, Nat.mod_lt _ (by omega)⟩

theorem rowWord_lt (Sg : S6400.Idx → BitVec 32) (h : ∀ q, (Sg q).toNat < 2) (q : Fin 6400) : (rowWord Sg q).toNat < 400 := by
  have key : ∀ a : Fin 200, ∀ s : Fin 2, (BitVec.ofNat 32 s.val * 200#32 + BitVec.ofNat 32 a.val).toNat < 400 := by decide +kernel
  have := key ⟨q.val % 200, Nat.mod_lt _ (by omega)⟩ ⟨(Sg (ix1 q)).toNat, h _⟩
  rwa [show BitVec.ofNat 32 (Sg (ix1 q)).toNat = Sg (ix1 q) from BitVec.ofNat_toNat .. |>.trans (by simp)] at this

theorem laneAt_apply (r : Fin 16) (idx : IVec S16 32) : laneAt r idx = idx (ix1 r) := by
  show idx _ = idx _
  congr 1
  funext a
  match a with
  | 0 => exact Fin.ext (by show r.val + 0 = r.val; rfl)

variable [FloatOps F]

/-- A chunk's first `n` rows normalised, the rest as gathered. -/
def normAll (X : S128x128.Idx → F .f32) (G : S400x128.Idx → F .f32) (sc bi : Fin 8 → FVec F S16 .f32) (vf : Fin 128 → Fin 400) (n : ℕ) : S128x128.Idx → F .f32 :=
  fun y => if (y 0).val < n then
      rowOut (addRow X G (y 0) (vf (y 0))) (sc (⟨(y 1).val / 16, by have h : (y 1).val < 128 := (y 1).isLt; omega⟩ : Fin 8))
        (bi (⟨(y 1).val / 16, by have h : (y 1).val < 128 := (y 1).isLt; omega⟩ : Fin 8)) (⟨(y 1).val / 16, by have h : (y 1).val < 128 := (y 1).isLt; omega⟩ : Fin 8)
        (ix1 (⟨(y 1).val % 16, by omega⟩ : Fin 16))
    else X y

theorem normAll_zero (X : S128x128.Idx → F .f32) (G : S400x128.Idx → F .f32) (sc bi : Fin 8 → FVec F S16 .f32) (vf : Fin 128 → Fin 400) : normAll X G sc bi vf 0 = X := rfl

theorem normRow_normAll (X : S128x128.Idx → F .f32) (G : S400x128.Idx → F .f32) (sc bi : Fin 8 → FVec F S16 .f32) (vf : Fin 128 → Fin 400) (r : Fin 128) :
    normRow (normAll X G sc bi vf r.val) G sc bi r (vf r) = normAll X G sc bi vf (r.val + 1) := by
  have hrow : addRow (normAll X G sc bi vf r.val) G r (vf r) = addRow X G r (vf r) := by
    funext j
    unfold addRow
    congr 1
    funext l
    unfold rowVec normAll
    exact if_neg (Nat.lt_irrefl r.val)
  funext y
  unfold normRow
  rw [hrow]
  unfold rowUpd
  by_cases h : (y 0).val = r.val
  · have hy : y 0 = r := Fin.ext h
    rw [if_pos h]
    unfold normAll
    rw [if_pos (by omega), hy]
  · rw [if_neg h]
    unfold normAll
    by_cases h' : (y 0).val < r.val
    · rw [if_pos h', if_pos (by omega)]
    · rw [if_neg h', if_neg (by omega)]

section Run

variable (d : Dev nD) (L : grid0.Coords)
variable (A : Memref sig .scVector .vmem S128x128 .f32) (Sm : Memref sig .scVector .vmem S6400 .i32) (G : Memref sig .scVector .vmem S400x128 .f32)
variable (fS : Buf (Elt F) (Sm.view.loc (thr d L))) (fG : Buf (Elt F) (G.view.loc (thr d L)))
variable (X : S128x128.Idx → F .f32) (sc bi : Fin 8 → FVec F S16 .f32)

/-- The segments' buffer. -/
abbrev sPts : sProp 𝕄 := Sm.view.loc (thr d L) ↦[Sm.view.set]{fullShare} fS

/-- The rows of one trip. -/
theorem wp_rowsProg (vf : Fin 128 → Fin 400) (t : Fin 8) (idx : IVec S16 32)
    (hidx : ∀ r : Fin 16, (idx (ix1 r)).toNat = (vf ⟨16 * t.val + r.val, by omega⟩).val) (Q : PUnit → sProp 𝕄) :
    ∀ (n r : ℕ) (h : r + n = 16) (fA : Buf (Elt F) (A.view.loc (thr d L))), A.view.read (Elt F) fA = normAll X (G.view.read (Elt F) fG) sc bi vf (16 * t.val + r) →
    iprop(aPts d L A fA ∗ gPts d L G fG ∗ (∀ f', ⌜A.view.read (Elt F) f' = normAll X (G.view.read (Elt F) fG) sc bi vf (16 * t.val + 16)⌝ -∗ aPts d L A f' -∗ gPts d L G fG -∗ Q ⟨⟩))
      ⊢ wp frame (wpE (defs₀ (F := F)) 𝒱₀ (thr d L) none) Set.univ (rowsProg (i := L) A G sc bi t idx n r h) Q := by
  intro n
  induction n with
  | zero =>
    intro r h fA hA
    obtain rfl : r = 16 := by omega
    unfold rowsProg
    iintro ⟨HA, HG, HQ⟩
    iapply (le_wp_ret _ _)
    iapply HQ $$ [] HA HG
    ipureintro; exact hA
  | succ n ih =>
    intro r h fA hA
    unfold rowsProg
    rw [wp_bind]
    have hr : r < 16 := by omega
    have hr' : r + 1 + n = 16 := by omega
    have hv : (laneAt ⟨r, by omega⟩ idx).toNat = (vf ⟨16 * t.val + r, by omega⟩).val := by
      rw [laneAt_apply]; exact hidx ⟨r, by omega⟩
    iintro ⟨HA, HG, HQ⟩
    iapply (wp_rowProg d L A G fA fG sc bi t ⟨r, hr⟩ _ (hv.trans_lt (vf _).isLt))
    isplitl [HA]; · iexact HA
    isplitl [HG]; · iexact HG
    iintro %f' %hf' HA HG
    iapply (ih (r + 1) hr' f' ?_)
    · rw [hf', hA]
      have e : (⟨(laneAt ⟨r, by omega⟩ idx).toNat, hv.trans_lt (vf _).isLt⟩ : Fin 400) = vf ⟨16 * t.val + r, by omega⟩ := Fin.ext hv
      rw [e]
      exact normRow_normAll X _ sc bi vf ⟨16 * t.val + r, by omega⟩
    isplitl [HA]; · iexact HA
    isplitl [HG]; · iexact HG
    iexact HQ

/-- The table rows of chunk `c`. -/
def vf (Sg : S6400.Idx → BitVec 32) (c : Fin 50) (r : Fin 128) : Fin 400 := vRow Sg ⟨128 * c.val + r.val, by omega⟩

/-- One trip of an inner loop. -/
theorem wp_tripProg (c : Fin 50) (t : Fin 8) (off : Fin 1 → ℕ) (hoff : ∀ a, off a + S16.size a ≤ S6400.size a) (h0 : off 0 = 128 * c.val + 16 * t.val)
    (hS : ∀ q, (Sm.view.read (Elt F) fS q).toNat < 2) (fA : Buf (Elt F) (A.view.loc (thr d L)))
    (hA : A.view.read (Elt F) fA = normAll X (G.view.read (Elt F) fG) sc bi (vf (Sm.view.read (Elt F) fS) c) (16 * t.val)) (Q : IVec S16 32 → sProp 𝕄) :
    iprop(aPts d L A fA ∗ sPts d L Sm fS ∗ gPts d L G fG ∗ (∀ f', ⌜A.view.read (Elt F) f' = normAll X (G.view.read (Elt F) fG) sc bi (vf (Sm.view.read (Elt F) fS) c) (16 * (t.val + 1))⌝ -∗ aPts d L A f' -∗ sPts d L Sm fS -∗ gPts d L G fG
        -∗ Q (posVec (128 * c.val + 16 * (t.val + 1)))))
      ⊢ wp frame (wpE (defs₀ (F := F)) 𝒱₀ (thr d L) none) Set.univ (tripProg (i := L) A Sm G sc bi off hoff t (posVec (128 * c.val + 16 * t.val))) Q := by
  unfold tripProg
  simp only [wp_bind]
  iintro ⟨HA, HS, HG, HQ⟩
  iapply (wp_load 𝒱₀ (thr d L) none Set.univ (m := Sm) (View.setOn_subset_set _ _)) $$ HS
  iintro HS
  iapply (le_wp_ret _ _)
  have hidx : ∀ r : Fin 16, (idxOf (F := F) (Sm.view.readAt (Elt F) (Rect.unit (s := S6400) off S16.size hoff).toLoadRect fS) (posVec (128 * c.val + 16 * t.val)) (ix1 r)).toNat
      = (vf (Sm.view.read (Elt F) fS) c ⟨16 * t.val + r.val, by omega⟩).val := by
    intro r
    have e : idxOf (F := F) (Sm.view.readAt (Elt F) (Rect.unit (s := S6400) off S16.size hoff).toLoadRect fS) (posVec (128 * c.val + 16 * t.val)) (ix1 r)
        = rowWord (Sm.view.read (Elt F) fS) ⟨128 * c.val + (16 * t.val + r.val), by omega⟩ := by
      unfold idxOf
      rw [shapeCast_self]
      show Sm.view.read (Elt F) fS _ * 200#32 + BitVec.ofNat 32 ((128 * c.val + 16 * t.val + r.val) % 200) = _
      unfold rowWord
      congr 2
      · congr 1
        funext a
        match a with
        | 0 => exact Fin.ext (by show off 0 + 1 * r.val = 128 * c.val + (16 * t.val + r.val); omega)
      · show _ = (128 * c.val + (16 * t.val + r.val)) % 200
        congr 1; omega
    rw [e]
    exact (Nat.mod_eq_of_lt (rowWord_lt _ hS _)).symm
  iapply (wp_rowsProg d L A G fG X sc bi (vf (Sm.view.read (Elt F) fS) c) t _ hidx _ 16 0 rfl fA hA)
  isplitl [HA]; · iexact HA
  isplitl [HG]; · iexact HG
  iintro %f' %hf' HA HG
  rw [nextPos_posVec]
  iapply (le_wp_ret _ _)
  iapply HQ $$ [] HA HS HG
  ipureintro; exact hf'

/-- The eight trips: the whole chunk normalised. -/
theorem wp_inner (loop : Scf.Loop 32) (hok : loop.OK) (h8 : loop.trips = 8) (c : Fin 50) (init : IVec S16 32) (hinit : init = posVec (128 * c.val))
    (off : Fin loop.trips → Fin 1 → ℕ) (hoff : ∀ t a, off t a + S16.size a ≤ S6400.size a) (h0 : ∀ t, off t 0 = 128 * c.val + 16 * t.val)
    (body : Fin loop.trips → IVec S16 32 → Prog (TileEff F L) (IVec S16 32))
    (hbody : ∀ t pos, body t pos = tripProg A Sm G sc bi (off t) (hoff t) (Fin.cast h8 t) pos)
    (hS : ∀ q, (Sm.view.read (Elt F) fS q).toNat < 2) (fA : Buf (Elt F) (A.view.loc (thr d L))) (hA : A.view.read (Elt F) fA = X) (Q : IVec S16 32 → sProp 𝕄) :
    iprop(aPts d L A fA ∗ sPts d L Sm fS ∗ gPts d L G fG ∗ (∀ f' p, ⌜A.view.read (Elt F) f' = normAll X (G.view.read (Elt F) fG) sc bi (vf (Sm.view.read (Elt F) fS) c) 128⌝ -∗ aPts d L A f' -∗ sPts d L Sm fS -∗ gPts d L G fG -∗ Q p))
      ⊢ wp frame (wpE (defs₀ (F := F)) 𝒱₀ (thr d L) none) Set.univ (Scf.Loop.for loop hok init body) Q := by
  iintro ⟨HA, HS, HG, HQ⟩
  iapply (Scf.wp_for frame (wpE (defs₀ (F := F)) 𝒱₀ (thr d L) none) Set.univ loop.lb loop.ub loop.st hok init body
    (fun k pos => iprop(⌜pos = posVec (128 * c.val + 16 * k)⌝ ∗ (∃ f', ⌜A.view.read (Elt F) f' = normAll X (G.view.read (Elt F) fG) sc bi (vf (Sm.view.read (Elt F) fS) c) (16 * k)⌝ ∗ aPts d L A f') ∗ sPts d L Sm fS ∗ gPts d L G fG)) ?_)
  · intro t pos
    iintro ⟨%hp, ⟨%f', %hf', HA⟩, HS, HG⟩
    rw [hbody, hp]
    iapply (wp_tripProg d L A Sm G fS fG X sc bi c (Fin.cast h8 t) (off t) (hoff t) (h0 t) hS f' hf')
    isplitl [HA]; · iexact HA
    isplitl [HS]; · iexact HS
    isplitl [HG]; · iexact HG
    iintro %f'' %hf'' HA HS HG
    isplitr; · ipureintro; rfl
    isplitl [HA]
    · iexists f''
      isplitr; · ipureintro; exact hf''
      iexact HA
    isplitl [HS]; · iexact HS
    iexact HG
  isplitl [HA HS HG]
  · isplitr; · ipureintro; exact hinit
    isplitl [HA]
    · iexists fA
      isplitr; · ipureintro; exact hA
      iexact HA
    isplitl [HS]; · iexact HS
    iexact HG
  iintro %p ⟨%hp, ⟨%f', %hf', HA⟩, HS, HG⟩
  iapply HQ $$ [] HA HS HG
  ipureintro
  rw [hf', show Scf.trips loop.lb loop.ub loop.st = 8 from h8]

end Run

end Cert.Proof.Emb
-- ==== Proof.Dma.lean ====
/-
  The tile's transfers: a chunk's rows gathered from the token table, a finished chunk written out, and their waits.
-/
module

public import proofs.«01_k».proof.Proof.ChunkWp

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

/-! ## Flights -/

/-- A flight carries along what the issuer sets aside with it. -/
theorem flight_frame (c : Thread nD τ) (sm : SemLoc sig) (ι : HIx 1) (N : ℕ) (D R : sProp 𝕄) :
    iprop(Transfers.Flight countersEmb c sm ι N D ∗ R) ⊢ (Transfers.Flight countersEmb c sm ι N iprop(D ∗ R) : sProp 𝕄) := by
  unfold Transfers.Flight
  iintro ⟨⟨⟨%R0, HR0, %hcap, %hpeek⟩, Hcred⟩, HR⟩
  isplitl [HR0 HR]
  · iexists iprop(R0 ∗ R)
    isplitl [HR0 HR]; · isplitl [HR0] <;> iassumption
    isplit
    · ipureintro
      intro K
      iintro ⟨⟨HR0, HR⟩, HK⟩
      iapply (hcap K)
      isplitl [HR0]; · iexact HR0
      iintro ⟨Hv, HD⟩
      iapply HK
      isplitl [Hv]; · iexact Hv
      isplitl [HD] <;> iassumption
    · ipureintro
      intro K
      iintro ⟨⟨HR0, HR⟩, HK⟩
      iapply (hpeek K)
      isplitl [HR0]; · iexact HR0
      iintro HR0
      iapply HK
      isplitl [HR0] <;> iassumption
  · iexact Hcred

/-! ## The rows a chunk gathers -/

/-- The rows of the table the list names from place `128 * c`. -/
def gath (Tm : S100000x128.Idx → F .f32) (Id : S6400.Idx → BitVec 32) (c : ℕ) : S128x128.Idx → F .f32 :=
  fun y => Tm (ix2 (⟨(Id (ix1 (⟨(128 * c + (y 0).val) % 6400, Nat.mod_lt _ (by decide)⟩ : Fin 6400))).toNat % 100000, Nat.mod_lt _ (by decide)⟩ : Fin 100000) (y 1))

section Run

variable [FloatOps F] (d : Dev nD) (L : grid0.Coords)
variable (A : Memref sig .scVector .vmem S128x128 .f32) (I : Memref sig .scVector .vmem S6400 .i32) (T : Memref sig .scVector .hbm S100000x128 .f32)

/-- A gather under way: the chunk's rows, and the shares lent to it. -/
abbrev GFl (sem : DmaSem sig) (N : ℕ) (q qi : PosShare TreeShare) (ft : Buf (Elt F) (T.view.loc (thr d L))) (fi : Buf (Elt F) (I.view.loc (thr d L))) (c : ℕ) : sProp 𝕄 :=
  Transfers.Flight countersEmb (thr d L) (.dma sem) (default : HIx 1) N
    iprop((∃ f', ⌜A.view.read (Elt F) f' = gath (T.view.read (Elt F) ft) (I.view.read (Elt F) fi) c⌝ ∗ aPts d L A f')
      ∗ (T.view.loc (thr d L) ↦{q} ft) ∗ (I.view.loc (thr d L) ↦{qi} fi))

theorem gath_payload (off : Fin 1 → ℕ) (hoff : ∀ a, off a + S128.size a ≤ S6400.size a) (c : ℕ) (hc : c < 50) (h0 : off 0 = 128 * c)
    (hg : S100000x128.Gathers 0 S128x128) (hn : S128.numel = S128x128.size hg.axis')
    (ft : Buf (Elt F) (T.view.loc (thr d L))) (fi : Buf (Elt F) (I.view.loc (thr d L)))
    (hin : ∀ x, ((I.slice (Rect.unit (s := S6400) off S128.size hoff) (fun _ => rfl)).view.read (Elt F) fi x).toNat < S100000x128.size hg.axis) :
    SparseCore.gatherPayload hg ((T.slice (Rect.unit (s := S100000x128) ![0, 0] S100000x128.size inb_S100000x128_S100000x128_0_0) (fun _ => rfl)).view.read (Elt F) ft)
        (SparseCore.rows ((I.slice (Rect.unit (s := S6400) off S128.size hoff) (fun _ => rfl)).view.read (Elt F) fi) hn hin)
      = gath (T.view.read (Elt F) ft) (I.view.read (Elt F) fi) c := by
  funext y
  have hy0 : (y 0).val < 128 := (y 0).isLt
  unfold SparseCore.gatherPayload gath
  show T.view.read (Elt F) ft _ = T.view.read (Elt F) ft _
  congr 1
  funext a
  apply Fin.ext
  match a with
  | 0 =>
    show 0 + 1 * (hg.idx _ y hg.axis).val = (I.view.read (Elt F) fi _).toNat % 100000
    rw [Shape.Gathers.idx_axis]
    have e : ((S128.rowMajor.symm (Fin.cast hn.symm (y hg.axis'))) 0).val = (y 0).val :=
      (Shape.rowMajor_val_one (d := ![128]) (S128.rowMajor.symm (Fin.cast hn.symm (y hg.axis')))).symm.trans
        (congrArg Fin.val (Equiv.apply_symm_apply S128.rowMajor (Fin.cast hn.symm (y hg.axis'))))
    show 0 + 1 * (I.view.read (Elt F) fi ((Rect.unit (s := S6400) off S128.size hoff).emb (S128.rowMajor.symm (Fin.cast hn.symm (y hg.axis'))))).toNat = _
    have e2 : (Rect.unit (s := S6400) off S128.size hoff).emb (S128.rowMajor.symm (Fin.cast hn.symm (y hg.axis')))
        = ix1 (⟨(128 * c + (y 0).val) % 6400, Nat.mod_lt _ (by decide)⟩ : Fin 6400) := by
      funext b
      apply Fin.ext
      match b with
      | 0 =>
        show off 0 + 1 * ((S128.rowMajor.symm (Fin.cast hn.symm (y hg.axis'))) 0).val = (128 * c + (y 0).val) % 6400
        rw [e, h0, Nat.mod_eq_of_lt (by omega)]; omega
    have hlt : (I.view.read (Elt F) fi ((Rect.unit (s := S6400) off S128.size hoff).emb (S128.rowMajor.symm (Fin.cast hn.symm (y hg.axis'))))).toNat < 100000 := hin _
    rw [e2] at hlt ⊢
    rw [Nat.mod_eq_of_lt hlt]; omega
  | 1 =>
    show 0 + 1 * (hg.idx _ y (1 : Fin 2)).val = (y 1).val
    rw [Shape.Gathers.idx_of_ne hg _ y (1 : Fin 2) (by decide)]
    rw [Nat.zero_add, Nat.one_mul]; rfl

set_option maxHeartbeats 1000000 in
/-- A chunk's gather issued. -/
theorem wp_gatherC (sem : DmaSem sig) (off : Fin 1 → ℕ) (hoff : ∀ a, off a + S128.size a ≤ S6400.size a) (c : ℕ) (hc : c < 50) (h0 : off 0 = 128 * c)
    (N : ℕ) (hN : ∀ h : S100000x128.Gathers 0 S128x128, ∑ j, (A.slice (S128x128.rowRect h.axis' j) (S128x128.stride_rowRect h.axis' j)).view.dmaCredit = N)
    (hp : (thr d L).2.kind = .scVector) (hn : S128.numel = S128x128.size gathers_S100000x128_S128x128.axis')
    (hsrc : (T.slice (Rect.unit (s := S100000x128) ![0, 0] S100000x128.size inb_S100000x128_S100000x128_0_0) (fun _ => rfl)).view.WordExact)
    (he : EltTy.bits .f32 = 32) (hsp : Space.hbm = .hbm ∨ Space.hbm = .shared) (hr : S100000x128.StreamRows 0)
    (q qi : PosShare TreeShare) (ft : Buf (Elt F) (T.view.loc (thr d L))) (fi : Buf (Elt F) (I.view.loc (thr d L)))
    (hids : ∀ x, (I.view.read (Elt F) fi x).toNat < 100000) (fa : Buf (Elt F) (A.view.loc (thr d L))) (Q : PUnit → sProp 𝕄) :
    iprop(aPts d L A fa ∗ (T.view.loc (thr d L) ↦{q} ft) ∗ (I.view.loc (thr d L) ↦{qi} fi) ∗ semVal (thr d L, SemLoc.dma sem) 0
        ∗ (GFl d L A I T sem N q qi ft fi c -∗ Q ⟨⟩))
      ⊢ wp frame (wpE (defs₀ (F := F)) 𝒱₀ (thr d L) none) Set.univ
          (SparseCore.enqueueIndirectGather hp (T.slice (Rect.unit (s := S100000x128) ![0, 0] S100000x128.size inb_S100000x128_S100000x128_0_0) (fun _ => rfl)) A
            gathers_S100000x128_S128x128 (I.slice (Rect.unit (s := S6400) off S128.size hoff) (fun _ => rfl)) hn sem hsrc he hsp hr) Q := by
  have hin : ∀ x, ((I.slice (Rect.unit (s := S6400) off S128.size hoff) (fun _ => rfl)).view.read (Elt F) fi x).toNat < S100000x128.size gathers_S100000x128_S128x128.axis :=
    fun x => hids _
  rw [← Prog.bind_pure (SparseCore.enqueueIndirectGather hp (T.slice (Rect.unit (s := S100000x128) ![0, 0] S100000x128.size inb_S100000x128_S100000x128_0_0) (fun _ => rfl)) A
            gathers_S100000x128_S128x128 (I.slice (Rect.unit (s := S6400) off S128.size hoff) (fun _ => rfl)) hn sem hsrc he hsp hr)]
  iintro ⟨HA, HT, HI, Hsem, HQ⟩
  ihave HT := (pointsTo_split_subset (q := q) (f := ft) (S := Finset.univ) (Finset.subset_univ
    (T.slice (Rect.unit (s := S100000x128) ![0, 0] S100000x128.size inb_S100000x128_S100000x128_0_0) (fun _ => rfl)).view.set)).1 $$ HT
  icases HT with ⟨HT, HTr⟩
  ihave HI := (pointsTo_split_subset (q := qi) (f := fi) (S := Finset.univ) (Finset.subset_univ
    (I.slice (Rect.unit (s := S6400) off S128.size hoff) (fun _ => rfl)).view.set)).1 $$ HI
  icases HI with ⟨HI, HIr⟩
  iapply (SparseCore.wp_indirectGatherLocal countersEmb 𝒱₀ (thr d L) none (hg := gathers_S100000x128_S128x128) (default : HIx 1) N (hN _) (by decide) hin) $$ [HT HA HI Hsem]
  · isplitl [HT]; · iexact HT
    isplitl [HA]; · iexact HA
    isplitl [HI] <;> iassumption
  iintro Hfl
  iapply (le_wp_ret _ _)
  iapply HQ
  ihave Hfl := (flight_frame (thr d L) (SemLoc.dma sem) (default : HIx 1) N _ _) $$ [Hfl HTr]
  · isplitl [Hfl]; · iexact Hfl
    iexact HTr
  ihave Hfl := (flight_frame (thr d L) (SemLoc.dma sem) (default : HIx 1) N _ _) $$ [Hfl HIr]
  · isplitl [Hfl]; · iexact Hfl
    iexact HIr
  istop
  refine Transfers.Flight_mono countersEmb (thr d L) ?_
  iintro ⟨⟨⟨HA, HT, HI⟩, HTr⟩, HIr⟩
  isplitl [HA]
  · iexists _
    isplitr
    swap; · iexact HA
    ipureintro
    rw [View.read_write_univ]
    exact gath_payload d L I T off hoff c hc h0 _ hn ft fi hin
  isplitl [HT HTr]
  · iapply (pointsTo_split_subset (q := q) (f := ft) (S := Finset.univ) (Finset.subset_univ
      (T.slice (Rect.unit (s := S100000x128) ![0, 0] S100000x128.size inb_S100000x128_S100000x128_0_0) (fun _ => rfl)).view.set)).2
    isplitl [HT] <;> iassumption
  · iapply (pointsTo_split_subset (q := qi) (f := fi) (S := Finset.univ) (Finset.subset_univ
      (I.slice (Rect.unit (s := S6400) off S128.size hoff) (fun _ => rfl)).view.set)).2
    isplitl [HI] <;> iassumption

end Run

end Cert.Proof.Emb
-- ==== Proof.Out.lean ====
/-
  The chunks' places in the result, a finished chunk written out, the waits, and the scalars of the tile's loop.
-/
module

public import proofs.«01_k».proof.Proof.Dma

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

/-- The result's array, as the tile addresses it. -/
abbrev oV : Memref sig .scVector .hbm S204800x128 .f32 := Memref.whole main_v3_scv

/-- The first row of the tile. -/
def base (L : grid0.Coords) : ℕ := 12800 * (L 1).val + 6400 * (L 0).val

theorem base_lt (L : grid0.Coords) : base L + 6400 ≤ 204800 := by
  have h0 : (L 0).val < 2 := (L 0).isLt
  have h1 : (L 1).val < 16 := (L 1).isLt
  unfold base; omega

theorem base_mod (L : grid0.Coords) : base L % 200 = 0 := by unfold base; omega

/-- The elements of the `k` rows from row `n`. -/
def rowsSet (n k : ℕ) : Finset S204800x128.Idx := Finset.univ.filter fun y => n ≤ (y 0).val ∧ (y 0).val < n + k

theorem mem_rowsSet (n k : ℕ) (y : S204800x128.Idx) : y ∈ rowsSet n k ↔ n ≤ (y 0).val ∧ (y 0).val < n + k := by
  unfold rowsSet; rw [Finset.mem_filter]; simp

theorem set_oSlice (off : Fin 2 → ℕ) (hoff : ∀ a, off a + S128x128.size a ≤ S204800x128.size a) (n : ℕ) (h0 : off 0 = n) (h1 : off 1 = 0) :
    ((oV).slice (Rect.unit (s := S204800x128) off S128x128.size hoff) (fun _ => rfl)).view.set = rowsSet n 128 := by
  ext y
  rw [mem_rowsSet]
  show y ∈ ((oV).view.slice (Rect.unit (s := S204800x128) off S128x128.size hoff)).set ↔ _
  rw [show ((oV).view.slice (Rect.unit (s := S204800x128) off S128x128.size hoff)).set = (Rect.unit (s := S204800x128) off S128x128.size hoff).set from View.set_slice_whole ..]
  refine Rect.mem_set_unit.trans ?_
  have hy : (y 1).val < 128 := (y 1).isLt
  constructor
  · intro h
    have h' : off 0 ≤ (y 0).val ∧ (y 0).val < off 0 + 128 := h 0
    omega
  · intro h a
    match a with
    | 0 => show off 0 ≤ (y 0).val ∧ (y 0).val < off 0 + 128; omega
    | 1 => show off 1 ≤ (y 1).val ∧ (y 1).val < off 1 + 128; omega

/-! ## Scalars -/

/-- The sixteen lanes from a scalar position. -/
def startLanes (b : BitVec 32) : IVec S16 32 :=
  select (cmpi .sge (addi (broadcast S16 b) (iota .scVector S16 32 [0] iota_S16_d0_w32_scVector)) (broadcast S16 200#32))
    (subi (addi (broadcast S16 b) (iota .scVector S16 32 [0] iota_S16_d0_w32_scVector)) (broadcast S16 200#32))
    (addi (broadcast S16 b) (iota .scVector S16 32 [0] iota_S16_d0_w32_scVector))

theorem startLanes_eq (n : ℕ) : startLanes (BitVec.ofNat 32 (n % 200)) = posVec n := by
  have key : ∀ (a : Fin 200) (l : Fin 16), (if IntOp.cmpi .sge (BitVec.ofNat 32 a.val + BitVec.ofNat 32 l.val) 200#32 = 1#1
      then (BitVec.ofNat 32 a.val + BitVec.ofNat 32 l.val) - 200#32 else BitVec.ofNat 32 a.val + BitVec.ofNat 32 l.val)
      = BitVec.ofNat 32 ((a.val + l.val) % 200) := by decide +kernel
  funext l
  have hi : iota .scVector S16 32 [0] iota_S16_d0_w32_scVector l = BitVec.ofNat 32 (l 0).val := by
    unfold iota; simp
  have h := key ⟨n % 200, Nat.mod_lt _ (by omega)⟩ (l 0)
  have e : (n + (l 0).val) % 200 = (n % 200 + (l 0).val) % 200 := by omega
  show _ = BitVec.ofNat 32 ((n + (l 0).val) % 200)
  rw [e, ← h]
  unfold startLanes
  show (if IntOp.cmpi .sge (BitVec.ofNat 32 (n % 200) + iota .scVector S16 32 [0] iota_S16_d0_w32_scVector l) 200#32 = 1#1 then
    (BitVec.ofNat 32 (n % 200) + iota .scVector S16 32 [0] iota_S16_d0_w32_scVector l) - 200#32 else BitVec.ofNat 32 (n % 200) + iota .scVector S16 32 [0] iota_S16_d0_w32_scVector l) = _
  rw [hi]

/-- The tile's first row, as the kernel computes it. -/
def v2of (L : grid0.Coords) : BitVec 32 :=
  Scalar.muli (Scalar.addi (Scalar.muli (BitVec.ofNat 32 (L 1).val) 2#32) (BitVec.ofNat 32 (L 0).val)) 6400#32

theorem start_even (L : grid0.Coords) (t : Fin k0_t2_loop.trips) (c : Fin 50) (hc : c.val = 2 * t.val) :
    k0_pay922 (v2of L) 0#32 1#32 t = posVec (128 * c.val) := by
  have key : ∀ (a : Fin 16) (b : Fin 2) (t : Fin k0_t2_loop.trips),
      Scalar.remsi (Scalar.addi (Scalar.muli (Scalar.addi (Scalar.muli (BitVec.ofNat 32 a.val) 2#32) (BitVec.ofNat 32 b.val)) 6400#32)
        (Scalar.muli (Scalar.addi (Scalar.muli 2#32 (Scf.iv 0#32 1#32 t)) 0#32) 128#32)) 200#32 = BitVec.ofNat 32 (128 * (2 * t.val) % 200) := by decide +kernel
  have h := key (L 1) (L 0) t
  rw [hc, ← startLanes_eq, ← h]
  rfl

theorem start_odd (L : grid0.Coords) (t : Fin k0_t2_loop.trips) (c : Fin 50) (hc : c.val = 2 * t.val + 1) (v123 : BitVec 32)
    (hv : v123 = Scalar.muli (Scalar.addi (Scalar.muli 2#32 (Scf.iv 0#32 1#32 t)) 1#32) 128#32) :
    k0_pay7 (v2of L) v123 = posVec (128 * c.val) := by
  subst hv
  have key : ∀ (a : Fin 16) (b : Fin 2) (t : Fin k0_t2_loop.trips),
      Scalar.remsi (Scalar.addi (Scalar.muli (Scalar.addi (Scalar.muli (BitVec.ofNat 32 a.val) 2#32) (BitVec.ofNat 32 b.val)) 6400#32)
        (Scalar.muli (Scalar.addi (Scalar.muli 2#32 (Scf.iv 0#32 1#32 t)) 1#32) 128#32)) 200#32 = BitVec.ofNat 32 (128 * (2 * t.val + 1) % 200) := by decide +kernel
  have h := key (L 1) (L 0) t
  rw [hc, ← startLanes_eq, ← h]
  rfl

theorem trips_t2 : k0_t2_loop.trips = 25 := by decide +kernel
theorem trips_t1 : k0_t1_loop.trips = 200 := by decide +kernel
theorem trips_t3 : k0_t3_loop.trips = 8 := by decide +kernel
theorem trips_t4 : k0_t4_loop.trips = 8 := by decide +kernel
theorem cond1_true : ∀ t : Fin k0_t2_loop.trips, k0_cond1 t = 1#1 := by decide +kernel
theorem cond3_iff : ∀ t : Fin k0_t2_loop.trips, k0_cond3 t = 1#1 ↔ t.val < 24 := by decide +kernel
theorem cond2_iff : ∀ t : Fin k0_t2_loop.trips,
    Scalar.cmpi .ne (Scalar.extui (Scalar.cmpi .sge (Scalar.addi (Scalar.muli 2#32 (Scf.iv 0#32 1#32 t)) 0#32) 1#32) : BitVec 32) 0#32 = 1#1 ↔ 0 < t.val := by decide +kernel
theorem cond4_true : ∀ t : Fin k0_t2_loop.trips,
    Scalar.cmpi .ne (Scalar.extui (Scalar.cmpi .sge (Scalar.addi (Scalar.muli 2#32 (Scf.iv 0#32 1#32 t)) 1#32) 1#32) : BitVec 32) 0#32 = 1#1 := by decide +kernel

/-! ## Runs of chunks -/

theorem ico_pop (Φ : ℕ → sProp 𝕄) {a b : ℕ} (h : a < b) : bigSep (Finset.Ico a b) Φ = iprop(Φ a ∗ bigSep (Finset.Ico (a + 1) b) Φ) := by
  rw [← SparseCore.bigSep_insert' (by simp), Finset.insert_Ico_add_one_left_eq_Ico h]

theorem ico_push (Φ : ℕ → sProp 𝕄) {a b : ℕ} (h : a ≤ b) : iprop(Φ b ∗ bigSep (Finset.Ico a b) Φ) = bigSep (Finset.Ico a (b + 1)) Φ := by
  rw [← SparseCore.bigSep_insert' (by simp), Finset.insert_Ico_right_eq_Ico_add_one h]

section Run

variable [FloatOps F] (d : Dev nD) (L : grid0.Coords)
variable (A : Memref sig .scVector .vmem S128x128 .f32)

/-- A chunk's place in the result. -/
abbrev oPts (n : ℕ) (f : Buf (Elt F) ((oV).view.loc (thr d L))) : sProp 𝕄 := (oV).view.loc (thr d L) ↦[rowsSet n 128]{fullShare} f

/-- A finished chunk on its way out. -/
abbrev OFl (sem : DmaSem sig) (N : ℕ) (fin : Buf (Elt F) ((oV).view.loc (thr d L))) (n : ℕ) : sProp 𝕄 :=
  Transfers.Flight countersEmb (thr d L) (.dma sem) (default : HIx 1) N
    iprop((∃ f', aPts d L A f') ∗ oPts d L n fin)

set_option maxHeartbeats 1000000 in
/-- A finished chunk's write-out issued. -/
theorem wp_outC (sem : DmaSem sig) (off : Fin 2 → ℕ) (hoff : ∀ a, off a + S128x128.size a ≤ S204800x128.size a) (n : ℕ) (h0 : off 0 = n) (h1 : off 1 = 0)
    (N : ℕ) (hN : ∀ (off : Fin 2 → ℕ) (hoff : ∀ a, off a + S128x128.size a ≤ S204800x128.size a),
      ((oV).slice (Rect.unit (s := S204800x128) off S128x128.size hoff) (fun _ => rfl)).view.amount (.dma sem) = N) (hN0 : 0 < N)
    {hA : A.view.WordExact} {hO : ((oV).slice (Rect.unit (s := S204800x128) off S128x128.size hoff) (fun _ => rfl)).view.WordExact}
    {hsem : (DmaTarget.here ((oV).slice (Rect.unit (s := S204800x128) off S128x128.size hoff) (fun _ => rfl)) : DmaTarget nD τ sig (thr d L).2 .hbm S128x128 .f32).Typed Space.vmem (.dma sem)}
    (fin f0 : Buf (Elt F) ((oV).view.loc (thr d L))) (fa : Buf (Elt F) (A.view.loc (thr d L)))
    (hfin : ∀ (y : S128x128.Idx) (z : S204800x128.Idx), (z 0).val = n + (y 0).val → (z 1).val = (y 1).val → (fin : S204800x128.Idx → F .f32) z = A.view.read (Elt F) fa y) (Q : PUnit → sProp 𝕄) :
    iprop(aPts d L A fa ∗ oPts d L n f0 ∗ semVal (thr d L, SemLoc.dma sem) 0 ∗ (OFl d L A sem N fin n -∗ Q ⟨⟩))
      ⊢ wp frame (wpE (defs₀ (F := F)) 𝒱₀ (thr d L) none) Set.univ
          (Prog.lift (.enqueueDma A (.here ((oV).slice (Rect.unit (s := S204800x128) off S128x128.size hoff) (fun _ => rfl))) (.dma sem) hA hO hsem)) Q := by
  have hset := set_oSlice off hoff n h0 h1
  iintro ⟨HA, HO, Hsem, HQ⟩
  iapply (Transfers.wp_dmaLocal countersEmb 𝒱₀ (thr d L) none (default : HIx 1) N (hN off hoff) hN0 (Finset.Subset.refl _)) $$ [HA HO Hsem]
  · isplitl [HA]; · iexact HA
    isplitl [HO]
    · iapply (Entails.of_eq (show oPts d L n f0 = (((oV).slice (Rect.unit (s := S204800x128) off S128x128.size hoff) (fun _ => rfl)).view.loc (thr d L)
          ↦[((oV).slice (Rect.unit (s := S204800x128) off S128x128.size hoff) (fun _ => rfl)).view.set]{fullShare} f0 : sProp 𝕄) by rw [hset]))
      iexact HO
    iexact Hsem
  iintro Hfl
  iapply (le_wp_ret _ _)
  iapply HQ
  istop
  refine Transfers.Flight_mono countersEmb (thr d L) ?_
  iintro ⟨HO, HA⟩
  isplitl [HA]
  · iexists _; iexact HA
  istop
  refine (Entails.of_eq (pointsTo_congr (g := fin) ?_)).trans (Entails.of_eq (by rw [hset]))
  intro y hy
  obtain ⟨x, -, rfl⟩ := Finset.mem_map.mp hy
  refine (View.write_emb_of_mem _ _ (Finset.mem_univ x)).trans ?_
  symm
  refine (hfin x _ ?_ ?_).trans ?_
  · show off 0 + 1 * (x 0).val = n + (x 0).val; omega
  · show off 1 + 1 * (x 1).val = (x 1).val; omega
  · rfl

/-- A wait for what the tile issued. -/
theorem wp_waitC {sp sp' : Space} {s s' : Shape} {e e' : EltTy} {κ' : Kind} {srcw : Memref sig (thr d L).2.kind sp' s' e'} {dstw : Memref sig κ' sp s e} (sem : DmaSem sig)
    {hsrc : srcw.view.WordExact} {hdst : dstw.view.WordExact} {N : ℕ} (hN : dstw.view.dmaCredit = N) (D : sProp 𝕄)
    (O : CellTallies nD τ sig (HIx 1)) (W : Waits sig (HIx 1)) (Q : PUnit → sProp 𝕄) :
    iprop(Transfers.Flight countersEmb (thr d L) (.dma sem) (default : HIx 1) N D ∗ Transfers.MayWaits (thr d L) (default : HIx 1) O
        ∗ (∃ W', ⌜∀ p ∈ W', p ∈ W ∨ p.2 = none⌝ ∗ owes (thr d L) O W')
        ∗ (D -∗ semVal (thr d L, SemLoc.dma sem) 0 -∗ (∃ W', ⌜∀ p ∈ W', p ∈ W ∨ p.2 = none⌝ ∗ owes (thr d L) O W') -∗ Q ⟨⟩))
      ⊢ wp frame (wpE (defs₀ (F := F)) 𝒱₀ (thr d L) none) Set.univ (Prog.lift (.waitDma2 sem srcw dstw hsrc hdst)) Q := by
  iintro ⟨Hfl, Hmw, ⟨%W', %hW, HO⟩, HQ⟩
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma sem)) $$ Hmw
  iintro ⟨HD, Hsem, HO⟩
  iapply (le_wp_ret _ _)
  iapply HQ $$ HD Hsem
  iexists _
  isplitr
  swap; · iexact HO
  ipureintro
  intro p hp
  rcases Finset.mem_insert.mp hp with hp | hp
  · exact .inr (hp ▸ rfl)
  · exact hW p hp

end Run

end Cert.Proof.Emb
-- ==== Proof.Loop.lean ====
/-
  The tile's loop over pairs of chunks: the invariant, and one trip.
-/
module

public import proofs.«01_k».proof.Proof.Out

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

abbrev aV : Memref sig .scVector .vmem S128x128 .f32 := Memref.whole cc0_scratch2
abbrev bV : Memref sig .scVector .vmem S128x128 .f32 := Memref.whole cc0_scratch3
abbrev gV : Memref sig .scVector .vmem S400x128 .f32 := Memref.whole cc0_scratch4
abbrev iV : Memref sig .scVector .vmem S6400 .i32 := Memref.whole cc0_scratch0
abbrev sV : Memref sig .scVector .vmem S6400 .i32 := Memref.whole cc0_scratch1
abbrev tV : Memref sig .scVector .hbm S100000x128 .f32 := Memref.whole main_arg2_scv

/-- A row buffer's credit. -/
abbrev NA : ℕ := (aV).view.dmaCredit

theorem credit_a : ∀ h : S100000x128.Gathers 0 S128x128, ∑ j, ((aV).slice (S128x128.rowRect h.axis' j) (S128x128.stride_rowRect h.axis' j)).view.dmaCredit = NA := by decide +kernel
theorem credit_b : ∀ h : S100000x128.Gathers 0 S128x128, ∑ j, ((bV).slice (S128x128.rowRect h.axis' j) (S128x128.stride_rowRect h.axis' j)).view.dmaCredit = NA := by decide +kernel
theorem credit_o (sem : DmaSem sig) (off : Fin 2 → ℕ) (hoff : ∀ a, off a + S128x128.size a ≤ S204800x128.size a) :
    ((oV).slice (Rect.unit (s := S204800x128) off S128x128.size hoff) (fun _ => rfl)).view.amount (.dma sem) = NA := rfl
theorem credit_w : ((oV).slice (Rect.unit (s := S204800x128) ![0, 0] S128x128.size inb_S204800x128_S128x128_0_0) (fun _ => rfl)).view.dmaCredit = NA := rfl
theorem credit_pos : 0 < NA := by decide +kernel

section Run

variable [FloatOps F] (d : Dev nD) (L : grid0.Coords)
variable (O : CellTallies nD τ sig (HIx 1)) (W : Waits sig (HIx 1))
variable (q : PosShare TreeShare) (ft : Buf (Elt F) ((tV).view.loc (thr d L))) (fi : Buf (Elt F) ((iV).view.loc (thr d L)))
variable (fS : Buf (Elt F) ((sV).view.loc (thr d L))) (fG : Buf (Elt F) ((gV).view.loc (thr d L)))
variable (fin f0 : Buf (Elt F) ((oV).view.loc (thr d L)))

/-- The waits the tile has recorded are its launch's or its own. -/
abbrev ow : sProp 𝕄 := iprop(∃ W', ⌜∀ p ∈ W', p ∈ W ∨ p.2 = none⌝ ∗ owes (thr d L) O W')

/-- A share of the token table, and of the tile's list. -/
abbrev tPts (q : PosShare TreeShare) : sProp 𝕄 := (tV).view.loc (thr d L) ↦{q} ft
abbrev iPts (q : PosShare TreeShare) : sProp 𝕄 := (iV).view.loc (thr d L) ↦{q} fi

/-- The first row buffer at the head of trip `k`. -/
def inv0 (k : ℕ) : sProp 𝕄 :=
  if k < 25 then iprop(GFl d L aV iV tV cc0_scratch8.sem NA q.left (fullShare : PosShare TreeShare).left ft fi (2 * k) ∗ semVal (thr d L, SemLoc.dma cc0_scratch10.sem) 0)
  else iprop(OFl d L aV cc0_scratch10.sem NA fin (base L + 128 * 48) ∗ semVal (thr d L, SemLoc.dma cc0_scratch8.sem) 0 ∗ tPts d L ft q.left ∗ iPts d L fi (fullShare : PosShare TreeShare).left)

/-- The second row buffer at the head of trip `k`. -/
def inv1 (k : ℕ) : sProp 𝕄 :=
  if k = 0 then iprop((∃ f, aPts d L bV f) ∗ semVal (thr d L, SemLoc.dma cc0_scratch11.sem) 0)
  else OFl d L bV cc0_scratch11.sem NA fin (base L + 128 * (2 * k - 1))

/-- Chunks from `a` to `b` at contents `f`. -/
abbrev run (f : Buf (Elt F) ((oV).view.loc (thr d L))) (a b : ℕ) : sProp 𝕄 := bigSep (Finset.Ico a b) fun c => oPts d L (base L + 128 * c) f

/-- The loop's invariant. -/
def inv (k : ℕ) : sProp 𝕄 :=
  iprop(Transfers.MayWaits (thr d L) (default : HIx 1) O ∗ inv0 d L q ft fi fin k ∗ inv1 d L fin k
    ∗ semVal (thr d L, SemLoc.dma cc0_scratch9.sem) 0 ∗ tPts d L ft q.right ∗ iPts d L fi (fullShare : PosShare TreeShare).right
    ∗ sPts d L sV fS ∗ gPts d L gV fG ∗ ow d L O W ∗ run d L f0 (2 * k) 50 ∗ run d L fin 0 (if k < 25 then 2 * k - 1 else 48))

variable (v54 v56 v58 v60 v62 v64 v66 v68 v70 v72 v74 v76 v78 : FVec F S16 .f32) (v79 v81 v83 : Vec F S16 .f32)

/-- Between the two halves of trip `t`. -/
def mid (t : ℕ) : sProp 𝕄 :=
  iprop(Transfers.MayWaits (thr d L) (default : HIx 1) O ∗ inv0 d L q ft fi fin (t + 1)
    ∗ GFl d L bV iV tV cc0_scratch9.sem NA q.right (fullShare : PosShare TreeShare).right ft fi (2 * t + 1) ∗ semVal (thr d L, SemLoc.dma cc0_scratch11.sem) 0
    ∗ sPts d L sV fS ∗ gPts d L gV fG ∗ ow d L O W ∗ run d L f0 (2 * t + 1) 50 ∗ run d L fin 0 (if t + 1 < 25 then 2 * t + 1 else 48))

/-- A conditional step before what follows either way. -/
theorem wp_join {α : Type} {p : Prop} [Decidable p] (e : Prog (TpuEff nD τ sig (Elt F) Λ₀ (thr d L).2) PUnit) (K : Prog (TpuEff nD τ sig (Elt F) Λ₀ (thr d L).2) α)
    (P R : sProp 𝕄) (Q : α → sProp 𝕄)
    (h1 : p → P ⊢ wp frame (wpE (defs₀ (F := F)) 𝒱₀ (thr d L) none) Set.univ e fun _ => R) (h2 : ¬p → P ⊢ R)
    (h : R ⊢ wp frame (wpE (defs₀ (F := F)) 𝒱₀ (thr d L) none) Set.univ K Q) :
    P ⊢ wp frame (wpE (defs₀ (F := F)) 𝒱₀ (thr d L) none) Set.univ (dite p (fun _ => e >>= fun _ => K) (fun _ => K)) Q := by
  by_cases hp : p
  · rw [dif_pos hp, wp_bind]
    refine (h1 hp).trans (wp_mono _ _ _ fun _ => h)
  · rw [dif_neg hp]
    exact (h2 hp).trans h

set_option maxHeartbeats 4000000 in
/-- The first half of a trip: the other buffer's gather issued, this buffer's chunk finished and sent out, its next gather issued. -/
theorem wp_tripA (hids : ∀ x, ((iV).view.read (Elt F) fi x).toNat < 100000) (hS : ∀ x, ((sV).view.read (Elt F) fS x).toNat < 2)
    (sc bi : Fin 8 → FVec F S16 .f32) (v80 v82 v84 : FVec F S16 .f32) (hsc : sc = ![v54, v56, v58, v60, v62, v64, v66, v68]) (hbi : bi = ![v70, v72, v74, v76, v78, v80, v82, v84])
    (hfin : ∀ (c : Fin 50) (y : S128x128.Idx) (z : S204800x128.Idx), (z 0).val = base L + 128 * c.val + (y 0).val → (z 1).val = (y 1).val →
      (fin : S204800x128.Idx → F .f32) z = normAll (gath ((tV).view.read (Elt F) ft) ((iV).view.read (Elt F) fi) c.val) ((gV).view.read (Elt F) fG) sc bi (vf ((sV).view.read (Elt F) fS) c) 128 y)
    (t : Fin k0_t2_loop.trips) :
    inv d L O W q ft fi fS fG fin f0 t.val ⊢ wp frame (wpE (defs₀ (F := F)) 𝒱₀ (thr d L) none) Set.univ
      (k0_part144 L (Memref.whole main_v0_scv) (Memref.isWhole_whole _) (Memref.whole main_v1_scv) (Memref.isWhole_whole _) tV (Memref.isWhole_whole _) (Memref.whole main_v2_scv) (Memref.isWhole_whole _) (Memref.whole main_arg4_scv) (Memref.isWhole_whole _) (Memref.whole main_arg5_scv) (Memref.isWhole_whole _) (Memref.whole main_arg6_scv) (Memref.isWhole_whole _) oV (Memref.isWhole_whole _) iV (Memref.isWhole_whole _) sV (Memref.isWhole_whole _) aV (Memref.isWhole_whole _) bV (Memref.isWhole_whole _) gV (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3 cc0_scoped4 cc0_scoped5 cc0_scoped6
        (v2of L) v54 v56 v58 v60 v62 v64 v66 v68 v70 v72 v74 v76 v78 v80 v82 v84 0#32 1#32 t)
      fun a => iprop(⌜a = ⟨Scalar.addi (Scalar.muli 2#32 (Scf.iv 0#32 1#32 t)) 1#32, Scalar.muli (Scalar.addi (Scalar.muli 2#32 (Scf.iv 0#32 1#32 t)) 1#32) 128#32⟩⌝
        ∗ mid d L O W q ft fi fS fG fin f0 t.val) := by
  have ht : t.val < 25 := trips_t2 ▸ t.isLt
  rw [k0_part144_eq_skeleton]
  unfold k0_part144_skel
  simp only [dif_pos (cond1_true t)]
  refine wp_join d L _ _ _ (iprop(Transfers.MayWaits (thr d L) (default : HIx 1) O ∗ inv0 d L q ft fi fin t.val ∗ (∃ f, aPts d L bV f) ∗ semVal (thr d L, SemLoc.dma cc0_scratch11.sem) 0
    ∗ semVal (thr d L, SemLoc.dma cc0_scratch9.sem) 0 ∗ tPts d L ft q.right ∗ iPts d L fi (fullShare : PosShare TreeShare).right
    ∗ sPts d L sV fS ∗ gPts d L gV fG ∗ ow d L O W ∗ run d L f0 (2 * t.val) 50 ∗ run d L fin 0 (2 * t.val))) _ ?_ ?_ ?_
  · intro hp
    have h0 : 0 < t.val := (cond2_iff t).mp hp
    unfold inv inv1
    rw [if_neg (by omega), if_pos ht]
    iintro ⟨#Hmw, H0, H1, Hg1, HT1, HI1, HS, HG, HO, Htodo, Hdone⟩
    iapply (wp_waitC d L cc0_scratch11.sem (hN := credit_w) _ O W)
    isplitl [H1]; · iexact H1
    isplitr; · iexact Hmw
    isplitl [HO]; · iexact HO
    iintro ⟨Hb, Hc⟩ Ho1 HO
    isplitr; · iexact Hmw
    isplitl [H0]; · iexact H0
    isplitl [Hb]; · iexact Hb
    isplitl [Ho1]; · iexact Ho1
    isplitl [Hg1]; · iexact Hg1
    isplitl [HT1]; · iexact HT1
    isplitl [HI1]; · iexact HI1
    isplitl [HS]; · iexact HS
    isplitl [HG]; · iexact HG
    isplitl [HO]; · iexact HO
    isplitl [Htodo]; · iexact Htodo
    have e : 2 * t.val = 2 * t.val - 1 + 1 := by omega
    iapply (Entails.of_eq (show iprop(oPts d L (base L + 128 * (2 * t.val - 1)) fin ∗ run d L fin 0 (2 * t.val - 1)) = run d L fin 0 (2 * t.val) by
      rw [e]; exact ico_push (fun c => oPts d L (base L + 128 * c) fin) (Nat.zero_le _)))
    isplitl [Hc] <;> iassumption
  · intro hp
    have h0 : t.val = 0 := by
      by_contra h; exact hp ((cond2_iff t).mpr (by omega))
    unfold inv inv1
    rw [if_pos h0, if_pos ht, h0]
    iintro ⟨#Hmw, H0, ⟨Hb, Ho1⟩, Hg1, HT1, HI1, HS, HG, HO, Htodo, Hdone⟩
    isplitr; · iexact Hmw
    isplitl [H0]; · iexact H0
    isplitl [Hb]; · iexact Hb
    isplitl [Ho1]; · iexact Ho1
    isplitl [Hg1]; · iexact Hg1
    isplitl [HT1]; · iexact HT1
    isplitl [HI1]; · iexact HI1
    isplitl [HS]; · iexact HS
    isplitl [HG]; · iexact HG
    isplitl [HO]; · iexact HO
    isplitl [Htodo]; · iexact Htodo
    iexact Hdone
  simp only [wp_bind]
  have hi0 : inv0 d L q ft fi fin t.val = iprop(GFl d L aV iV tV cc0_scratch8.sem NA q.left (fullShare : PosShare TreeShare).left ft fi (2 * t.val) ∗ semVal (thr d L, SemLoc.dma cc0_scratch10.sem) 0) := by
    unfold inv0; rw [if_pos ht]
  rw [hi0]
  iintro ⟨#Hmw, ⟨Hg0, Ho0⟩, ⟨%fb, Hb⟩, Ho1, Hg1, HT1, HI1, HS, HG, HO, Htodo, Hdone⟩
  have hc1 : 2 * t.val + 1 < 50 := by omega
  have hoff1 : k0_off18 t 0 = 128 * (2 * t.val + 1) := by rw [k0_off18_eq]; show 256 * t.val + 128 = _; omega
  iapply (wp_gatherC d L bV iV tV cc0_scratch9.sem (k0_off18 t) (k0_off18_inb t (cond1_true t)) (2 * t.val + 1) hc1 hoff1 NA credit_b _ _ _ _ _ _ q.right (fullShare : PosShare TreeShare).right ft fi hids fb)
  isplitl [Hb]; · iexact Hb
  isplitl [HT1]; · iexact HT1
  isplitl [HI1]; · iexact HI1
  isplitl [Hg1]; · iexact Hg1
  iintro HG1
  iapply (wp_waitC d L cc0_scratch8.sem (hN := (rfl : (aV).view.dmaCredit = NA)) _ O W)
  isplitl [Hg0]; · iexact Hg0
  isplitr; · iexact Hmw
  isplitl [HO]; · iexact HO
  iintro ⟨⟨%fa, %hfa, Ha⟩, HT0, HI0⟩ Hg0 HO
  iapply (wp_inner d L aV sV gV fS fG (gath ((tV).view.read (Elt F) ft) ((iV).view.read (Elt F) fi) (2 * t.val)) sc bi k0_t3_loop k0_t3_ok trips_t3
    (⟨2 * t.val, by omega⟩ : Fin 50) _ (start_even L t _ rfl) (k0_off20 t) (k0_off20_inb t) (fun t3 => by rw [k0_off20_eq]; show 256 * t.val + 16 * t3.val = 128 * (2 * t.val) + 16 * t3.val; omega)
    _ (fun t3 pos => by rw [tripA_eq, hsc, hbi]; rfl) hS fa hfa)
  isplitl [Ha]; · iexact Ha
  isplitl [HS]; · iexact HS
  isplitl [HG]; · iexact HG
  iintro %fa' %p %hfa' Ha HS HG
  ihave Htodo := (Entails.of_eq (ico_pop (fun c => oPts d L (base L + 128 * c) f0) (show 2 * t.val < 50 by omega))) $$ Htodo
  icases Htodo with ⟨Hc, Htodo⟩
  have hof0 : k0_off278 L t 0#32 = ![12800 * (L 1).val + 6400 * (L 0).val + 256 * t.val + 128 * 0, 0] := k0_off278_eq L t 0
  have ho0 : k0_off278 L t 0#32 0 = base L + 128 * (2 * t.val) := by rw [hof0]; show 12800 * (L 1).val + 6400 * (L 0).val + 256 * t.val + 128 * 0 = _; unfold base; omega
  have ho1 : k0_off278 L t 0#32 1 = 0 := by rw [hof0]; rfl
  iapply (wp_outC d L aV cc0_scratch10.sem (k0_off278 L t 0#32) (k0_off278_inb L t 0) (base L + 128 * (2 * t.val)) ho0 ho1 NA (credit_o _) credit_pos fin f0 fa'
    (fun y z h0 h1 => by rw [hfa']; exact hfin ⟨2 * t.val, by omega⟩ y z h0 h1))
  isplitl [Ha]; · iexact Ha
  isplitl [Hc]; · iexact Hc
  isplitl [Ho0]; · iexact Ho0
  iintro Hfl
  by_cases h24 : t.val < 24
  · simp only [dif_pos ((cond3_iff t).mpr h24), dif_pos (cond4_true t), wp_bind]
    iapply (wp_waitC d L cc0_scratch10.sem (hN := credit_w) _ O W)
    isplitl [Hfl]; · iexact Hfl
    isplitr; · iexact Hmw
    isplitl [HO]; · iexact HO
    iintro ⟨⟨%fa, Ha⟩, Hc⟩ Ho0 HO
    have hc2 : 2 * (t.val + 1) < 50 := by omega
    have hoff2 : k0_off279 t 0 = 128 * (2 * (t.val + 1)) := by rw [k0_off279_eq]; show 256 * t.val + 256 = _; omega
    iapply (wp_gatherC d L aV iV tV cc0_scratch8.sem (k0_off279 t) (k0_off279_inb t ((cond3_iff t).mpr h24)) (2 * (t.val + 1)) hc2 hoff2 NA credit_a _ _ _ _ _ _ q.left (fullShare : PosShare TreeShare).left ft fi hids fa)
    isplitl [Ha]; · iexact Ha
    isplitl [HT0]; · iexact HT0
    isplitl [HI0]; · iexact HI0
    isplitl [Hg0]; · iexact Hg0
    iintro HG0
    iapply (le_wp_ret _ _)
    isplitr; · ipureintro; rfl
    unfold mid inv0
    rw [if_pos (by omega), if_pos (by omega)]
    isplitr; · iexact Hmw
    isplitl [HG0 Ho0]; · isplitl [HG0] <;> iassumption
    isplitl [HG1]; · iexact HG1
    isplitl [Ho1]; · iexact Ho1
    isplitl [HS]; · iexact HS
    isplitl [HG]; · iexact HG
    isplitl [HO]; · iexact HO
    isplitl [Htodo]; · iexact Htodo
    iapply (Entails.of_eq (ico_push (fun c => oPts d L (base L + 128 * c) fin) (Nat.zero_le (2 * t.val))))
    isplitl [Hc] <;> iassumption
  · simp only [dif_neg (fun h => h24 ((cond3_iff t).mp h))]
    have e24 : t.val = 24 := by omega
    iapply (le_wp_ret _ _)
    isplitr; · ipureintro; rfl
    unfold mid inv0
    rw [if_neg (by omega), if_neg (by omega), e24]
    isplitr; · iexact Hmw
    isplitl [Hfl Hg0 HT0 HI0]
    · isplitl [Hfl]; · iexact Hfl
      isplitl [Hg0]; · iexact Hg0
      isplitl [HT0] <;> iassumption
    isplitl [HG1]; · iexact HG1
    isplitl [Ho1]; · iexact Ho1
    isplitl [HS]; · iexact HS
    isplitl [HG]; · iexact HG
    isplitl [HO]; · iexact HO
    isplitl [Htodo]; · iexact Htodo
    iexact Hdone

set_option maxHeartbeats 4000000 in
/-- One trip. -/
theorem wp_trip (hids : ∀ x, ((iV).view.read (Elt F) fi x).toNat < 100000) (hS : ∀ x, ((sV).view.read (Elt F) fS x).toNat < 2)
    (sc bi : Fin 8 → FVec F S16 .f32) (hsc : sc = ![v54, v56, v58, v60, v62, v64, v66, v68]) (hbi : bi = ![v70, v72, v74, v76, v78, k0_pay1 v79, k0_pay2 v81, k0_pay3 v83])
    (hfin : ∀ (c : Fin 50) (y : S128x128.Idx) (z : S204800x128.Idx), (z 0).val = base L + 128 * c.val + (y 0).val → (z 1).val = (y 1).val →
      (fin : S204800x128.Idx → F .f32) z = normAll (gath ((tV).view.read (Elt F) ft) ((iV).view.read (Elt F) fi) c.val) ((gV).view.read (Elt F) fG) sc bi (vf ((sV).view.read (Elt F) fS) c) 128 y)
    (t : Fin k0_t2_loop.trips) (x : BitVec 32) :
    inv d L O W q ft fi fS fG fin f0 t.val ⊢ wp frame (wpE (defs₀ (F := F)) 𝒱₀ (thr d L) none) Set.univ
      (k0_t2_body L (Memref.whole main_v0_scv) (Memref.isWhole_whole _) (Memref.whole main_v1_scv) (Memref.isWhole_whole _) tV (Memref.isWhole_whole _) (Memref.whole main_v2_scv) (Memref.isWhole_whole _) (Memref.whole main_arg4_scv) (Memref.isWhole_whole _) (Memref.whole main_arg5_scv) (Memref.isWhole_whole _) (Memref.whole main_arg6_scv) (Memref.isWhole_whole _) oV (Memref.isWhole_whole _) iV (Memref.isWhole_whole _) sV (Memref.isWhole_whole _) aV (Memref.isWhole_whole _) bV (Memref.isWhole_whole _) gV (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3 cc0_scoped4 cc0_scoped5 cc0_scoped6
        (v2of L) v54 v56 v58 v60 v62 v64 v66 v68 v70 v72 v74 v76 v78 v79 v81 v83 t x) fun _ => inv d L O W q ft fi fS fG fin f0 (t.val + 1) := by
  have ht : t.val < 25 := trips_t2 ▸ t.isLt
  unfold k0_t2_body
  rw [wp_bind]
  refine (wp_tripA d L O W q ft fi fS fG fin f0 v54 v56 v58 v60 v62 v64 v66 v68 v70 v72 v74 v76 v78 hids hS sc bi (k0_pay1 v79) (k0_pay2 v81) (k0_pay3 v83) hsc hbi hfin t).trans
    (wp_mono _ _ _ fun a => ?_)
  simp only [wp_bind]
  unfold mid
  iintro ⟨%ha, #Hmw, H0, HG1, Ho1, HS, HG, HO, Htodo, Hdone⟩
  subst ha
  iapply (wp_waitC d L cc0_scratch9.sem (hN := (rfl : (bV).view.dmaCredit = NA)) _ O W)
  isplitl [HG1]; · iexact HG1
  isplitr; · iexact Hmw
  isplitl [HO]; · iexact HO
  iintro ⟨⟨%fa, %hfa, Ha⟩, HT1, HI1⟩ Hg1 HO
  iapply (wp_inner d L bV sV gV fS fG (gath ((tV).view.read (Elt F) ft) ((iV).view.read (Elt F) fi) (2 * t.val + 1)) sc bi k0_t4_loop k0_t4_ok trips_t4
    (⟨2 * t.val + 1, by omega⟩ : Fin 50) _ (start_odd L t _ rfl _ rfl) (k0_off280 t) (k0_off280_inb t) (fun t3 => by rw [k0_off280_eq]; show 256 * t.val + 16 * t3.val + 128 = 128 * (2 * t.val + 1) + 16 * t3.val; omega)
    _ (fun t3 pos => by rw [tripB_eq, hsc, hbi]; rfl) hS fa hfa)
  isplitl [Ha]; · iexact Ha
  isplitl [HS]; · iexact HS
  isplitl [HG]; · iexact HG
  iintro %fa' %p %hfa' Ha HS HG
  ihave Htodo := (Entails.of_eq (ico_pop (fun c => oPts d L (base L + 128 * c) f0) (show 2 * t.val + 1 < 50 by omega))) $$ Htodo
  icases Htodo with ⟨Hc, Htodo⟩
  have hof0 : k0_off278 L t 1#32 = ![12800 * (L 1).val + 6400 * (L 0).val + 256 * t.val + 128 * 1, 0] := k0_off278_eq L t 1
  have ho0 : k0_off278 L t 1#32 0 = base L + 128 * (2 * t.val + 1) := by rw [hof0]; show 12800 * (L 1).val + 6400 * (L 0).val + 256 * t.val + 128 * 1 = _; unfold base; omega
  have ho1 : k0_off278 L t 1#32 1 = 0 := by rw [hof0]; rfl
  iapply (wp_outC d L bV cc0_scratch11.sem (k0_off278 L t 1#32) (k0_off278_inb L t 1) (base L + 128 * (2 * t.val + 1)) ho0 ho1 NA (credit_o _) credit_pos fin f0 fa'
    (fun y z h0 h1 => by rw [hfa']; exact hfin ⟨2 * t.val + 1, by omega⟩ y z h0 h1))
  isplitl [Ha]; · iexact Ha
  isplitl [Hc]; · iexact Hc
  isplitl [Ho1]; · iexact Ho1
  iintro Hfl
  iapply (le_wp_ret _ _)
  unfold inv inv1
  rw [if_neg (Nat.succ_ne_zero t.val)]
  isplitr; · iexact Hmw
  isplitl [H0]; · iexact H0
  isplitl [Hfl]; · iexact Hfl
  isplitl [Hg1]; · iexact Hg1
  isplitl [HT1]; · iexact HT1
  isplitl [HI1]; · iexact HI1
  isplitl [HS]; · iexact HS
  isplitl [HG]; · iexact HG
  isplitl [HO]; · iexact HO
  isplitl [Htodo]; · iexact Htodo
  iexact Hdone

end Run

end Cert.Proof.Emb
-- ==== Proof.SegWp.lean ====
/-
  The position table's loop: the segments' two rows added to the two copies of the position table.
-/
module

public import proofs.«01_k».proof.Proof.RowWp

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

variable [FloatOps F]

theorem segRow0_toNat : ∀ t : Fin 200, (segRow0 t.val).toNat = t.val := by decide +kernel
theorem segRow1_toNat : ∀ t : Fin 200, (segRow1 t.val).toNat = 200 + t.val := by decide +kernel

/-- One element added to another. -/
def addS (a b : F .f32) : F .f32 := addf (s := S1) (fun _ => a) (fun _ => b) (ix1 (0 : Fin 1))

/-- The table with both segments added. -/
def segVal (Y : S400x128.Idx → F .f32) (s0 s1 : Fin 8 → FVec F S16 .f32) : S400x128.Idx → F .f32 :=
  fun y => addS (Y y) ((if (y 0).val < 200 then s0 else s1) (⟨(y 1).val / 16, by have h : (y 1).val < 128 := (y 1).isLt; omega⟩ : Fin 8) (ix1 (⟨(y 1).val % 16, by omega⟩ : Fin 16)))

open scoped Classical in
/-- The table with the blocks `Dn` treated. -/
def segDone (Y : S400x128.Idx → F .f32) (s0 s1 : Fin 8 → FVec F S16 .f32) (Dn : ℕ → ℕ → Prop) : S400x128.Idx → F .f32 :=
  fun y => if Dn (y 0).val ((y 1).val / 16) then segVal Y s0 s1 y else Y y

theorem segDone_congr (Y : S400x128.Idx → F .f32) (s0 s1 : Fin 8 → FVec F S16 .f32) {D D' : ℕ → ℕ → Prop} (h : ∀ a b, a < 400 → b < 8 → (D a b ↔ D' a b)) :
    segDone Y s0 s1 D = segDone Y s0 s1 D' := by
  funext y
  have h0 : (y 0).val < 400 := (y 0).isLt
  have h1 : (y 1).val < 128 := (y 1).isLt
  unfold segDone
  by_cases hd : D (y 0).val ((y 1).val / 16)
  · rw [if_pos hd, if_pos ((h _ _ h0 (by omega)).mp hd)]
  · rw [if_neg hd, if_neg (fun h' => hd ((h _ _ h0 (by omega)).mpr h'))]

theorem read_block {sig' : RefSig} {κ : Kind} {sp : Space} (v : View sig' κ sp S400x128 .f32) (f : v.ty.Contents (Elt F))
    (Y : S400x128.Idx → F .f32) (s0 s1 : Fin 8 → FVec F S16 .f32) (D : ℕ → ℕ → Prop) (hf : v.read (Elt F) f = segDone Y s0 s1 D)
    (r : Fin 400) (j : Fin 8) (hD : ¬D r.val j.val) (w : FVec F S16 .f32) (hw : w = (if r.val < 200 then s0 else s1) j)
    (off : Fin 2 → ℕ) (hin : ∀ a, off a + S1x16.size a ≤ S400x128.size a) (h0 : off 0 = r.val) (h1 : off 1 = 16 * j.val) :
    v.read (Elt F) (v.writes (Elt F) f [piece (n := 400) off hin (addf (rowVec (n := 400) (v.read (Elt F) f) r j) w)])
      = segDone Y s0 s1 (fun a b => D a b ∨ (a = r.val ∧ b = j.val)) := by
  funext y
  have hy1 : (y 1).val < 128 := (y 1).isLt
  by_cases hy : (y 0).val = r.val ∧ (y 1).val / 16 = j.val
  · have hx : (ix2 (0 : Fin 1) (⟨(y 1).val % 16, by omega⟩ : Fin 16) : S1x16.Idx) = (ix2 (0 : Fin 1) (⟨(y 1).val % 16, by omega⟩ : Fin 16)) := rfl
    refine (View.read_writes_cons_hit_of_coords v f _ _ _ (ix2 (0 : Fin 1) (⟨(y 1).val % 16, by omega⟩ : Fin 16) : S1x16.Idx) y ?_).trans ?_
    · intro a
      match a with
      | 0 => show (y 0).val = off 0 + 1 * 0; omega
      | 1 => show (y 1).val = off 1 + 1 * ((y 1).val % 16); omega
    · refine (piece_apply (F := F) (n := 400) off hin (addf (rowVec (n := 400) (v.read (Elt F) f) r j) w) (ix2 (0 : Fin 1) (⟨(y 1).val % 16, by omega⟩ : Fin 16))).trans ?_
      have ey : (ix2 r (⟨16 * j.val + (y 1).val % 16, by omega⟩ : Fin 128) : S400x128.Idx) = y := by
        funext a
        match a with
        | 0 => exact Fin.ext hy.1.symm
        | 1 => exact Fin.ext (by show 16 * j.val + (y 1).val % 16 = (y 1).val; omega)
      have ej : (⟨(y 1).val / 16, by omega⟩ : Fin 8) = j := Fin.ext hy.2
      have hY : segDone Y s0 s1 D y = Y y := by unfold segDone; rw [if_neg (by rw [hy.1, hy.2]; exact hD)]
      have hR : segDone Y s0 s1 (fun a b => D a b ∨ (a = r.val ∧ b = j.val)) y = segVal Y s0 s1 y := by unfold segDone; rw [if_pos (Or.inr hy)]
      rw [hR]
      show addS (F := F) (v.read (Elt F) f (ix2 r (⟨16 * j.val + (y 1).val % 16, by omega⟩ : Fin 128))) (w (ix1 (⟨(y 1).val % 16, by omega⟩ : Fin 16))) = segVal Y s0 s1 y
      rw [hf, ey, hY, hw]
      unfold segVal
      rw [ej, hy.1]
  · rw [View.read_writes_apply_of_forall_not_mem]
    · rw [hf]
      unfold segDone
      by_cases hd : D (y 0).val ((y 1).val / 16)
      · rw [if_pos hd, if_pos (Or.inl hd)]
      · rw [if_neg hd, if_neg (fun h => h.elim hd hy)]
    · intro p hp hm
      rw [List.mem_singleton] at hp
      subst hp
      rw [mem_piece, h0, h1] at hm
      exact hy ⟨hm.1, by omega⟩

section Run

variable (d : Dev nD) (L : grid0.Coords) (G : Memref sig .scVector .vmem S400x128 .f32)
variable (Y : S400x128.Idx → F .f32) (s0 s1 : Fin 8 → FVec F S16 .f32)

theorem wp_segHalf (v : BitVec 32) (r : Fin 400) (hr : v.toNat = r.val) (j : Fin 8) (hv : ∀ a, tabOff v (16 * j.val) a + S1x16.size a ≤ S400x128.size a)
    (w : FVec F S16 .f32) (hw : w = (if r.val < 200 then s0 else s1) j) (D : ℕ → ℕ → Prop) (hD : ¬D r.val j.val)
    (f : Buf (Elt F) (G.view.loc (thr d L))) (hf : G.view.read (Elt F) f = segDone Y s0 s1 D) (Q : PUnit → sProp 𝕄) :
    iprop(gPts d L G f ∗ (∀ f', ⌜G.view.read (Elt F) f' = segDone Y s0 s1 (fun a b => D a b ∨ (a = r.val ∧ b = j.val))⌝ -∗ gPts d L G f' -∗ Q ⟨⟩))
      ⊢ wp frame (wpE (defs₀ (F := F)) 𝒱₀ (thr d L) none) Set.univ (segHalf (i := L) G v j hv w) Q := by
  have h0 : tabOff v (16 * j.val) 0 = r.val := hr
  unfold segHalf
  iintro ⟨HG, HQ⟩
  iapply (wp_load 𝒱₀ (thr d L) none Set.univ (m := G) (View.setOn_subset_set _ _)) $$ HG
  iintro HG
  iapply (wp_load 𝒱₀ (thr d L) none Set.univ (m := G) (View.setOn_subset_set _ _)) $$ HG
  iintro HG
  iapply (wp_store_writes₀ 𝒱₀ (thr d L) none Set.univ (m := G) (G.view.set_slice_subset _)) $$ HG
  iintro HG
  iapply (le_wp_ret _ _)
  iapply HQ $$ [] HG
  ipureintro
  rw [read_lanes (n := 400) G.view f _ hv r j h0 rfl]
  exact read_block G.view f Y s0 s1 D hf r j hD w hw (tabOff v (16 * j.val)) hv h0 rfl

/-- One trip. -/
theorem wp_segProg (t : Fin 200) (Q : PUnit → sProp 𝕄) : ∀ (n j : ℕ) (h : j + n = 8) (f : Buf (Elt F) (G.view.loc (thr d L))),
    G.view.read (Elt F) f = segDone Y s0 s1 (fun a b => a % 200 < t.val ∨ (a % 200 = t.val ∧ b < j)) →
    iprop(gPts d L G f ∗ (∀ f', ⌜G.view.read (Elt F) f' = segDone Y s0 s1 (fun a b => a % 200 < t.val + 1)⌝ -∗ gPts d L G f' -∗ Q ⟨⟩))
      ⊢ wp frame (wpE (defs₀ (F := F)) 𝒱₀ (thr d L) none) Set.univ (segProg (i := L) G s0 s1 t n j h) Q := by
  intro n
  induction n with
  | zero =>
    intro j h f hf
    obtain rfl : j = 8 := by omega
    unfold segProg
    iintro ⟨HG, HQ⟩
    iapply (le_wp_ret _ _)
    iapply HQ $$ [] HG
    ipureintro
    rw [hf]
    exact segDone_congr Y s0 s1 fun a b ha hb => by omega
  | succ n ih =>
    intro j h f hf
    have hj : j < 8 := by omega
    have hj' : j + 1 + n = 8 := by omega
    have ht := t.isLt
    have ht4 : t.val < 400 := by omega
    have ht4' : 200 + t.val < 400 := by omega
    unfold segProg
    simp only [wp_bind]
    iintro ⟨HG, HQ⟩
    iapply (wp_segHalf d L G Y s0 s1 (segRow0 t.val) ⟨t.val, ht4⟩ (segRow0_toNat t) ⟨j, hj⟩ _ (s0 ⟨j, hj⟩) (by rw [if_pos ht]) _ (by show ¬(t.val % 200 < t.val ∨ (t.val % 200 = t.val ∧ j < j)); omega) f hf)
    isplitl [HG]; · iexact HG
    iintro %f1 %hf1 HG
    iapply (wp_segHalf d L G Y s0 s1 (segRow1 t.val) ⟨200 + t.val, ht4'⟩ (segRow1_toNat t) ⟨j, hj⟩ _ (s1 ⟨j, hj⟩) (by rw [if_neg (by show ¬(200 + t.val < 200); omega)]) _
      (by show ¬((((200 + t.val) % 200 < t.val) ∨ ((200 + t.val) % 200 = t.val ∧ j < j)) ∨ (200 + t.val = t.val ∧ j = j)); omega) f1 hf1)
    isplitl [HG]; · iexact HG
    iintro %f2 %hf2 HG
    iapply (ih (j + 1) hj' f2 ?_)
    · rw [hf2]
      refine segDone_congr Y s0 s1 fun a b ha hb => ?_
      show ((((a % 200 < t.val) ∨ (a % 200 = t.val ∧ b < j)) ∨ (a = t.val ∧ b = j)) ∨ (a = 200 + t.val ∧ b = j)) ↔ (a % 200 < t.val ∨ (a % 200 = t.val ∧ b < j + 1))
      omega
    isplitl [HG]; · iexact HG
    iexact HQ

/-- The whole loop. -/
theorem wp_segLoop (loop : Scf.Loop 32) (hok : loop.OK) (h200 : loop.trips = 200) (init : BitVec 32)
    (body : Fin loop.trips → BitVec 32 → Prog (TileEff F L) (BitVec 32))
    (hbody : ∀ t x, body t x = (segProg G s0 s1 (Fin.cast h200 t) 8 0 rfl >>= fun _ => pure 0#32))
    (f : Buf (Elt F) (G.view.loc (thr d L))) (hf : G.view.read (Elt F) f = Y) (Q : BitVec 32 → sProp 𝕄) :
    iprop(gPts d L G f ∗ (∀ f' x, ⌜G.view.read (Elt F) f' = segVal Y s0 s1⌝ -∗ gPts d L G f' -∗ Q x))
      ⊢ wp frame (wpE (defs₀ (F := F)) 𝒱₀ (thr d L) none) Set.univ (Scf.Loop.for loop hok init body) Q := by
  iintro ⟨HG, HQ⟩
  iapply (Scf.wp_for frame (wpE (defs₀ (F := F)) 𝒱₀ (thr d L) none) Set.univ loop.lb loop.ub loop.st hok init body
    (fun k x => iprop(∃ f', ⌜G.view.read (Elt F) f' = segDone Y s0 s1 (fun a b => a % 200 < k)⌝ ∗ gPts d L G f')) ?_)
  · intro t x
    iintro ⟨%f', %hf', HG⟩
    rw [hbody, wp_bind]
    have hf'' : G.view.read (Elt F) f' = segDone Y s0 s1 (fun a b => a % 200 < t.val ∨ (a % 200 = t.val ∧ b < 0)) :=
      hf'.trans (segDone_congr Y s0 s1 fun a b ha hb => by omega)
    iapply (wp_segProg d L G Y s0 s1 (Fin.cast h200 t) _ 8 0 rfl f' hf'')
    isplitl [HG]; · iexact HG
    iintro %f1 %hf1 HG
    iapply (le_wp_ret _ _)
    iexists f1
    isplitr; · ipureintro; exact hf1
    iexact HG
  isplitl [HG]
  · iexists f
    isplitr
    · ipureintro
      rw [hf]
      funext y
      unfold segDone
      rw [if_neg (Nat.not_lt_zero _)]
    iexact HG
  iintro %x ⟨%f', %hf', HG⟩
  iapply HQ $$ [] HG
  ipureintro
  rw [hf', show Scf.trips loop.lb loop.ub loop.st = 200 from h200]
  funext y
  unfold segDone
  rw [if_pos (Nat.mod_lt _ (by omega))]

end Run

end Cert.Proof.Emb
-- ==== Proof.Fetch.lean ====
/-
  The tile's fetches into its scratch and its plain loads.
-/
module

public import proofs.«01_k».proof.Proof.Loop
public import proofs.«01_k».proof.Proof.SegWp

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

section Run

variable [FloatOps F] (d : Dev nD) (L : grid0.Coords)

/-- A fetch into scratch and its wait: the destination written with what the source reads. -/
theorem wp_fetch {s : Shape} {e : EltTy} (src : Memref sig (thr d L).2.kind .hbm s e) (dst : Memref sig (thr d L).2.kind .vmem s e) (sem : DmaSem sig)
    {spw : Space} {sw : Shape} {ew : EltTy} {srcw : Memref sig (thr d L).2.kind spw sw ew} {hsrc : src.view.WordExact} {hdst : dst.view.WordExact}
    {hsem : (DmaTarget.here dst : DmaTarget nD τ sig (thr d L).2 .vmem s e).Typed Space.hbm (.dma sem)}
    {hsrcw : srcw.view.WordExact} {hdstw : dst.view.WordExact}
    (Sd : Finset (Idx (dst.view.loc (thr d L)))) (hSd : dst.view.set ⊆ Sd) (hN : dst.view.amount (.dma sem) = dst.view.dmaCredit) (hN0 : 0 < dst.view.dmaCredit)
    (q : PosShare TreeShare) (fs : Buf (Elt F) (src.view.loc (thr d L))) (fd : Buf (Elt F) (dst.view.loc (thr d L)))
    (O : CellTallies nD τ sig (HIx 1)) (W : Waits sig (HIx 1)) (Q : PUnit → sProp 𝕄) :
    iprop(Transfers.MayWaits (thr d L) (default : HIx 1) O ∗ (src.view.loc (thr d L) ↦{q} fs) ∗ (dst.view.loc (thr d L) ↦[Sd]{fullShare} fd) ∗ semVal (thr d L, SemLoc.dma sem) 0 ∗ ow d L O W
        ∗ ((src.view.loc (thr d L) ↦{q} fs) -∗ (dst.view.loc (thr d L) ↦[Sd]{fullShare} dst.view.write (Elt F) fd (src.view.read (Elt F) fs) Finset.univ)
          -∗ semVal (thr d L, SemLoc.dma sem) 0 -∗ ow d L O W -∗ Q ⟨⟩))
      ⊢ wp frame (wpE (defs₀ (F := F)) 𝒱₀ (thr d L) none) Set.univ (Prog.lift (.enqueueDma src (.here dst) (.dma sem) hsrc hdst hsem)) fun _ =>
          wp frame (wpE (defs₀ (F := F)) 𝒱₀ (thr d L) none) Set.univ (Prog.lift (.waitDma2 sem srcw dst hsrcw hdstw)) Q := by
  iintro ⟨#Hmw, HS, HD, Hsem, HO, HQ⟩
  ihave HS := (pointsTo_split_subset (q := q) (f := fs) (S := Finset.univ) (Finset.subset_univ src.view.set)).1 $$ HS
  icases HS with ⟨HS, HSr⟩
  iapply (Transfers.wp_dmaLocal countersEmb 𝒱₀ (thr d L) none (default : HIx 1) dst.view.dmaCredit hN hN0 hSd) $$ [HS HD Hsem]
  · isplitl [HS]; · iexact HS
    isplitl [HD]; · iexact HD
    iexact Hsem
  iintro Hfl
  iapply (le_wp_ret _ _)
  iapply (wp_waitC d L sem rfl _ O W)
  isplitl [Hfl]; · iexact Hfl
  isplitr; · iexact Hmw
  isplitl [HO]; · iexact HO
  iintro ⟨HD, HS⟩ Hsem HO
  ihave HS := (pointsTo_split_subset (q := q) (f := fs) (S := Finset.univ) (Finset.subset_univ src.view.set)).2 $$ [HS HSr]
  · isplitl [HS] <;> iassumption
  iapply HQ $$ HS HD Hsem HO

/-- A load from a buffer held whole. -/
theorem wp_ld {s : Shape} {e : EltTy} (M : Memref sig (thr d L).2.kind .vmem s e) (r : LoadRect s) {h : M.view.LoadsAt r} (f : Buf (Elt F) (M.view.loc (thr d L))) (Q : Vec F r.shape e → sProp 𝕄) :
    iprop((M.view.loc (thr d L) ↦[M.view.set]{fullShare} f) ∗ ((M.view.loc (thr d L) ↦[M.view.set]{fullShare} f) -∗ Q (M.view.readAt (Elt F) r f)))
      ⊢ wp frame (wpE (defs₀ (F := F)) 𝒱₀ (thr d L) none) Set.univ (Prog.lift (.load M r h)) Q := by
  iintro ⟨HM, HQ⟩
  iapply (wp_load 𝒱₀ (thr d L) none Set.univ (m := M) (View.setOn_subset_set _ _)) $$ HM
  iintro HM
  iapply (le_wp_ret _ _)
  iapply HQ $$ HM

end Run
-- ==== Proof.Pro.lean ====
/-
  The tile's prologue: its rows of ids and segments, the small tables, the position table twice, and the first chunk's gather issued.
-/
module

public import proofs.«01_k».proof.Proof.Fetch

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

abbrev uI : Memref sig .scVector .hbm S204800 .i32 := Memref.whole main_v0_scv
abbrev uS : Memref sig .scVector .hbm S204800 .i32 := Memref.whole main_v1_scv
abbrev uP : Memref sig .scVector .hbm S200x128 .f32 := Memref.whole main_v2_scv
abbrev uE : Memref sig .scVector .hbm S2x128 .f32 := Memref.whole main_arg4_scv
abbrev uC : Memref sig .scVector .hbm S128 .f32 := Memref.whole main_arg5_scv
abbrev uB : Memref sig .scVector .hbm S128 .f32 := Memref.whole main_arg6_scv
abbrev eV : Memref sig .scVector .vmem S2x128 .f32 := Memref.whole cc0_scratch5
abbrev cV' : Memref sig .scVector .vmem S128 .f32 := Memref.whole cc0_scratch6
abbrev bV' : Memref sig .scVector .vmem S128 .f32 := Memref.whole cc0_scratch7

/-- The tile's rows of a per-row array. -/
def rowsOf (L : grid0.Coords) (X : S204800.Idx → BitVec 32) : S6400.Idx → BitVec 32 :=
  fun x => X (ix1 (⟨base L + (x 0).val, by have h := base_lt L; have h' : (x 0).val < 6400 := (x 0).isLt; omega⟩ : Fin 204800))

/-- The position table, twice over. -/
def twice (P : S200x128.Idx → F .f32) : S400x128.Idx → F .f32 :=
  fun y => P (ix2 (⟨(y 0).val % 200, Nat.mod_lt _ (by decide)⟩ : Fin 200) (y 1))

theorem emb_rows (L : grid0.Coords) (X : S204800.Idx → BitVec 32) :
    (fun x : S6400.Idx => X ((Rect.unit (s := S204800) (k0_off1 L) S6400.size (k0_off1_inb L)).emb x)) = rowsOf L X := by
  have h : k0_off1 L 0 = 12800 * (L 1).val + 6400 * (L 0).val := congrFun (k0_off1_eq L) 0
  funext x
  show X _ = X _
  congr 1
  funext a
  apply Fin.ext
  match a with
  | 0 => show k0_off1 L 0 + 1 * (x 0).val = base L + (x 0).val; unfold base; omega

/-- The position table written into both halves of its buffer. -/
theorem write_twice (f : S400x128.Idx → F .f32) (P : S200x128.Idx → F .f32) :
    View.write (Elt F) ((gV).slice (Rect.unit (s := S400x128) ![200, 0] S200x128.size inb_S400x128_S200x128_200_0) (fun _ => rfl)).view
      (View.write (Elt F) ((gV).slice (Rect.unit (s := S400x128) ![0, 0] S200x128.size inb_S400x128_S200x128_0_0) (fun _ => rfl)).view f ((uP).view.read (Elt F) P) Finset.univ) ((uP).view.read (Elt F) P) Finset.univ = twice P := by
  show View.write (Elt F) ((gV).view.slice (Rect.unit (s := S400x128) ![200, 0] S200x128.size inb_S400x128_S200x128_200_0))
      (View.write (Elt F) ((gV).view.slice (Rect.unit (s := S400x128) ![0, 0] S200x128.size inb_S400x128_S200x128_0_0)) f P Finset.univ) P Finset.univ = twice P
  funext y
  have hy0 : (y 0).val < 400 := (y 0).isLt
  have hy1 : (y 1).val < 128 := (y 1).isLt
  by_cases h : (y 0).val < 200
  · rw [View.write_of_not_mem]
    · have e : ((gV).view.slice (Rect.unit (s := S400x128) ![0, 0] S200x128.size inb_S400x128_S200x128_0_0)).emb (ix2 (⟨(y 0).val, h⟩ : Fin 200) (y 1)) = y := by
        funext a; apply Fin.ext
        match a with
        | 0 => show 0 + 1 * (y 0).val = _; omega
        | 1 => show 0 + 1 * (y 1).val = _; omega
      refine (congrArg _ e.symm).trans ((View.write_emb_of_mem _ _ (Finset.mem_univ _)).trans ?_)
      show P _ = P _
      congr 1; funext a; apply Fin.ext
      match a with
      | 0 => show (y 0).val = (y 0).val % 200; omega
      | 1 => rfl
    · intro hm
      obtain ⟨x, -, hx⟩ := Finset.mem_map.mp hm
      have := congrArg (fun z => (z 0).val) hx
      have h2 : 200 + 1 * (x 0).val = (y 0).val := this
      omega
  · have e : ((gV).view.slice (Rect.unit (s := S400x128) ![200, 0] S200x128.size inb_S400x128_S200x128_200_0)).emb (ix2 (⟨(y 0).val - 200, by omega⟩ : Fin 200) (y 1)) = y := by
      funext a; apply Fin.ext
      match a with
      | 0 => show 200 + 1 * ((y 0).val - 200) = _; omega
      | 1 => show 0 + 1 * (y 1).val = _; omega
    refine (congrArg _ e.symm).trans ((View.write_emb_of_mem _ _ (Finset.mem_univ _)).trans ?_)
    show P _ = P _
    congr 1; funext a; apply Fin.ext
    match a with
    | 0 => show (y 0).val - 200 = (y 0).val % 200; omega
    | 1 => rfl

theorem cr_i : 0 < (iV).view.dmaCredit := by decide +kernel
theorem cr_s : 0 < (sV).view.dmaCredit := by decide +kernel
theorem cr_e : 0 < (eV).view.dmaCredit := by decide +kernel
theorem cr_c : 0 < (cV').view.dmaCredit := by decide +kernel
theorem cr_b : 0 < (bV').view.dmaCredit := by decide +kernel
theorem cr_g (off : Fin 2 → ℕ) (h : ∀ a, off a + S200x128.size a ≤ S400x128.size a) : 0 < ((gV).slice (Rect.unit (s := S400x128) off S200x128.size h) (fun _ => rfl)).view.dmaCredit := by
  show 0 < ((gV).slice (Rect.unit (s := S400x128) ![0, 0] S200x128.size inb_S400x128_S200x128_0_0) (fun _ => rfl)).view.dmaCredit
  decide +kernel

section Run

variable [FloatOps F] (d : Dev nD) (L : grid0.Coords)

/-- A read share of an operand. -/
abbrev rd {s : Shape} {e : EltTy} (M : Memref sig .scVector .hbm s e) (q : PosShare TreeShare) (f : Buf (Elt F) (M.view.loc (thr d L))) : sProp 𝕄 := M.view.loc (thr d L) ↦{q} f
/-- A scratch buffer held whole. -/
abbrev wr {s : Shape} {e : EltTy} (M : Memref sig .scVector .vmem s e) (f : Buf (Elt F) (M.view.loc (thr d L))) : sProp 𝕄 := M.view.loc (thr d L) ↦[M.view.set]{fullShare} f

theorem wr_eq {s : Shape} {e : EltTy} (M : Memref sig .scVector .vmem s e) {f g : Buf (Elt F) (M.view.loc (thr d L))} (h : f = g) : wr d L M f ⊢ wr d L M g := Entails.of_eq (by rw [h])

theorem wr_whole {s : Shape} {e : EltTy} (M : Memref sig .scVector .vmem s e) (h : M.view.set = Finset.univ) (f : Buf (Elt F) (M.view.loc (thr d L))) :
    (wr d L M f : sProp 𝕄) = (M.view.loc (thr d L) ↦{fullShare} f) := by unfold wr; rw [h]

set_option maxHeartbeats 4000000 in
theorem wp_pro (O : CellTallies nD τ sig (HIx 1)) (W : Waits sig (HIx 1)) (q : PosShare TreeShare)
    (xI xS : S204800.Idx → BitVec 32) (xT : S100000x128.Idx → F .f32) (xP : S200x128.Idx → F .f32) (xE : S2x128.Idx → F .f32) (xC xB : S128.Idx → F .f32)
    (hids : ∀ x, (xI x).toNat < 100000) (fi fs : S6400.Idx → BitVec 32) (fa : S128x128.Idx → F .f32) (fg : S400x128.Idx → F .f32) (fe : S2x128.Idx → F .f32) (fc fb : S128.Idx → F .f32)
    (Q : (Σ' (v2 : BitVec 32), BitVec 32) → sProp 𝕄) :
    iprop(Transfers.MayWaits (thr d L) (default : HIx 1) O
      ∗ rd d L uI q xI ∗ rd d L uS q xS ∗ rd d L tV q xT ∗ rd d L uP q xP ∗ rd d L uE q xE ∗ rd d L uC q xC ∗ rd d L uB q xB
      ∗ wr d L iV fi ∗ wr d L sV fs ∗ wr d L aV fa ∗ wr d L gV fg ∗ wr d L eV fe ∗ wr d L cV' fc ∗ wr d L bV' fb
      ∗ semVal (thr d L, SemLoc.dma cc0_scratch8.sem) 0 ∗ semVal (thr d L, SemLoc.dma cc0_scoped0.sem) 0 ∗ semVal (thr d L, SemLoc.dma cc0_scoped1.sem) 0
      ∗ semVal (thr d L, SemLoc.dma cc0_scoped2.sem) 0 ∗ semVal (thr d L, SemLoc.dma cc0_scoped3.sem) 0 ∗ semVal (thr d L, SemLoc.dma cc0_scoped4.sem) 0
      ∗ semVal (thr d L, SemLoc.dma cc0_scoped5.sem) 0 ∗ semVal (thr d L, SemLoc.dma cc0_scoped6.sem) 0 ∗ ow d L O W
      ∗ (rd d L uI q xI -∗ rd d L uS q xS -∗ rd d L tV q.right xT -∗ rd d L uP q xP -∗ rd d L uE q xE -∗ rd d L uC q xC -∗ rd d L uB q xB
        -∗ GFl d L aV iV tV cc0_scratch8.sem NA q.left (fullShare : PosShare TreeShare).left xT (rowsOf L xI) 0 -∗ iPts d L (rowsOf L xI) (fullShare : PosShare TreeShare).right
        -∗ wr d L sV (rowsOf L xS) -∗ wr d L gV (twice xP) -∗ wr d L eV xE -∗ wr d L cV' xC -∗ wr d L bV' xB
        -∗ semVal (thr d L, SemLoc.dma cc0_scoped0.sem) 0 -∗ semVal (thr d L, SemLoc.dma cc0_scoped1.sem) 0
        -∗ semVal (thr d L, SemLoc.dma cc0_scoped2.sem) 0 -∗ semVal (thr d L, SemLoc.dma cc0_scoped3.sem) 0 -∗ semVal (thr d L, SemLoc.dma cc0_scoped4.sem) 0
        -∗ semVal (thr d L, SemLoc.dma cc0_scoped5.sem) 0 -∗ semVal (thr d L, SemLoc.dma cc0_scoped6.sem) 0 -∗ ow d L O W -∗ Q ⟨v2of L, 0#32⟩))
      ⊢ wp frame (wpE (defs₀ (F := F)) 𝒱₀ (thr d L) none) Set.univ (k0_part145 L (Memref.whole main_v0_scv) (Memref.isWhole_whole _) (Memref.whole main_v1_scv) (Memref.isWhole_whole _) tV (Memref.isWhole_whole _) (Memref.whole main_v2_scv) (Memref.isWhole_whole _) (Memref.whole main_arg4_scv) (Memref.isWhole_whole _) (Memref.whole main_arg5_scv) (Memref.isWhole_whole _) (Memref.whole main_arg6_scv) (Memref.isWhole_whole _) oV (Memref.isWhole_whole _) iV (Memref.isWhole_whole _) sV (Memref.isWhole_whole _) aV (Memref.isWhole_whole _) bV (Memref.isWhole_whole _) gV (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3 cc0_scoped4 cc0_scoped5 cc0_scoped6) Q := by
  unfold v2of
  rw [k0_part145_eq_skeleton]
  unfold k0_part145_skel
  simp only [wp_bind]
  iintro ⟨#Hmw, HuI, HuS, HtV, HuP, HuE, HuC, HuB, HiV, HsV, HaV, HgV, HeV, HcV, HbV, Hg0, Hr0, Hr1, Hr2, Hr3, Hr4, Hr5, Hr6, HO, HQ⟩
  iapply (wp_fetch d L ((uI).slice (Rect.unit (s := S204800) (k0_off1 L) S6400.size (k0_off1_inb L)) (fun _ => rfl)) iV cc0_scoped0.sem (iV).view.set (Finset.Subset.refl _) rfl cr_i q xI fi O W)
  isplitr; · iexact Hmw
  isplitl [HuI]; · iexact HuI
  isplitl [HiV]; · iexact HiV
  isplitl [Hr0]; · iexact Hr0
  isplitl [HO]; · iexact HO
  iintro HuI HiV Hr0 HO
  ihave HiV := (wr_eq d L iV ((View.write_whole_univ _ _ _).trans (emb_rows L xI))) $$ HiV
  ihave HiV := (Entails.of_eq (wr_whole d L iV (View.set_whole _) (rowsOf L xI))) $$ HiV
  ihave HiV := (pointsTo_share (PosShare.mem_left_op_right fullShare)).1 $$ HiV
  icases HiV with ⟨HiL, HiR⟩
  ihave HtV := (pointsTo_share (PosShare.mem_left_op_right q)).1 $$ HtV
  icases HtV with ⟨HtL, HtR⟩
  iapply (wp_gatherC d L aV iV tV cc0_scratch8.sem ![0] inb_S6400_S128_0 0 (by omega) rfl NA credit_a _ _ _ _ _ _ q.left (fullShare : PosShare TreeShare).left xT (rowsOf L xI) (fun x => hids _) fa)
  isplitl [HaV]; · iexact HaV
  isplitl [HtL]; · iexact HtL
  isplitl [HiL]; · iexact HiL
  isplitl [Hg0]; · iexact Hg0
  iintro HG0
  iapply (wp_fetch d L ((uS).slice (Rect.unit (s := S204800) (k0_off1 L) S6400.size (k0_off1_inb L)) (fun _ => rfl)) sV cc0_scoped1.sem (sV).view.set (Finset.Subset.refl _) rfl cr_s q xS fs O W)
  isplitr; · iexact Hmw
  isplitl [HuS]; · iexact HuS
  isplitl [HsV]; · iexact HsV
  isplitl [Hr1]; · iexact Hr1
  isplitl [HO]; · iexact HO
  iintro HuS HsV Hr1 HO
  ihave HsV := (wr_eq d L sV ((View.write_whole_univ _ _ _).trans (emb_rows L xS))) $$ HsV
  iapply (wp_fetch d L uE eV cc0_scoped2.sem (eV).view.set (Finset.Subset.refl _) rfl cr_e q xE fe O W)
  isplitr; · iexact Hmw
  isplitl [HuE]; · iexact HuE
  isplitl [HeV]; · iexact HeV
  isplitl [Hr2]; · iexact Hr2
  isplitl [HO]; · iexact HO
  iintro HuE HeV Hr2 HO
  ihave HeV := (wr_eq d L eV (g := xE) (View.write_whole_univ _ _ _)) $$ HeV
  iapply (wp_fetch d L uC cV' cc0_scoped3.sem (cV').view.set (Finset.Subset.refl _) rfl cr_c q xC fc O W)
  isplitr; · iexact Hmw
  isplitl [HuC]; · iexact HuC
  isplitl [HcV]; · iexact HcV
  isplitl [Hr3]; · iexact Hr3
  isplitl [HO]; · iexact HO
  iintro HuC HcV Hr3 HO
  ihave HcV := (wr_eq d L cV' (g := xC) (View.write_whole_univ _ _ _)) $$ HcV
  iapply (wp_fetch d L uB bV' cc0_scoped4.sem (bV').view.set (Finset.Subset.refl _) rfl cr_b q xB fb O W)
  isplitr; · iexact Hmw
  isplitl [HuB]; · iexact HuB
  isplitl [HbV]; · iexact HbV
  isplitl [Hr4]; · iexact Hr4
  isplitl [HO]; · iexact HO
  iintro HuB HbV Hr4 HO
  ihave HbV := (wr_eq d L bV' (g := xB) (View.write_whole_univ _ _ _)) $$ HbV
  iapply (wp_fetch d L uP ((gV).slice (Rect.unit (s := S400x128) ![0, 0] S200x128.size inb_S400x128_S200x128_0_0) (fun _ => rfl)) cc0_scoped5.sem (gV).view.set (View.set_slice_subset _ _) rfl (cr_g _ _) q xP fg O W)
  isplitr; · iexact Hmw
  isplitl [HuP]; · iexact HuP
  isplitl [HgV]; · iexact HgV
  isplitl [Hr5]; · iexact Hr5
  isplitl [HO]; · iexact HO
  iintro HuP HgV Hr5 HO
  iapply (wp_fetch d L uP ((gV).slice (Rect.unit (s := S400x128) ![200, 0] S200x128.size inb_S400x128_S200x128_200_0) (fun _ => rfl)) cc0_scoped6.sem (gV).view.set (View.set_slice_subset _ _) rfl (cr_g _ _) q xP _ O W)
  isplitr; · iexact Hmw
  isplitl [HuP]; · iexact HuP
  isplitl [HgV]; · iexact HgV
  isplitl [Hr6]; · iexact Hr6
  isplitl [HO]; · iexact HO
  iintro HuP HgV Hr6 HO
  ihave HgV := (wr_eq d L gV (write_twice fg xP)) $$ HgV
  iapply (le_wp_ret _ _)
  iapply HQ $$ HuI HuS HtR HuP HuE HuC HuB HG0 HiR HsV HgV HeV HcV HbV Hr0 Hr1 Hr2 Hr3 Hr4 Hr5 Hr6 HO

end Run

end Cert.Proof.Emb
-- ==== Proof.TileVal.lean ====
/-
  One tile's run: the value its rows end at, and the kernel's body from its operands to its rows of the result.
-/
module

public import proofs.«01_k».proof.Proof.Pro

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

/-- Sixteen elements from `16 * j`. -/
def vec1 (Y : S128.Idx → F .f32) (j : Fin 8) : FVec F S16 .f32 :=
  fun l => Y (ix1 (⟨16 * j.val + (l 0).val, by have h : (l 0).val < 16 := (l 0).isLt; omega⟩ : Fin 128))

theorem read_vec1 {sig' : RefSig} {κ : Kind} {sp : Space} (v : View sig' κ sp S128 .f32) (f : v.ty.Contents (Elt F))
    (off : Fin 1 → ℕ) (hin : ∀ a, off a + S16.size a ≤ S128.size a) (j : Fin 8) (h0 : off 0 = 16 * j.val) :
    shapeCast S16 (v.readAt (Elt F) (Rect.unit (s := S128) off S16.size hin).toLoadRect f) shapeCasts_S16_S16 = vec1 (v.read (Elt F) f) j := by
  refine (shapeCast_self _ _).trans ?_
  funext l
  show v.read (Elt F) f _ = v.read (Elt F) f _
  congr 1
  funext a
  apply Fin.ext
  match a with
  | 0 => show off 0 + 1 * (l 0).val = 16 * j.val + (l 0).val; omega

theorem rowWord_toNat (Sg : S6400.Idx → BitVec 32) (q : Fin 6400) (h : (Sg (ix1 q)).toNat < 2) : (rowWord Sg q).toNat = (Sg (ix1 q)).toNat * 200 + q.val % 200 := by
  unfold rowWord
  rw [BitVec.toNat_add, BitVec.toNat_mul, BitVec.toNat_ofNat]
  show ((Sg (ix1 q)).toNat * 200 % 2 ^ 32 + q.val % 200 % 2 ^ 32) % 2 ^ 32 = _
  omega

variable [FloatOps F]

/-- Row `g` of the sum of the three embeddings. -/
def embRow (xI xS : S204800.Idx → BitVec 32) (xT : S100000x128.Idx → F .f32) (xP : S200x128.Idx → F .f32) (xE : S2x128.Idx → F .f32) (g : Fin 204800) (j : Fin 8) : FVec F S16 .f32 :=
  addf (rowVec xT (⟨(xI (ix1 g)).toNat % 100000, Nat.mod_lt _ (by decide)⟩ : Fin 100000) j)
    (fun l => addS (rowVec xP (⟨g.val % 200, Nat.mod_lt _ (by decide)⟩ : Fin 200) j l) (rowVec xE (⟨(xS (ix1 g)).toNat % 2, Nat.mod_lt _ (by decide)⟩ : Fin 2) j l))

/-- The whole result. -/
def embOut (xI xS : S204800.Idx → BitVec 32) (xT : S100000x128.Idx → F .f32) (xP : S200x128.Idx → F .f32) (xE : S2x128.Idx → F .f32) (xC xB : S128.Idx → F .f32) : S204800x128.Idx → F .f32 :=
  fun z => rowOut (embRow xI xS xT xP xE (z 0)) (vec1 xC (⟨(z 1).val / 16, by have h : (z 1).val < 128 := (z 1).isLt; omega⟩ : Fin 8))
    (vec1 xB (⟨(z 1).val / 16, by have h : (z 1).val < 128 := (z 1).isLt; omega⟩ : Fin 8)) (⟨(z 1).val / 16, by have h : (z 1).val < 128 := (z 1).isLt; omega⟩ : Fin 8)
    (ix1 (⟨(z 1).val % 16, by omega⟩ : Fin 16))

theorem embOut_chunk (L : grid0.Coords) (xI xS : S204800.Idx → BitVec 32) (xT : S100000x128.Idx → F .f32) (xP : S200x128.Idx → F .f32) (xE : S2x128.Idx → F .f32) (xC xB : S128.Idx → F .f32)
    (hS : ∀ x, (xS x).toNat < 2) (c : Fin 50) (y : S128x128.Idx) (z : S204800x128.Idx) (h0 : (z 0).val = base L + 128 * c.val + (y 0).val) (h1 : (z 1).val = (y 1).val) :
    embOut xI xS xT xP xE xC xB z = normAll (gath xT (rowsOf L xI) c.val) (segVal (twice xP) (rowVec xE 0) (rowVec xE 1)) (vec1 xC) (vec1 xB) (vf (rowsOf L xS) c) 128 y := by
  have hy0 : (y 0).val < 128 := (y 0).isLt
  have hz0 : (z 0).val < 204800 := (z 0).isLt
  have hb := base_mod L
  have hg : ∀ h, (⟨base L + (128 * c.val + (y 0).val), h⟩ : Fin 204800) = z 0 := fun h => Fin.ext (by show base L + (128 * c.val + (y 0).val) = (z 0).val; omega)
  have hrow : embRow xI xS xT xP xE (z 0) = addRow (gath xT (rowsOf L xI) c.val) (segVal (twice xP) (rowVec xE 0) (rowVec xE 1)) (y 0) (vf (rowsOf L xS) c (y 0)) := by
    funext j
    unfold embRow addRow
    congr 1
    · funext l
      unfold rowVec gath rowsOf
      show xT (ix2 _ _) = xT (ix2 _ _)
      congr 2
      apply Fin.ext
      show (xI (ix1 (z 0))).toNat % 100000 = (xI (ix1 _)).toNat % 100000
      congr 4
      apply Fin.ext
      show (z 0).val = base L + (128 * c.val + (y 0).val) % 6400
      omega
    · funext l
      have hl : (l 0).val < 16 := (l 0).isLt
      have hj : j.val < 8 := j.isLt
      have hq : 128 * c.val + (y 0).val < 6400 := by have := c.isLt; omega
      have hw : (rowWord (rowsOf L xS) ⟨128 * c.val + (y 0).val, hq⟩).toNat = (xS (ix1 (z 0))).toNat * 200 + (z 0).val % 200 := by
        rw [rowWord_toNat _ _ (hS _)]
        have e : rowsOf L xS (ix1 (⟨128 * c.val + (y 0).val, hq⟩ : Fin 6400)) = xS (ix1 (z 0)) := congrArg (fun g => xS (ix1 g)) (hg _)
        rw [e]
        show _ + (128 * c.val + (y 0).val) % 200 = _
        omega
      have hs2 := hS (ix1 (z 0))
      have hv : (vf (rowsOf L xS) c (y 0)).val = (xS (ix1 (z 0))).toNat * 200 + (z 0).val % 200 := by
        show (rowWord (rowsOf L xS) ⟨128 * c.val + (y 0).val, hq⟩).toNat % 400 = _
        rw [hw]; omega
      show addS _ _ = addS (twice xP (ix2 (vf (rowsOf L xS) c (y 0)) _)) _
      congr 1
      · unfold twice rowVec
        show xP (ix2 _ _) = xP (ix2 _ _)
        congr 2
        apply Fin.ext
        show (z 0).val % 200 = (vf (rowsOf L xS) c (y 0)).val % 200
        rw [hv]; omega
      · show rowVec xE _ j l = (if (vf (rowsOf L xS) c (y 0)).val < 200 then rowVec xE 0 else rowVec xE 1) (⟨(16 * j.val + (l 0).val) / 16, _⟩ : Fin 8) (ix1 (⟨(16 * j.val + (l 0).val) % 16, _⟩ : Fin 16))
        have ej : ∀ h, (⟨(16 * j.val + (l 0).val) / 16, h⟩ : Fin 8) = j := fun h => Fin.ext (by show _ / 16 = _; omega)
        have el : ∀ h, ix1 (⟨(16 * j.val + (l 0).val) % 16, h⟩ : Fin 16) = l := fun h => (congrArg ix1 (Fin.ext (by show _ % 16 = (l 0).val; omega))).trans (idx1_eta l).symm
        rw [ej, el, hv]
        by_cases h : (xS (ix1 (z 0))).toNat = 0
        · rw [if_pos (by omega)]
          congr 1
          apply Fin.ext; show _ % 2 = 0; omega
        · rw [if_neg (by omega)]
          congr 1
          apply Fin.ext; show _ % 2 = 1; omega
  unfold embOut normAll
  rw [if_pos hy0, hrow]
  have e1 : ∀ h h', (⟨(z 1).val / 16, h⟩ : Fin 8) = ⟨(y 1).val / 16, h'⟩ := fun h h' => Fin.ext (by show (z 1).val / 16 = (y 1).val / 16; omega)
  have e2 : ∀ h h', (⟨(z 1).val % 16, h⟩ : Fin 16) = ⟨(y 1).val % 16, h'⟩ := fun h h' => Fin.ext (by show (z 1).val % 16 = (y 1).val % 16; omega)
  rw [e1, e2]

end Cert.Proof.Emb
-- ==== Proof.Tile.lean ====
/-
  One tile's run: the kernel's body from its operands to its rows of the result.
-/
module

public import proofs.«01_k».proof.Proof.TileVal

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

section Run

variable [FloatOps F] (d : Dev nD) (L : grid0.Coords)

theorem run_nil (f : S204800x128.Idx → F .f32) : (run d L f 0 (2 * 0 - 1) : sProp 𝕄) = iprop(emp) := rfl
theorem run_push (f : S204800x128.Idx → F .f32) (b : ℕ) : (run d L f 0 (b + 1) : sProp 𝕄) = iprop(oPts d L (base L + 128 * b) f ∗ run d L f 0 b) :=
  (ico_push (fun c => oPts d L (base L + 128 * c) f) (Nat.zero_le b)).symm

set_option maxHeartbeats 4000000 in
theorem wp_kernel (O : CellTallies nD τ sig (HIx 1)) (W : Waits sig (HIx 1)) (q : PosShare TreeShare)
    (xI xS : S204800.Idx → BitVec 32) (xT : S100000x128.Idx → F .f32) (xP : S200x128.Idx → F .f32) (xE : S2x128.Idx → F .f32) (xC xB : S128.Idx → F .f32)
    (hids : ∀ x, (xI x).toNat < 100000) (hS : ∀ x, (xS x).toNat < 2)
    (fi fs : S6400.Idx → BitVec 32) (fa fa' : S128x128.Idx → F .f32) (fg : S400x128.Idx → F .f32) (fe : S2x128.Idx → F .f32) (fc fb : S128.Idx → F .f32)
    (f0 : S204800x128.Idx → F .f32) (Q : PUnit → sProp 𝕄) :
    iprop(Transfers.MayWaits (thr d L) (default : HIx 1) O
      ∗ rd d L uI q xI ∗ rd d L uS q xS ∗ rd d L tV q xT ∗ rd d L uP q xP ∗ rd d L uE q xE ∗ rd d L uC q xC ∗ rd d L uB q xB
      ∗ wr d L iV fi ∗ wr d L sV fs ∗ wr d L aV fa ∗ wr d L bV fa' ∗ wr d L gV fg ∗ wr d L eV fe ∗ wr d L cV' fc ∗ wr d L bV' fb
      ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ ow d L O W ∗ run d L f0 0 50
      ∗ (rd d L uI q xI -∗ rd d L uS q xS -∗ rd d L tV q xT -∗ rd d L uP q xP -∗ rd d L uE q xE -∗ rd d L uC q xC -∗ rd d L uB q xB
        -∗ (∃ f, wr d L iV f) -∗ (∃ f, wr d L sV f) -∗ (∃ f, wr d L aV f) -∗ (∃ f, wr d L bV f) -∗ (∃ f, wr d L gV f) -∗ (∃ f, wr d L eV f) -∗ (∃ f, wr d L cV' f) -∗ (∃ f, wr d L bV' f)
        -∗ semVal (thr d L, SemLoc.dma cc0_scratch8.sem) 0 -∗ semVal (thr d L, SemLoc.dma cc0_scratch9.sem) 0 -∗ semVal (thr d L, SemLoc.dma cc0_scratch10.sem) 0 -∗ semVal (thr d L, SemLoc.dma cc0_scratch11.sem) 0 -∗ semVal (thr d L, SemLoc.dma cc0_scoped0.sem) 0 -∗ semVal (thr d L, SemLoc.dma cc0_scoped1.sem) 0 -∗ semVal (thr d L, SemLoc.dma cc0_scoped2.sem) 0 -∗ semVal (thr d L, SemLoc.dma cc0_scoped3.sem) 0 -∗ semVal (thr d L, SemLoc.dma cc0_scoped4.sem) 0 -∗ semVal (thr d L, SemLoc.dma cc0_scoped5.sem) 0 -∗ semVal (thr d L, SemLoc.dma cc0_scoped6.sem) 0 -∗ ow d L O W -∗ run d L (embOut xI xS xT xP xE xC xB) 0 50 -∗ Q ⟨⟩))
      ⊢ wp frame (wpE (defs₀ (F := F)) 𝒱₀ (thr d L) none) Set.univ (cc0_emb_kernel L (Memref.whole main_v0_scv) (Memref.isWhole_whole _) (Memref.whole main_v1_scv) (Memref.isWhole_whole _) tV (Memref.isWhole_whole _) (Memref.whole main_v2_scv) (Memref.isWhole_whole _) (Memref.whole main_arg4_scv) (Memref.isWhole_whole _) (Memref.whole main_arg5_scv) (Memref.isWhole_whole _) (Memref.whole main_arg6_scv) (Memref.isWhole_whole _) oV (Memref.isWhole_whole _) iV (Memref.isWhole_whole _) sV (Memref.isWhole_whole _) aV (Memref.isWhole_whole _) bV (Memref.isWhole_whole _) gV (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3 cc0_scoped4 cc0_scoped5 cc0_scoped6) Q := by
  simp only [cc0_emb_kernel_eq_skeleton]
  unfold cc0_emb_kernel_skel
  simp only [wp_bind]
  iintro ⟨#Hmw, HuI, HuS, HtV, HuP, HuE, HuC, HuB, HiV, HsV, HaV, HbB, HgV, HeV, HcV, HbV, Hg0, Hg1, Ho0, Ho1, Hr0, Hr1, Hr2, Hr3, Hr4, Hr5, Hr6, HO, Hrun, HQ⟩
  iapply (wp_pro d L O W q xI xS xT xP xE xC xB hids fi fs fa fg fe fc fb)
  isplitr; · iexact Hmw
  isplitl [HuI]; · iexact HuI
  isplitl [HuS]; · iexact HuS
  isplitl [HtV]; · iexact HtV
  isplitl [HuP]; · iexact HuP
  isplitl [HuE]; · iexact HuE
  isplitl [HuC]; · iexact HuC
  isplitl [HuB]; · iexact HuB
  isplitl [HiV]; · iexact HiV
  isplitl [HsV]; · iexact HsV
  isplitl [HaV]; · iexact HaV
  isplitl [HgV]; · iexact HgV
  isplitl [HeV]; · iexact HeV
  isplitl [HcV]; · iexact HcV
  isplitl [HbV]; · iexact HbV
  isplitl [Hg0]; · iexact Hg0
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [HO]; · iexact HO
  iintro HuI HuS HtR HuP HuE HuC HuB HG0 HiR HsV HgV HeV HcV HbV Hr0 Hr1 Hr2 Hr3 Hr4 Hr5 Hr6 HO
  rw [k0_part146_eq_skeleton]
  unfold k0_part146_skel
  simp only [wp_bind]
  iterate 12
    iapply (wp_ld d L eV)
    isplitl [HeV]; · iexact HeV
    iintro HeV
  iapply (le_wp_ret _ _)
  rw [k0_part147_eq_skeleton]
  unfold k0_part147_skel
  simp only [wp_bind]
  iterate 4
    iapply (wp_ld d L eV)
    isplitl [HeV]; · iexact HeV
    iintro HeV
  iterate 8
    iapply (wp_ld d L cV')
    isplitl [HcV]; · iexact HcV
    iintro HcV
  iterate 6
    iapply (wp_ld d L bV')
    isplitl [HbV]; · iexact HbV
    iintro HbV
  iapply (le_wp_ret _ _)
  iterate 2
    iapply (wp_ld d L bV')
    isplitl [HbV]; · iexact HbV
    iintro HbV
  iapply (wp_segLoop d L gV (twice xP) (rowVec xE 0) (rowVec xE 1) k0_t1_loop k0_t1_ok trips_t1 _ _ (fun t x => ?_) (twice xP) rfl)
  · rw [segTrip_eq]
    refine congrArg₂ (fun s0 s1 => segProg gV s0 s1 (Fin.cast trips_t1 t) 8 0 rfl >>= fun _ => pure 0#32) ?_ ?_ <;>
      (funext j; fin_cases j <;> exact read_lanes (n := 2) (eV).view xE _ _ _ _ rfl rfl)
  isplitl [HgV]; · iexact HgV
  iintro %fG %x %hG HgV
  iapply (Scf.wp_for frame (wpE (defs₀ (F := F)) 𝒱₀ (thr d L) none) Set.univ k0_t2_loop.lb k0_t2_loop.ub k0_t2_loop.st k0_t2_ok _ _
    (fun k _ => inv d L O W q xT (rowsOf L xI) (rowsOf L xS) fG (embOut xI xS xT xP xE xC xB) f0 k) ?_)
  · intro t x
    refine wp_trip d L O W q xT (rowsOf L xI) (rowsOf L xS) fG (embOut xI xS xT xP xE xC xB) f0 _ _ _ _ _ _ _ _ _ _ _ _ _ _ _ _
      (fun _ => hids _) (fun _ => hS _) (vec1 xC) (vec1 xB) ?_ ?_ ?_ t x
    · funext j; fin_cases j <;> exact (read_vec1 (cV').view xC _ _ _ rfl).symm
    · funext j; fin_cases j <;> exact (read_vec1 (bV').view xB _ _ _ rfl).symm
    · intro c y z h0 h1
      rw [hG]
      exact embOut_chunk L xI xS xT xP xE xC xB hS c y z h0 h1
  isplitl [HG0 Ho0 HbB Ho1 Hg1 HtR HiR HsV HgV HO Hrun]
  · unfold inv inv0 inv1
    rw [if_pos (by omega), if_pos rfl, if_pos (by omega)]
    isplitr; · iexact Hmw
    isplitl [HG0 Ho0]; · isplitl [HG0] <;> iassumption
    isplitl [HbB Ho1]
    · isplitl [HbB]
      · iexists _; iexact HbB
      · iexact Ho1
    isplitl [Hg1]; · iexact Hg1
    isplitl [HtR]; · iexact HtR
    isplitl [HiR]; · iexact HiR
    isplitl [HsV]; · iexact HsV
    isplitl [HgV]; · iexact HgV
    isplitl [HO]; · iexact HO
    isplitl [Hrun]; · iexact Hrun
    rw [run_nil]
    iempintro
  iintro %acc Hinv
  ihave Hinv := (Entails.of_eq (show inv d L O W q xT (rowsOf L xI) (rowsOf L xS) fG (embOut xI xS xT xP xE xC xB) f0 (Scf.trips k0_t2_loop.lb k0_t2_loop.ub k0_t2_loop.st)
    = inv d L O W q xT (rowsOf L xI) (rowsOf L xS) fG (embOut xI xS xT xP xE xC xB) f0 25 from congrArg _ trips_t2)) $$ Hinv
  unfold inv inv0 inv1
  rw [if_neg (by omega), if_neg (by omega), if_neg (by omega)]
  icases Hinv with ⟨-, ⟨HF0, Hg0, HtL, HiL⟩, HF1, Hg1, HtR, HiR, HsV, HgV, HO, -, Hrun⟩
  iapply (wp_waitC d L cc0_scratch10.sem (hN := credit_w) _ O W)
  isplitl [HF0]; · iexact HF0
  isplitr; · iexact Hmw
  isplitl [HO]; · iexact HO
  iintro ⟨⟨%ga, HaV⟩, Hc0⟩ Ho0 HO
  iapply (wp_waitC d L cc0_scratch11.sem (hN := credit_w) _ O W)
  isplitl [HF1]; · iexact HF1
  isplitr; · iexact Hmw
  isplitl [HO]; · iexact HO
  iintro ⟨⟨%gb, HbB⟩, Hc1⟩ Ho1 HO
  iapply (le_wp_ret _ _)
  ihave HtV := (pointsTo_share (PosShare.mem_left_op_right q)).2 $$ [HtL HtR]
  · isplitl [HtL] <;> iassumption
  ihave HiV := (pointsTo_share (PosShare.mem_left_op_right fullShare)).2 $$ [HiL HiR]
  · isplitl [HiL] <;> iassumption
  ihave HiV := (Entails.of_eq (wr_whole d L iV (View.set_whole _) (rowsOf L xI)).symm) $$ HiV
  iapply HQ $$ HuI HuS HtV HuP HuE HuC HuB [HiV] [HsV] [HaV] [HbB] [HgV] [HeV] [HcV] [HbV] Hg0 Hg1 Ho0 Ho1 Hr0 Hr1 Hr2 Hr3 Hr4 Hr5 Hr6 HO
  · iexists _; iexact HiV
  · iexists _; iexact HsV
  · iexists _; iexact HaV
  · iexists _; iexact HbB
  · iexists _; iexact HgV
  · iexists _; iexact HeV
  · iexists _; iexact HcV
  · iexists _; iexact HbV
  iapply (Entails.of_eq (run_push d L _ 49).symm)
  isplitl [Hc1]; · iexact Hc1
  iapply (Entails.of_eq (run_push d L _ 48).symm)
  isplitl [Hc0]; · iexact Hc0
  iexact Hrun

end Run

end Cert.Proof.Emb
-- ==== Proof.Pay.lean ====
/-
  What the launch's handshakes carry: the operands' shares and the rows of the result.
-/
module

public import proofs.«01_k».proof.Proof.Tile
public import Idealize.ShloMosaic.Lib.ShareLeaves

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the tasks are handed -/

/-- The operands' contents on each device. -/
structure Ops (F : FTy → Type) where
  xI : Dev nD → S204800.Idx → BitVec 32
  xS : Dev nD → S204800.Idx → BitVec 32
  xT : Dev nD → S100000x128.Idx → F .f32
  xP : Dev nD → S200x128.Idx → F .f32
  xE : Dev nD → S2x128.Idx → F .f32
  xC : Dev nD → S128.Idx → F .f32
  xB : Dev nD → S128.Idx → F .f32
  f0 : Dev nD → S204800x128.Idx → F .f32

/-- Every id is a row of the token table and every segment one of the two. -/
structure Ops.OK (o : Ops F) : Prop where
  ids : ∀ d x, (o.xI d x).toNat < 100000
  segs : ∀ d x, (o.xS d x).toNat < 2

abbrev lI (d : Dev nD) : Loc nD τ sig := (SparseCore.T d).loc main_v0
abbrev lS (d : Dev nD) : Loc nD τ sig := (SparseCore.T d).loc main_v1
abbrev lT (d : Dev nD) : Loc nD τ sig := (SparseCore.T d).loc main_arg2
abbrev lP (d : Dev nD) : Loc nD τ sig := (SparseCore.T d).loc main_v2
abbrev lE (d : Dev nD) : Loc nD τ sig := (SparseCore.T d).loc main_arg4
abbrev lC (d : Dev nD) : Loc nD τ sig := (SparseCore.T d).loc main_arg5
abbrev lB (d : Dev nD) : Loc nD τ sig := (SparseCore.T d).loc main_arg6
abbrev lO (d : Dev nD) : Loc nD τ sig := (SparseCore.T d).loc main_v3

/-- A read share of every operand. -/
abbrev rdAll (o : Ops F) (d : Dev nD) (q : PosShare TreeShare) : sProp 𝕄 :=
  iprop((lI d ↦{q} o.xI d) ∗ (lS d ↦{q} o.xS d) ∗ (lT d ↦{q} o.xT d) ∗ (lP d ↦{q} o.xP d) ∗ (lE d ↦{q} o.xE d) ∗ (lC d ↦{q} o.xC d) ∗ (lB d ↦{q} o.xB d))

theorem rdAll_leaves (o : Ops F) (d : Dev nD) (n : ℕ) (q : PosShare TreeShare) :
    (rdAll o d q : sProp 𝕄) = bigSep Finset.univ fun i : Fin (2 ^ n) => rdAll o d (leaf n q i) := by
  unfold rdAll
  rw [bigSep_sep', bigSep_sep', bigSep_sep', bigSep_sep', bigSep_sep', bigSep_sep', ← pointsTo_leaves, ← pointsTo_leaves, ← pointsTo_leaves, ← pointsTo_leaves, ← pointsTo_leaves, ← pointsTo_leaves, ← pointsTo_leaves]

/-- A core's share, and a tile's. -/
abbrev qC (c : Fin 2) : PosShare TreeShare := leaf 1 fullShare c
abbrev qT (c : Fin 2) (i : Fin 16) : PosShare TreeShare := leaf 4 (qC c) i

/-- A tile's rows of the result, and a core's. -/
abbrev tSet (c : Fin 2) (i : Fin 16) : Finset S204800x128.Idx := rowsSet (12800 * i.val + 6400 * c.val) 6400
def cSet (c : Fin 2) : Finset S204800x128.Idx := Finset.univ.biUnion (tSet c)

theorem tSet_disjoint (c : Fin 2) : ∀ i ∈ (Finset.univ : Finset (Fin 16)), ∀ j ∈ (Finset.univ : Finset (Fin 16)), i ≠ j → Disjoint (tSet c i) (tSet c j) := by
  intro i _ j _ h
  rw [Finset.disjoint_left]
  intro y hi hj
  rw [mem_rowsSet] at hi hj
  exact h (Fin.ext (by omega))

theorem mem_cSet (c : Fin 2) (y : S204800x128.Idx) : y ∈ cSet c ↔ (y 0).val / 6400 % 2 = c.val := by
  have hy : (y 0).val < 204800 := (y 0).isLt
  have hc := c.isLt
  unfold cSet
  rw [Finset.mem_biUnion]
  constructor
  · rintro ⟨i, -, hi⟩
    rw [mem_rowsSet] at hi
    omega
  · intro h
    refine ⟨⟨(y 0).val / 12800, by omega⟩, Finset.mem_univ _, ?_⟩
    rw [mem_rowsSet]
    show 12800 * ((y 0).val / 12800) + 6400 * c.val ≤ _ ∧ _ < 12800 * ((y 0).val / 12800) + 6400 * c.val + 6400
    omega

theorem cSet_disjoint : ∀ i ∈ (Finset.univ : Finset (Fin 2)), ∀ j ∈ (Finset.univ : Finset (Fin 2)), i ≠ j → Disjoint (cSet i) (cSet j) := by
  intro i _ j _ h
  rw [Finset.disjoint_left]
  intro y hi hj
  rw [mem_cSet] at hi hj
  exact h (Fin.ext (hi.symm.trans hj))

theorem cSet_cover : (Finset.univ : Finset (Fin 2)).biUnion cSet = Finset.univ := by
  ext y
  simp only [Finset.mem_biUnion, Finset.mem_univ, true_and, iff_true]
  exact ⟨⟨(y 0).val / 6400 % 2, Nat.mod_lt _ (by decide)⟩, (mem_cSet _ y).mpr rfl⟩

theorem out_cores (d : Dev nD) (f : Buf (Elt F) (lO d)) :
    (lO d ↦{fullShare} f : sProp 𝕄) = bigSep Finset.univ fun c : Fin 2 => lO d ↦[cSet c]{fullShare} f := by
  rw [← pointsTo_biUnion Finset.univ (ℓ := lO d) cSet cSet_disjoint, cSet_cover]; try rfl
theorem out_tiles (d : Dev nD) (c : Fin 2) (f : Buf (Elt F) (lO d)) :
    (lO d ↦[cSet c]{fullShare} f : sProp 𝕄) = bigSep Finset.univ fun i : Fin 16 => lO d ↦[tSet c i]{fullShare} f := by
  rw [← pointsTo_biUnion Finset.univ (ℓ := lO d) (tSet c) (tSet_disjoint c)]; try rfl

variable [FloatOps F]

/-- The result's contents after the call. -/
def Ops.out (o : Ops F) (d : Dev nD) : S204800x128.Idx → F .f32 := embOut (o.xI d) (o.xS d) (o.xT d) (o.xP d) (o.xE d) (o.xC d) (o.xB d)

abbrev stP (o : Ops F) (d : Dev nD) (c : Fin 2) : sProp 𝕄 := iprop(rdAll o d (qC c) ∗ lO d ↦[cSet c]{fullShare} o.f0 d)
abbrev dnP (o : Ops F) (d : Dev nD) (c : Fin 2) : sProp 𝕄 := iprop(rdAll o d (qC c) ∗ lO d ↦[cSet c]{fullShare} o.out d)
abbrev goP (o : Ops F) (d : Dev nD) (c : Fin 2) (i : Fin 16) : sProp 𝕄 := iprop(rdAll o d (qT c i) ∗ lO d ↦[tSet c i]{fullShare} o.f0 d)
abbrev tdP (o : Ops F) (d : Dev nD) (c : Fin 2) (i : Fin 16) : sProp 𝕄 := iprop(rdAll o d (qT c i) ∗ lO d ↦[tSet c i]{fullShare} o.out d)

/-- Each core takes a share of the operands and its rows of the result, each of its tiles a share of that share and its rows; the rows come back written. -/
def P (o : Ops F) : (K (F := F)).Pay (nD := nD) (Val := Elt F) (Name := ℕ) (U := UU) where
  st := fun q d c => match q with | 0 => stP o d (Fin.cast nCore_zero c)
  dn := fun q d c => match q with | 0 => dnP o d (Fin.cast nCore_zero c)
  go := fun q d c i => match q with | 0 => goP o d (Fin.cast nCore_zero c) (Fin.cast nSub_zero i)
  td := fun q d c i => match q with | 0 => tdP o d (Fin.cast nCore_zero c) (Fin.cast nSub_zero i)
  x := fun _ _ => iprop(emp)

instance P_storable (o : Ops F) : (P o).IsStorable where
  st q d c := match q with
    | 0 => (inferInstance : BI.Storable (upEmb : UEmb _ 𝕄) (stP o d (Fin.cast nCore_zero c)))
  dn q d c := match q with
    | 0 => (inferInstance : BI.Storable (upEmb : UEmb _ 𝕄) (dnP o d (Fin.cast nCore_zero c)))
  go q d c i := match q with
    | 0 => (inferInstance : BI.Storable (upEmb : UEmb _ 𝕄) (goP o d (Fin.cast nCore_zero c) (Fin.cast nSub_zero i)))
  td q d c i := match q with
    | 0 => (inferInstance : BI.Storable (upEmb : UEmb _ 𝕄) (tdP o d (Fin.cast nCore_zero c) (Fin.cast nSub_zero i)))

end Cert.Proof.Emb
-- ==== Proof.Task.lean ====
/-
  One tile's task: what it is handed, what it brings back, and the launch theorem's obligation for it.
-/
module

public import proofs.«01_k».proof.Proof.Pay

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

local notation "𝕄" => Mach F

variable [FloatOps F]

/-! ## The tile's own cells and buffers -/

omit [FloatOps F] in
/-- Distinct members of a set, first. -/
theorem bigSep_pull {I : Type} [DecidableEq I] (Φ : I → sProp 𝕄) : ∀ (l : List I) (s : Finset I), l.Nodup → (∀ x ∈ l, x ∈ s) →
    bigSep s Φ = l.foldr (fun x P => iprop(Φ x ∗ P)) (bigSep (l.foldl (fun s x => s.erase x) s) Φ)
  | [], s, _, _ => rfl
  | x :: l, s, hn, hs => by
    rw [SparseCore.bigSep_erase' (hs x List.mem_cons_self), bigSep_pull Φ l (s.erase x) (List.nodup_cons.mp hn).2 fun y hy =>
      Finset.mem_erase.mpr ⟨fun e => (List.nodup_cons.mp hn).1 (e ▸ hy), hs y (List.mem_cons_of_mem _ hy)⟩]
    rfl

abbrev semL : List (SemLoc sig) := [.dma cc0_scratch8.sem, .dma cc0_scratch9.sem, .dma cc0_scratch10.sem, .dma cc0_scratch11.sem, .dma cc0_scoped0.sem, .dma cc0_scoped1.sem, .dma cc0_scoped2.sem, .dma cc0_scoped3.sem, .dma cc0_scoped4.sem, .dma cc0_scoped5.sem, .dma cc0_scoped6.sem]
abbrev bufL : List (Ref sig .scVector) := [cc0_scratch0, cc0_scratch1, cc0_scratch2, cc0_scratch3, cc0_scratch4, cc0_scratch5, cc0_scratch6, cc0_scratch7]

theorem semL_scoped : ∀ s ∈ semL, SemLoc.isScoped Kind.scVector s = true := by decide +kernel
theorem bufL_nodup : bufL.Nodup := by decide +kernel

section Own

variable (d : Dev nD) (L : grid0.Coords)

/-- The rest of the tile's own cells, at zero, and of its own buffers. -/
def semRest : sProp 𝕄 := bigSep ((semL.map fun s => ((thr d L, s) : GSem nD τ sig)).foldl (fun s x => s.erase x) (ownCells (thr d L))) fun g => semVal g 0
def bufRest : sProp 𝕄 := bigSep ((bufL.map fun b => (thr d L).2.devRef b).foldl (fun s x => s.erase x) (ownRefs (τ := τ) (thr d L).2)) fun b => iprop(∃ f, ((d, b) : Loc nD τ sig) ↦{fullShare} f)

omit [FloatOps F] in
theorem ownSems0_V : (ownSems0 (thr d L) : sProp 𝕄)
    = iprop(semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semRest d L) := by
  unfold SparseCore.Cfg.ownSems0
  refine (bigSep_pull _ (semL.map fun s => ((thr d L, s) : GSem nD τ sig)) _ ?_ ?_).trans rfl
  · exact List.Nodup.map (fun a b h => (Prod.mk.inj h).2) (by decide +kernel)
  · intro x hx
    obtain ⟨s, hs, rfl⟩ := List.mem_map.mp hx
    refine mem_ownCells.mpr ⟨rfl, ?_⟩
    exact semL_scoped s hs

omit [FloatOps F] in
theorem ownBufs_V : (ownBufs (thr d L) : sProp 𝕄)
    = iprop((∃ f, wr d L iV f) ∗ (∃ f, wr d L sV f) ∗ (∃ f, wr d L aV f) ∗ (∃ f, wr d L bV f) ∗ (∃ f, wr d L gV f) ∗ (∃ f, wr d L eV f) ∗ (∃ f, wr d L cV' f) ∗ (∃ f, wr d L bV' f) ∗ bufRest d L) := by
  unfold SparseCore.Cfg.ownBufs
  rw [bigSep_pull _ (bufL.map fun b => (thr d L).2.devRef b) _ ?_ ?_]
  · have e : ∀ {s : Shape} {e : EltTy} (M : Memref sig .scVector .vmem s e) (h : M.view.set = Finset.univ), (iprop(∃ f, wr d L M f) : sProp 𝕄) = iprop(∃ f, M.view.loc (thr d L) ↦{fullShare} f) :=
      fun M h => by unfold wr; rw [h]
    rw [e iV (View.set_whole _), e sV (View.set_whole _), e aV (View.set_whole _), e bV (View.set_whole _), e gV (View.set_whole _), e eV (View.set_whole _), e cV' (View.set_whole _), e bV' (View.set_whole _)]
    rfl
  · exact List.Nodup.map (Proc.devRef_injective _) bufL_nodup
  · intro x hx
    obtain ⟨b, hb, rfl⟩ := List.mem_map.mp hx
    refine SparseCore.Cfg.mem_ownRefs_of_owner (p := (thr d L).2) ?_
    clear hx
    revert b
    simp only [List.mem_cons, List.not_mem_nil, _root_.or_false, forall_eq_or_imp, forall_eq]
    exact ⟨rfl, rfl, rfl, rfl, rfl, rfl, rfl, rfl⟩

omit [FloatOps F] in
/-- The chunks of a tile are its rows. -/
theorem run_tile (f : S204800x128.Idx → F .f32) (c : Fin 2) (i : Fin 16) (hc : c.val = (L 0).val) (hi : i.val = (L 1).val) :
    (run d L f 0 50 : sProp 𝕄) = (lO d ↦[tSet c i]{fullShare} f) := by
  have hb : base L = 12800 * i.val + 6400 * c.val := by unfold base; rw [hc, hi]
  have hU : (Finset.Ico 0 50).biUnion (fun k => rowsSet (base L + 128 * k) 128) = tSet c i := by
    ext y
    rw [Finset.mem_biUnion, mem_rowsSet, ← hb]
    constructor
    · rintro ⟨k, hk, h⟩
      rw [mem_rowsSet] at h
      rw [Finset.mem_Ico] at hk
      omega
    · intro h
      refine ⟨((y 0).val - base L) / 128, Finset.mem_Ico.mpr (by omega), ?_⟩
      rw [mem_rowsSet]
      omega
  rw [← hU]
  refine (pointsTo_biUnion (Finset.Ico 0 50) (ℓ := lO d) (fun k => rowsSet (base L + 128 * k) 128) ?_).symm
  intro a _ b _ h
  show Disjoint (rowsSet _ _) (rowsSet _ _)
  rw [Finset.disjoint_left]
  intro y ha hb'
  rw [mem_rowsSet] at ha hb'
  omega

set_option maxHeartbeats 4000000 in
/-- The task on a tile. -/
theorem tile_body (o : Ops F) (ho : o.OK) (O : CellTallies nD τ sig (HIx 1)) (W : Waits sig (HIx 1)) (hO : ∀ g, O g none = 0)
    (c : Fin 2) (i : Fin 16) (hc : c.val = (L 0).val) (hi : i.val = (L 1).val) :
    iprop(levAts (K (F := F)).L (K (F := F)).lev ∗ emp ∗ goP o d c i ∗ scopedBufs (thr d L) ∗ scopedSems0 (thr d L) ∗ owes (thr d L) O W)
      ⊢ wp frame (wpE (defs₀ (F := F)) 𝒱₀ (thr d L) none) Set.univ
          (cc0_emb_kernel L (Memref.whole main_v0_scv) (Memref.isWhole_whole _) (Memref.whole main_v1_scv) (Memref.isWhole_whole _) tV (Memref.isWhole_whole _) (Memref.whole main_v2_scv) (Memref.isWhole_whole _) (Memref.whole main_arg4_scv) (Memref.isWhole_whole _) (Memref.whole main_arg5_scv) (Memref.isWhole_whole _) (Memref.whole main_arg6_scv) (Memref.isWhole_whole _) oV (Memref.isWhole_whole _) iV (Memref.isWhole_whole _) sV (Memref.isWhole_whole _) aV (Memref.isWhole_whole _) bV (Memref.isWhole_whole _) gV (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3 cc0_scoped4 cc0_scoped5 cc0_scoped6)
          fun _ => iprop(tdP o d c i ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  unfold goP tdP rdAll
  rw [← run_tile d L (o.f0 d) c i hc hi, ← run_tile d L (o.out d) c i hc hi]
  iintro ⟨#Hlv, -, ⟨⟨HR0, HR1, HR2, HR3, HR4, HR5, HR6⟩, Hrun⟩, ⟨⟨%b0, HB0⟩, ⟨%b1, HB1⟩, ⟨%b2, HB2⟩, ⟨%b3, HB3⟩, ⟨%b4, HB4⟩, ⟨%b5, HB5⟩, ⟨%b6, HB6⟩, ⟨%b7, HB7⟩, Hbufs⟩, ⟨HSg0, HSg1, HSo0, HSo1, HSr0, HSr1, HSr2, HSr3, HSr4, HSr5, HSr6, Hsems⟩, HO⟩
  ihave #Hmw := (show levAts (K (F := F)).L (K (F := F)).lev ⊢ Transfers.MayWaits (thr d L) (default : HIx 1) O from
    (K (F := F)).mayWaits_none (thr := thr d L) hO) $$ Hlv
  iapply (wp_kernel d L O W (qT c i) (o.xI d) (o.xS d) (o.xT d) (o.xP d) (o.xE d) (o.xC d) (o.xB d) (ho.ids d) (ho.segs d) b0 b1 b2 b3 b4 b5 b6 b7 (o.f0 d))
  isplitr; · iexact Hmw
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  isplitl [HB7]; · iexact HB7
  isplitl [HSg0]; · iexact HSg0
  isplitl [HSg1]; · iexact HSg1
  isplitl [HSo0]; · iexact HSo0
  isplitl [HSo1]; · iexact HSo1
  isplitl [HSr0]; · iexact HSr0
  isplitl [HSr1]; · iexact HSr1
  isplitl [HSr2]; · iexact HSr2
  isplitl [HSr3]; · iexact HSr3
  isplitl [HSr4]; · iexact HSr4
  isplitl [HSr5]; · iexact HSr5
  isplitl [HSr6]; · iexact HSr6
  isplitl [HO]
  · iexists W
    isplitr
    · ipureintro; exact fun p hp => .inl hp
    · iexact HO
  isplitl [Hrun]; · iexact Hrun
  iintro HR0 HR1 HR2 HR3 HR4 HR5 HR6 HB0 HB1 HB2 HB3 HB4 HB5 HB6 HB7 HSg0 HSg1 HSo0 HSo1 HSr0 HSr1 HSr2 HSr3 HSr4 HSr5 HSr6 HO Hrun
  isplitl [HR0 HR1 HR2 HR3 HR4 HR5 HR6 Hrun]
  · isplitr [Hrun]
    · isplitl [HR0]; · iexact HR0
      isplitl [HR1]; · iexact HR1
      isplitl [HR2]; · iexact HR2
      isplitl [HR3]; · iexact HR3
      isplitl [HR4]; · iexact HR4
      isplitl [HR5]; · iexact HR5
      iexact HR6
    · iexact Hrun
  isplitl [HB0 HB1 HB2 HB3 HB4 HB5 HB6 HB7 Hbufs]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    iexact Hbufs
  isplitl [HSg0 HSg1 HSo0 HSo1 HSr0 HSr1 HSr2 HSr3 HSr4 HSr5 HSr6 Hsems]
  · isplitl [HSg0]; · iexact HSg0
    isplitl [HSg1]; · iexact HSg1
    isplitl [HSo0]; · iexact HSo0
    isplitl [HSo1]; · iexact HSo1
    isplitl [HSr0]; · iexact HSr0
    isplitl [HSr1]; · iexact HSr1
    isplitl [HSr2]; · iexact HSr2
    isplitl [HSr3]; · iexact HSr3
    isplitl [HSr4]; · iexact HSr4
    isplitl [HSr5]; · iexact HSr5
    isplitl [HSr6]; · iexact HSr6
    iexact Hsems
  iexact HO

end Own

end Cert.Proof.Emb
-- ==== Proof.Launch.lean ====
/-
  The launch: the tile's task as the call's obligation, the split of a core's share over its tiles, @main on the
  TensorCore, and the run of the whole program over any float.
-/
module

public import proofs.«01_k».proof.Proof.Task
public import Idealize.ShloMosaic.Lib.SparseCore.Quiescent
public import Idealize.ShloMosaic.Lib.StableHlo.Run

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open ValueIdx

variable {F : FTy → Type}

local notation "𝕄" => Mach F

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_kernel (coordsV c s) (Memref.whole main_v0_scv) (Memref.isWhole_whole _) (Memref.whole main_v1_scv) (Memref.isWhole_whole _) tV (Memref.isWhole_whole _) (Memref.whole main_v2_scv) (Memref.isWhole_whole _) (Memref.whole main_arg4_scv) (Memref.isWhole_whole _) (Memref.whole main_arg5_scv) (Memref.isWhole_whole _) (Memref.whole main_arg6_scv) (Memref.isWhole_whole _) oV (Memref.isWhole_whole _) iV (Memref.isWhole_whole _) sV (Memref.isWhole_whole _) aV (Memref.isWhole_whole _) bV (Memref.isWhole_whole _) gV (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3 cc0_scoped4 cc0_scoped5 cc0_scoped6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (o : Ops F) (ho : o.OK) : (K (F := F)).TileObl (D (F := F)) 𝒱 (P o) v₀ 0 := by
  intro d c i O W hO _ _
  simp only [show (P o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) o ho O W hO (Fin.cast nCore_zero c) (Fin.cast nSub_zero i) rfl rfl).trans (wp_mono frame _ _ fun _ => obl_post)

/-! ## The shares split and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem tiles_eq (o : Ops F) (d : Dev nD) (c : Fin 2) (f : Buf (Elt F) (lO d)) :
    (bigSep Finset.univ fun i : Fin 16 => iprop(rdAll o d (qT c i) ∗ lO d ↦[tSet c i]{fullShare} f) : sProp 𝕄)
      = iprop(rdAll o d (qC c) ∗ lO d ↦[cSet c]{fullShare} f) := by
  rw [out_tiles]
  refine (bigSep_sep' Finset.univ (fun i : Fin 16 => rdAll o d (qT c i)) (fun i : Fin 16 => (lO d ↦[tSet c i]{fullShare} f : sProp 𝕄))).trans ?_
  exact congrArg (fun X : sProp 𝕄 => iprop(X ∗ _)) (rdAll_leaves o d 4 (qC c)).symm
omit [FloatOps F] in
theorem cores_eq (o : Ops F) (d : Dev nD) (f : Buf (Elt F) (lO d)) :
    (bigSep Finset.univ fun c : Fin 2 => iprop(rdAll o d (qC c) ∗ lO d ↦[cSet c]{fullShare} f) : sProp 𝕄)
      = iprop(rdAll o d fullShare ∗ lO d ↦{fullShare} f) := by
  rw [out_cores]
  refine (bigSep_sep' Finset.univ (fun c : Fin 2 => rdAll o d (qC c)) (fun c : Fin 2 => (lO d ↦[cSet c]{fullShare} f : sProp 𝕄))).trans ?_
  exact congrArg (fun X : sProp 𝕄 => iprop(X ∗ _)) (rdAll_leaves o d 1 fullShare).symm

theorem vecSplit (o : Ops F) : (K (F := F)).VecSplit' (P o) 0 := by
  intro d c
  show stP o d (Fin.cast nCore_zero c) ⊢ |={Set.univ}=> iprop(
      (bigSep Finset.univ fun i : Fin ((K (F := F)).nSub 0) => goP o d (Fin.cast nCore_zero c) (Fin.cast nSub_zero i))
      ∗ ((bigSep Finset.univ fun i : Fin ((K (F := F)).nSub 0) => tdP o d (Fin.cast nCore_zero c) (Fin.cast nSub_zero i))
          -∗ dnP o d (Fin.cast nCore_zero c)))
  rw [bigSep_tasks (F := F) (goP o d (Fin.cast nCore_zero c)), bigSep_tasks (F := F) (tdP o d (Fin.cast nCore_zero c)),
    show (bigSep Finset.univ (goP o d (Fin.cast nCore_zero c)) : sProp 𝕄) = stP o d (Fin.cast nCore_zero c) from tiles_eq o d _ _,
    show (bigSep Finset.univ (tdP o d (Fin.cast nCore_zero c)) : sProp 𝕄) = dnP o d (Fin.cast nCore_zero c) from tiles_eq o d _ _]
  iintro H; imodintro
  isplitl [H]; · iexact H
  iintro H; iexact H

theorem st0_eq (o : Ops F) (d : Dev nD) :
    (bigSep Finset.univ fun c : Fin ((K (F := F)).nCore 0) => (P o).st 0 d c) = iprop(rdAll o d fullShare ∗ lO d ↦{fullShare} o.f0 d) :=
  (bigSep_cores (F := F) (stP o d)).trans (cores_eq o d _)
theorem dn0_eq (o : Ops F) (d : Dev nD) :
    (bigSep Finset.univ fun c : Fin ((K (F := F)).nCore 0) => (P o).dn 0 d c) = iprop(rdAll o d fullShare ∗ lO d ↦{fullShare} o.out d) :=
  (bigSep_cores (F := F) (dnP o d)).trans (cores_eq o d _)

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (o : Ops F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) o).x q thr) = bigSep Finset.univ fun _ => iprop(emp) from
    bigSep_congr fun _ _ => bigSep_univ_of_subsingleton (0 : Fin 1), bigSep_emp']
  iempintro

end Cert.Proof.Emb
-- ==== Proof.Main.lean ====
/-
  @main on the TensorCore: the three array operations before the call, the call, the reshape after it; and the run of
  the whole program over any float.
-/
module

public import proofs.«01_k».proof.Proof.Launch

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open ValueIdx

variable {F : FTy → Type}

local notation "𝕄" => Mach F

/-! ## @main's arrays and operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev SA : Finset (DevRef τ sig) := {a0', a1', a2', a3', a4', a5', a6', v0', v1', v2', v3', v4'}

abbrev opI : HloOp τ sig (Elt F) := StableHlo.reshape main_arg0 main_v0 (rfl : (.i32 : EltTy) = .i32) shapeCasts_S1024x200_S204800
abbrev opS : HloOp τ sig (Elt F) := StableHlo.reshape main_arg1 main_v1 (rfl : (.i32 : EltTy) = .i32) shapeCasts_S1024x200_S204800
abbrev opP : HloOp τ sig (Elt F) := StableHlo.unary main_arg3 main_v2 ((extractStridedSlice S200x128 ![0, 0] · slices_S512x128_S200x128_0_0) : (⟨S512x128, .f32⟩ : BufTy).Contents (Elt F) → (⟨S200x128, .f32⟩ : BufTy).Contents (Elt F))
abbrev opR : HloOp τ sig (Elt F) := StableHlo.reshape main_v3 main_v4 (rfl : (.f32 : EltTy) = .f32) shapeCasts_S204800x128_S1024x200x128

theorem hI : (opI (F := F)).bufs ⊆ SA := show ({a0', v0'} : Finset (DevRef τ sig)) ⊆ SA by decide
theorem hS : (opS (F := F)).bufs ⊆ SA := show ({a1', v1'} : Finset (DevRef τ sig)) ⊆ SA by decide
theorem hP : (opP (F := F)).bufs ⊆ SA := show ({a3', v2'} : Finset (DevRef τ sig)) ⊆ SA by decide
theorem hR : (opR (F := F)).bufs ⊆ SA := show ({v3', v4'} : Finset (DevRef τ sig)) ⊆ SA by decide

/-- The twelve arrays held whole. -/
abbrev arrs (d : Dev nD) (W : Valuation τ sig (Elt F)) : sProp 𝕄 :=
  iprop(((SparseCore.T d).loc main_arg0 ↦{fullShare} W a0') ∗ ((SparseCore.T d).loc main_arg1 ↦{fullShare} W a1') ∗ ((SparseCore.T d).loc main_arg2 ↦{fullShare} W a2') ∗ ((SparseCore.T d).loc main_arg3 ↦{fullShare} W a3') ∗ ((SparseCore.T d).loc main_arg4 ↦{fullShare} W a4') ∗ ((SparseCore.T d).loc main_arg5 ↦{fullShare} W a5') ∗ ((SparseCore.T d).loc main_arg6 ↦{fullShare} W a6') ∗ ((SparseCore.T d).loc main_v0 ↦{fullShare} W v0') ∗ ((SparseCore.T d).loc main_v1 ↦{fullShare} W v1') ∗ ((SparseCore.T d).loc main_v2 ↦{fullShare} W v2') ∗ ((SparseCore.T d).loc main_v3 ↦{fullShare} W v3') ∗ ((SparseCore.T d).loc main_v4 ↦{fullShare} W v4'))

theorem held_SA (d : Dev nD) (W : Valuation τ sig (Elt F)) : (held (SparseCore.T d) SA W : sProp 𝕄) = arrs d W := by
  unfold held SA
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_arg5 ↦{fullShare} W main_arg5) ∗ ((SparseCore.T d).loc main_arg6 ↦{fullShare} W main_arg6) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4)) := by
  unfold unscopedBufs
  rw [show (Finset.univ.filter fun b : Ref sig .tc => ¬ b.isScoped) = {main_arg0, main_arg1, main_arg2, main_arg3, main_arg4, main_arg5, main_arg6, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (m : (ℓ : Loc nD τ sig) → Buf (Elt F) ℓ)

/-- The operands the call reads: the ids and the segments in one row, the first 200 rows of the positions, the rest as launched. -/
def opsOf : Ops F where
  xI d := shapeCast S204800 (m ((SparseCore.T d).loc main_arg0)) shapeCasts_S1024x200_S204800
  xS d := shapeCast S204800 (m ((SparseCore.T d).loc main_arg1)) shapeCasts_S1024x200_S204800
  xT d := m ((SparseCore.T d).loc main_arg2)
  xP d := extractStridedSlice S200x128 ![0, 0] (m ((SparseCore.T d).loc main_arg3)) slices_S512x128_S200x128_0_0
  xE d := m ((SparseCore.T d).loc main_arg4)
  xC d := m ((SparseCore.T d).loc main_arg5)
  xB d := m ((SparseCore.T d).loc main_arg6)
  f0 d := m ((SparseCore.T d).loc main_v3)

/-- The launch valuation, and the valuation before the call. -/
def V0 (d : Dev nD) : Valuation τ sig (Elt F) := fun b => m (d, b)
def V3 (d : Dev nD) : Valuation τ sig (Elt F) := (opP (F := F)).result ((opS (F := F)).result ((opI (F := F)).result (V0 m d)))

theorem unscoped_held (d : Dev nD) : (unscopedBufs d (fun b => m ((SparseCore.T d).loc b)) : sProp 𝕄) = held (SparseCore.T d) SA (V0 m d) := by
  rw [unscopedBufs_eq, held_SA]; rfl

theorem V3_of (d : Dev nD) {b : DevRef τ sig} (h0 : b ∉ ({v0'} : Finset (DevRef τ sig))) (h1 : b ∉ ({v1'} : Finset (DevRef τ sig))) (h2 : b ∉ ({v2'} : Finset (DevRef τ sig))) :
    V3 m d b = m (d, b) := by
  unfold V3
  rw [(opP (F := F)).result_of_not_mem _ h2, (opS (F := F)).result_of_not_mem _ h1, (opI (F := F)).result_of_not_mem _ h0]
  rfl
theorem V3_v0 (d : Dev nD) : V3 m d v0' = (opsOf m).xI d := by
  unfold V3
  rw [(opP (F := F)).result_of_not_mem _ (show v0' ∉ ({v2'} : Finset (DevRef τ sig)) by decide), (opS (F := F)).result_of_not_mem _ (show v0' ∉ ({v1'} : Finset (DevRef τ sig)) by decide)]
  exact StableHlo.reshape_result _ _ _ _ _ _ _
theorem V3_v1 (d : Dev nD) : V3 m d v1' = (opsOf m).xS d := by
  unfold V3
  rw [(opP (F := F)).result_of_not_mem _ (show v1' ∉ ({v2'} : Finset (DevRef τ sig)) by decide)]
  refine (StableHlo.reshape_result _ _ _ _ _ _ _).trans ?_
  rw [(opI (F := F)).result_of_not_mem _ (show a1' ∉ ({v0'} : Finset (DevRef τ sig)) by decide)]
  rfl
theorem V3_v2 (d : Dev nD) : V3 m d v2' = (opsOf m).xP d := by
  unfold V3
  refine (StableHlo.unary_result _ _ _ _ _ _).trans ?_
  rw [(opS (F := F)).result_of_not_mem _ (show a3' ∉ ({v1'} : Finset (DevRef τ sig)) by decide), (opI (F := F)).result_of_not_mem _ (show a3' ∉ ({v0'} : Finset (DevRef τ sig)) by decide)]
  rfl

theorem V3_a0 (d : Dev nD) : V3 m d a0' = m ((SparseCore.T d).loc main_arg0) := V3_of m d (by decide) (by decide) (by decide)
theorem V3_a1 (d : Dev nD) : V3 m d a1' = m ((SparseCore.T d).loc main_arg1) := V3_of m d (by decide) (by decide) (by decide)
theorem V3_a2 (d : Dev nD) : V3 m d a2' = m ((SparseCore.T d).loc main_arg2) := V3_of m d (by decide) (by decide) (by decide)
theorem V3_a3 (d : Dev nD) : V3 m d a3' = m ((SparseCore.T d).loc main_arg3) := V3_of m d (by decide) (by decide) (by decide)
theorem V3_a4 (d : Dev nD) : V3 m d a4' = m ((SparseCore.T d).loc main_arg4) := V3_of m d (by decide) (by decide) (by decide)
theorem V3_a5 (d : Dev nD) : V3 m d a5' = m ((SparseCore.T d).loc main_arg5) := V3_of m d (by decide) (by decide) (by decide)
theorem V3_a6 (d : Dev nD) : V3 m d a6' = m ((SparseCore.T d).loc main_arg6) := V3_of m d (by decide) (by decide) (by decide)
theorem V3_v3 (d : Dev nD) : V3 m d v3' = m ((SparseCore.T d).loc main_v3) := V3_of m d (by decide) (by decide) (by decide)
theorem V3_v4 (d : Dev nD) : V3 m d v4' = m ((SparseCore.T d).loc main_v4) := V3_of m d (by decide) (by decide) (by decide)

variable [FloatOps F]

/-- After the call: the rows written. -/
def V4 (d : Dev nD) : Valuation τ sig (Elt F) := Function.update (V3 m d) v3' ((opsOf m).out d)
theorem V4_a0 (d : Dev nD) : V4 m d a0' = V3 m d a0' := Function.update_of_ne (show a0' ≠ v3' by decide) _ _
theorem V4_a1 (d : Dev nD) : V4 m d a1' = V3 m d a1' := Function.update_of_ne (show a1' ≠ v3' by decide) _ _
theorem V4_a2 (d : Dev nD) : V4 m d a2' = V3 m d a2' := Function.update_of_ne (show a2' ≠ v3' by decide) _ _
theorem V4_a3 (d : Dev nD) : V4 m d a3' = V3 m d a3' := Function.update_of_ne (show a3' ≠ v3' by decide) _ _
theorem V4_a4 (d : Dev nD) : V4 m d a4' = V3 m d a4' := Function.update_of_ne (show a4' ≠ v3' by decide) _ _
theorem V4_a5 (d : Dev nD) : V4 m d a5' = V3 m d a5' := Function.update_of_ne (show a5' ≠ v3' by decide) _ _
theorem V4_a6 (d : Dev nD) : V4 m d a6' = V3 m d a6' := Function.update_of_ne (show a6' ≠ v3' by decide) _ _
theorem V4_v0 (d : Dev nD) : V4 m d v0' = V3 m d v0' := Function.update_of_ne (show v0' ≠ v3' by decide) _ _
theorem V4_v1 (d : Dev nD) : V4 m d v1' = V3 m d v1' := Function.update_of_ne (show v1' ≠ v3' by decide) _ _
theorem V4_v2 (d : Dev nD) : V4 m d v2' = V3 m d v2' := Function.update_of_ne (show v2' ≠ v3' by decide) _ _
theorem V4_v4 (d : Dev nD) : V4 m d v4' = V3 m d v4' := Function.update_of_ne (show v4' ≠ v3' by decide) _ _
theorem V4_v3 (d : Dev nD) : V4 m d v3' = (opsOf m).out d := Function.update_self _ _ _

/-- The result's contents. -/
def Rv (d : Dev nD) : Buf (Elt F) ((SparseCore.T d : Thread nD τ).loc main_v4) := shapeCast S1024x200x128 ((opsOf m).out d) shapeCasts_S204800x128_S1024x200x128

/-- What @main leaves the claims: the arguments as launched, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_v4 ↦{fullShare} Rv m d))

theorem V5_a {b : DevRef τ sig} (d : Dev nD) (h : b ∉ ({v4'} : Finset (DevRef τ sig))) : (opR (F := F)).result (V4 m d) b = V4 m d b :=
  (opR (F := F)).result_of_not_mem _ h
theorem V5_v4 (d : Dev nD) : (opR (F := F)).result (V4 m d) v4' = Rv m d := by
  refine (StableHlo.reshape_result _ _ _ _ _ _ _).trans ?_
  rw [V4_v3]; rfl

theorem arrs_V3 (d : Dev nD) : (held (SparseCore.T d) SA ((opP (F := F)).result ((opS (F := F)).result ((opI (F := F)).result (V0 m d)))) : sProp 𝕄) = arrs d (V3 m d) :=
  held_SA d _
theorem arrs_V5 (d : Dev nD) : (held (SparseCore.T d) SA ((opR (F := F)).result (V4 m d)) : sProp 𝕄) = arrs d ((opR (F := F)).result (V4 m d)) :=
  held_SA d _

variable (ρ : Dev nD → PrngReg)

set_option maxRecDepth 16384 in
/-- @main on device `d`'s TensorCore: the two reshapes and the slice, the call (the library's `wp_run`, from the operands
    and the rows of the result), the last reshape; the arguments and the result kept; `tcEnd` handed back. -/
theorem hmain (κ : GSem nD τ sig → ℕ) (d : Dev nD) :
    iprop((K (F := F)).ctx EH (P (opsOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := SA) hI (V := V0 m d)) $$ [Hb Hheld]
  · isplitl [Hb] <;> iassumption
  iintro ⟨Hb, Hheld⟩
  rw [wp_ret]; imodintro
  iapply (wp_hlo_within 𝒱 (SparseCore.T d) none Set.univ (op := opS) (S := SA) hS (V := (opI (F := F)).result (V0 m d))) $$ [Hb Hheld]
  · isplitl [Hb] <;> iassumption
  iintro ⟨Hb, Hheld⟩
  rw [wp_ret]; imodintro
  iapply (wp_hlo_within 𝒱 (SparseCore.T d) none Set.univ (op := opP) (S := SA) hP (V := (opS (F := F)).result ((opI (F := F)).result (V0 m d)))) $$ [Hb Hheld]
  · isplitl [Hb] <;> iassumption
  iintro ⟨Hb, Hheld⟩
  rw [wp_ret]; imodintro
  ihave Hh := (Entails.of_eq (arrs_V3 (F := F) m d)) $$ Hheld
  unfold arrs
  rw [V3_a2, V3_a4, V3_a5, V3_a6, V3_v0, V3_v1, V3_v2, V3_v3]
  icases Hh with ⟨Ha0, Ha1, Ha2, Ha3, Ha4, Ha5, Ha6, Hv0, Hv1, Hv2, Hv3, Hv4⟩
  iapply ((K (F := F)).wp_run (D (F := F)) 𝒱 (EH := EH) (P := P (opsOf m)) κ d 0) $$ [Hst Hb Hts Ha0 Ha1 Ha2 Ha3 Ha4 Ha5 Ha6 Hv0 Hv1 Hv2 Hv3 Hv4]
  isplitr; · iexact Hctx
  isplitl [Hst]; · iexact Hst
  isplitl [Hv0 Hv1 Ha2 Hv2 Ha4 Ha5 Ha6 Hv3]
  · rw [st0_eq]
    isplitr [Hv3]
    · isplitl [Hv0]; · iexact Hv0
      isplitl [Hv1]; · iexact Hv1
      isplitl [Ha2]; · iexact Ha2
      isplitl [Hv2]; · iexact Hv2
      isplitl [Ha4]; · iexact Ha4
      isplitl [Ha5]; · iexact Ha5
      iexact Ha6
    · iexact Hv3
  iintro ⟨Hst, Hdn⟩
  ihave Hdn' := (Entails.of_eq (dn0_eq (opsOf m) d)) $$ Hdn
  icases Hdn' with ⟨⟨Hv0, Hv1, Ha2, Hv2, Ha4, Ha5, Ha6⟩, Hv3⟩
  iapply (wp_hlo_within 𝒱 (SparseCore.T d) none Set.univ (op := opR) (S := SA) hR (V := V4 m d)) $$ [Hb Ha0 Ha1 Ha2 Ha3 Ha4 Ha5 Ha6 Hv0 Hv1 Hv2 Hv3 Hv4]
  · isplitl [Hb]; · iexact Hb
    rw [held_SA]
    unfold arrs
    rw [V4_a0, V4_a1, V4_a2, V4_a3, V4_a4, V4_a5, V4_a6, V4_v0, V4_v1, V4_v2, V4_v3, V4_v4, V3_a2, V3_a4, V3_a5, V3_a6, V3_v0, V3_v1, V3_v2]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Hv0]; · iexact Hv0
    isplitl [Hv1]; · iexact Hv1
    isplitl [Hv2]; · iexact Hv2
    isplitl [Hv3]; · iexact Hv3
    iexact Hv4
  iintro ⟨Hb, Hheld⟩
  ihave Hh := (Entails.of_eq (arrs_V5 (F := F) m d)) $$ Hheld
  unfold arrs
  rw [V5_v4, V5_a m d (b := a0') (by decide), V5_a m d (b := a1') (by decide), V5_a m d (b := a2') (by decide), V5_a m d (b := a3') (by decide), V5_a m d (b := a4') (by decide), V5_a m d (b := a5') (by decide), V5_a m d (b := a6') (by decide), V4_a0, V4_a1, V4_a2, V4_a3, V4_a4, V4_a5, V4_a6, V3_a0, V3_a1, V3_a2, V3_a3, V3_a4, V3_a5, V3_a6]
  icases Hh with ⟨Ha0, Ha1, Ha2, Ha3, Ha4, Ha5, Ha6, -, -, -, -, Hv4⟩
  rw [wp_ret]; imodintro; imodintro
  isplitl [Hst]; · iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Hv4
  isplitl [Hb] <;> iassumption

/-- What the claims read of device `d`'s final state. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_arg2) = m ((SparseCore.T d).loc main_arg2) ∧ s'.mem.mem ((SparseCore.T d).loc main_arg3) = m ((SparseCore.T d).loc main_arg3) ∧ s'.mem.mem ((SparseCore.T d).loc main_arg4) = m ((SparseCore.T d).loc main_arg4) ∧ s'.mem.mem ((SparseCore.T d).loc main_arg5) = m ((SparseCore.T d).loc main_arg5) ∧ s'.mem.mem ((SparseCore.T d).loc main_arg6) = m ((SparseCore.T d).loc main_arg6))
    ∧ s'.mem.mem ((SparseCore.T d).loc main_v4) = Rv m d

omit [FloatOps F] in
theorem agree (s' : Phys nD τ sig (Elt F)) (ℓ : Loc nD τ sig) (f : Buf (Elt F) ℓ) (R : sProp 𝕄) :
    iprop(((ℓ ↦{fullShare} f) ∗ R) ∗ SI s') ⊢ (iprop(⌜s'.mem.mem ℓ = f⌝ ∗ R ∗ SI s') : sProp 𝕄) := by
  iintro ⟨⟨H, HR⟩, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  isplitl [HR] <;> iassumption

set_option maxRecDepth 16384 in
theorem hfin (d : Dev nD) (s' : Phys nD τ sig (Elt F)) : iprop(FIN m d ∗ SI s') ⊢ (⌜fq m d s'⌝ : sProp 𝕄) := by
  unfold FIN
  iintro H
  ihave H := (agree s' _ _ _) $$ H
  icases H with ⟨%h0, H⟩
  ihave H := (agree s' _ _ _) $$ H
  icases H with ⟨%h1, H⟩
  ihave H := (agree s' _ _ _) $$ H
  icases H with ⟨%h2, H⟩
  ihave H := (agree s' _ _ _) $$ H
  icases H with ⟨%h3, H⟩
  ihave H := (agree s' _ _ _) $$ H
  icases H with ⟨%h4, H⟩
  ihave H := (agree s' _ _ _) $$ H
  icases H with ⟨%h5, H⟩
  ihave H := (agree s' _ _ _) $$ H
  icases H with ⟨%h6, H⟩
  icases H with ⟨H, HSI⟩
  ihave H := (SI_pointsTo_agree (st := s') (ℓ := (SparseCore.T d).loc main_v4) (I := Finset.univ) (q := fullShare) (f := Rv m d)) $$ [HSI H]
  · isplitl [HSI] <;> iassumption
  icases H with %h7
  ipureintro; exact ⟨⟨h0, h1, h2, h3, h4, h5, h6⟩, funext fun i => h7 i (Finset.mem_univ i)⟩

/-! ## The program's run -/

def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1) ∧ r.2.mem ((SparseCore.T d).loc main_arg2) = m ((SparseCore.T d).loc main_arg2) ∧ r.2.mem ((SparseCore.T d).loc main_arg3) = m ((SparseCore.T d).loc main_arg3) ∧ r.2.mem ((SparseCore.T d).loc main_arg4) = m ((SparseCore.T d).loc main_arg4) ∧ r.2.mem ((SparseCore.T d).loc main_arg5) = m ((SparseCore.T d).loc main_arg5) ∧ r.2.mem ((SparseCore.T d).loc main_arg6) = m ((SparseCore.T d).loc main_arg6))
    ∧ r.2.mem ((SparseCore.T d).loc main_v4) = Rv m d) ∧ r.2.sem = fun _ => 0

theorem run_main [∀ e, Nonempty (Elt F e)] (hok : (opsOf m).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (opsOf m)) (A := ∅) facts v₀
    (fun q hq => match q with | 0 => nomatch hq)
    (fun q _ => match q with | 0 => tileObl (opsOf m) hok)
    (fun q _ => match q with | 0 => SparseCore.Cfg.VecSplit.of_plain (vecSplit (opsOf m)))
    m ρ main (fun _ => iprop(emp)) (FIN m) (u₀ (F := F)) (sep_elim_left.trans (hu₀ (opsOf m))) (hmain m ρ) (fq m) (hfin m) (QC m) (fun _ h hz => ⟨h, hz⟩)

end Cert.Proof.Emb
-- ==== Proof.RefRun.lean ====
/-
  The reference's run: its operations in order, the calls of its local functions written out, and what its result holds.
-/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.ValueIdx

@[expose] public section

noncomputable section

namespace Cert.Proof.EmbRef

open Cert.ReferenceIdeal Cert.ReferenceIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open StableHlo ValueIdx

variable {F : FTy → Type}

variable [FloatOps F]

abbrev opsT : List (HloOp τ sig (Elt F)) :=
  [ TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg2) main_call0.v5 main_call0.v13 (fun x i => Host.gather gather_S100000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select ]

abbrev opsP : List (HloOp τ sig (Elt F)) :=
  [ nullary main_v1 (iotaInDim S200 32 0),
    unary main_v1 main_v2 (broadcastInDim S1x200 ![1] bcast_S200_S1x200_1 : (⟨S200, .i32⟩ : BufTy).Contents (Elt F) → (⟨S1x200, .i32⟩ : BufTy).Contents (Elt F)),
    TRef.nullary main_call1.c (constantI S_ 32 0#32),
    TRef.unary main_call1.c main_call1.v0 (broadcastInDim S1x200 ![] bcast_S_S1x200),
    TRef.binary (.of main_v2) main_call1.v0 main_call1.v1 (cmpi .slt),
    TRef.nullary main_call1.c_0 (constantI S_ 32 512#32),
    TRef.unary main_call1.c_0 main_call1.v2 (broadcastInDim S1x200 ![] bcast_S_S1x200),
    TRef.binary (.of main_v2) main_call1.v2 main_call1.v3 addi,
    TRef.ternary main_call1.v1 main_call1.v3 (.of main_v2) main_call1.call0.v0 select,
    TRef.unary main_call1.call0.v0 main_call1.v5 (broadcastInDim S1x200x1 ![0, 1] bcast_S1x200_S1x200x1_0_1),
    TRef.nullary main_call1.c_1 (constantI S1 32 511#32),
    TRef.nullary main_call1.c_2 (constantI S_ 32 0#32),
    TRef.unary main_call1.c_2 main_call1.v6 (broadcastInDim S1x200x1 ![] bcast_S_S1x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1x200x1 ![0, 1, 2] bcast_S1x1x1_S1x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x200x1_S1x200_d2 h_S_),
    TRef.binary (.of main_arg3) main_call1.v5 main_call1.v13 (fun x i => Host.gather gather_S512x128_S1x200x1_S1x200x128_2_0_n_n_0_2_1128 x i),
    TRef.unary main_call1.v12 main_call1.v14 (broadcastInDim S1x200x128 ![0, 1] bcast_S1x200_S1x200x128_0_1),
    TRef.nullary main_call1.cst (constant S_ .f32 0x7FC00000#32),
    TRef.unary main_call1.cst main_call1.v15 (broadcastInDim S1x200x128 ![] bcast_S_S1x200x128),
    TRef.ternary main_call1.v14 main_call1.v13 main_call1.v15 main_call1.v16 select ]

abbrev opsE : List (HloOp τ sig (Elt F)) :=
  [ TRef.nullary main_call2.c (constantI S_ 32 0#32),
    TRef.unary main_call2.c main_call2.v0 (broadcastInDim S1024x200 ![] bcast_S_S1024x200),
    TRef.binary (.of main_arg1) main_call2.v0 main_call2.v1 (cmpi .slt),
    TRef.nullary main_call2.c_0 (constantI S_ 32 2#32),
    TRef.unary main_call2.c_0 main_call2.v2 (broadcastInDim S1024x200 ![] bcast_S_S1024x200),
    TRef.binary (.of main_arg1) main_call2.v2 main_call2.v3 addi,
    TRef.ternary main_call2.v1 main_call2.v3 (.of main_arg1) main_call2.call0.v0 select,
    TRef.unary main_call2.call0.v0 main_call2.v5 (broadcastInDim S1024x200x1 ![0, 1] bcast_S1024x200_S1024x200x1_0_1),
    TRef.nullary main_call2.c_1 (constantI S1 32 1#32),
    TRef.nullary main_call2.c_2 (constantI S_ 32 0#32),
    TRef.unary main_call2.c_2 main_call2.v6 (broadcastInDim S1024x200x1 ![] bcast_S_S1024x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x200x1 ![0, 1, 2] bcast_S1x1x1_S1024x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x200x1_S1024x200_d2 h_S_),
    TRef.binary (.of main_arg4) main_call2.v5 main_call2.v13 (fun x i => Host.gather gather_S2x128_S1024x200x1_S1024x200x128_2_0_n_n_0_2_1128 x i),
    TRef.unary main_call2.v12 main_call2.v14 (broadcastInDim S1024x200x128 ![0, 1] bcast_S1024x200_S1024x200x128_0_1),
    TRef.nullary main_call2.cst (constant S_ .f32 0x7FC00000#32),
    TRef.unary main_call2.cst main_call2.v15 (broadcastInDim S1024x200x128 ![] bcast_S_S1024x200x128),
    TRef.ternary main_call2.v14 main_call2.v13 main_call2.v15 main_call2.v16 select ]

abbrev opsX : List (HloOp τ sig (Elt F)) :=
  [ unary main_v3 main_v5 (broadcastInDim S1024x200x128 ![0, 1, 2] bcast_S1x200x128_S1024x200x128_0_1_2 : (⟨S1x200x128, .f32⟩ : BufTy).Contents (Elt F) → (⟨S1024x200x128, .f32⟩ : BufTy).Contents (Elt F)),
    binary main_v0 main_v5 main_v6 (addf : (⟨S1024x200x128, .f32⟩ : BufTy).Contents (Elt F) → (⟨S1024x200x128, .f32⟩ : BufTy).Contents (Elt F) → (⟨S1024x200x128, .f32⟩ : BufTy).Contents (Elt F)),
    binary main_v6 main_v4 main_v7 (addf : (⟨S1024x200x128, .f32⟩ : BufTy).Contents (Elt F) → (⟨S1024x200x128, .f32⟩ : BufTy).Contents (Elt F) → (⟨S1024x200x128, .f32⟩ : BufTy).Contents (Elt F)) ]

abbrev opsM : List (HloOp τ sig (Elt F)) :=
  [ nullary main_cst (constant S_ .f32 0x00000000#32),
    binary main_v7 main_cst main_v8 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v8 main_v9 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_0 (constant S_ .f32 0x43000000#32),
    unary main_cst_0 main_v10 (broadcastInDim S1024x200x1 ![] bcast_S_S1024x200x1 : (⟨S_, .f32⟩ : BufTy).Contents (Elt F) → (⟨S1024x200x1, .f32⟩ : BufTy).Contents (Elt F)),
    binary main_v9 main_v10 main_v11 (Host.divf : (⟨S1024x200x1, .f32⟩ : BufTy).Contents (Elt F) → (⟨S1024x200x1, .f32⟩ : BufTy).Contents (Elt F) → (⟨S1024x200x1, .f32⟩ : BufTy).Contents (Elt F)) ]

abbrev opsC : List (HloOp τ sig (Elt F)) :=
  [ nullary main_c (constantI S_ 32 0#32),
    TRef.nullary main_call3.cst (constant S_ .f32 0x00000000#32),
    TRef.binary (.of main_v7) main_call3.cst main_call3.v0 (fun x v => Host.reduceAdd x v reducesTo_S1024x200x128_S1024x200_d2 h_S_),
    TRef.unary main_call3.v0 main_call3.v1 (broadcastInDim S1024x200x1 ![0, 1] bcast_S1024x200_S1024x200x1_0_1),
    TRef.nullary main_call3.cst_0 (constant S_ .f32 0x43000000#32),
    TRef.unary main_call3.cst_0 main_call3.v2 (broadcastInDim S1024x200x1 ![] bcast_S_S1024x200x1),
    TRef.binary main_call3.v1 main_call3.v2 main_call3.v3 Host.divf,
    TRef.unary main_call3.v3 main_call3.v4 (broadcastInDim S1024x200x128 ![0, 1, 2] bcast_S1024x200x1_S1024x200x128_0_1_2),
    TRef.binary (.of main_v7) main_call3.v4 main_call3.v5 subf,
    TRef.binary main_call3.v5 main_call3.v5 main_call3.v6 mulf,
    TRef.unary (.of main_c) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S1024x200x128_S1024x200_d2 h_S_),
    TRef.unary main_call3.v9 main_call3.v10 (broadcastInDim S1024x200x1 ![0, 1] bcast_S1024x200_S1024x200x1_0_1),
    TRef.unary main_call3.v8 main_call3.v11 (broadcastInDim S1024x200x1 ![] bcast_S_S1024x200x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1024x200x1 ![] bcast_S_S1024x200x1),
    TRef.ternary main_call3.v13 main_call3.v12 main_call3.call0.v1 main_call3.call0.v2 (fun p a b => select (broadcastInDim S1024x200x1 ![] bcast_S_S1024x200x1 p) a b) ]

abbrev opsO : List (HloOp τ sig (Elt F)) :=
  [ unary main_v11 main_v13 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v13 main_v14 (subf : (⟨S1024x200x128, .f32⟩ : BufTy).Contents (Elt F) → (⟨S1024x200x128, .f32⟩ : BufTy).Contents (Elt F) → (⟨S1024x200x128, .f32⟩ : BufTy).Contents (Elt F)),
    nullary main_cst_1 (constant S_ .f32 0x358637BD#32),
    unary main_cst_1 main_v15 (broadcastInDim S1024x200x1 ![] bcast_S_S1024x200x1 : (⟨S_, .f32⟩ : BufTy).Contents (Elt F) → (⟨S1024x200x1, .f32⟩ : BufTy).Contents (Elt F)),
    binary main_v12 main_v15 main_v16 (addf : (⟨S1024x200x1, .f32⟩ : BufTy).Contents (Elt F) → (⟨S1024x200x1, .f32⟩ : BufTy).Contents (Elt F) → (⟨S1024x200x1, .f32⟩ : BufTy).Contents (Elt F)),
    unary main_v16 main_v17 (Host.rsqrt : (⟨S1024x200x1, .f32⟩ : BufTy).Contents (Elt F) → (⟨S1024x200x1, .f32⟩ : BufTy).Contents (Elt F)),
    unary main_v17 main_v18 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v14 main_v18 main_v19 (mulf : (⟨S1024x200x128, .f32⟩ : BufTy).Contents (Elt F) → (⟨S1024x200x128, .f32⟩ : BufTy).Contents (Elt F) → (⟨S1024x200x128, .f32⟩ : BufTy).Contents (Elt F)),
    unary main_arg5 main_v20 (broadcastInDim S1x1x128 ![2] bcast_S128_S1x1x128_2 : (⟨S128, .f32⟩ : BufTy).Contents (Elt F) → (⟨S1x1x128, .f32⟩ : BufTy).Contents (Elt F)),
    unary main_v20 main_v21 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v19 main_v21 main_v22 (mulf : (⟨S1024x200x128, .f32⟩ : BufTy).Contents (Elt F) → (⟨S1024x200x128, .f32⟩ : BufTy).Contents (Elt F) → (⟨S1024x200x128, .f32⟩ : BufTy).Contents (Elt F)),
    unary main_arg6 main_v23 (broadcastInDim S1x1x128 ![2] bcast_S128_S1x1x128_2 : (⟨S128, .f32⟩ : BufTy).Contents (Elt F) → (⟨S1x1x128, .f32⟩ : BufTy).Contents (Elt F)),
    unary main_v23 main_v24 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v22 main_v24 main_v25 (addf : (⟨S1024x200x128, .f32⟩ : BufTy).Contents (Elt F) → (⟨S1024x200x128, .f32⟩ : BufTy).Contents (Elt F) → (⟨S1024x200x128, .f32⟩ : BufTy).Contents (Elt F)) ]

/-- @main's operations in order. -/
abbrev ops : List (HloOp τ sig (Elt F)) :=
  [ TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg2) main_call0.v5 main_call0.v13 (fun x i => Host.gather gather_S100000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    nullary main_v1 (iotaInDim S200 32 0),
    unary main_v1 main_v2 (broadcastInDim S1x200 ![1] bcast_S200_S1x200_1 : (⟨S200, .i32⟩ : BufTy).Contents (Elt F) → (⟨S1x200, .i32⟩ : BufTy).Contents (Elt F)),
    TRef.nullary main_call1.c (constantI S_ 32 0#32),
    TRef.unary main_call1.c main_call1.v0 (broadcastInDim S1x200 ![] bcast_S_S1x200),
    TRef.binary (.of main_v2) main_call1.v0 main_call1.v1 (cmpi .slt),
    TRef.nullary main_call1.c_0 (constantI S_ 32 512#32),
    TRef.unary main_call1.c_0 main_call1.v2 (broadcastInDim S1x200 ![] bcast_S_S1x200),
    TRef.binary (.of main_v2) main_call1.v2 main_call1.v3 addi,
    TRef.ternary main_call1.v1 main_call1.v3 (.of main_v2) main_call1.call0.v0 select,
    TRef.unary main_call1.call0.v0 main_call1.v5 (broadcastInDim S1x200x1 ![0, 1] bcast_S1x200_S1x200x1_0_1),
    TRef.nullary main_call1.c_1 (constantI S1 32 511#32),
    TRef.nullary main_call1.c_2 (constantI S_ 32 0#32),
    TRef.unary main_call1.c_2 main_call1.v6 (broadcastInDim S1x200x1 ![] bcast_S_S1x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1x200x1 ![0, 1, 2] bcast_S1x1x1_S1x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x200x1_S1x200_d2 h_S_),
    TRef.binary (.of main_arg3) main_call1.v5 main_call1.v13 (fun x i => Host.gather gather_S512x128_S1x200x1_S1x200x128_2_0_n_n_0_2_1128 x i),
    TRef.unary main_call1.v12 main_call1.v14 (broadcastInDim S1x200x128 ![0, 1] bcast_S1x200_S1x200x128_0_1),
    TRef.nullary main_call1.cst (constant S_ .f32 0x7FC00000#32),
    TRef.unary main_call1.cst main_call1.v15 (broadcastInDim S1x200x128 ![] bcast_S_S1x200x128),
    TRef.ternary main_call1.v14 main_call1.v13 main_call1.v15 main_call1.v16 select,
    TRef.nullary main_call2.c (constantI S_ 32 0#32),
    TRef.unary main_call2.c main_call2.v0 (broadcastInDim S1024x200 ![] bcast_S_S1024x200),
    TRef.binary (.of main_arg1) main_call2.v0 main_call2.v1 (cmpi .slt),
    TRef.nullary main_call2.c_0 (constantI S_ 32 2#32),
    TRef.unary main_call2.c_0 main_call2.v2 (broadcastInDim S1024x200 ![] bcast_S_S1024x200),
    TRef.binary (.of main_arg1) main_call2.v2 main_call2.v3 addi,
    TRef.ternary main_call2.v1 main_call2.v3 (.of main_arg1) main_call2.call0.v0 select,
    TRef.unary main_call2.call0.v0 main_call2.v5 (broadcastInDim S1024x200x1 ![0, 1] bcast_S1024x200_S1024x200x1_0_1),
    TRef.nullary main_call2.c_1 (constantI S1 32 1#32),
    TRef.nullary main_call2.c_2 (constantI S_ 32 0#32),
    TRef.unary main_call2.c_2 main_call2.v6 (broadcastInDim S1024x200x1 ![] bcast_S_S1024x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x200x1 ![0, 1, 2] bcast_S1x1x1_S1024x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x200x1_S1024x200_d2 h_S_),
    TRef.binary (.of main_arg4) main_call2.v5 main_call2.v13 (fun x i => Host.gather gather_S2x128_S1024x200x1_S1024x200x128_2_0_n_n_0_2_1128 x i),
    TRef.unary main_call2.v12 main_call2.v14 (broadcastInDim S1024x200x128 ![0, 1] bcast_S1024x200_S1024x200x128_0_1),
    TRef.nullary main_call2.cst (constant S_ .f32 0x7FC00000#32),
    TRef.unary main_call2.cst main_call2.v15 (broadcastInDim S1024x200x128 ![] bcast_S_S1024x200x128),
    TRef.ternary main_call2.v14 main_call2.v13 main_call2.v15 main_call2.v16 select,
    unary main_v3 main_v5 (broadcastInDim S1024x200x128 ![0, 1, 2] bcast_S1x200x128_S1024x200x128_0_1_2 : (⟨S1x200x128, .f32⟩ : BufTy).Contents (Elt F) → (⟨S1024x200x128, .f32⟩ : BufTy).Contents (Elt F)),
    binary main_v0 main_v5 main_v6 (addf : (⟨S1024x200x128, .f32⟩ : BufTy).Contents (Elt F) → (⟨S1024x200x128, .f32⟩ : BufTy).Contents (Elt F) → (⟨S1024x200x128, .f32⟩ : BufTy).Contents (Elt F)),
    binary main_v6 main_v4 main_v7 (addf : (⟨S1024x200x128, .f32⟩ : BufTy).Contents (Elt F) → (⟨S1024x200x128, .f32⟩ : BufTy).Contents (Elt F) → (⟨S1024x200x128, .f32⟩ : BufTy).Contents (Elt F)),
    nullary main_cst (constant S_ .f32 0x00000000#32),
    binary main_v7 main_cst main_v8 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v8 main_v9 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_0 (constant S_ .f32 0x43000000#32),
    unary main_cst_0 main_v10 (broadcastInDim S1024x200x1 ![] bcast_S_S1024x200x1 : (⟨S_, .f32⟩ : BufTy).Contents (Elt F) → (⟨S1024x200x1, .f32⟩ : BufTy).Contents (Elt F)),
    binary main_v9 main_v10 main_v11 (Host.divf : (⟨S1024x200x1, .f32⟩ : BufTy).Contents (Elt F) → (⟨S1024x200x1, .f32⟩ : BufTy).Contents (Elt F) → (⟨S1024x200x1, .f32⟩ : BufTy).Contents (Elt F)),
    nullary main_c (constantI S_ 32 0#32),
    TRef.nullary main_call3.cst (constant S_ .f32 0x00000000#32),
    TRef.binary (.of main_v7) main_call3.cst main_call3.v0 (fun x v => Host.reduceAdd x v reducesTo_S1024x200x128_S1024x200_d2 h_S_),
    TRef.unary main_call3.v0 main_call3.v1 (broadcastInDim S1024x200x1 ![0, 1] bcast_S1024x200_S1024x200x1_0_1),
    TRef.nullary main_call3.cst_0 (constant S_ .f32 0x43000000#32),
    TRef.unary main_call3.cst_0 main_call3.v2 (broadcastInDim S1024x200x1 ![] bcast_S_S1024x200x1),
    TRef.binary main_call3.v1 main_call3.v2 main_call3.v3 Host.divf,
    TRef.unary main_call3.v3 main_call3.v4 (broadcastInDim S1024x200x128 ![0, 1, 2] bcast_S1024x200x1_S1024x200x128_0_1_2),
    TRef.binary (.of main_v7) main_call3.v4 main_call3.v5 subf,
    TRef.binary main_call3.v5 main_call3.v5 main_call3.v6 mulf,
    TRef.unary (.of main_c) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S1024x200x128_S1024x200_d2 h_S_),
    TRef.unary main_call3.v9 main_call3.v10 (broadcastInDim S1024x200x1 ![0, 1] bcast_S1024x200_S1024x200x1_0_1),
    TRef.unary main_call3.v8 main_call3.v11 (broadcastInDim S1024x200x1 ![] bcast_S_S1024x200x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1024x200x1 ![] bcast_S_S1024x200x1),
    TRef.ternary main_call3.v13 main_call3.v12 main_call3.call0.v1 main_call3.call0.v2 (fun p a b => select (broadcastInDim S1024x200x1 ![] bcast_S_S1024x200x1 p) a b),
    unary main_v11 main_v13 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v13 main_v14 (subf : (⟨S1024x200x128, .f32⟩ : BufTy).Contents (Elt F) → (⟨S1024x200x128, .f32⟩ : BufTy).Contents (Elt F) → (⟨S1024x200x128, .f32⟩ : BufTy).Contents (Elt F)),
    nullary main_cst_1 (constant S_ .f32 0x358637BD#32),
    unary main_cst_1 main_v15 (broadcastInDim S1024x200x1 ![] bcast_S_S1024x200x1 : (⟨S_, .f32⟩ : BufTy).Contents (Elt F) → (⟨S1024x200x1, .f32⟩ : BufTy).Contents (Elt F)),
    binary main_v12 main_v15 main_v16 (addf : (⟨S1024x200x1, .f32⟩ : BufTy).Contents (Elt F) → (⟨S1024x200x1, .f32⟩ : BufTy).Contents (Elt F) → (⟨S1024x200x1, .f32⟩ : BufTy).Contents (Elt F)),
    unary main_v16 main_v17 (Host.rsqrt : (⟨S1024x200x1, .f32⟩ : BufTy).Contents (Elt F) → (⟨S1024x200x1, .f32⟩ : BufTy).Contents (Elt F)),
    unary main_v17 main_v18 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v14 main_v18 main_v19 (mulf : (⟨S1024x200x128, .f32⟩ : BufTy).Contents (Elt F) → (⟨S1024x200x128, .f32⟩ : BufTy).Contents (Elt F) → (⟨S1024x200x128, .f32⟩ : BufTy).Contents (Elt F)),
    unary main_arg5 main_v20 (broadcastInDim S1x1x128 ![2] bcast_S128_S1x1x128_2 : (⟨S128, .f32⟩ : BufTy).Contents (Elt F) → (⟨S1x1x128, .f32⟩ : BufTy).Contents (Elt F)),
    unary main_v20 main_v21 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v19 main_v21 main_v22 (mulf : (⟨S1024x200x128, .f32⟩ : BufTy).Contents (Elt F) → (⟨S1024x200x128, .f32⟩ : BufTy).Contents (Elt F) → (⟨S1024x200x128, .f32⟩ : BufTy).Contents (Elt F)),
    unary main_arg6 main_v23 (broadcastInDim S1x1x128 ![2] bcast_S128_S1x1x128_2 : (⟨S128, .f32⟩ : BufTy).Contents (Elt F) → (⟨S1x1x128, .f32⟩ : BufTy).Contents (Elt F)),
    unary main_v23 main_v24 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v22 main_v24 main_v25 (addf : (⟨S1024x200x128, .f32⟩ : BufTy).Contents (Elt F) → (⟨S1024x200x128, .f32⟩ : BufTy).Contents (Elt F) → (⟨S1024x200x128, .f32⟩ : BufTy).Contents (Elt F)) ]

theorem ops_eq : (ops : List (HloOp τ sig (Elt F))) = opsT ++ (opsP ++ (opsE ++ (opsX ++ (opsM ++ (opsC ++ opsO))))) := rfl

set_option maxRecDepth 16384 in
set_option maxHeartbeats 4000000 in
theorem main_eq (c : Dev nD) : main (F := F) c = seq ops := by
  simp only [main, fn_take.body, fn_take_0.body, fn_take_2.body, fn_var.body, fn_where.body, fn_where_1.body, fn_where_3.body, seq, bind_assoc, pure_bind]

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

theorem after_cat (l₁ l₂ : List (HloOp τ sig (Elt F))) (V : Valuation τ sig (Elt F)) : after (l₁ ++ l₂) V = after l₂ (after l₁ V) := by
  induction l₁ generalizing V with
  | nil => rfl
  | cons op l ih => exact ih _

theorem opsT_keep (V : Valuation τ sig (Elt F)) (r : Ref sig .tc) (hr : r ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0] : List (Ref sig .tc))) : after opsT V (Proc.devRef .tc r) = V (Proc.devRef .tc r) :=
  after_unwritten (ops := opsT) [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0] rfl hr V
theorem opsP_keep (V : Valuation τ sig (Elt F)) (r : Ref sig .tc) (hr : r ∉ ([main_v1, main_v2, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v3] : List (Ref sig .tc))) : after opsP V (Proc.devRef .tc r) = V (Proc.devRef .tc r) :=
  after_unwritten (ops := opsP) [main_v1, main_v2, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v3] rfl hr V
theorem opsE_keep (V : Valuation τ sig (Elt F)) (r : Ref sig .tc) (hr : r ∉ ([main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v4] : List (Ref sig .tc))) : after opsE V (Proc.devRef .tc r) = V (Proc.devRef .tc r) :=
  after_unwritten (ops := opsE) [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v4] rfl hr V
theorem opsX_keep (V : Valuation τ sig (Elt F)) (r : Ref sig .tc) (hr : r ∉ ([main_v5, main_v6, main_v7] : List (Ref sig .tc))) : after opsX V (Proc.devRef .tc r) = V (Proc.devRef .tc r) :=
  after_unwritten (ops := opsX) [main_v5, main_v6, main_v7] rfl hr V
theorem opsM_keep (V : Valuation τ sig (Elt F)) (r : Ref sig .tc) (hr : r ∉ ([main_cst, main_v8, main_v9, main_cst_0, main_v10, main_v11] : List (Ref sig .tc))) : after opsM V (Proc.devRef .tc r) = V (Proc.devRef .tc r) :=
  after_unwritten (ops := opsM) [main_cst, main_v8, main_v9, main_cst_0, main_v10, main_v11] rfl hr V
theorem opsC_keep (V : Valuation τ sig (Elt F)) (r : Ref sig .tc) (hr : r ∉ ([main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v12] : List (Ref sig .tc))) : after opsC V (Proc.devRef .tc r) = V (Proc.devRef .tc r) :=
  after_unwritten (ops := opsC) [main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v12] rfl hr V
theorem opsO_keep (V : Valuation τ sig (Elt F)) (r : Ref sig .tc) (hr : r ∉ ([main_v13, main_v14, main_cst_1, main_v15, main_v16, main_v17, main_v18, main_v19, main_v20, main_v21, main_v22, main_v23, main_v24, main_v25] : List (Ref sig .tc))) : after opsO V (Proc.devRef .tc r) = V (Proc.devRef .tc r) :=
  after_unwritten (ops := opsO) [main_v13, main_v14, main_cst_1, main_v15, main_v16, main_v17, main_v18, main_v19, main_v20, main_v21, main_v22, main_v23, main_v24, main_v25] rfl hr V

/-! ## What each stretch computes -/

def takeT (x0 : FVec F S100000x128 .f32) (x1 : IVec S1024x200 32) : FVec F S1024x200x128 .f32 :=
  let t_kc := (constantI S_ 32 0#32)
  let t_kv0 := (broadcastInDim S1024x200 ![] bcast_S_S1024x200) t_kc
  let t_kv1 := (cmpi .slt) x1 t_kv0
  let t_kc_0 := (constantI S_ 32 100000#32)
  let t_kv2 := (broadcastInDim S1024x200 ![] bcast_S_S1024x200) t_kc_0
  let t_kv3 := addi x1 t_kv2
  let t_kv4 := select t_kv1 t_kv3 x1
  let t_kv5 := (broadcastInDim S1024x200x1 ![0, 1] bcast_S1024x200_S1024x200x1_0_1) t_kv4
  let t_kc_1 := (constantI S1 32 99999#32)
  let t_kc_2 := (constantI S_ 32 0#32)
  let t_kv6 := (broadcastInDim S1024x200x1 ![] bcast_S_S1024x200x1) t_kc_2
  let t_kv7 := (cmpi .sge) t_kv5 t_kv6
  let t_kv8 := (broadcastInDim S1x1x1 ![2] bcast_S1_S1x1x1_2) t_kc_1
  let t_kv9 := (broadcastInDim S1024x200x1 ![0, 1, 2] bcast_S1x1x1_S1024x200x1_0_1_2) t_kv8
  let t_kv10 := (cmpi .sle) t_kv5 t_kv9
  let t_kv11 := andi t_kv7 t_kv10
  let t_kc_3 := (constantI S_ 1 1#1)
  let t_kv12 := (fun x v => Host.reduce IntOp.andi x v reducesTo_S1024x200x1_S1024x200_d2 h_S_) t_kv11 t_kc_3
  let t_kv13 := (fun x i => Host.gather gather_S100000x128_S1024x200x1_S1024x200x128_2_0_n_n_0_2_1128 x i) x0 t_kv5
  let t_kv14 := (broadcastInDim S1024x200x128 ![0, 1] bcast_S1024x200_S1024x200x128_0_1) t_kv12
  let t_kcst := (constant S_ .f32 0x7FC00000#32)
  let t_kv15 := (broadcastInDim S1024x200x128 ![] bcast_S_S1024x200x128) t_kcst
  let t_v0 := select t_kv14 t_kv13 t_kv15
  t_v0
theorem opsT_val (V : Valuation τ sig (Elt F)) : after opsT V (Proc.devRef .tc main_v0) = takeT (V (Proc.devRef .tc main_arg2)) (V (Proc.devRef .tc main_arg0)) := by
  after_reads_simp
  have h0 : ∀ p q u (x : main_arg2.ty.Contents (Elt F)), ((TRef.of main_arg2 p q u : TRef sig ⟨S100000x128, .f32⟩).ofBuf (Val := Elt F) x) = x := fun _ _ _ _ => rfl
  have h1 : ∀ p q u (x : main_arg0.ty.Contents (Elt F)), ((TRef.of main_arg0 p q u : TRef sig ⟨S1024x200, .i32⟩).ofBuf (Val := Elt F) x) = x := fun _ _ _ _ => rfl
  have ho : ∀ p q u (x : (⟨S1024x200x128, .f32⟩ : BufTy).Contents (Elt F)), ((TRef.of main_v0 p q u : TRef sig ⟨S1024x200x128, .f32⟩).toBuf (Val := Elt F) x) = x := fun _ _ _ _ => rfl
  simp only [TRef.ofBuf_toBuf, h0, h1, ho]
  rfl

def takeP (x0 : FVec F S512x128 .f32) : FVec F S1x200x128 .f32 :=
  let t_v1 := (iotaInDim S200 32 0)
  let t_v2 := (broadcastInDim S1x200 ![1] bcast_S200_S1x200_1) t_v1
  let t_kc := (constantI S_ 32 0#32)
  let t_kv0 := (broadcastInDim S1x200 ![] bcast_S_S1x200) t_kc
  let t_kv1 := (cmpi .slt) t_v2 t_kv0
  let t_kc_0 := (constantI S_ 32 512#32)
  let t_kv2 := (broadcastInDim S1x200 ![] bcast_S_S1x200) t_kc_0
  let t_kv3 := addi t_v2 t_kv2
  let t_kv4 := select t_kv1 t_kv3 t_v2
  let t_kv5 := (broadcastInDim S1x200x1 ![0, 1] bcast_S1x200_S1x200x1_0_1) t_kv4
  let t_kc_1 := (constantI S1 32 511#32)
  let t_kc_2 := (constantI S_ 32 0#32)
  let t_kv6 := (broadcastInDim S1x200x1 ![] bcast_S_S1x200x1) t_kc_2
  let t_kv7 := (cmpi .sge) t_kv5 t_kv6
  let t_kv8 := (broadcastInDim S1x1x1 ![2] bcast_S1_S1x1x1_2) t_kc_1
  let t_kv9 := (broadcastInDim S1x200x1 ![0, 1, 2] bcast_S1x1x1_S1x200x1_0_1_2) t_kv8
  let t_kv10 := (cmpi .sle) t_kv5 t_kv9
  let t_kv11 := andi t_kv7 t_kv10
  let t_kc_3 := (constantI S_ 1 1#1)
  let t_kv12 := (fun x v => Host.reduce IntOp.andi x v reducesTo_S1x200x1_S1x200_d2 h_S_) t_kv11 t_kc_3
  let t_kv13 := (fun x i => Host.gather gather_S512x128_S1x200x1_S1x200x128_2_0_n_n_0_2_1128 x i) x0 t_kv5
  let t_kv14 := (broadcastInDim S1x200x128 ![0, 1] bcast_S1x200_S1x200x128_0_1) t_kv12
  let t_kcst := (constant S_ .f32 0x7FC00000#32)
  let t_kv15 := (broadcastInDim S1x200x128 ![] bcast_S_S1x200x128) t_kcst
  let t_v3 := select t_kv14 t_kv13 t_kv15
  t_v3
theorem opsP_val (V : Valuation τ sig (Elt F)) : after opsP V (Proc.devRef .tc main_v3) = takeP (V (Proc.devRef .tc main_arg3)) := by
  after_reads_simp
  have h0 : ∀ p q u (x : main_arg3.ty.Contents (Elt F)), ((TRef.of main_arg3 p q u : TRef sig ⟨S512x128, .f32⟩).ofBuf (Val := Elt F) x) = x := fun _ _ _ _ => rfl
  have ho : ∀ p q u (x : (⟨S1x200x128, .f32⟩ : BufTy).Contents (Elt F)), ((TRef.of main_v3 p q u : TRef sig ⟨S1x200x128, .f32⟩).toBuf (Val := Elt F) x) = x := fun _ _ _ _ => rfl
  have h1 : ∀ p q u (x : main_v2.ty.Contents (Elt F)), ((TRef.of main_v2 p q u : TRef sig ⟨S1x200, .i32⟩).ofBuf (Val := Elt F) x) = x := fun _ _ _ _ => rfl
  simp only [TRef.ofBuf_toBuf, h0, h1, ho]
  rfl

def takeE (x0 : FVec F S2x128 .f32) (x1 : IVec S1024x200 32) : FVec F S1024x200x128 .f32 :=
  let t_kc := (constantI S_ 32 0#32)
  let t_kv0 := (broadcastInDim S1024x200 ![] bcast_S_S1024x200) t_kc
  let t_kv1 := (cmpi .slt) x1 t_kv0
  let t_kc_0 := (constantI S_ 32 2#32)
  let t_kv2 := (broadcastInDim S1024x200 ![] bcast_S_S1024x200) t_kc_0
  let t_kv3 := addi x1 t_kv2
  let t_kv4 := select t_kv1 t_kv3 x1
  let t_kv5 := (broadcastInDim S1024x200x1 ![0, 1] bcast_S1024x200_S1024x200x1_0_1) t_kv4
  let t_kc_1 := (constantI S1 32 1#32)
  let t_kc_2 := (constantI S_ 32 0#32)
  let t_kv6 := (broadcastInDim S1024x200x1 ![] bcast_S_S1024x200x1) t_kc_2
  let t_kv7 := (cmpi .sge) t_kv5 t_kv6
  let t_kv8 := (broadcastInDim S1x1x1 ![2] bcast_S1_S1x1x1_2) t_kc_1
  let t_kv9 := (broadcastInDim S1024x200x1 ![0, 1, 2] bcast_S1x1x1_S1024x200x1_0_1_2) t_kv8
  let t_kv10 := (cmpi .sle) t_kv5 t_kv9
  let t_kv11 := andi t_kv7 t_kv10
  let t_kc_3 := (constantI S_ 1 1#1)
  let t_kv12 := (fun x v => Host.reduce IntOp.andi x v reducesTo_S1024x200x1_S1024x200_d2 h_S_) t_kv11 t_kc_3
  let t_kv13 := (fun x i => Host.gather gather_S2x128_S1024x200x1_S1024x200x128_2_0_n_n_0_2_1128 x i) x0 t_kv5
  let t_kv14 := (broadcastInDim S1024x200x128 ![0, 1] bcast_S1024x200_S1024x200x128_0_1) t_kv12
  let t_kcst := (constant S_ .f32 0x7FC00000#32)
  let t_kv15 := (broadcastInDim S1024x200x128 ![] bcast_S_S1024x200x128) t_kcst
  let t_v4 := select t_kv14 t_kv13 t_kv15
  t_v4
theorem opsE_val (V : Valuation τ sig (Elt F)) : after opsE V (Proc.devRef .tc main_v4) = takeE (V (Proc.devRef .tc main_arg4)) (V (Proc.devRef .tc main_arg1)) := by
  after_reads_simp
  have h0 : ∀ p q u (x : main_arg4.ty.Contents (Elt F)), ((TRef.of main_arg4 p q u : TRef sig ⟨S2x128, .f32⟩).ofBuf (Val := Elt F) x) = x := fun _ _ _ _ => rfl
  have h1 : ∀ p q u (x : main_arg1.ty.Contents (Elt F)), ((TRef.of main_arg1 p q u : TRef sig ⟨S1024x200, .i32⟩).ofBuf (Val := Elt F) x) = x := fun _ _ _ _ => rfl
  have ho : ∀ p q u (x : (⟨S1024x200x128, .f32⟩ : BufTy).Contents (Elt F)), ((TRef.of main_v4 p q u : TRef sig ⟨S1024x200x128, .f32⟩).toBuf (Val := Elt F) x) = x := fun _ _ _ _ => rfl
  simp only [TRef.ofBuf_toBuf, h0, h1, ho]
  rfl

def sumX (x0 : FVec F S1024x200x128 .f32) (x1 : FVec F S1x200x128 .f32) (x2 : FVec F S1024x200x128 .f32) : FVec F S1024x200x128 .f32 :=
  let t_v5 := (broadcastInDim S1024x200x128 ![0, 1, 2] bcast_S1x200x128_S1024x200x128_0_1_2) x1
  let t_v6 := (addf) x0 t_v5
  let t_v7 := (addf) t_v6 x2
  t_v7
theorem opsX_val (V : Valuation τ sig (Elt F)) : after opsX V (Proc.devRef .tc main_v7) = sumX (V (Proc.devRef .tc main_v0)) (V (Proc.devRef .tc main_v3)) (V (Proc.devRef .tc main_v4)) := by
  after_reads_simp
  rfl

def meanX (x0 : FVec F S1024x200x128 .f32) : FVec F S1024x200x1 .f32 :=
  let t_cst := (constant S_ .f32 0x00000000#32)
  let t_v8 := ((fun x v => Host.reduceAdd x v reducesTo_S1024x200x128_S1024x200_d2 h_S_)) x0 t_cst
  let t_v9 := (broadcastInDim S1024x200x1 ![0, 1] bcast_S1024x200_S1024x200x1_0_1) t_v8
  let t_cst_0 := (constant S_ .f32 0x43000000#32)
  let t_v10 := (broadcastInDim S1024x200x1 ![] bcast_S_S1024x200x1) t_cst_0
  let t_v11 := (Host.divf) t_v9 t_v10
  t_v11
theorem opsM_val (V : Valuation τ sig (Elt F)) : after opsM V (Proc.devRef .tc main_v11) = meanX (V (Proc.devRef .tc main_v7)) := by
  after_reads_simp
  rfl

def varX (x0 : FVec F S1024x200x128 .f32) : FVec F S1024x200x1 .f32 :=
  let t_c := (constantI S_ 32 0#32)
  let t_kcst := (constant S_ .f32 0x00000000#32)
  let t_kv0 := (fun x v => Host.reduceAdd x v reducesTo_S1024x200x128_S1024x200_d2 h_S_) x0 t_kcst
  let t_kv1 := (broadcastInDim S1024x200x1 ![0, 1] bcast_S1024x200_S1024x200x1_0_1) t_kv0
  let t_kcst_0 := (constant S_ .f32 0x43000000#32)
  let t_kv2 := (broadcastInDim S1024x200x1 ![] bcast_S_S1024x200x1) t_kcst_0
  let t_kv3 := Host.divf t_kv1 t_kv2
  let t_kv4 := (broadcastInDim S1024x200x128 ![0, 1, 2] bcast_S1024x200x1_S1024x200x128_0_1_2) t_kv3
  let t_kv5 := subf x0 t_kv4
  let t_kv6 := mulf t_kv5 t_kv5
  let t_kv7 := (sitofp .f32) t_c
  let t_kcst_1 := (constant S_ .f32 0x43000000#32)
  let t_kv8 := subf t_kcst_1 t_kv7
  let t_kcst_2 := (constant S_ .f32 0x00000000#32)
  let t_kv9 := (fun x v => Host.reduceAdd x v reducesTo_S1024x200x128_S1024x200_d2 h_S_) t_kv6 t_kcst_2
  let t_kv10 := (broadcastInDim S1024x200x1 ![0, 1] bcast_S1024x200_S1024x200x1_0_1) t_kv9
  let t_kv11 := (broadcastInDim S1024x200x1 ![] bcast_S_S1024x200x1) t_kv8
  let t_kv12 := Host.divf t_kv10 t_kv11
  let t_kcst_3 := (constant S_ .f32 0x00000000#32)
  let t_kv13 := (cmpf .ogt) t_kv8 t_kcst_3
  let t_kcst_4 := (constant S_ .f32 0x7FC00000#32)
  let t_kkv0 := id t_kcst_4
  let t_kkv1 := (broadcastInDim S1024x200x1 ![] bcast_S_S1024x200x1) t_kkv0
  let t_v12 := (fun p a b => select (broadcastInDim S1024x200x1 ![] bcast_S_S1024x200x1 p) a b) t_kv13 t_kv12 t_kkv1
  t_v12
theorem opsC_val (V : Valuation τ sig (Elt F)) : after opsC V (Proc.devRef .tc main_v12) = varX (V (Proc.devRef .tc main_v7)) := by
  after_reads_simp
  rfl

def outX (x0 : FVec F S1024x200x128 .f32) (x1 : FVec F S1024x200x1 .f32) (x2 : FVec F S1024x200x1 .f32) (x3 : FVec F S128 .f32) (x4 : FVec F S128 .f32) : FVec F S1024x200x128 .f32 :=
  let t_v13 := (broadcastInDim S1024x200x128 ![0, 1, 2] bcast_S1024x200x1_S1024x200x128_0_1_2) x1
  let t_v14 := (subf) x0 t_v13
  let t_cst_1 := (constant S_ .f32 0x358637BD#32)
  let t_v15 := (broadcastInDim S1024x200x1 ![] bcast_S_S1024x200x1) t_cst_1
  let t_v16 := (addf) x2 t_v15
  let t_v17 := (Host.rsqrt) t_v16
  let t_v18 := (broadcastInDim S1024x200x128 ![0, 1, 2] bcast_S1024x200x1_S1024x200x128_0_1_2) t_v17
  let t_v19 := (mulf) t_v14 t_v18
  let t_v20 := (broadcastInDim S1x1x128 ![2] bcast_S128_S1x1x128_2) x3
  let t_v21 := (broadcastInDim S1024x200x128 ![0, 1, 2] bcast_S1x1x128_S1024x200x128_0_1_2) t_v20
  let t_v22 := (mulf) t_v19 t_v21
  let t_v23 := (broadcastInDim S1x1x128 ![2] bcast_S128_S1x1x128_2) x4
  let t_v24 := (broadcastInDim S1024x200x128 ![0, 1, 2] bcast_S1x1x128_S1024x200x128_0_1_2) t_v23
  let t_v25 := (addf) t_v22 t_v24
  t_v25
theorem opsO_val (V : Valuation τ sig (Elt F)) : after opsO V (Proc.devRef .tc main_v25) = outX (V (Proc.devRef .tc main_v7)) (V (Proc.devRef .tc main_v11)) (V (Proc.devRef .tc main_v12)) (V (Proc.devRef .tc main_arg5)) (V (Proc.devRef .tc main_arg6)) := by
  after_reads_simp
  rfl

end Cert.Proof.EmbRef
-- ==== Proof.Pre.lean ====
/-
  What the preconditions say of the argument arrays, and the frame claims of the kernel and of the reference.
-/
module

public import proofs.«01_k».proof.Proof.Main
public import proofs.«01_k».proof.Proof.RefRun
public import proofs.«01_k».proof.Proof.Gen.Kernel
public import proofs.«01_k».proof.Proof.Gen.Pre_in_range
public import Idealize.ShloMosaic.Lib.ReduceAll
public import Idealize.ShloMosaic.Lib.Quiescent

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

theorem andi_left {a b : BitVec 1} (h : IntOp.andi a b = 1#1) : a = 1#1 := by
  revert a b; decide
theorem andi_right {a b : BitVec 1} (h : IntOp.andi a b = 1#1) : b = 1#1 := by
  revert a b; decide

/-- A word between zero and a bound, as signed words, is below the bound as a natural number. -/
theorem toNat_lt_of (w : BitVec 32) (n : Nat) (hn : n < 2 ^ 31) (h0 : IntOp.cmpi .sge w 0#32 = 1#1)
    (h1 : IntOp.cmpi .slt w (BitVec.ofNat 32 n) = 1#1) : w.toNat < n := by
  have a := IntOp.cmpi_sge.1 h0
  have b := IntOp.cmpi_slt.1 h1
  rw [BitVec.toInt_eq_toNat_cond] at a b
  rw [BitVec.toInt_eq_toNat_cond] at a b
  simp only [BitVec.toNat_ofNat] at a b
  have := w.isLt
  omega

section
variable [FloatOps F]

instance : Subsingleton Cert.Pre_in_range.S_.Idx := ⟨fun a b => funext fun k => k.elim0⟩

theorem in_range_ids {a0 a1 a2 a3 a4 a5 a6} (h : Cert.Pre_in_range.fn (F := F) a0 a1 a2 a3 a4 a5 a6 = fun _ => 1#1) :
    (∀ i, (a0 i).toNat < 100000) ∧ (∀ i, (a1 i).toNat < 2) := by
  have e := congrFun h (fun k => k.elim0)
  unfold Cert.Pre_in_range.fn at e
  have e13 := andi_right e
  have e10 := andi_left e
  have e9 := andi_right e10
  have e6 := andi_left e10
  have e5 := andi_right e6
  have e2 := andi_left e6
  exact ⟨fun i => toNat_lt_of _ 100000 (by norm_num) (Host.reduce_andi_all _ _ _ _ _ e2 i) (Host.reduce_andi_all _ _ _ _ _ e5 i),
    fun i => toNat_lt_of _ 2 (by norm_num) (Host.reduce_andi_all _ _ _ _ _ e9 i) (Host.reduce_andi_all _ _ _ _ _ e13 i)⟩

theorem ok_of (m : (ℓ : Loc nD τ sig) → Buf (Elt F) ℓ)
    (h : ∀ d : Dev nD, (∀ i, (m ((SparseCore.T d : Thread nD τ).loc main_arg0) i : BitVec 32).toNat < 100000)
      ∧ (∀ i, (m ((SparseCore.T d : Thread nD τ).loc main_arg1) i : BitVec 32).toNat < 2)) : (opsOf m).OK where
  ids d x := (h d).1 _
  segs d x := (h d).2 _

end

set_option maxHeartbeats 4000000 in
set_option maxRecDepth 16384 in
theorem frame_kernel : Cert.quiescent_Kernel (hKernel := Cert.Kernel.Gen.facts) (hPre_in_range := Cert.Pre_in_range.Gen.facts) :=
  fun m ρ h => (θ_run (Cert.KernelIdeal.defs (F := Bits)) _ _).mono (fun _ h => ⟨fun c => (h.1 c).1, h.2⟩)
    (run_main (F := Bits) m ρ (ok_of (F := Bits) m fun d => in_range_ids (h d)))

theorem frame_ideal : Cert.quiescent_KernelIdeal (hKernelIdeal := Cert.KernelIdeal.Gen.facts) (hPre_in_range := Cert.Pre_in_range.Gen.facts) :=
  fun m ρ h => (θ_run (Cert.KernelIdeal.defs (F := Ideal)) _ _).mono (fun _ h => ⟨fun c => (h.1 c).1, h.2⟩)
    (run_main (F := Ideal) m ρ (ok_of m fun d => in_range_ids (h d)))

end Cert.Proof.Emb
-- ==== Proof.PreFinite.lean ====
/-
  What the precondition with finite tables says of the argument arrays, and the kernel's frame claim under it.
-/
module

public import proofs.«01_k».proof.Proof.Pre
public import proofs.«01_k».proof.Proof.Gen.Pre_in_range_finite

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}

section
variable [FloatOps F]

instance : Subsingleton Cert.Pre_in_range_finite.S_.Idx := ⟨fun a b => funext fun k => k.elim0⟩

/-- The finite precondition: the index ranges, and each table's entries below infinity in magnitude. -/
theorem in_range_finite_ids {a0 a1 a2 a3 a4 a5 a6} (h : Cert.Pre_in_range_finite.fn (F := F) a0 a1 a2 a3 a4 a5 a6 = fun _ => 1#1) :
    ((∀ i, (a0 i).toNat < 100000) ∧ (∀ i, (a1 i).toNat < 2)) ∧
    (∀ i, FloatOps.cmpf .olt (Host.absf a2 i) (FloatOps.ofBits .f32 0x7F800000#32) = 1#1) ∧
    (∀ i, FloatOps.cmpf .olt (Host.absf a3 i) (FloatOps.ofBits .f32 0x7F800000#32) = 1#1) ∧
    (∀ i, FloatOps.cmpf .olt (Host.absf a4 i) (FloatOps.ofBits .f32 0x7F800000#32) = 1#1) := by
  have e := congrFun h (fun k => k.elim0)
  unfold Cert.Pre_in_range_finite.fn Cert.Pre_in_range_finite.fn_part1 at e
  have e28 := andi_right e
  have e24 := andi_left e
  have e23 := andi_right e24
  have e19 := andi_left e24
  have e18 := andi_right e19
  have e14 := andi_left e19
  have e13 := andi_right e14
  have e10 := andi_left e14
  have e9 := andi_right e10
  have e6 := andi_left e10
  have e5 := andi_right e6
  have e2 := andi_left e6
  exact ⟨⟨fun i => toNat_lt_of _ 100000 (by norm_num) (Host.reduce_andi_all _ _ _ _ _ e2 i) (Host.reduce_andi_all _ _ _ _ _ e5 i),
    fun i => toNat_lt_of _ 2 (by norm_num) (Host.reduce_andi_all _ _ _ _ _ e9 i) (Host.reduce_andi_all _ _ _ _ _ e13 i)⟩,
    fun i => Host.reduce_andi_all _ _ _ _ _ e18 i, fun i => Host.reduce_andi_all _ _ _ _ _ e23 i, fun i => Host.reduce_andi_all _ _ _ _ _ e28 i⟩

end

theorem frame_ideal_finite : Cert.quiescent_KernelIdeal_pre_in_range_finite (hKernelIdeal := Cert.KernelIdeal.Gen.facts)
    (hPre_in_range_finite := Cert.Pre_in_range_finite.Gen.facts) :=
  fun m ρ h => (θ_run (Cert.KernelIdeal.defs (F := Ideal)) _ _).mono (fun _ h => ⟨fun c => (h.1 c).1, h.2⟩)
    (run_main (F := Ideal) m ρ (ok_of m fun d => (in_range_finite_ids (h d)).1))

end Cert.Proof.Emb
-- ==== Proof.Take.lean ====
/-
  The reference's table lookups, read at an index: with every index in range a lookup is the row that it names.
-/
module

public import proofs.«01_k».proof.Proof.RefRun
public import Idealize.ShloMosaic.Lib.ReduceAll
public import Idealize.ShloMosaic.Lib.Pipeline.Value

@[expose] public section

noncomputable section

namespace Cert.Proof.EmbRef

open Cert.ReferenceIdeal Cert.ReferenceIdeal.Gen
open Idealize.ShloMosaic Idealize.SL.Sem ValueIdx

/-! ## Index words -/

section Words
variable {N : ℕ} (hN : N < 2 ^ 31) {w : BitVec 32} (h : w.toNat < N)
include hN h

theorem toInt_eq : w.toInt = (w.toNat : Int) := by
  rw [BitVec.toInt_eq_toNat_cond, if_pos (by omega)]
theorem word_slt : IntOp.cmpi .slt w 0#32 = 0#1 := by
  have e := toInt_eq hN h
  rcases BitVec.eq_zero_or_eq_one (IntOp.cmpi .slt w 0#32) with h0 | h1
  · exact h0
  · have := IntOp.cmpi_slt.1 h1
    rw [e] at this
    simp at this
    omega
theorem word_sge : IntOp.cmpi .sge w 0#32 = 1#1 := by
  refine IntOp.cmpi_sge.2 ?_
  rw [toInt_eq hN h]; simp
theorem word_sle : IntOp.cmpi .sle w (BitVec.ofNat 32 (N - 1)) = 1#1 := by
  refine IntOp.cmpi_sle.2 ?_
  rw [toInt_eq hN h, toInt_eq (N := N) hN (w := BitVec.ofNat 32 (N - 1)) (by rw [BitVec.toNat_ofNat]; omega), BitVec.toNat_ofNat]
  omega

end Words

/-! ## A lookup of rows -/

/-- The dimension numbers of a lookup of whole rows of a `[N, W]` table at `[R, C]` indices. -/
abbrev rowDims (N R C W : ℕ) (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- Element `(r, c, w)` of the lookup is element `w` of the row that the index at `(r, c)` names. -/
theorem gather_rows_apply {α : Type} {N R C W : ℕ} (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ 32) (r : Fin R) (c : Fin C) (w : Fin W) (b : Fin N)
    (hb : (idx (ix3 r c (0 : Fin 1))).toInt.toNat = b.val) :
    Host.gather (rowDims N R C W wf) x idx (ix3 r c w) = x (ix2 b w) := by
  unfold Host.gather
  refine congrArg x (funext fun a => Fin.ext ?_)
  have h01 : a = 0 ∨ a = 1 := by
    match a with
    | ⟨0, _⟩ => exact Or.inl rfl
    | ⟨1, _⟩ => exact Or.inr rfl
  show (rowDims N R C W wf).start (ix3 r c w) idx a + (rowDims N R C W wf).batchCoord (ix3 r c w) a + (rowDims N R C W wf).offCoord (ix3 r c w) a = _
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C W wf).startIndexMap from List.mem_singleton.mpr rfl)]
    have hsi : (rowDims N R C W wf).siIdx (ix3 r c w) ⟨List.idxOf (0 : Fin 2) (rowDims N R C W wf).startIndexMap,
        List.idxOf_lt_length_iff.2 (List.mem_singleton.mpr rfl)⟩ = ix3 r c (0 : Fin 1) := by
      funext k; refine Fin.ext ?_
      match k with
      | ⟨0, _⟩ => rfl
      | ⟨1, _⟩ => rfl
      | ⟨2, _⟩ => rfl
    rw [hsi, hb]
    have := b.isLt
    show min b.val (N - 1) = b.val
    omega
  · have hk : (1 : Fin 2) ∈ (rowDims N R C W wf).sKept := (GatherDims.mem_sKept _ _).2 ⟨by simp, List.not_mem_nil⟩
    have hm : (1 : Fin 2) ∉ (rowDims N R C W wf).startIndexMap := by simp
    unfold GatherDims.start GatherDims.offCoord
    rw [dif_neg hm, dif_pos hk, Nat.zero_add]
    rfl

/-- A new last axis of extent one, read at its one coordinate. -/
theorem bcast_unit {α : Type} {R C : ℕ} (h : (⟨2, ![R, C]⟩ : Shape).BroadcastsInDim ⟨3, ![R, C, 1]⟩ ![0, 1]) (x : (⟨2, ![R, C]⟩ : Shape).Idx → α) (r : Fin R) (c : Fin C) :
    broadcastInDim ⟨3, ![R, C, 1]⟩ ![0, 1] h x (ix3 r c (0 : Fin 1)) = x (ix2 r c) := by
  refine broadcastInDim_apply ![0, 1] h x (ix3 r c (0 : Fin 1)) (ix2 r c) fun a => ?_
  have hr := r.isLt
  have hc := c.isLt
  match a with
  | ⟨0, _⟩ =>
    show r.val = if R = 1 then 0 else r.val
    split <;> omega
  | ⟨1, _⟩ =>
    show c.val = if C = 1 then 0 else c.val
    split <;> omega

/-- A lookup as the reference writes it — negative indices moved up by the row count, rows out of range masked — with
    every index in range: the row that the index names. -/
theorem take_apply {F : FTy → Type} [FloatOps F] {N R C W : ℕ} (hN : N < 2 ^ 31)
    (wf : GatherDims.WF ⟨2, ![N, W]⟩ ⟨3, ![R, C, 1]⟩ ⟨3, ![R, C, W]⟩ [2] [0] [] [0] [] 2 ![1, W])
    (b0 : S_.BroadcastsInDim ⟨2, ![R, C]⟩ (![] : Fin 0 → Fin 2)) (b5 : (⟨2, ![R, C]⟩ : Shape).BroadcastsInDim ⟨3, ![R, C, 1]⟩ ![0, 1])
    (b6 : S_.BroadcastsInDim ⟨3, ![R, C, 1]⟩ (![] : Fin 0 → Fin 3)) (b8 : S1.BroadcastsInDim S1x1x1 ![2])
    (b9 : S1x1x1.BroadcastsInDim ⟨3, ![R, C, 1]⟩ ![0, 1, 2]) (hr : (⟨3, ![R, C, 1]⟩ : Shape).ReducesTo [2] ⟨2, ![R, C]⟩) (hu : 0 < S_.numel)
    (b14 : (⟨2, ![R, C]⟩ : Shape).BroadcastsInDim ⟨3, ![R, C, W]⟩ ![0, 1]) (nan : (⟨3, ![R, C, W]⟩ : Shape).Idx → F .f32)
    (x : (⟨2, ![N, W]⟩ : Shape).Idx → F .f32) (idx : IVec ⟨2, ![R, C]⟩ 32) (h : ∀ i, (idx i).toNat < N) (r : Fin R) (c : Fin C) (w : Fin W) :
    let v4 := select (cmpi .slt idx (broadcastInDim ⟨2, ![R, C]⟩ ![] b0 (constantI S_ 32 0#32)))
      (addi idx (broadcastInDim ⟨2, ![R, C]⟩ ![] b0 (constantI S_ 32 (BitVec.ofNat 32 N)))) idx
    let v5 := broadcastInDim ⟨3, ![R, C, 1]⟩ ![0, 1] b5 v4
    select (broadcastInDim ⟨3, ![R, C, W]⟩ ![0, 1] b14 (Host.reduce IntOp.andi
      (andi (cmpi .sge v5 (broadcastInDim ⟨3, ![R, C, 1]⟩ ![] b6 (constantI S_ 32 0#32)))
        (cmpi .sle v5 (broadcastInDim ⟨3, ![R, C, 1]⟩ ![0, 1, 2] b9 (broadcastInDim S1x1x1 ![2] b8 (constantI S1 32 (BitVec.ofNat 32 (N - 1)))))))
      (constantI S_ 1 1#1) hr hu)) (Host.gather (rowDims N R C W wf) x v5) nan (ix3 r c w)
      = x (ix2 ⟨(idx (ix2 r c)).toNat, h _⟩ w) := by
  intro v4 v5
  have h4 : v4 = idx := by
    funext i
    show (if IntOp.cmpi .slt (idx i) 0#32 = 1#1 then _ else idx i) = idx i
    rw [word_slt hN (h i)]; rfl
  have h5 : ∀ i, ∃ k, v5 i = idx k := fun i => by
    show ∃ k, v4 _ = idx k
    rw [h4]; exact ⟨_, rfl⟩
  have hmask : ∀ j, Host.reduce IntOp.andi
      (andi (cmpi .sge v5 (broadcastInDim ⟨3, ![R, C, 1]⟩ ![] b6 (constantI S_ 32 0#32)))
        (cmpi .sle v5 (broadcastInDim ⟨3, ![R, C, 1]⟩ ![0, 1, 2] b9 (broadcastInDim S1x1x1 ![2] b8 (constantI S1 32 (BitVec.ofNat 32 (N - 1)))))))
      (constantI S_ 1 1#1) hr hu j = 1#1 := fun j => by
    refine Host.reduce_andi_one _ _ _ _ _ rfl fun i => ?_
    show IntOp.andi (IntOp.cmpi .sge (v5 i) 0#32) (IntOp.cmpi .sle (v5 i) (BitVec.ofNat 32 (N - 1))) = 1#1
    obtain ⟨k, hk⟩ := h5 i
    rw [hk, word_sge hN (h k), word_sle hN (h k)]; rfl
  have hsel : ∀ (q : IVec ⟨2, ![R, C]⟩ 1) (g : (⟨3, ![R, C, W]⟩ : Shape).Idx → F .f32), (∀ j, q j = 1#1) →
      select (broadcastInDim ⟨3, ![R, C, W]⟩ ![0, 1] b14 q) g nan (ix3 r c w) = g (ix3 r c w) := fun q g hq => if_pos (hq _)
  refine (hsel _ _ hmask).trans ?_
  refine gather_rows_apply wf x v5 r c w ⟨(idx (ix2 r c)).toNat, h _⟩ ?_
  have e : v5 (ix3 r c (0 : Fin 1)) = idx (ix2 r c) := by
    show broadcastInDim ⟨3, ![R, C, 1]⟩ ![0, 1] b5 v4 (ix3 r c (0 : Fin 1)) = _
    rw [h4]
    exact bcast_unit b5 idx r c
  rw [e, toInt_eq hN (h _)]; rfl

/-! ## The reference's three lookups -/

section
variable {F : FTy → Type} [FloatOps F]

theorem takeT_apply (x : FVec F S100000x128 .f32) (idx : IVec S1024x200 32) (h : ∀ i, (idx i).toNat < 100000) (r : Fin 1024) (c : Fin 200) (w : Fin 128) :
    takeT x idx (ix3 r c w) = x (ix2 ⟨(idx (ix2 r c)).toNat, h _⟩ w) :=
  take_apply (F := F) (N := 100000) (R := 1024) (C := 200) (W := 128) (by norm_num) _ _ _ _ _ _ _ _ _ _ x idx h r c w

theorem takeE_apply (x : FVec F S2x128 .f32) (idx : IVec S1024x200 32) (h : ∀ i, (idx i).toNat < 2) (r : Fin 1024) (c : Fin 200) (w : Fin 128) :
    takeE x idx (ix3 r c w) = x (ix2 ⟨(idx (ix2 r c)).toNat, h _⟩ w) :=
  take_apply (F := F) (N := 2) (R := 1024) (C := 200) (W := 128) (by norm_num) _ _ _ _ _ _ _ _ _ _ x idx h r c w

/-- The positions `0 … 199`, as the reference writes them. -/
def posIdx : IVec S1x200 32 := broadcastInDim S1x200 ![1] bcast_S200_S1x200_1 (iotaInDim S200 32 0)
theorem posIdx_val (i : S1x200.Idx) : (posIdx i).toNat = (i 1).val := by
  have hi : (i 1).val < 200 := (i 1).isLt
  have e : posIdx i = BitVec.ofNat 32 (i 1).val := rfl
  rw [e, BitVec.toNat_ofNat]; omega
theorem posIdx_lt (i : S1x200.Idx) : (posIdx i).toNat < 512 := by
  have hi : (i 1).val < 200 := (i 1).isLt
  rw [posIdx_val]; omega

theorem takeP_apply (x : FVec F S512x128 .f32) (c : Fin 200) (w : Fin 128) :
    takeP x (ix3 (0 : Fin 1) c w) = x (ix2 ⟨c.val, by omega⟩ w) := by
  refine (take_apply (F := F) (N := 512) (R := 1) (C := 200) (W := 128) (by norm_num) _ _ _ _ _ _ _ _ _ _ x posIdx posIdx_lt 0 c w).trans ?_
  congr 2
  exact Fin.ext (posIdx_val _)

end

end Cert.Proof.EmbRef
-- ==== Proof.Norm.lean ====
/-
  One row over the reals: the lane rotations sum the row, the Newton steps leave an exact reciprocal root alone, and the
  row that the kernel writes is the layer norm of the row it read.
-/
module

public import proofs.«01_k».proof.Proof.Row
public import Idealize.ShloMosaic.PureOps.Ideal
public import Idealize.ShloMosaic.Lib.ValueIdx
public import Idealize.ShloMosaic.Lib.Pointwise

@[expose] public section

noncomputable section

namespace Cert.Proof.Emb

open Cert.KernelIdeal Cert.KernelIdeal.Gen
open Idealize.ShloMosaic Idealize.SL.Sem

/-! ## The literals -/

theorem lit_zero : Ideal.ofBits .f32 0x00000000#32 = ((0 : ℝ) : EReal) := by
  simp [Ideal.ofBits, Ideal.ieee]
theorem lit_half : Ideal.ofBits .f32 0x3F000000#32 = ((1 / 2 : ℝ) : EReal) := by
  simp [Ideal.ofBits, Ideal.ieee, -EReal.coe_mul]; norm_num
theorem lit_threeHalves : Ideal.ofBits .f32 0x3FC00000#32 = ((3 / 2 : ℝ) : EReal) := by
  simp [Ideal.ofBits, Ideal.ieee, -EReal.coe_mul]; norm_num
theorem lit_inv128 : Ideal.ofBits .f32 0x3C000000#32 = ((1 / 128 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num

/-- The small constant added to the variance, as a real. -/
def epsR : ℝ := 8796093 / 8796093022208
theorem lit_eps : Ideal.ofBits .f32 0x358637BD#32 = ((epsR : ℝ) : EReal) := by
  unfold epsR
  simp [Ideal.ofBits, Ideal.ieee, -EReal.coe_mul]; norm_num
theorem epsR_pos : 0 < epsR := by unfold epsR; norm_num

/-! ## Sixteen real lanes -/

/-- Sixteen real lanes as a vector. -/
def vecR (f : Fin 16 → ℝ) : FVec Ideal S16 .f32 := fun l => ((f (l 0) : ℝ) : EReal)

theorem addf_vecR (f g : Fin 16 → ℝ) : addf (vecR f) (vecR g) = vecR (fun l => f l + g l) := by
  funext l; exact (EReal.coe_add _ _).symm
theorem subf_vecR (f g : Fin 16 → ℝ) : subf (vecR f) (vecR g) = vecR (fun l => f l - g l) := by
  funext l; exact (EReal.coe_sub _ _).symm
theorem mulf_vecR (f g : Fin 16 → ℝ) : mulf (vecR f) (vecR g) = vecR (fun l => f l * g l) := by
  funext l; exact (EReal.coe_mul _ _).symm
theorem lit_vecR (b : BitVec 32) (r : ℝ) (h : Ideal.ofBits .f32 b = (r : EReal)) :
    (broadcast S16 (Scalar.ofBits (F := Ideal) .f32 b) : FVec Ideal S16 .f32) = vecR fun _ => r := by
  funext l; exact h

/-- The lanes from `sh` on and then the first `sh`: lane `l` of the result is lane `l + sh`, round the sixteen. -/
theorem cat_vecR (sh : ℕ) (h : sh < 16) (s1 : S16.Slices ![sh] ⟨1, ![16 - sh]⟩) (s2 : S16.Slices ![0] ⟨1, ![sh]⟩)
    (hc : Shape.Concatenates [⟨1, ![16 - sh]⟩, ⟨1, ![sh]⟩] S16 0) (f : Fin 16 → ℝ) :
    concatenate S16 0 [⟨⟨1, ![16 - sh]⟩, extractStridedSlice ⟨1, ![16 - sh]⟩ ![sh] (vecR f) s1⟩,
      ⟨⟨1, ![sh]⟩, extractStridedSlice ⟨1, ![sh]⟩ ![0] (vecR f) s2⟩] hc = vecR fun l => f (l + ⟨sh, h⟩) := by
  funext l
  have hl : (l 0).val < 16 := (l 0).isLt
  rw [concatenate_pair_apply]
  split
  · rename_i hlt
    have hlt' : (l 0).val < 16 - sh := hlt
    show ((f _ : ℝ) : EReal) = ((f _ : ℝ) : EReal)
    congr 2
    refine Fin.ext ?_
    show sh + (l 0).val = ((l 0).val + sh) % 16
    omega
  · rename_i hlt
    have hlt' : ¬ (l 0).val < 16 - sh := hlt
    show ((f _ : ℝ) : EReal) = ((f _ : ℝ) : EReal)
    congr 2
    refine Fin.ext ?_
    show 0 + ((l 0).val - (16 - sh)) = ((l 0).val + sh) % 16
    omega

theorem rot8_vecR (f : Fin 16 → ℝ) : rot8 (vecR f) = vecR (fun l => f l + f (l + 8)) :=
  (congrArg (addf (vecR f)) (cat_vecR 8 (by omega) _ _ _ f)).trans (addf_vecR _ _)
theorem rot4_vecR (f : Fin 16 → ℝ) : rot4 (vecR f) = vecR (fun l => f l + f (l + 4)) :=
  (congrArg (addf (vecR f)) (cat_vecR 4 (by omega) _ _ _ f)).trans (addf_vecR _ _)
theorem rot2_vecR (f : Fin 16 → ℝ) : rot2 (vecR f) = vecR (fun l => f l + f (l + 2)) :=
  (congrArg (addf (vecR f)) (cat_vecR 2 (by omega) _ _ _ f)).trans (addf_vecR _ _)
theorem rot1_vecR (f : Fin 16 → ℝ) : rot1 (vecR f) = vecR (fun l => f l + f (l + 1)) :=
  (congrArg (addf (vecR f)) (cat_vecR 1 (by omega) _ _ _ f)).trans (addf_vecR _ _)

/-- Four rotations by halves leave every lane with the sum of all sixteen. -/
theorem rots_sum (f : Fin 16 → ℝ) (l : Fin 16) :
    ((f l + f (l + 8)) + (f (l + 4) + f (l + 4 + 8)) + ((f (l + 2) + f (l + 2 + 8)) + (f (l + 2 + 4) + f (l + 2 + 4 + 8))))
      + ((f (l + 1) + f (l + 1 + 8)) + (f (l + 1 + 4) + f (l + 1 + 4 + 8)) + ((f (l + 1 + 2) + f (l + 1 + 2 + 8)) + (f (l + 1 + 2 + 4) + f (l + 1 + 2 + 4 + 8))))
      = ∑ k, f k := by
  rw [← Equiv.sum_comp (Equiv.addLeft l) f]
  rw [show (∑ k : Fin 16, f (Equiv.addLeft l k)) = f (l + 0) + f (l + 1) + f (l + 2) + f (l + 3) + f (l + 4) + f (l + 5) + f (l + 6) + f (l + 7) + f (l + 8)
    + f (l + 9) + f (l + 10) + f (l + 11) + f (l + 12) + f (l + 13) + f (l + 14) + f (l + 15) from by
      simp only [Fin.sum_univ_castSucc, Fin.sum_univ_zero, zero_add]; rfl]
  simp only [add_assoc l, show (4 + 8 : Fin 16) = 12 from rfl, show (2 + 8 : Fin 16) = 10 from rfl, show (2 + 4 : Fin 16) = 6 from rfl,
    show (6 + 8 : Fin 16) = 14 from rfl, show (1 + 8 : Fin 16) = 9 from rfl, show (1 + 4 : Fin 16) = 5 from rfl, show (5 + 8 : Fin 16) = 13 from rfl,
    show (1 + 2 : Fin 16) = 3 from rfl, show (3 + 8 : Fin 16) = 11 from rfl, show (3 + 4 : Fin 16) = 7 from rfl, show (7 + 8 : Fin 16) = 15 from rfl, add_zero]
  ring

theorem laneMean_vecR (f : Fin 16 → ℝ) : laneMean (vecR f) = vecR (fun _ => (∑ k, f k) / 128) := by
  unfold laneMean
  rw [rot8_vecR, rot4_vecR, rot2_vecR, rot1_vecR, lit_vecR _ _ lit_inv128, mulf_vecR]
  congr 1; funext l
  rw [rots_sum]; ring

/-! ## A row of real numbers -/

/-- A row's 128 real numbers, sixteen lanes at a time. -/
def rowR (X : Fin 128 → ℝ) (j : Fin 8) : FVec Ideal S16 .f32 := vecR fun l => X ⟨16 * j.val + l.val, by omega⟩

theorem rowSum_vecR (f : Fin 8 → Fin 16 → ℝ) : rowSum (fun j => vecR (f j)) = vecR (fun l => ∑ j, f j l) := by
  unfold rowSum zero16
  rw [lit_vecR _ _ lit_zero]
  simp only [addf_vecR]
  congr 1; funext l
  simp only [Fin.sum_univ_eight, zero_add]

/-- A sum over a row, by its eight groups of sixteen lanes. -/
theorem sum_row (X : Fin 128 → ℝ) : (∑ l : Fin 16, ∑ j : Fin 8, X ⟨16 * j.val + l.val, by omega⟩) = ∑ k, X k := by
  rw [Finset.sum_comm, ← Finset.sum_product', Finset.univ_product_univ]
  refine Fintype.sum_equiv (finProdFinEquiv (m := 8) (n := 16)) _ _ fun p => ?_
  congr 1
  refine Fin.ext ?_
  show 16 * p.1.val + p.2.val = p.2.val + 16 * p.1.val
  omega

/-- The row's mean. -/
def mu (X : Fin 128 → ℝ) : ℝ := (∑ k, X k) / 128
/-- The row's variance, as the mean square less the squared mean. -/
def vr (X : Fin 128 → ℝ) : ℝ := (∑ k, X k * X k) / 128 - mu X * mu X
/-- The variance is the mean of the squared distances from the mean. -/
theorem vr_eq (X : Fin 128 → ℝ) : vr X = (∑ k, (X k - mu X) * (X k - mu X)) / 128 := by
  have h : ∑ k, (X k - mu X) * (X k - mu X) = (∑ k, X k * X k) - 2 * mu X * (∑ k, X k) + 128 * (mu X * mu X) := by
    simp only [sub_mul, mul_sub, Finset.sum_sub_distrib, ← Finset.mul_sum, ← Finset.sum_mul, Finset.sum_const, Finset.card_univ, Fintype.card_fin, nsmul_eq_mul]
    push_cast; ring
  have hs : ∑ k, X k = 128 * mu X := by unfold mu; ring
  rw [h, hs]; unfold vr; ring
theorem vr_nonneg (X : Fin 128 → ℝ) : 0 ≤ vr X := by
  rw [vr_eq]; exact div_nonneg (Finset.sum_nonneg fun k _ => mul_self_nonneg _) (by norm_num)
/-- The reciprocal root of the variance plus the small constant. -/
def rsR (X : Fin 128 → ℝ) : ℝ := (Real.sqrt (vr X + epsR))⁻¹
theorem ve_pos (X : Fin 128 → ℝ) : 0 < vr X + epsR := add_pos_of_nonneg_of_pos (vr_nonneg X) epsR_pos

theorem rsqrt_coe_pos (w : ℝ) (hw : 0 < w) : Ideal.rsqrt (w : EReal) = (((Real.sqrt w)⁻¹ : ℝ) : EReal) := by
  rw [Ideal.rsqrt_coe, if_neg (not_lt.mpr hw.le), if_neg hw.ne']

/-- A Newton step leaves the exact reciprocal root where it is. -/
theorem newton_vecR (w : ℝ) (hw : 0 < w) : newton (vecR fun _ => w) (vecR fun _ => (Real.sqrt w)⁻¹) = vecR fun _ => (Real.sqrt w)⁻¹ := by
  unfold newton
  rw [lit_vecR _ _ lit_threeHalves, lit_vecR _ _ lit_half]
  simp only [mulf_vecR, subf_vecR]
  congr 1; funext l
  have hs : Real.sqrt w * Real.sqrt w = w := Real.mul_self_sqrt hw.le
  have hp : 0 < Real.sqrt w := Real.sqrt_pos.mpr hw
  have h1 : w * (Real.sqrt w)⁻¹ * (Real.sqrt w)⁻¹ = 1 := by
    field_simp; rw [sq, hs]
  have h2 : 1 / 2 * w * (Real.sqrt w)⁻¹ * (Real.sqrt w)⁻¹ = 1 / 2 := by
    rw [show 1 / 2 * w * (Real.sqrt w)⁻¹ * (Real.sqrt w)⁻¹ = 1 / 2 * (w * (Real.sqrt w)⁻¹ * (Real.sqrt w)⁻¹) by ring, h1, mul_one]
  rw [h2]; ring

theorem root_vecR (w : ℝ) (hw : 0 < w) : root (vecR fun _ => w) = vecR fun _ => (Real.sqrt w)⁻¹ := by
  have h : rsqrt (vecR fun _ => w) = vecR fun _ => (Real.sqrt w)⁻¹ := by
    funext l; exact rsqrt_coe_pos w hw
  unfold root
  rw [h, newton_vecR w hw, newton_vecR w hw, newton_vecR w hw]

theorem rowMean_R (X : Fin 128 → ℝ) : rowMean (rowR X) = vecR fun _ => mu X := by
  unfold rowMean
  rw [show rowR X = fun j : Fin 8 => vecR (fun l => X ⟨16 * j.val + l.val, by omega⟩) from rfl, rowSum_vecR, laneMean_vecR, sum_row]
  rfl
theorem rowMsq_R (X : Fin 128 → ℝ) : laneMean (rowSum fun j => mulf (rowR X j) (rowR X j)) = vecR fun _ => (∑ k, X k * X k) / 128 := by
  rw [show (fun j => mulf (rowR X j) (rowR X j)) = fun j : Fin 8 => vecR (fun l => X ⟨16 * j.val + l.val, by omega⟩ * X ⟨16 * j.val + l.val, by omega⟩) from
    funext fun j => mulf_vecR _ _, rowSum_vecR, laneMean_vecR, sum_row fun k => X k * X k]
theorem rowRs_R (X : Fin 128 → ℝ) : rowRs (rowR X) = vecR fun _ => rsR X := by
  unfold rowRs varEps
  rw [rowMsq_R, rowMean_R, lit_vecR _ _ lit_eps, mulf_vecR, subf_vecR, addf_vecR]
  exact root_vecR _ (ve_pos X)

/-- What the kernel leaves in a lane of a row of real numbers: its layer norm. -/
theorem rowOut_R (X : Fin 128 → ℝ) (sc bi : FVec Ideal S16 .f32) (j : Fin 8) (l : S16.Idx) :
    rowOut (rowR X) sc bi j l = (((X ⟨16 * j.val + (l 0).val, by have h : (l 0).val < 16 := (l 0).isLt; omega⟩ - mu X) * rsR X : ℝ) : EReal) * sc l + bi l := by
  unfold rowOut
  rw [rowRs_R, rowMean_R, show rowR X j = vecR (fun l => X ⟨16 * j.val + l.val, by omega⟩) from rfl, mulf_vecR, mulf_vecR, subf_vecR]
  show ((_ : ℝ) : EReal) * sc l + bi l = _
  congr 3
  ring

end Cert.Proof.Emb
-- ==== Proof.RefVal.lean ====
/-
  The reference's value over the reals: at an index, the layer norm of the row of sums.
-/
module

public import proofs.«01_k».proof.Proof.Take
public import proofs.«01_k».proof.Proof.Norm

@[expose] public section

noncomputable section

namespace Cert.Proof.EmbRef

open Cert.ReferenceIdeal Cert.ReferenceIdeal.Gen
open Idealize.ShloMosaic Idealize.SL.Sem
open Cert.Proof.Emb (mu vr vr_eq rsR epsR ve_pos rsqrt_coe_pos lit_zero lit_128 lit_eps)

/-! ## Broadcasts at an index -/

section
variable {α : Type}

theorem bc_col (x : S1024x200.Idx → α) (b : Fin 1024) (s : Fin 200) :
    broadcastInDim S1024x200x1 ![0, 1] bcast_S1024x200_S1024x200x1_0_1 x (ValueIdx.ix3 b s (0 : Fin 1)) = x (ValueIdx.ix2 b s) := bcast_unit _ x b s

theorem bc_row (x : S1024x200x1.Idx → α) (b : Fin 1024) (s : Fin 200) (k : Fin 128) :
    broadcastInDim S1024x200x128 ![0, 1, 2] bcast_S1024x200x1_S1024x200x128_0_1_2 x (ValueIdx.ix3 b s k) = x (ValueIdx.ix3 b s (0 : Fin 1)) := by
  refine broadcastInDim_apply ![0, 1, 2] _ x (ValueIdx.ix3 b s k) (ValueIdx.ix3 b s (0 : Fin 1)) fun a => ?_
  match a with
  | ⟨0, _⟩ => rfl
  | ⟨1, _⟩ => rfl
  | ⟨2, _⟩ => rfl

theorem bc_pos (x : S1x200x128.Idx → α) (b : Fin 1024) (s : Fin 200) (k : Fin 128) :
    broadcastInDim S1024x200x128 ![0, 1, 2] bcast_S1x200x128_S1024x200x128_0_1_2 x (ValueIdx.ix3 b s k) = x (ValueIdx.ix3 (0 : Fin 1) s k) := by
  refine broadcastInDim_apply ![0, 1, 2] _ x (ValueIdx.ix3 b s k) (ValueIdx.ix3 (0 : Fin 1) s k) fun a => ?_
  match a with
  | ⟨0, _⟩ => rfl
  | ⟨1, _⟩ => rfl
  | ⟨2, _⟩ => rfl

theorem bc_feat (x : S128.Idx → α) (b : Fin 1024) (s : Fin 200) (k : Fin 128) :
    broadcastInDim S1024x200x128 ![0, 1, 2] bcast_S1x1x128_S1024x200x128_0_1_2
      (broadcastInDim S1x1x128 ![2] bcast_S128_S1x1x128_2 x) (ValueIdx.ix3 b s k) = x (ValueIdx.ix1 k) := by
  refine (broadcastInDim_apply ![0, 1, 2] _ _ (ValueIdx.ix3 b s k) (ValueIdx.ix3 (0 : Fin 1) (0 : Fin 1) k) fun a => ?_).trans
    (broadcastInDim_apply ![2] _ x (ValueIdx.ix3 (0 : Fin 1) (0 : Fin 1) k) (ValueIdx.ix1 k) fun a => ?_)
  · match a with
    | ⟨0, _⟩ => rfl
    | ⟨1, _⟩ => rfl
    | ⟨2, _⟩ => rfl
  · match a with
    | ⟨0, _⟩ => rfl

end

/-! ## The mean, the variance and the output of a row of reals -/

theorem coe_sum_real {n : ℕ} (f : Fin n → ℝ) : ((∑ k, f k : ℝ) : EReal) = ∑ k, ((f k : ℝ) : EReal) := by
  induction (Finset.univ : Finset (Fin n)) using Finset.induction_on with
  | empty => simp
  | insert a t ha ih => rw [Finset.sum_insert ha, Finset.sum_insert ha, EReal.coe_add, ih]

theorem sum_apply (v : FVec Ideal S1024x200x128 .f32) (X : Fin 128 → ℝ) (b : Fin 1024) (s : Fin 200) (hv : ∀ k, v (ValueIdx.ix3 b s k) = ((X k : ℝ) : EReal)) :
    Host.reduceAdd v (constant S_ .f32 0x00000000#32) reducesTo_S1024x200x128_S1024x200_d2 h_S_ (ValueIdx.ix2 b s) = ((∑ k, X k : ℝ) : EReal) := by
  refine (Ideal.hostReduceAdd_r3_a2 (n0 := 1024) (n1 := 200) (n2 := 128) reducesTo_S1024x200x128_S1024x200_d2 v _ (ValueIdx.ix2 b s)).trans ?_
  rw [coe_sum_real]
  have e : (constant (F := Ideal) S_ .f32 0x00000000#32) (Shape.Idx.first h_S_) = ((0 : ℝ) : EReal) := lit_zero
  rw [e, EReal.coe_zero, zero_add]
  exact Finset.sum_congr rfl fun k _ => hv k

theorem mean_apply (v : FVec Ideal S1024x200x128 .f32) (X : Fin 128 → ℝ) (b : Fin 1024) (s : Fin 200) (hv : ∀ k, v (ValueIdx.ix3 b s k) = ((X k : ℝ) : EReal)) :
    meanX v (ValueIdx.ix3 b s (0 : Fin 1)) = ((mu X : ℝ) : EReal) := by
  show Ideal.div (broadcastInDim S1024x200x1 ![0, 1] bcast_S1024x200_S1024x200x1_0_1 (Host.reduceAdd v (constant S_ .f32 0x00000000#32) reducesTo_S1024x200x128_S1024x200_d2 h_S_) (ValueIdx.ix3 b s (0 : Fin 1))) (Ideal.ofBits .f32 0x43000000#32) = _
  rw [bc_col, sum_apply v X b s hv, lit_128, Ideal.div_coe (by norm_num), ← EReal.coe_mul]
  unfold mu
  congr 1
  ring

theorem var_apply (v : FVec Ideal S1024x200x128 .f32) (X : Fin 128 → ℝ) (b : Fin 1024) (s : Fin 200) (hv : ∀ k, v (ValueIdx.ix3 b s k) = ((X k : ℝ) : EReal)) :
    varX v (ValueIdx.ix3 b s (0 : Fin 1)) = ((vr X : ℝ) : EReal) := by
  have h128 : Ideal.ofBits .f32 0x43000000#32 - ((((0#32 : BitVec 32).toInt : ℝ)) : EReal) = ((128 : ℝ) : EReal) := by
    rw [lit_128, ← EReal.coe_sub]; simp
  have hc : Ideal.cmp .ogt (Ideal.ofBits .f32 0x43000000#32 - ((((0#32 : BitVec 32).toInt : ℝ)) : EReal)) (Ideal.ofBits .f32 0x00000000#32) = 1#1 := by
    rw [h128, lit_zero]
    show BitVec.ofBool (decide (((0 : ℝ) : EReal) < ((128 : ℝ) : EReal))) = 1#1
    rw [decide_eq_true (by exact_mod_cast (by norm_num : (0 : ℝ) < 128))]; rfl
  show Scalar.select (Ideal.cmp .ogt (Ideal.ofBits .f32 0x43000000#32 - ((((0#32 : BitVec 32).toInt : ℝ)) : EReal)) (Ideal.ofBits .f32 0x00000000#32))
    (Ideal.div (broadcastInDim S1024x200x1 ![0, 1] bcast_S1024x200_S1024x200x1_0_1 (Host.reduceAdd
      (mulf (subf v (broadcastInDim S1024x200x128 ![0, 1, 2] bcast_S1024x200x1_S1024x200x128_0_1_2 (meanX v)))
        (subf v (broadcastInDim S1024x200x128 ![0, 1, 2] bcast_S1024x200x1_S1024x200x128_0_1_2 (meanX v))))
      (constant S_ .f32 0x00000000#32) reducesTo_S1024x200x128_S1024x200_d2 h_S_) (ValueIdx.ix3 b s (0 : Fin 1)))
      (Ideal.ofBits .f32 0x43000000#32 - ((((0#32 : BitVec 32).toInt : ℝ)) : EReal))) _ = _
  rw [hc, h128, bc_col, sum_apply _ (fun k => (X k - mu X) * (X k - mu X)) b s, Ideal.div_coe (by norm_num), ← EReal.coe_mul]
  · rw [vr_eq]
    show ((_ : ℝ) : EReal) = _
    congr 1
    ring
  · intro k
    show (v (ValueIdx.ix3 b s k) - broadcastInDim S1024x200x128 ![0, 1, 2] bcast_S1024x200x1_S1024x200x128_0_1_2 (meanX v) (ValueIdx.ix3 b s k))
      * (v (ValueIdx.ix3 b s k) - broadcastInDim S1024x200x128 ![0, 1, 2] bcast_S1024x200x1_S1024x200x128_0_1_2 (meanX v) (ValueIdx.ix3 b s k)) = _
    rw [bc_row, mean_apply v X b s hv, hv k, ← EReal.coe_sub, ← EReal.coe_mul]

theorem out_apply (v : FVec Ideal S1024x200x128 .f32) (sc bi : FVec Ideal S128 .f32) (X : Fin 128 → ℝ) (b : Fin 1024) (s : Fin 200)
    (hv : ∀ k, v (ValueIdx.ix3 b s k) = ((X k : ℝ) : EReal)) (c : Fin 128) :
    outX v (meanX v) (varX v) sc bi (ValueIdx.ix3 b s c) = (((X c - mu X) * rsR X : ℝ) : EReal) * sc (ValueIdx.ix1 c) + bi (ValueIdx.ix1 c) := by
  show (v (ValueIdx.ix3 b s c) - broadcastInDim S1024x200x128 ![0, 1, 2] bcast_S1024x200x1_S1024x200x128_0_1_2 (meanX v) (ValueIdx.ix3 b s c))
      * broadcastInDim S1024x200x128 ![0, 1, 2] bcast_S1024x200x1_S1024x200x128_0_1_2 (Host.rsqrt (addf (varX v)
        (broadcastInDim S1024x200x1 ![] bcast_S_S1024x200x1 (constant S_ .f32 0x358637BD#32)))) (ValueIdx.ix3 b s c)
      * broadcastInDim S1024x200x128 ![0, 1, 2] bcast_S1x1x128_S1024x200x128_0_1_2 (broadcastInDim S1x1x128 ![2] bcast_S128_S1x1x128_2 sc) (ValueIdx.ix3 b s c)
      + broadcastInDim S1024x200x128 ![0, 1, 2] bcast_S1x1x128_S1024x200x128_0_1_2 (broadcastInDim S1x1x128 ![2] bcast_S128_S1x1x128_2 bi) (ValueIdx.ix3 b s c) = _
  rw [bc_row, bc_row, bc_feat, bc_feat, mean_apply v X b s hv, hv c]
  have hr : (Host.rsqrt (addf (varX v) (broadcastInDim S1024x200x1 ![] bcast_S_S1024x200x1 (constant S_ .f32 0x358637BD#32))) : FVec Ideal S1024x200x1 .f32)
      (ValueIdx.ix3 b s (0 : Fin 1)) = ((rsR X : ℝ) : EReal) := by
    show Ideal.rsqrt (varX v (ValueIdx.ix3 b s (0 : Fin 1)) + Ideal.ofBits .f32 0x358637BD#32) = _
    rw [var_apply v X b s hv, lit_eps, ← EReal.coe_add, rsqrt_coe_pos _ (ve_pos X)]
    rfl
  rw [hr, ← EReal.coe_sub, ← EReal.coe_mul]

/-! ## The whole reference -/

/-- The reference's result, as a function of its arguments. -/
def refOut {F : FTy → Type} [FloatOps F] (x0 x1 : IVec S1024x200 32) (x2 : FVec F S100000x128 .f32) (x3 : FVec F S512x128 .f32)
    (x4 : FVec F S2x128 .f32) (x5 x6 : FVec F S128 .f32) : FVec F S1024x200x128 .f32 :=
  outX (sumX (takeT x2 x0) (takeP x3) (takeE x4 x1)) (meanX (sumX (takeT x2 x0) (takeP x3) (takeE x4 x1)))
    (varX (sumX (takeT x2 x0) (takeP x3) (takeE x4 x1))) x5 x6

theorem sum3_apply (x0 x1 : IVec S1024x200 32) (x2 : FVec Ideal S100000x128 .f32) (x3 : FVec Ideal S512x128 .f32) (x4 : FVec Ideal S2x128 .f32)
    (h0 : ∀ i, (x0 i).toNat < 100000) (h1 : ∀ i, (x1 i).toNat < 2) (b : Fin 1024) (s : Fin 200) (k : Fin 128) :
    sumX (takeT x2 x0) (takeP x3) (takeE x4 x1) (ValueIdx.ix3 b s k)
      = (x2 (ValueIdx.ix2 ⟨(x0 (ValueIdx.ix2 b s)).toNat, h0 _⟩ k) + x3 (ValueIdx.ix2 ⟨s.val, by omega⟩ k)) + x4 (ValueIdx.ix2 ⟨(x1 (ValueIdx.ix2 b s)).toNat, h1 _⟩ k) := by
  show (takeT x2 x0 (ValueIdx.ix3 b s k) + broadcastInDim S1024x200x128 ![0, 1, 2] bcast_S1x200x128_S1024x200x128_0_1_2 (takeP x3) (ValueIdx.ix3 b s k)) + takeE x4 x1 (ValueIdx.ix3 b s k) = _
  rw [takeT_apply x2 x0 h0, bc_pos, takeP_apply, takeE_apply x4 x1 h1]

section
variable {F : FTy → Type} [FloatOps F]

theorem main_val (V : Valuation τ sig (Elt F)) : StableHlo.after ops V (Proc.devRef .tc main_v25)
    = refOut (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) := by
  unfold refOut
  rw [ops_eq, after_cat, after_cat, after_cat, after_cat, after_cat, after_cat, opsO_val, opsC_keep _ main_v7 (by decide), opsC_keep _ main_v11 (by decide), opsC_keep _ main_arg5 (by decide), opsC_keep _ main_arg6 (by decide), opsC_val, opsM_keep _ main_v7 (by decide), opsM_keep _ main_arg5 (by decide), opsM_keep _ main_arg6 (by decide), opsM_val, opsX_keep _ main_arg5 (by decide), opsX_keep _ main_arg6 (by decide), opsX_val, opsE_keep _ main_v0 (by decide), opsE_keep _ main_v3 (by decide), opsE_keep _ main_arg5 (by decide), opsE_keep _ main_arg6 (by decide), opsE_val, opsP_keep _ main_v0 (by decide), opsP_keep _ main_arg1 (by decide), opsP_keep _ main_arg4 (by decide), opsP_keep _ main_arg5 (by decide), opsP_keep _ main_arg6 (by decide), opsP_val, opsT_keep _ main_arg1 (by decide), opsT_keep _ main_arg3 (by decide), opsT_keep _ main_arg4 (by decide), opsT_keep _ main_arg5 (by decide), opsT_keep _ main_arg6 (by decide), opsT_val]

end

end Cert.Proof.EmbRef
-- ==== Proof.Val.lean ====
/-
  The kernel's result is the reference's: with every table entry a real number, both are the layer norm of the row of sums.
-/
module

public import proofs.«01_k».proof.Proof.TileVal
public import proofs.«01_k».proof.Proof.RefVal

@[expose] public section

noncomputable section

namespace Cert.Proof.Emb

open Cert.KernelIdeal Cert.KernelIdeal.Gen
open Idealize.ShloMosaic Idealize.SL.Sem

/-- A number whose magnitude is below infinity is real. -/
theorem real_of_abs_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have hlt : max x (-x) < ⊤ := by
    by_contra hc
    have h0 : Ideal.cmp .olt (max x (-x)) ⊤ = 0#1 := by
      show BitVec.ofBool (decide (max x (-x) < ⊤)) = 0#1
      rw [decide_eq_false hc]; rfl
    rw [h0] at h
    exact absurd h (by decide)
  have h1 : x ≠ ⊤ := fun e => by rw [e] at hlt; simp at hlt
  have h2 : x ≠ ⊥ := fun e => by rw [e] at hlt; simp at hlt
  exact (EReal.coe_toReal h1 h2).symm

/-- A flat row of the ids is its sequence and position. -/
theorem flat_apply {α : Type} (x : S1024x200.Idx → α) (b : Fin 1024) (s : Fin 200) (g : Fin 204800) (hg : g.val = 200 * b.val + s.val) :
    shapeCast S204800 x shapeCasts_S1024x200_S204800 (ValueIdx.ix1 g) = x (ValueIdx.ix2 b s) := by
  refine shapeCast_apply x _ _ _ ?_
  rw [Shape.rowMajor_val_one, Shape.rowMajor_val_two]
  show b.val * 200 + s.val = g.val
  omega

/-- A sequence's position of the result is its flat row. -/
theorem unflat_apply {α : Type} (x : S204800x128.Idx → α) (b : Fin 1024) (s : Fin 200) (c : Fin 128) (g : Fin 204800) (hg : g.val = 200 * b.val + s.val) :
    shapeCast S1024x200x128 x shapeCasts_S204800x128_S1024x200x128 (ValueIdx.ix3 b s c) = x (ValueIdx.ix2 g c) := by
  refine shapeCast_apply x _ _ _ ?_
  rw [Shape.rowMajor_val_two, Shape.rowMajor_val_three]
  show g.val * 128 + c.val = (b.val * 200 + s.val) * 128 + c.val
  omega

/-- The first 200 rows of the positions. -/
theorem first_apply {α : Type} (x : S512x128.Idx → α) (s : Fin 200) (c : Fin 128) :
    extractStridedSlice S200x128 ![0, 0] x slices_S512x128_S200x128_0_0 (ValueIdx.ix2 s c) = x (ValueIdx.ix2 (⟨s.val, by omega⟩ : Fin 512) c) := by
  show x _ = x _
  congr 1
  funext a
  apply Fin.ext
  match a with
  | ⟨0, _⟩ => show 0 + s.val = s.val; omega
  | ⟨1, _⟩ => show 0 + c.val = c.val; omega

section
variable (x0 x1 : IVec S1024x200 32) (x2 : FVec Ideal S100000x128 .f32) (x3 : FVec Ideal S512x128 .f32) (x4 : FVec Ideal S2x128 .f32)
  (x5 x6 : FVec Ideal S128 .f32) (h0 : ∀ i, (x0 i).toNat < 100000) (h1 : ∀ i, (x1 i).toNat < 2)

/-- The row of sums at a sequence's position, as real numbers. -/
def sumR (b : Fin 1024) (s : Fin 200) (k : Fin 128) : ℝ :=
  ((x2 (ValueIdx.ix2 ⟨(x0 (ValueIdx.ix2 b s)).toNat, h0 _⟩ k)).toReal + (x3 (ValueIdx.ix2 (⟨s.val, by omega⟩ : Fin 512) k)).toReal)
    + (x4 (ValueIdx.ix2 ⟨(x1 (ValueIdx.ix2 b s)).toNat, h1 _⟩ k)).toReal

variable (f2 : ∀ i, x2 i = (((x2 i).toReal : ℝ) : EReal)) (f3 : ∀ i, x3 i = (((x3 i).toReal : ℝ) : EReal)) (f4 : ∀ i, x4 i = (((x4 i).toReal : ℝ) : EReal))
include h0 h1 f2 f3 f4

theorem ref_row (b : Fin 1024) (s : Fin 200) (k : Fin 128) :
    EmbRef.sumX (EmbRef.takeT x2 x0) (EmbRef.takeP x3) (EmbRef.takeE x4 x1) (ValueIdx.ix3 b s k) = ((sumR x0 x1 x2 x3 x4 h0 h1 b s k : ℝ) : EReal) := by
  refine (EmbRef.sum3_apply x0 x1 x2 x3 x4 h0 h1 b s k).trans ?_
  unfold sumR
  rw [EReal.coe_add, EReal.coe_add, ← f2, ← f3, ← f4]

theorem kernel_row (b : Fin 1024) (s : Fin 200) (g : Fin 204800) (hg : g.val = 200 * b.val + s.val) :
    embRow (F := Ideal) (shapeCast S204800 x0 shapeCasts_S1024x200_S204800) (shapeCast S204800 x1 shapeCasts_S1024x200_S204800) x2
      (extractStridedSlice S200x128 ![0, 0] x3 slices_S512x128_S200x128_0_0) x4 g = rowR (sumR x0 x1 x2 x3 x4 h0 h1 b s) := by
  funext j l
  have hl : (l 0).val < 16 := (l 0).isLt
  have e0 := flat_apply x0 b s g hg
  have e1 := flat_apply x1 b s g hg
  have i0 : (⟨(shapeCast S204800 x0 shapeCasts_S1024x200_S204800 (ValueIdx.ix1 g)).toNat % 100000, Nat.mod_lt _ (by decide)⟩ : Fin 100000)
      = ⟨(x0 (ValueIdx.ix2 b s)).toNat, h0 _⟩ := Fin.ext (by
    show (shapeCast S204800 x0 shapeCasts_S1024x200_S204800 (ValueIdx.ix1 g)).toNat % 100000 = (x0 (ValueIdx.ix2 b s)).toNat
    rw [e0, Nat.mod_eq_of_lt (h0 _)])
  have i1 : (⟨(shapeCast S204800 x1 shapeCasts_S1024x200_S204800 (ValueIdx.ix1 g)).toNat % 2, Nat.mod_lt _ (by decide)⟩ : Fin 2)
      = ⟨(x1 (ValueIdx.ix2 b s)).toNat, h1 _⟩ := Fin.ext (by
    show (shapeCast S204800 x1 shapeCasts_S1024x200_S204800 (ValueIdx.ix1 g)).toNat % 2 = (x1 (ValueIdx.ix2 b s)).toNat
    rw [e1, Nat.mod_eq_of_lt (h1 _)])
  have i2 : (⟨g.val % 200, Nat.mod_lt _ (by decide)⟩ : Fin 200) = s := Fin.ext (by show g.val % 200 = s.val; omega)
  unfold embRow
  rw [i0, i1, i2]
  show x2 (ValueIdx.ix2 _ _) + (extractStridedSlice S200x128 ![0, 0] x3 slices_S512x128_S200x128_0_0 (ValueIdx.ix2 s _) + x4 (ValueIdx.ix2 _ _))
    = ((sumR x0 x1 x2 x3 x4 h0 h1 b s ⟨16 * j.val + (l 0).val, _⟩ : ℝ) : EReal)
  rw [first_apply, ← add_assoc]
  unfold sumR
  rw [EReal.coe_add, EReal.coe_add, ← f2, ← f3, ← f4]

/-- The kernel's result in the reference's shape is the reference's result. -/
theorem emb_eq : (shapeCast S1024x200x128 (embOut (F := Ideal) (shapeCast S204800 x0 shapeCasts_S1024x200_S204800) (shapeCast S204800 x1 shapeCasts_S1024x200_S204800) x2
      (extractStridedSlice S200x128 ![0, 0] x3 slices_S512x128_S200x128_0_0) x4 x5 x6) shapeCasts_S204800x128_S1024x200x128 : FVec Ideal S1024x200x128 .f32)
    = EmbRef.refOut (F := Ideal) x0 x1 x2 x3 x4 x5 x6 := by
  funext i
  obtain ⟨b, s, c, rfl⟩ : ∃ (b : Fin 1024) (s : Fin 200) (c : Fin 128), i = ValueIdx.ix3 b s c := ⟨i 0, i 1, i 2, ValueIdx.eq_ix3 i⟩
  have hb := b.isLt
  have hs := s.isLt
  have hc := c.isLt
  rw [unflat_apply _ b s c ⟨200 * b.val + s.val, by omega⟩ rfl]
  refine Eq.trans ?_ (EmbRef.out_apply _ x5 x6 (sumR x0 x1 x2 x3 x4 h0 h1 b s) b s (ref_row x0 x1 x2 x3 x4 h0 h1 f2 f3 f4 b s) c).symm
  show rowOut (embRow (F := Ideal) _ _ x2 _ x4 (⟨200 * b.val + s.val, by omega⟩ : Fin 204800)) (vec1 x5 (⟨c.val / 16, by omega⟩ : Fin 8)) (vec1 x6 (⟨c.val / 16, by omega⟩ : Fin 8))
    (⟨c.val / 16, by omega⟩ : Fin 8) (ValueIdx.ix1 (⟨c.val % 16, by omega⟩ : Fin 16)) = _
  rw [kernel_row x0 x1 x2 x3 x4 h0 h1 f2 f3 f4 b s _ rfl, rowOut_R]
  have hcc : ∀ h, (⟨16 * (c.val / 16) + c.val % 16, h⟩ : Fin 128) = c := fun h => Fin.ext (by show 16 * (c.val / 16) + c.val % 16 = c.val; omega)
  show (((sumR x0 x1 x2 x3 x4 h0 h1 b s ⟨16 * (c.val / 16) + c.val % 16, _⟩ - _) * _ : ℝ) : EReal) * x5 (ValueIdx.ix1 ⟨16 * (c.val / 16) + c.val % 16, _⟩)
    + x6 (ValueIdx.ix1 ⟨16 * (c.val / 16) + c.val % 16, _⟩) = _
  rw [hcc]

end

end Cert.Proof.Emb
-- ==== Proof.RefFrame.lean ====
/-
  The reference's frame claim.
-/
module

public import proofs.«01_k».proof.Proof.RefRun
public import Idealize.ShloMosaic.Lib.Quiescent

@[expose] public section

noncomputable section

namespace Cert.Proof.EmbRef

open Cert.ReferenceIdeal Cert.ReferenceIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open StableHlo ValueIdx

variable {F : FTy → Type}

variable [FloatOps F]

theorem main_arg0_eq (V : Valuation τ sig (Elt F)) : after ops V (Proc.devRef .tc main_arg0) = V (Proc.devRef .tc main_arg0) := by
  rw [ops_eq, after_cat, after_cat, after_cat, after_cat, after_cat, after_cat, opsO_keep _ main_arg0 (by decide), opsC_keep _ main_arg0 (by decide), opsM_keep _ main_arg0 (by decide), opsX_keep _ main_arg0 (by decide), opsE_keep _ main_arg0 (by decide), opsP_keep _ main_arg0 (by decide), opsT_keep _ main_arg0 (by decide)]

theorem main_arg1_eq (V : Valuation τ sig (Elt F)) : after ops V (Proc.devRef .tc main_arg1) = V (Proc.devRef .tc main_arg1) := by
  rw [ops_eq, after_cat, after_cat, after_cat, after_cat, after_cat, after_cat, opsO_keep _ main_arg1 (by decide), opsC_keep _ main_arg1 (by decide), opsM_keep _ main_arg1 (by decide), opsX_keep _ main_arg1 (by decide), opsE_keep _ main_arg1 (by decide), opsP_keep _ main_arg1 (by decide), opsT_keep _ main_arg1 (by decide)]

theorem main_arg2_eq (V : Valuation τ sig (Elt F)) : after ops V (Proc.devRef .tc main_arg2) = V (Proc.devRef .tc main_arg2) := by
  rw [ops_eq, after_cat, after_cat, after_cat, after_cat, after_cat, after_cat, opsO_keep _ main_arg2 (by decide), opsC_keep _ main_arg2 (by decide), opsM_keep _ main_arg2 (by decide), opsX_keep _ main_arg2 (by decide), opsE_keep _ main_arg2 (by decide), opsP_keep _ main_arg2 (by decide), opsT_keep _ main_arg2 (by decide)]

theorem main_arg3_eq (V : Valuation τ sig (Elt F)) : after ops V (Proc.devRef .tc main_arg3) = V (Proc.devRef .tc main_arg3) := by
  rw [ops_eq, after_cat, after_cat, after_cat, after_cat, after_cat, after_cat, opsO_keep _ main_arg3 (by decide), opsC_keep _ main_arg3 (by decide), opsM_keep _ main_arg3 (by decide), opsX_keep _ main_arg3 (by decide), opsE_keep _ main_arg3 (by decide), opsP_keep _ main_arg3 (by decide), opsT_keep _ main_arg3 (by decide)]

theorem main_arg4_eq (V : Valuation τ sig (Elt F)) : after ops V (Proc.devRef .tc main_arg4) = V (Proc.devRef .tc main_arg4) := by
  rw [ops_eq, after_cat, after_cat, after_cat, after_cat, after_cat, after_cat, opsO_keep _ main_arg4 (by decide), opsC_keep _ main_arg4 (by decide), opsM_keep _ main_arg4 (by decide), opsX_keep _ main_arg4 (by decide), opsE_keep _ main_arg4 (by decide), opsP_keep _ main_arg4 (by decide), opsT_keep _ main_arg4 (by decide)]

theorem main_arg5_eq (V : Valuation τ sig (Elt F)) : after ops V (Proc.devRef .tc main_arg5) = V (Proc.devRef .tc main_arg5) := by
  rw [ops_eq, after_cat, after_cat, after_cat, after_cat, after_cat, after_cat, opsO_keep _ main_arg5 (by decide), opsC_keep _ main_arg5 (by decide), opsM_keep _ main_arg5 (by decide), opsX_keep _ main_arg5 (by decide), opsE_keep _ main_arg5 (by decide), opsP_keep _ main_arg5 (by decide), opsT_keep _ main_arg5 (by decide)]

theorem main_arg6_eq (V : Valuation τ sig (Elt F)) : after ops V (Proc.devRef .tc main_arg6) = V (Proc.devRef .tc main_arg6) := by
  rw [ops_eq, after_cat, after_cat, after_cat, after_cat, after_cat, after_cat, opsO_keep _ main_arg6 (by decide), opsC_keep _ main_arg6 (by decide), opsM_keep _ main_arg6 (by decide), opsX_keep _ main_arg6 (by decide), opsE_keep _ main_arg6 (by decide), opsP_keep _ main_arg6 (by decide), opsT_keep _ main_arg6 (by decide)]

theorem args_kept (m : (ℓ : Loc nD τ sig) → Buf (Elt F) ℓ) {r : (ℓ : Loc nD τ sig) → Buf (Elt F) ℓ} (h : ∀ (c : Dev nD) (b : Ref sig .tc),
    r ((c.tc : Thread nD τ).loc b) = after ops (launchContents m c) (Proc.devRef .tc b)) (c : Dev nD) :
    r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6) :=
  ⟨(h c main_arg0).trans (main_arg0_eq _), (h c main_arg1).trans (main_arg1_eq _), (h c main_arg2).trans (main_arg2_eq _), (h c main_arg3).trans (main_arg3_eq _), (h c main_arg4).trans (main_arg4_eq _), (h c main_arg5).trans (main_arg5_eq _), (h c main_arg6).trans (main_arg6_eq _)⟩

theorem frame_ref : Cert.quiescent_ReferenceIdeal (hReferenceIdeal := Cert.ReferenceIdeal.Gen.facts) :=
  fun m ρ _ => (θ_run defs _ _).mono (fun r h => ⟨args_kept m h, Idealize.ShloMosaic.sem_eq_zero_of_no_sems (by decide) r.2⟩) (run_main m ρ)

end Cert.Proof.EmbRef
-- ==== Proof.Alg.lean ====
/-
  The kernel and the reference over the extended reals: from equal arguments, in range and with finite tables, equal results.
-/
module

public import proofs.«01_k».proof.Proof.PreFinite
public import proofs.«01_k».proof.Proof.Val
public import proofs.«01_k».proof.Proof.RefFrame

@[expose] public section

noncomputable section

namespace Cert.Proof.Emb

open Idealize.ShloMosaic Idealize.SL.Sem

/-- The kernel's result is the reference's function of the kernel's arguments. -/
theorem result_eq (m : (ℓ : Loc Cert.KernelIdeal.nD Cert.KernelIdeal.τ Cert.KernelIdeal.sig) → Buf (Elt Ideal) ℓ) (d : Dev Cert.KernelIdeal.nD)
    (h : Cert.Pre_KernelIdeal_in_range_finite (hPre_in_range_finite := Cert.Pre_in_range_finite.Gen.facts) m) :
    Rv (F := Ideal) m d = EmbRef.refOut (F := Ideal) (m ((SparseCore.T d : Thread Cert.KernelIdeal.nD Cert.KernelIdeal.τ).loc Cert.KernelIdeal.main_arg0))
      (m ((SparseCore.T d : Thread Cert.KernelIdeal.nD Cert.KernelIdeal.τ).loc Cert.KernelIdeal.main_arg1))
      (m ((SparseCore.T d : Thread Cert.KernelIdeal.nD Cert.KernelIdeal.τ).loc Cert.KernelIdeal.main_arg2))
      (m ((SparseCore.T d : Thread Cert.KernelIdeal.nD Cert.KernelIdeal.τ).loc Cert.KernelIdeal.main_arg3))
      (m ((SparseCore.T d : Thread Cert.KernelIdeal.nD Cert.KernelIdeal.τ).loc Cert.KernelIdeal.main_arg4))
      (m ((SparseCore.T d : Thread Cert.KernelIdeal.nD Cert.KernelIdeal.τ).loc Cert.KernelIdeal.main_arg5))
      (m ((SparseCore.T d : Thread Cert.KernelIdeal.nD Cert.KernelIdeal.τ).loc Cert.KernelIdeal.main_arg6)) := by
  obtain ⟨⟨h0, h1⟩, h2, h3, h4⟩ := in_range_finite_ids (F := Ideal) (h d)
  exact emb_eq _ _ _ _ _ _ _ h0 h1 (fun i => real_of_abs_lt _ (h2 i)) (fun i => real_of_abs_lt _ (h3 i)) (fun i => real_of_abs_lt _ (h4 i))

theorem frame_ref_finite : Cert.quiescent_ReferenceIdeal_pre_in_range_finite (hReferenceIdeal := Cert.ReferenceIdeal.Gen.facts)
    (hPre_in_range_finite := Cert.Pre_in_range_finite.Gen.facts) :=
  fun m g _ => EmbRef.frame_ref m g trivial

theorem alg : Cert.algebraic_KernelIdeal_ReferenceIdeal_pre_in_range_finite (hKernelIdeal := Cert.KernelIdeal.Gen.facts)
    (hReferenceIdeal := Cert.ReferenceIdeal.Gen.facts) (hPre_in_range_finite := Cert.Pre_in_range_finite.Gen.facts) := by
  intro m g m' g' hpre hagree
  refine ⟨fun c => Rv (F := Ideal) m c, ?_, ?_⟩
  · exact (θ_run (Cert.KernelIdeal.defs (F := Ideal)) _ _).mono (fun _ h c => ⟨(h.1 c).2, (h.1 c).1⟩)
      (run_main (F := Ideal) m g (ok_of m fun d => (in_range_finite_ids (hpre d)).1))
  · refine (θ_run (Cert.ReferenceIdeal.defs (F := Ideal)) _ _).mono (fun r h c => ⟨?_, EmbRef.args_kept m' h c⟩) (EmbRef.run_main (F := Ideal) m' g')
    obtain ⟨a0, a1, a2, a3, a4, a5, a6⟩ := hagree c
    refine ((h c Cert.ReferenceIdeal.main_v25).trans (EmbRef.main_val _)).trans ?_
    refine Eq.trans ?_ (result_eq m c hpre).symm
    show EmbRef.refOut (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
    rw [a0, a1, a2, a3, a4, a5, a6]

end Cert.Proof.Emb
-- ==== Proof.lean ====
/-
  The certificate's claim: the frames of the kernel, of its ideal reading and of the reference, and the equality of the
  kernel's result and the reference's over the extended reals.
-/
module

public import proofs.«01_k».proof.Defs
public import proofs.«01_k».proof.Proof.Pre
public import proofs.«01_k».proof.Proof.Alg

@[expose] public section

noncomputable section

namespace Cert.Proof

open Idealize.ShloMosaic Idealize.SL.Sem

/-- Every claim of the certificate holds. -/
theorem claim : Cert.Claim := ⟨Cert.Kernel.Gen.facts, Cert.KernelIdeal.Gen.facts, Cert.ReferenceIdeal.Gen.facts, Cert.Pre_in_range.Gen.facts,
  Cert.Pre_in_range_finite.Gen.facts, Emb.frame_kernel, Emb.frame_ideal, Emb.frame_ideal_finite, EmbRef.frame_ref, Emb.frame_ref_finite, trivial, Emb.alg⟩

end Cert.Proof

end
